-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_adj_is_binary [hPre_adj_is_binary : Cert.Pre_adj_is_binary.Facts] (m : (ℓ : Loc Cert.KernelIdeal.nD Cert.KernelIdeal.τ Cert.KernelIdeal.sig) → Buf (Elt Ideal) ℓ) : Prop :=
  ∀ c : Dev Cert.KernelIdeal.nD,
    (Cert.Pre_adj_is_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_adj_is_binary [hPre_adj_is_binary : Cert.Pre_adj_is_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_adj_is_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_adj_is_binary [hKernelIdeal : Cert.KernelIdeal.Facts] [hPre_adj_is_binary : Cert.Pre_adj_is_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_adj_is_binary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_adj_is_binary [hReferenceIdeal : Cert.ReferenceIdeal.Facts] [hPre_adj_is_binary : Cert.Pre_adj_is_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_adj_is_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_adj_is_binary [hKernelIdeal : Cert.KernelIdeal.Facts] [hReferenceIdeal : Cert.ReferenceIdeal.Facts] [hPre_adj_is_binary : Cert.Pre_adj_is_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_adj_is_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v242)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v242) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_adj_is_binary : Cert.Pre_adj_is_binary.Facts),
    quiescent_Kernel (hKernel := hKernel)
    ∧ quiescent_KernelIdeal (hKernelIdeal := hKernelIdeal)
    ∧ quiescent_KernelIdeal_pre_adj_is_binary (hKernelIdeal := hKernelIdeal) (hPre_adj_is_binary := hPre_adj_is_binary)
    ∧ quiescent_ReferenceIdeal (hReferenceIdeal := hReferenceIdeal)
    ∧ quiescent_ReferenceIdeal_pre_adj_is_binary (hReferenceIdeal := hReferenceIdeal) (hPre_adj_is_binary := hPre_adj_is_binary)
    ∧ preserves_Kernel_KernelIdeal
    ∧ algebraic_KernelIdeal_ReferenceIdeal_pre_adj_is_binary (hKernelIdeal := hKernelIdeal) (hReferenceIdeal := hReferenceIdeal) (hPre_adj_is_binary := hPre_adj_is_binary)
-- ==== Pre_adj_is_binary.lean ====
abbrev S4x2048x64 : Shape := ⟨3, ![4, 2048, 64]⟩
abbrev S64x64 : Shape := ⟨2, ![64, 64]⟩
abbrev S4x2048x2048 : Shape := ⟨3, ![4, 2048, 2048]⟩
abbrev S4 : Shape := ⟨1, ![4]⟩
abbrev S_ : Shape := ⟨0, ![]⟩

class Facts : Prop where
  bcast_S_S4x2048x2048 : S_.BroadcastsInDim S4x2048x2048 (![] : Fin 0 → Fin S4x2048x2048.rank)

variable [Facts]

def fn {F : FTy → Type} [FloatOps F] (main_arg0 : FVec F S4x2048x64 .f32) (main_arg1 : FVec F S64x64 .f32) (main_arg2 : IVec S4x2048x2048 32) (main_arg3 : IVec S4 32) : IVec S4x2048x2048 1 :=
  let main_c : IVec S_ 32 := constantI S_ 32 0#32
  let main_v0 : IVec S4x2048x2048 32 := broadcastInDim S4x2048x2048 ![] bcast_S_S4x2048x2048 main_c
  let main_v1 : IVec S4x2048x2048 1 := cmpi .sge main_arg2 main_v0
  let main_c_0 : IVec S_ 32 := constantI S_ 32 1#32
  let main_v2 : IVec S4x2048x2048 32 := broadcastInDim S4x2048x2048 ![] bcast_S_S4x2048x2048 main_c_0
  let main_v3 : IVec S4x2048x2048 1 := cmpi .sle main_arg2 main_v2
  let main_v4 : IVec S4x2048x2048 1 := andi main_v1 main_v3
  main_v4
-- ==== Kernel.lean ====
abbrev S4x2048x64 : Shape := ⟨3, ![4, 2048, 64]⟩
abbrev S64x64 : Shape := ⟨2, ![64, 64]⟩
abbrev S4x2048x2048 : Shape := ⟨3, ![4, 2048, 2048]⟩
abbrev S4 : Shape := ⟨1, ![4]⟩
abbrev S36 : Shape := ⟨1, ![36]⟩
abbrev S1000 : Shape := ⟨1, ![1000]⟩
abbrev S_ : Shape := ⟨0, ![]⟩
abbrev S1000x1 : Shape := ⟨2, ![1000, 1]⟩
abbrev S1000x2 : Shape := ⟨2, ![1000, 2]⟩
abbrev S1000x1x2 : Shape := ⟨3, ![1000, 1, 2]⟩
abbrev S1000x2x2 : Shape := ⟨3, ![1000, 2, 2]⟩
abbrev S4x1 : Shape := ⟨2, ![4, 1]⟩
abbrev S4x2x2 : Shape := ⟨3, ![4, 2, 2]⟩
abbrev S1x2x2 : Shape := ⟨3, ![1, 2, 2]⟩
abbrev S2x2 : Shape := ⟨2, ![2, 2]⟩
abbrev S4x2x1 : Shape := ⟨3, ![4, 2, 1]⟩
abbrev S4x2 : Shape := ⟨2, ![4, 2]⟩
abbrev S2x1 : Shape := ⟨2, ![2, 1]⟩
abbrev S2 : Shape := ⟨1, ![2]⟩
abbrev S1x1x2 : Shape := ⟨3, ![1, 1, 2]⟩
abbrev S4x4 : Shape := ⟨2, ![4, 4]⟩
abbrev S4x6 : Shape := ⟨2, ![4, 6]⟩
abbrev S4x8 : Shape := ⟨2, ![4, 8]⟩
abbrev S16777216 : Shape := ⟨1, ![16777216]⟩
abbrev S36x1x256 : Shape := ⟨3, ![36, 1, 256]⟩
abbrev S4x256x256 : Shape := ⟨3, ![4, 256, 256]⟩
abbrev S1 : Shape := ⟨1, ![1]⟩
abbrev S4x256x64 : Shape := ⟨3, ![4, 256, 64]⟩
abbrev S1x1x256 : Shape := ⟨3, ![1, 1, 256]⟩
abbrev S1x256x256 : Shape := ⟨3, ![1, 256, 256]⟩
abbrev S256x256 : Shape := ⟨2, ![256, 256]⟩
abbrev S1x1 : Shape := ⟨2, ![1, 1]⟩
abbrev S1x256x64 : Shape := ⟨3, ![1, 256, 64]⟩
abbrev S256x64 : Shape := ⟨2, ![256, 64]⟩
abbrev S256 : Shape := ⟨1, ![256]⟩

abbrev nBuf : Space → Nat
  | .hbm => 323
  | .vmem => 11
  | .smem => 3
  | _ => 0

abbrev hbmTy0_0 (i : Nat) : BufTy := match i % 128 with
  | 0 => ⟨S4x2048x64, .f32⟩
  | 1 => ⟨S64x64, .f32⟩
  | 2 => ⟨S4x2048x2048, .i32⟩
  | 3 => ⟨S4, .i32⟩
  | 4 => ⟨S1000, .f32⟩
  | 5 => ⟨S_, .f32⟩
  | 6 => ⟨S1000, .f32⟩
  | 7 => ⟨S1000, .f32⟩
  | 8 => ⟨S_, .f32⟩
  | 9 => ⟨S1000, .f32⟩
  | 10 => ⟨S1000, .f32⟩
  | 11 => ⟨S_, .f32⟩
  | 12 => ⟨S1000, .f32⟩
  | 13 => ⟨S1000, .f32⟩
  | 14 => ⟨S_, .f32⟩
  | 15 => ⟨S1000, .f32⟩
  | 16 => ⟨S1000, .f32⟩
  | 17 => ⟨S_, .f32⟩
  | 18 => ⟨S1000, .f32⟩
  | 19 => ⟨S1000, .f32⟩
  | 20 => ⟨S1000x1, .f32⟩
  | 21 => ⟨S1000x1, .f32⟩
  | 22 => ⟨S1000x2, .f32⟩
  | 23 => ⟨S1000x1, .f32⟩
  | 24 => ⟨S1000x1, .f32⟩
  | 25 => ⟨S1000x2, .f32⟩
  | 26 => ⟨S1000x1x2, .f32⟩
  | 27 => ⟨S1000x1x2, .f32⟩
  | 28 => ⟨S1000x2x2, .f32⟩
  | 29 => ⟨S_, .i32⟩
  | 30 => ⟨S4, .i32⟩
  | 31 => ⟨S4, .i32⟩
  | 32 => ⟨S_, .i32⟩
  | 33 => ⟨S4, .i32⟩
  | 34 => ⟨S4, .i1⟩
  | 35 => ⟨S_, .i32⟩
  | 36 => ⟨S4, .i32⟩
  | 37 => ⟨S4, .i32⟩
  | 38 => ⟨S4, .i32⟩
  | 39 => ⟨S4x1, .i32⟩
  | 40 => ⟨S4x2x2, .f32⟩
  | 41 => ⟨S_, .i32⟩
  | 42 => ⟨S4, .i32⟩
  | 43 => ⟨S4, .i32⟩
  | 44 => ⟨S_, .i32⟩
  | 45 => ⟨S4, .i32⟩
  | 46 => ⟨S4, .i1⟩
  | 47 => ⟨S_, .i32⟩
  | 48 => ⟨S4, .i32⟩
  | 49 => ⟨S4, .i32⟩
  | 50 => ⟨S4, .i32⟩
  | 51 => ⟨S4x1, .i32⟩
  | 52 => ⟨S4x2x2, .f32⟩
  | 53 => ⟨S1x2x2, .f32⟩
  | 54 => ⟨S2x2, .f32⟩
  | 55 => ⟨S4x2x1, .f32⟩
  | 56 => ⟨S4x2, .f32⟩
  | 57 => ⟨S2x1, .f32⟩
  | 58 => ⟨S2, .f32⟩
  | 59 => ⟨S1x1x2, .f32⟩
  | 60 => ⟨S4x2x1, .f32⟩
  | 61 => ⟨S4x2, .f32⟩
  | 62 => ⟨S4x2x1, .f32⟩
  | 63 => ⟨S4x2x2, .f32⟩
  | 64 => ⟨S4x2x2, .f32⟩
  | 65 => ⟨S4x2x2, .f32⟩
  | 66 => ⟨S4x2x2, .f32⟩
  | 67 => ⟨S4x4, .f32⟩
  | 68 => ⟨S4x6, .f32⟩
  | 69 => ⟨S_, .i32⟩
  | 70 => ⟨S_, .f32⟩
  | 71 => ⟨S4x8, .f32⟩
  | 72 => ⟨S_, .i32⟩
  | 73 => ⟨S16777216, .i32⟩
  | 74 => ⟨S16777216, .i32⟩
  | 75 => ⟨S_, .i32⟩
  | 76 => ⟨S16777216, .i32⟩
  | 77 => ⟨S16777216, .i32⟩
  | 78 => ⟨S_, .i32⟩
  | 79 => ⟨S16777216, .i32⟩
  | 80 => ⟨S16777216, .i32⟩
  | 81 => ⟨S16777216, .i32⟩
  | 82 => ⟨S_, .i32⟩
  | 83 => ⟨S16777216, .i32⟩
  | 84 => ⟨S16777216, .i32⟩
  | 85 => ⟨S_, .i32⟩
  | 86 => ⟨S16777216, .i32⟩
  | 87 => ⟨S16777216, .i32⟩
  | 88 => ⟨S16777216, .i32⟩
  | 89 => ⟨S16777216, .i32⟩
  | 90 => ⟨S16777216, .i32⟩
  | 91 => ⟨S_, .i32⟩
  | 92 => ⟨S16777216, .i32⟩
  | 93 => ⟨S16777216, .i32⟩
  | 94 => ⟨S_, .i32⟩
  | 95 => ⟨S16777216, .i32⟩
  | 96 => ⟨S16777216, .i32⟩
  | 97 => ⟨S16777216, .i32⟩
  | 98 => ⟨S16777216, .i32⟩
  | 99 => ⟨S16777216, .i32⟩
  | 100 => ⟨S_, .i32⟩
  | 101 => ⟨S16777216, .i32⟩
  | 102 => ⟨S16777216, .i32⟩
  | 103 => ⟨S_, .i32⟩
  | 104 => ⟨S16777216, .i32⟩
  | 105 => ⟨S16777216, .i32⟩
  | 106 => ⟨S16777216, .i32⟩
  | 107 => ⟨S16777216, .i32⟩
  | 108 => ⟨S16777216, .i32⟩
  | 109 => ⟨S_, .i32⟩
  | 110 => ⟨S16777216, .i32⟩
  | 111 => ⟨S16777216, .i32⟩
  | 112 => ⟨S_, .i32⟩
  | 113 => ⟨S16777216, .i32⟩
  | 114 => ⟨S16777216, .i32⟩
  | 115 => ⟨S16777216, .i32⟩
  | 116 => ⟨S16777216, .i32⟩
  | 117 => ⟨S_, .i32⟩
  | 118 => ⟨S16777216, .i32⟩
  | 119 => ⟨S16777216, .i32⟩
  | 120 => ⟨S_, .i32⟩
  | 121 => ⟨S16777216, .i32⟩
  | 122 => ⟨S16777216, .i32⟩
  | 123 => ⟨S_, .i32⟩
  | 124 => ⟨S16777216, .i32⟩
  | 125 => ⟨S16777216, .i32⟩
  | 126 => ⟨S16777216, .i32⟩
  | 127 => ⟨S_, .i32⟩
  | _ => ⟨S4x2048x64, .f32⟩

abbrev hbmTy0_1 (i : Nat) : BufTy := match i % 128 with
  | 0 => ⟨S16777216, .i32⟩
  | 1 => ⟨S16777216, .i32⟩
  | 2 => ⟨S_, .i32⟩
  | 3 => ⟨S16777216, .i32⟩
  | 4 => ⟨S16777216, .i32⟩
  | 5 => ⟨S16777216, .i32⟩
  | 6 => ⟨S16777216, .i32⟩
  | 7 => ⟨S16777216, .i32⟩
  | 8 => ⟨S_, .i32⟩
  | 9 => ⟨S16777216, .i32⟩
  | 10 => ⟨S16777216, .i32⟩
  | 11 => ⟨S_, .i32⟩
  | 12 => ⟨S16777216, .i32⟩
  | 13 => ⟨S16777216, .i32⟩
  | 14 => ⟨S16777216, .i32⟩
  | 15 => ⟨S16777216, .i32⟩
  | 16 => ⟨S16777216, .i32⟩
  | 17 => ⟨S_, .i32⟩
  | 18 => ⟨S16777216, .i32⟩
  | 19 => ⟨S16777216, .i32⟩
  | 20 => ⟨S_, .i32⟩
  | 21 => ⟨S16777216, .i32⟩
  | 22 => ⟨S16777216, .i32⟩
  | 23 => ⟨S16777216, .i32⟩
  | 24 => ⟨S16777216, .i32⟩
  | 25 => ⟨S16777216, .i32⟩
  | 26 => ⟨S_, .i32⟩
  | 27 => ⟨S16777216, .i32⟩
  | 28 => ⟨S16777216, .i32⟩
  | 29 => ⟨S_, .i32⟩
  | 30 => ⟨S16777216, .i32⟩
  | 31 => ⟨S16777216, .i32⟩
  | 32 => ⟨S16777216, .i32⟩
  | 33 => ⟨S16777216, .i32⟩
  | 34 => ⟨S_, .i32⟩
  | 35 => ⟨S16777216, .i32⟩
  | 36 => ⟨S16777216, .i32⟩
  | 37 => ⟨S_, .i32⟩
  | 38 => ⟨S16777216, .i32⟩
  | 39 => ⟨S16777216, .i32⟩
  | 40 => ⟨S_, .i32⟩
  | 41 => ⟨S16777216, .i32⟩
  | 42 => ⟨S16777216, .i32⟩
  | 43 => ⟨S16777216, .i32⟩
  | 44 => ⟨S_, .i32⟩
  | 45 => ⟨S16777216, .i32⟩
  | 46 => ⟨S16777216, .i32⟩
  | 47 => ⟨S_, .i32⟩
  | 48 => ⟨S16777216, .i32⟩
  | 49 => ⟨S16777216, .i32⟩
  | 50 => ⟨S16777216, .i32⟩
  | 51 => ⟨S16777216, .i32⟩
  | 52 => ⟨S16777216, .i32⟩
  | 53 => ⟨S_, .i32⟩
  | 54 => ⟨S16777216, .i32⟩
  | 55 => ⟨S16777216, .i32⟩
  | 56 => ⟨S_, .i32⟩
  | 57 => ⟨S16777216, .i32⟩
  | 58 => ⟨S16777216, .i32⟩
  | 59 => ⟨S16777216, .i32⟩
  | 60 => ⟨S16777216, .i32⟩
  | 61 => ⟨S16777216, .i32⟩
  | 62 => ⟨S_, .i32⟩
  | 63 => ⟨S16777216, .i32⟩
  | 64 => ⟨S16777216, .i32⟩
  | 65 => ⟨S_, .i32⟩
  | 66 => ⟨S16777216, .i32⟩
  | 67 => ⟨S16777216, .i32⟩
  | 68 => ⟨S16777216, .i32⟩
  | 69 => ⟨S16777216, .i32⟩
  | 70 => ⟨S16777216, .i32⟩
  | 71 => ⟨S_, .i32⟩
  | 72 => ⟨S16777216, .i32⟩
  | 73 => ⟨S16777216, .i32⟩
  | 74 => ⟨S_, .i32⟩
  | 75 => ⟨S16777216, .i32⟩
  | 76 => ⟨S16777216, .i32⟩
  | 77 => ⟨S16777216, .i32⟩
  | 78 => ⟨S16777216, .i32⟩
  | 79 => ⟨S_, .i32⟩
  | 80 => ⟨S16777216, .i32⟩
  | 81 => ⟨S16777216, .i32⟩
  | 82 => ⟨S_, .i32⟩
  | 83 => ⟨S16777216, .i32⟩
  | 84 => ⟨S16777216, .i32⟩
  | 85 => ⟨S_, .i32⟩
  | 86 => ⟨S16777216, .i32⟩
  | 87 => ⟨S16777216, .i32⟩
  | 88 => ⟨S16777216, .i32⟩
  | 89 => ⟨S_, .i32⟩
  | 90 => ⟨S16777216, .i32⟩
  | 91 => ⟨S16777216, .i32⟩
  | 92 => ⟨S_, .i32⟩
  | 93 => ⟨S16777216, .i32⟩
  | 94 => ⟨S16777216, .i32⟩
  | 95 => ⟨S16777216, .i32⟩
  | 96 => ⟨S16777216, .i32⟩
  | 97 => ⟨S16777216, .i32⟩
  | 98 => ⟨S_, .i32⟩
  | 99 => ⟨S16777216, .i32⟩
  | 100 => ⟨S16777216, .i32⟩
  | 101 => ⟨S_, .i32⟩
  | 102 => ⟨S16777216, .i32⟩
  | 103 => ⟨S16777216, .i32⟩
  | 104 => ⟨S16777216, .i32⟩
  | 105 => ⟨S16777216, .i32⟩
  | 106 => ⟨S16777216, .i32⟩
  | 107 => ⟨S_, .i32⟩
  | 108 => ⟨S16777216, .i32⟩
  | 109 => ⟨S16777216, .i32⟩
  | 110 => ⟨S_, .i32⟩
  | 111 => ⟨S16777216, .i32⟩
  | 112 => ⟨S16777216, .i32⟩
  | 113 => ⟨S16777216, .i32⟩
  | 114 => ⟨S16777216, .i32⟩
  | 115 => ⟨S16777216, .i32⟩
  | 116 => ⟨S_, .i32⟩
  | 117 => ⟨S16777216, .i32⟩
  | 118 => ⟨S16777216, .i32⟩
  | 119 => ⟨S_, .i32⟩
  | 120 => ⟨S16777216, .i32⟩
  | 121 => ⟨S16777216, .i32⟩
  | 122 => ⟨S16777216, .i32⟩
  | 123 => ⟨S16777216, .i32⟩
  | 124 => ⟨S_, .i32⟩
  | 125 => ⟨S16777216, .i32⟩
  | 126 => ⟨S16777216, .i32⟩
  | 127 => ⟨S_, .i32⟩
  | _ => ⟨S4x2048x64, .f32⟩

abbrev hbmTy0_2 (i : Nat) : BufTy := match i % 128 with
  | 0 => ⟨S16777216, .i32⟩
  | 1 => ⟨S16777216, .i32⟩
  | 2 => ⟨S_, .i32⟩
  | 3 => ⟨S16777216, .i32⟩
  | 4 => ⟨S16777216, .i32⟩
  | 5 => ⟨S16777216, .i32⟩
  | 6 => ⟨S_, .i32⟩
  | 7 => ⟨S16777216, .i32⟩
  | 8 => ⟨S16777216, .i32⟩
  | 9 => ⟨S_, .i32⟩
  | 10 => ⟨S16777216, .i32⟩
  | 11 => ⟨S16777216, .i32⟩
  | 12 => ⟨S16777216, .i32⟩
  | 13 => ⟨S16777216, .i32⟩
  | 14 => ⟨S16777216, .i32⟩
  | 15 => ⟨S_, .i32⟩
  | 16 => ⟨S16777216, .i32⟩
  | 17 => ⟨S16777216, .i32⟩
  | 18 => ⟨S_, .i32⟩
  | 19 => ⟨S16777216, .i32⟩
  | 20 => ⟨S16777216, .i32⟩
  | 21 => ⟨S16777216, .i32⟩
  | 22 => ⟨S16777216, .i32⟩
  | 23 => ⟨S16777216, .i32⟩
  | 24 => ⟨S_, .i32⟩
  | 25 => ⟨S16777216, .i32⟩
  | 26 => ⟨S16777216, .i32⟩
  | 27 => ⟨S_, .i32⟩
  | 28 => ⟨S16777216, .i32⟩
  | 29 => ⟨S16777216, .i32⟩
  | 30 => ⟨S16777216, .i32⟩
  | 31 => ⟨S16777216, .i32⟩
  | 32 => ⟨S16777216, .i32⟩
  | 33 => ⟨S_, .i32⟩
  | 34 => ⟨S16777216, .i32⟩
  | 35 => ⟨S16777216, .i32⟩
  | 36 => ⟨S_, .i32⟩
  | 37 => ⟨S16777216, .i32⟩
  | 38 => ⟨S16777216, .i32⟩
  | 39 => ⟨S16777216, .i32⟩
  | 40 => ⟨S16777216, .i32⟩
  | 41 => ⟨S_, .i32⟩
  | 42 => ⟨S16777216, .i32⟩
  | 43 => ⟨S16777216, .i32⟩
  | 44 => ⟨S_, .i32⟩
  | 45 => ⟨S16777216, .i32⟩
  | 46 => ⟨S16777216, .i32⟩
  | 47 => ⟨S_, .i32⟩
  | 48 => ⟨S16777216, .i32⟩
  | 49 => ⟨S16777216, .i32⟩
  | 50 => ⟨S16777216, .i32⟩
  | 51 => ⟨S_, .i32⟩
  | 52 => ⟨S16777216, .i32⟩
  | 53 => ⟨S16777216, .i32⟩
  | 54 => ⟨S_, .i32⟩
  | 55 => ⟨S16777216, .i32⟩
  | 56 => ⟨S16777216, .i32⟩
  | 57 => ⟨S16777216, .f32⟩
  | 58 => ⟨S_, .f32⟩
  | 59 => ⟨S16777216, .f32⟩
  | 60 => ⟨S16777216, .f32⟩
  | 61 => ⟨S4x2048x2048, .f32⟩
  | 62 => ⟨S36x1x256, .f32⟩
  | 63 => ⟨S_, .f32⟩
  | 64 => ⟨S_, .f32⟩
  | 65 => ⟨S_, .f32⟩
  | 66 => ⟨S_, .f32⟩
  | _ => ⟨S4x2048x64, .f32⟩

abbrev hbmTy (i : Nat) : BufTy := match i / 128 with
  | 0 => hbmTy0_0 i
  | 1 => hbmTy0_1 i
  | 2 => hbmTy0_2 i
  | _ => ⟨S4x2048x64, .f32⟩

abbrev bufTy : (tb : Table) → Fin (tcTables nBuf tb) → BufTy
  | .hbm, ⟨i, _⟩ => hbmTy i
  | .local _ .vmem, ⟨0, _⟩ => ⟨S4x256x256, .i32⟩
  | .local _ .vmem, ⟨1, _⟩ => ⟨S4x256x256, .i32⟩
  | .local _ .vmem, ⟨2, _⟩ => ⟨S4x256x256, .f32⟩
  | .local _ .vmem, ⟨3, _⟩ => ⟨S4x256x256, .f32⟩
  | .local _ .vmem, ⟨4, _⟩ => ⟨S4x256x64, .f32⟩
  | .local _ .vmem, ⟨5, _⟩ => ⟨S4x256x64, .f32⟩
  | .local _ .vmem, ⟨6, _⟩ => ⟨S4x256x64, .f32⟩
  | .local _ .vmem, ⟨7, _⟩ => ⟨S4x256x64, .f32⟩
  | .local _ .vmem, ⟨8, _⟩ => ⟨S64x64, .f32⟩
  | .local _ .vmem, ⟨9, _⟩ => ⟨S1x1x256, .f32⟩
  | .local _ .vmem, ⟨10, _⟩ => ⟨S1x1x256, .f32⟩
  | .local _ .smem, ⟨0, _⟩ => ⟨S36, .i32⟩
  | .local _ .smem, ⟨1, _⟩ => ⟨S36, .i32⟩
  | .local _ .smem, ⟨2, _⟩ => ⟨S4x8, .f32⟩
  | _, _ => ⟨S4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_8 : Ref sig .tc := ⟨.hbm, 41, rfl⟩
abbrev main_v29 : Ref sig .tc := ⟨.hbm, 42, rfl⟩
abbrev main_v30 : Ref sig .tc := ⟨.hbm, 43, rfl⟩
abbrev main_c_9 : Ref sig .tc := ⟨.hbm, 44, rfl⟩
abbrev main_v31 : Ref sig .tc := ⟨.hbm, 45, rfl⟩
abbrev main_v32 : Ref sig .tc := ⟨.hbm, 46, rfl⟩
abbrev main_c_10 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_11 : Ref sig .tc := ⟨.hbm, 69, rfl⟩
abbrev main_call0_v0 : Ref sig .tc := ⟨.hbm, 70, rfl⟩
abbrev main_v54 : Ref sig .tc := ⟨.hbm, 71, rfl⟩
abbrev main_c_12 : Ref sig .tc := ⟨.hbm, 72, rfl⟩
abbrev main_v55 : Ref sig .tc := ⟨.hbm, 73, rfl⟩
abbrev main_v56 : Ref sig .tc := ⟨.hbm, 74, rfl⟩
abbrev main_c_13 : Ref sig .tc := ⟨.hbm, 75, rfl⟩
abbrev main_v57 : Ref sig .tc := ⟨.hbm, 76, rfl⟩
abbrev main_v58 : Ref sig .tc := ⟨.hbm, 77, rfl⟩
abbrev main_c_14 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_15 : Ref sig .tc := ⟨.hbm, 82, rfl⟩
abbrev main_v62 : Ref sig .tc := ⟨.hbm, 83, rfl⟩
abbrev main_v63 : Ref sig .tc := ⟨.hbm, 84, rfl⟩
abbrev main_c_16 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_17 : Ref sig .tc := ⟨.hbm, 91, rfl⟩
abbrev main_v69 : Ref sig .tc := ⟨.hbm, 92, rfl⟩
abbrev main_v70 : Ref sig .tc := ⟨.hbm, 93, rfl⟩
abbrev main_c_18 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_19 : Ref sig .tc := ⟨.hbm, 100, rfl⟩
abbrev main_v76 : Ref sig .tc := ⟨.hbm, 101, rfl⟩
abbrev main_v77 : Ref sig .tc := ⟨.hbm, 102, rfl⟩
abbrev main_c_20 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_21 : Ref sig .tc := ⟨.hbm, 109, rfl⟩
abbrev main_v83 : Ref sig .tc := ⟨.hbm, 110, rfl⟩
abbrev main_v84 : Ref sig .tc := ⟨.hbm, 111, rfl⟩
abbrev main_c_22 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_23 : Ref sig .tc := ⟨.hbm, 117, rfl⟩
abbrev main_v89 : Ref sig .tc := ⟨.hbm, 118, rfl⟩
abbrev main_v90 : Ref sig .tc := ⟨.hbm, 119, rfl⟩
abbrev main_c_24 : Ref sig .tc := ⟨.hbm, 120, rfl⟩
abbrev main_v91 : Ref sig .tc := ⟨.hbm, 121, rfl⟩
abbrev main_v92 : Ref sig .tc := ⟨.hbm, 122, rfl⟩
abbrev main_c_25 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_26 : Ref sig .tc := ⟨.hbm, 127, rfl⟩
abbrev main_v96 : Ref sig .tc := ⟨.hbm, 128, rfl⟩
abbrev main_v97 : Ref sig .tc := ⟨.hbm, 129, rfl⟩
abbrev main_c_27 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_28 : Ref sig .tc := ⟨.hbm, 136, rfl⟩
abbrev main_v103 : Ref sig .tc := ⟨.hbm, 137, rfl⟩
abbrev main_v104 : Ref sig .tc := ⟨.hbm, 138, rfl⟩
abbrev main_c_29 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_c_30 : Ref sig .tc := ⟨.hbm, 145, rfl⟩
abbrev main_v110 : Ref sig .tc := ⟨.hbm, 146, rfl⟩
abbrev main_v111 : Ref sig .tc := ⟨.hbm, 147, rfl⟩
abbrev main_c_31 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_c_32 : Ref sig .tc := ⟨.hbm, 154, rfl⟩
abbrev main_v117 : Ref sig .tc := ⟨.hbm, 155, rfl⟩
abbrev main_v118 : Ref sig .tc := ⟨.hbm, 156, rfl⟩
abbrev main_c_33 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_c_34 : Ref sig .tc := ⟨.hbm, 162, rfl⟩
abbrev main_v123 : Ref sig .tc := ⟨.hbm, 163, rfl⟩
abbrev main_v124 : Ref sig .tc := ⟨.hbm, 164, rfl⟩
abbrev main_c_35 : Ref sig .tc := ⟨.hbm, 165, rfl⟩
abbrev main_v125 : Ref sig .tc := ⟨.hbm, 166, rfl⟩
abbrev main_v126 : Ref sig .tc := ⟨.hbm, 167, rfl⟩
abbrev main_c_36 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_c_37 : Ref sig .tc := ⟨.hbm, 172, rfl⟩
abbrev main_v130 : Ref sig .tc := ⟨.hbm, 173, rfl⟩
abbrev main_v131 : Ref sig .tc := ⟨.hbm, 174, rfl⟩
abbrev main_c_38 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_c_39 : Ref sig .tc := ⟨.hbm, 181, rfl⟩
abbrev main_v137 : Ref sig .tc := ⟨.hbm, 182, rfl⟩
abbrev main_v138 : Ref sig .tc := ⟨.hbm, 183, rfl⟩
abbrev main_c_40 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_c_41 : Ref sig .tc := ⟨.hbm, 190, rfl⟩
abbrev main_v144 : Ref sig .tc := ⟨.hbm, 191, rfl⟩
abbrev main_v145 : Ref sig .tc := ⟨.hbm, 192, rfl⟩
abbrev main_c_42 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_c_43 : Ref sig .tc := ⟨.hbm, 199, rfl⟩
abbrev main_v151 : Ref sig .tc := ⟨.hbm, 200, rfl⟩
abbrev main_v152 : Ref sig .tc := ⟨.hbm, 201, rfl⟩
abbrev main_c_44 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_c_45 : Ref sig .tc := ⟨.hbm, 207, rfl⟩
abbrev main_v157 : Ref sig .tc := ⟨.hbm, 208, rfl⟩
abbrev main_v158 : Ref sig .tc := ⟨.hbm, 209, rfl⟩
abbrev main_c_46 : Ref sig .tc := ⟨.hbm, 210, rfl⟩
abbrev main_v159 : Ref sig .tc := ⟨.hbm, 211, rfl⟩
abbrev main_v160 : Ref sig .tc := ⟨.hbm, 212, rfl⟩
abbrev main_c_47 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_c_48 : Ref sig .tc := ⟨.hbm, 217, rfl⟩
abbrev main_v164 : Ref sig .tc := ⟨.hbm, 218, rfl⟩
abbrev main_v165 : Ref sig .tc := ⟨.hbm, 219, rfl⟩
abbrev main_c_49 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_c_50 : Ref sig .tc := ⟨.hbm, 226, rfl⟩
abbrev main_v171 : Ref sig .tc := ⟨.hbm, 227, rfl⟩
abbrev main_v172 : Ref sig .tc := ⟨.hbm, 228, rfl⟩
abbrev main_c_51 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_c_52 : Ref sig .tc := ⟨.hbm, 235, rfl⟩
abbrev main_v178 : Ref sig .tc := ⟨.hbm, 236, rfl⟩
abbrev main_v179 : Ref sig .tc := ⟨.hbm, 237, rfl⟩
abbrev main_c_53 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_c_54 : Ref sig .tc := ⟨.hbm, 244, rfl⟩
abbrev main_v185 : Ref sig .tc := ⟨.hbm, 245, rfl⟩
abbrev main_v186 : Ref sig .tc := ⟨.hbm, 246, rfl⟩
abbrev main_c_55 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_c_56 : Ref sig .tc := ⟨.hbm, 252, rfl⟩
abbrev main_v191 : Ref sig .tc := ⟨.hbm, 253, rfl⟩
abbrev main_v192 : Ref sig .tc := ⟨.hbm, 254, rfl⟩
abbrev main_c_57 : Ref sig .tc := ⟨.hbm, 255, rfl⟩
abbrev main_v193 : Ref sig .tc := ⟨.hbm, 256, rfl⟩
abbrev main_v194 : Ref sig .tc := ⟨.hbm, 257, rfl⟩
abbrev main_c_58 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_c_59 : Ref sig .tc := ⟨.hbm, 262, rfl⟩
abbrev main_v198 : Ref sig .tc := ⟨.hbm, 263, rfl⟩
abbrev main_v199 : Ref sig .tc := ⟨.hbm, 264, rfl⟩
abbrev main_c_60 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_c_61 : Ref sig .tc := ⟨.hbm, 271, rfl⟩
abbrev main_v205 : Ref sig .tc := ⟨.hbm, 272, rfl⟩
abbrev main_v206 : Ref sig .tc := ⟨.hbm, 273, rfl⟩
abbrev main_c_62 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_c_63 : Ref sig .tc := ⟨.hbm, 280, rfl⟩
abbrev main_v212 : Ref sig .tc := ⟨.hbm, 281, rfl⟩
abbrev main_v213 : Ref sig .tc := ⟨.hbm, 282, rfl⟩
abbrev main_c_64 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_c_65 : Ref sig .tc := ⟨.hbm, 289, rfl⟩
abbrev main_v219 : Ref sig .tc := ⟨.hbm, 290, rfl⟩
abbrev main_v220 : Ref sig .tc := ⟨.hbm, 291, rfl⟩
abbrev main_c_66 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_c_67 : Ref sig .tc := ⟨.hbm, 297, rfl⟩
abbrev main_v225 : Ref sig .tc := ⟨.hbm, 298, rfl⟩
abbrev main_v226 : Ref sig .tc := ⟨.hbm, 299, rfl⟩
abbrev main_c_68 : Ref sig .tc := ⟨.hbm, 300, rfl⟩
abbrev main_v227 : Ref sig .tc := ⟨.hbm, 301, rfl⟩
abbrev main_v228 : Ref sig .tc := ⟨.hbm, 302, rfl⟩
abbrev main_c_69 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_c_70 : Ref sig .tc := ⟨.hbm, 307, rfl⟩
abbrev main_v232 : Ref sig .tc := ⟨.hbm, 308, rfl⟩
abbrev main_v233 : Ref sig .tc := ⟨.hbm, 309, rfl⟩
abbrev main_c_71 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_cst_72 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_cst_73 : Ref sig .tc := ⟨.hbm, 319, rfl⟩
abbrev main_v241 : Ref sig .tc := ⟨.hbm, 320, rfl⟩
abbrev main_cst_74 : Ref sig .tc := ⟨.hbm, 321, rfl⟩
abbrev main_v242 : Ref sig .tc := ⟨.hbm, 322, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) (v3 : BitVec 32) : BitVec 1 :=
  let v172 : BitVec 1 := Scalar.cmpi .eq v1 v3
  let v173 : BitVec 32 := Scalar.extui v172
  let c0_i32 : BitVec 32 := 0#32
  let v174 : BitVec 1 := Scalar.cmpi .ne v173 c0_i32
  v174

def k0_cond2 (v1 : BitVec 32) (v3 : BitVec 32) : BitVec 1 :=
  let v175 : BitVec 1 := Scalar.cmpi .ne v1 v3
  let v176 : BitVec 32 := Scalar.extui v175
  let c0_i32_114 : BitVec 32 := 0#32
  let v177 : BitVec 1 := Scalar.cmpi .ne v176 c0_i32_114
  v177

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let v2 : Index := Scalar.indexCast arg0
  let v3 : BitVec 32 := pf.at 1 (Rect.unit (s := S36) ![v2.toNat] S1.size (k0_off1_inb i)) numel1_S1
  let c0_i32 : BitVec 32 := 0#32
  let c0_i32_0 : BitVec 32 := 0#32
  ![c0_i32.toNat, v1.toNat, v3.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let v2 : Index := Scalar.indexCast arg0
  let v3 : BitVec 32 := pf.at 1 (Rect.unit (s := S36) ![v2.toNat] S1.size (k0_off1_inb i)) numel1_S1
  let c0_i32 : BitVec 32 := 0#32
  let c0_i32_0 : BitVec 32 := 0#32
  ![c0_i32.toNat, v1.toNat, v3.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x2048x64 : Shape := ⟨3, ![4, 2048, 64]⟩
abbrev S64x64 : Shape := ⟨2, ![64, 64]⟩
abbrev S4x2048x2048 : Shape := ⟨3, ![4, 2048, 2048]⟩
abbrev S4 : Shape := ⟨1, ![4]⟩
abbrev S1000 : Shape := ⟨1, ![1000]⟩
abbrev S_ : Shape := ⟨0, ![]⟩
abbrev S1000x1 : Shape := ⟨2, ![1000, 1]⟩
abbrev S1000x2 : Shape := ⟨2, ![1000, 2]⟩
abbrev S1000x1x2 : Shape := ⟨3, ![1000, 1, 2]⟩
abbrev S1000x2x2 : Shape := ⟨3, ![1000, 2, 2]⟩
abbrev S4x1x1 : Shape := ⟨3, ![4, 1, 1]⟩
abbrev S4x1 : Shape := ⟨2, ![4, 1]⟩
abbrev S4x2x2 : Shape := ⟨3, ![4, 2, 2]⟩
abbrev S4x2048x2048x1 : Shape := ⟨4, ![4, 2048, 2048, 1]⟩
abbrev S4x2048x2048x2 : Shape := ⟨4, ![4, 2048, 2048, 2]⟩
abbrev S1 : Shape := ⟨1, ![1]⟩
abbrev S2 : Shape := ⟨1, ![2]⟩
abbrev S1x1x1 : Shape := ⟨3, ![1, 1, 1]⟩
abbrev S1x2x2 : Shape := ⟨3, ![1, 2, 2]⟩
abbrev S2x2 : Shape := ⟨2, ![2, 2]⟩
abbrev S4x2048x2048x3 : Shape := ⟨4, ![4, 2048, 2048, 3]⟩

abbrev nBuf : Space → Nat
  | .hbm => 452
  | .vmem => 0
  | .smem => 0
  | _ => 0

abbrev hbmTy0_0 (i : Nat) : BufTy := match i % 128 with
  | 0 => ⟨S4x2048x64, .f32⟩
  | 1 => ⟨S64x64, .f32⟩
  | 2 => ⟨S4x2048x2048, .i32⟩
  | 3 => ⟨S4, .i32⟩
  | 4 => ⟨S1000, .f32⟩
  | 5 => ⟨S_, .f32⟩
  | 6 => ⟨S1000, .f32⟩
  | 7 => ⟨S1000, .f32⟩
  | 8 => ⟨S_, .f32⟩
  | 9 => ⟨S1000, .f32⟩
  | 10 => ⟨S1000, .f32⟩
  | 11 => ⟨S_, .f32⟩
  | 12 => ⟨S1000, .f32⟩
  | 13 => ⟨S1000, .f32⟩
  | 14 => ⟨S_, .f32⟩
  | 15 => ⟨S1000, .f32⟩
  | 16 => ⟨S1000, .f32⟩
  | 17 => ⟨S_, .f32⟩
  | 18 => ⟨S1000, .f32⟩
  | 19 => ⟨S1000, .f32⟩
  | 20 => ⟨S1000x1, .f32⟩
  | 21 => ⟨S1000x1, .f32⟩
  | 22 => ⟨S1000x2, .f32⟩
  | 23 => ⟨S1000x1, .f32⟩
  | 24 => ⟨S1000x1, .f32⟩
  | 25 => ⟨S1000x2, .f32⟩
  | 26 => ⟨S1000x1x2, .f32⟩
  | 27 => ⟨S1000x1x2, .f32⟩
  | 28 => ⟨S1000x2x2, .f32⟩
  | 29 => ⟨S_, .i32⟩
  | 30 => ⟨S4, .i32⟩
  | 31 => ⟨S4, .i32⟩
  | 32 => ⟨S4, .i32⟩
  | 33 => ⟨S4x1x1, .i32⟩
  | 34 => ⟨S_, .i32⟩
  | 35 => ⟨S4, .i32⟩
  | 36 => ⟨S4, .i1⟩
  | 37 => ⟨S_, .i32⟩
  | 38 => ⟨S4, .i32⟩
  | 39 => ⟨S4, .i32⟩
  | 40 => ⟨S4, .i32⟩
  | 41 => ⟨S4x1, .i32⟩
  | 42 => ⟨S4x2x2, .f32⟩
  | 43 => ⟨S_, .i32⟩
  | 44 => ⟨S4x1x1, .i32⟩
  | 45 => ⟨S4x1x1, .i1⟩
  | 46 => ⟨S_, .i32⟩
  | 47 => ⟨S4x1x1, .i32⟩
  | 48 => ⟨S4x1x1, .i32⟩
  | 49 => ⟨S4x1x1, .i32⟩
  | 50 => ⟨S_, .i32⟩
  | 51 => ⟨S4x2048x2048, .i32⟩
  | 52 => ⟨S4x2048x2048, .i1⟩
  | 53 => ⟨S_, .i32⟩
  | 54 => ⟨S4x2048x2048, .i32⟩
  | 55 => ⟨S4x2048x2048, .i32⟩
  | 56 => ⟨S4x2048x2048, .i32⟩
  | 57 => ⟨S4x2048x2048, .i32⟩
  | 58 => ⟨S4x2048x2048x1, .i32⟩
  | 59 => ⟨S4x2048x2048x1, .i32⟩
  | 60 => ⟨S4x2048x2048x2, .i32⟩
  | 61 => ⟨S4x2048x2048x2, .f32⟩
  | 62 => ⟨S_, .i32⟩
  | 63 => ⟨S_, .i32⟩
  | 64 => ⟨S_, .i32⟩
  | 65 => ⟨S_, .i32⟩
  | 66 => ⟨S1, .i32⟩
  | 67 => ⟨S_, .i32⟩
  | 68 => ⟨S_, .i32⟩
  | 69 => ⟨S_, .i32⟩
  | 70 => ⟨S1, .i32⟩
  | 71 => ⟨S2, .i32⟩
  | 72 => ⟨S_, .f32⟩
  | 73 => ⟨S_, .f32⟩
  | 74 => ⟨S_, .f32⟩
  | 75 => ⟨S_, .f32⟩
  | 76 => ⟨S1x1x1, .f32⟩
  | 77 => ⟨S1x1x1, .f32⟩
  | 78 => ⟨S1, .i32⟩
  | 79 => ⟨S_, .i32⟩
  | 80 => ⟨S1, .i32⟩
  | 81 => ⟨S_, .i32⟩
  | 82 => ⟨S4x2048x2048, .i64⟩
  | 83 => ⟨S4x2048x2048, .i64⟩
  | 84 => ⟨S4x2048x2048, .i64⟩
  | 85 => ⟨S_, .i64⟩
  | 86 => ⟨S4x2048x2048, .i64⟩
  | 87 => ⟨S4x2048x2048, .i64⟩
  | 88 => ⟨S_, .i64⟩
  | 89 => ⟨S4x2048x2048, .i64⟩
  | 90 => ⟨S4x2048x2048, .i64⟩
  | 91 => ⟨S_, .i64⟩
  | 92 => ⟨S4x2048x2048, .i64⟩
  | 93 => ⟨S4x2048x2048, .i64⟩
  | 94 => ⟨S4x2048x2048, .i64⟩
  | 95 => ⟨S4x2048x2048, .i64⟩
  | 96 => ⟨S_, .i64⟩
  | 97 => ⟨S4x2048x2048, .i64⟩
  | 98 => ⟨S4x2048x2048, .i64⟩
  | 99 => ⟨S4x2048x2048, .i32⟩
  | 100 => ⟨S4x2048x2048, .i32⟩
  | 101 => ⟨S_, .i32⟩
  | 102 => ⟨S_, .i32⟩
  | 103 => ⟨S_, .i32⟩
  | 104 => ⟨S4x2048x2048, .i32⟩
  | 105 => ⟨S4x2048x2048, .i32⟩
  | 106 => ⟨S4x2048x2048, .i32⟩
  | 107 => ⟨S4x2048x2048, .i32⟩
  | 108 => ⟨S4x2048x2048, .i32⟩
  | 109 => ⟨S_, .i32⟩
  | 110 => ⟨S4x2048x2048, .i32⟩
  | 111 => ⟨S4x2048x2048, .i32⟩
  | 112 => ⟨S_, .i32⟩
  | 113 => ⟨S4x2048x2048, .i32⟩
  | 114 => ⟨S4x2048x2048, .i32⟩
  | 115 => ⟨S4x2048x2048, .i32⟩
  | 116 => ⟨S4x2048x2048, .i32⟩
  | 117 => ⟨S4x2048x2048, .i32⟩
  | 118 => ⟨S_, .i32⟩
  | 119 => ⟨S4x2048x2048, .i32⟩
  | 120 => ⟨S4x2048x2048, .i32⟩
  | 121 => ⟨S_, .i32⟩
  | 122 => ⟨S4x2048x2048, .i32⟩
  | 123 => ⟨S4x2048x2048, .i32⟩
  | 124 => ⟨S4x2048x2048, .i32⟩
  | 125 => ⟨S4x2048x2048, .i32⟩
  | 126 => ⟨S4x2048x2048, .i32⟩
  | 127 => ⟨S_, .i32⟩
  | _ => ⟨S4x2048x64, .f32⟩

abbrev hbmTy0_1 (i : Nat) : BufTy := match i % 128 with
  | 0 => ⟨S4x2048x2048, .i32⟩
  | 1 => ⟨S4x2048x2048, .i32⟩
  | 2 => ⟨S_, .i32⟩
  | 3 => ⟨S4x2048x2048, .i32⟩
  | 4 => ⟨S4x2048x2048, .i32⟩
  | 5 => ⟨S4x2048x2048, .i32⟩
  | 6 => ⟨S4x2048x2048, .i32⟩
  | 7 => ⟨S4x2048x2048, .i32⟩
  | 8 => ⟨S_, .i32⟩
  | 9 => ⟨S4x2048x2048, .i32⟩
  | 10 => ⟨S4x2048x2048, .i32⟩
  | 11 => ⟨S_, .i32⟩
  | 12 => ⟨S4x2048x2048, .i32⟩
  | 13 => ⟨S4x2048x2048, .i32⟩
  | 14 => ⟨S4x2048x2048, .i32⟩
  | 15 => ⟨S4x2048x2048, .i32⟩
  | 16 => ⟨S4x2048x2048, .i32⟩
  | 17 => ⟨S4x2048x2048, .i32⟩
  | 18 => ⟨S4x2048x2048, .i32⟩
  | 19 => ⟨S4x2048x2048, .i32⟩
  | 20 => ⟨S_, .i32⟩
  | 21 => ⟨S4x2048x2048, .i32⟩
  | 22 => ⟨S4x2048x2048, .i32⟩
  | 23 => ⟨S4x2048x2048, .i32⟩
  | 24 => ⟨S_, .i32⟩
  | 25 => ⟨S4x2048x2048, .i32⟩
  | 26 => ⟨S4x2048x2048, .i32⟩
  | 27 => ⟨S_, .i32⟩
  | 28 => ⟨S4x2048x2048, .i32⟩
  | 29 => ⟨S4x2048x2048, .i32⟩
  | 30 => ⟨S4x2048x2048, .i32⟩
  | 31 => ⟨S4x2048x2048, .i32⟩
  | 32 => ⟨S4x2048x2048, .i32⟩
  | 33 => ⟨S_, .i32⟩
  | 34 => ⟨S4x2048x2048, .i32⟩
  | 35 => ⟨S4x2048x2048, .i32⟩
  | 36 => ⟨S_, .i32⟩
  | 37 => ⟨S4x2048x2048, .i32⟩
  | 38 => ⟨S4x2048x2048, .i32⟩
  | 39 => ⟨S4x2048x2048, .i32⟩
  | 40 => ⟨S4x2048x2048, .i32⟩
  | 41 => ⟨S4x2048x2048, .i32⟩
  | 42 => ⟨S_, .i32⟩
  | 43 => ⟨S4x2048x2048, .i32⟩
  | 44 => ⟨S4x2048x2048, .i32⟩
  | 45 => ⟨S_, .i32⟩
  | 46 => ⟨S4x2048x2048, .i32⟩
  | 47 => ⟨S4x2048x2048, .i32⟩
  | 48 => ⟨S4x2048x2048, .i32⟩
  | 49 => ⟨S4x2048x2048, .i32⟩
  | 50 => ⟨S4x2048x2048, .i32⟩
  | 51 => ⟨S_, .i32⟩
  | 52 => ⟨S4x2048x2048, .i32⟩
  | 53 => ⟨S4x2048x2048, .i32⟩
  | 54 => ⟨S_, .i32⟩
  | 55 => ⟨S4x2048x2048, .i32⟩
  | 56 => ⟨S4x2048x2048, .i32⟩
  | 57 => ⟨S4x2048x2048, .i32⟩
  | 58 => ⟨S4x2048x2048, .i32⟩
  | 59 => ⟨S4x2048x2048, .i32⟩
  | 60 => ⟨S4x2048x2048, .i32⟩
  | 61 => ⟨S4x2048x2048, .i32⟩
  | 62 => ⟨S4x2048x2048, .i32⟩
  | 63 => ⟨S_, .i32⟩
  | 64 => ⟨S4x2048x2048, .i32⟩
  | 65 => ⟨S4x2048x2048, .i32⟩
  | 66 => ⟨S4x2048x2048, .i32⟩
  | 67 => ⟨S_, .i32⟩
  | 68 => ⟨S4x2048x2048, .i32⟩
  | 69 => ⟨S4x2048x2048, .i32⟩
  | 70 => ⟨S_, .i32⟩
  | 71 => ⟨S4x2048x2048, .i32⟩
  | 72 => ⟨S4x2048x2048, .i32⟩
  | 73 => ⟨S4x2048x2048, .i32⟩
  | 74 => ⟨S4x2048x2048, .i32⟩
  | 75 => ⟨S4x2048x2048, .i32⟩
  | 76 => ⟨S_, .i32⟩
  | 77 => ⟨S4x2048x2048, .i32⟩
  | 78 => ⟨S4x2048x2048, .i32⟩
  | 79 => ⟨S_, .i32⟩
  | 80 => ⟨S4x2048x2048, .i32⟩
  | 81 => ⟨S4x2048x2048, .i32⟩
  | 82 => ⟨S4x2048x2048, .i32⟩
  | 83 => ⟨S4x2048x2048, .i32⟩
  | 84 => ⟨S4x2048x2048, .i32⟩
  | 85 => ⟨S_, .i32⟩
  | 86 => ⟨S4x2048x2048, .i32⟩
  | 87 => ⟨S4x2048x2048, .i32⟩
  | 88 => ⟨S_, .i32⟩
  | 89 => ⟨S4x2048x2048, .i32⟩
  | 90 => ⟨S4x2048x2048, .i32⟩
  | 91 => ⟨S4x2048x2048, .i32⟩
  | 92 => ⟨S4x2048x2048, .i32⟩
  | 93 => ⟨S4x2048x2048, .i32⟩
  | 94 => ⟨S_, .i32⟩
  | 95 => ⟨S4x2048x2048, .i32⟩
  | 96 => ⟨S4x2048x2048, .i32⟩
  | 97 => ⟨S_, .i32⟩
  | 98 => ⟨S4x2048x2048, .i32⟩
  | 99 => ⟨S4x2048x2048, .i32⟩
  | 100 => ⟨S4x2048x2048, .i32⟩
  | 101 => ⟨S4x2048x2048, .i32⟩
  | 102 => ⟨S4x2048x2048, .i32⟩
  | 103 => ⟨S4x2048x2048, .i32⟩
  | 104 => ⟨S4x2048x2048, .i32⟩
  | 105 => ⟨S4x2048x2048, .i32⟩
  | 106 => ⟨S_, .i32⟩
  | 107 => ⟨S4x2048x2048, .i32⟩
  | 108 => ⟨S4x2048x2048, .i32⟩
  | 109 => ⟨S4x2048x2048, .i32⟩
  | 110 => ⟨S_, .i32⟩
  | 111 => ⟨S4x2048x2048, .i32⟩
  | 112 => ⟨S4x2048x2048, .i32⟩
  | 113 => ⟨S_, .i32⟩
  | 114 => ⟨S4x2048x2048, .i32⟩
  | 115 => ⟨S4x2048x2048, .i32⟩
  | 116 => ⟨S4x2048x2048, .i32⟩
  | 117 => ⟨S4x2048x2048, .i32⟩
  | 118 => ⟨S4x2048x2048, .i32⟩
  | 119 => ⟨S_, .i32⟩
  | 120 => ⟨S4x2048x2048, .i32⟩
  | 121 => ⟨S4x2048x2048, .i32⟩
  | 122 => ⟨S_, .i32⟩
  | 123 => ⟨S4x2048x2048, .i32⟩
  | 124 => ⟨S4x2048x2048, .i32⟩
  | 125 => ⟨S4x2048x2048, .i32⟩
  | 126 => ⟨S4x2048x2048, .i32⟩
  | 127 => ⟨S4x2048x2048, .i32⟩
  | _ => ⟨S4x2048x64, .f32⟩

abbrev hbmTy0_2 (i : Nat) : BufTy := match i % 128 with
  | 0 => ⟨S_, .i32⟩
  | 1 => ⟨S4x2048x2048, .i32⟩
  | 2 => ⟨S4x2048x2048, .i32⟩
  | 3 => ⟨S_, .i32⟩
  | 4 => ⟨S4x2048x2048, .i32⟩
  | 5 => ⟨S4x2048x2048, .i32⟩
  | 6 => ⟨S4x2048x2048, .i32⟩
  | 7 => ⟨S4x2048x2048, .i32⟩
  | 8 => ⟨S4x2048x2048, .i32⟩
  | 9 => ⟨S_, .i32⟩
  | 10 => ⟨S4x2048x2048, .i32⟩
  | 11 => ⟨S4x2048x2048, .i32⟩
  | 12 => ⟨S_, .i32⟩
  | 13 => ⟨S4x2048x2048, .i32⟩
  | 14 => ⟨S4x2048x2048, .i32⟩
  | 15 => ⟨S4x2048x2048, .i32⟩
  | 16 => ⟨S4x2048x2048, .i32⟩
  | 17 => ⟨S4x2048x2048, .i32⟩
  | 18 => ⟨S4x2048x2048, .i32⟩
  | 19 => ⟨S4x2048x2048, .i32⟩
  | 20 => ⟨S4x2048x2048, .i32⟩
  | 21 => ⟨S_, .i32⟩
  | 22 => ⟨S4x2048x2048, .i32⟩
  | 23 => ⟨S4x2048x2048, .i32⟩
  | 24 => ⟨S4x2048x2048, .i32⟩
  | 25 => ⟨S_, .i32⟩
  | 26 => ⟨S4x2048x2048, .i32⟩
  | 27 => ⟨S4x2048x2048, .i32⟩
  | 28 => ⟨S_, .i32⟩
  | 29 => ⟨S4x2048x2048, .i32⟩
  | 30 => ⟨S4x2048x2048, .i32⟩
  | 31 => ⟨S4x2048x2048, .i32⟩
  | 32 => ⟨S4x2048x2048, .i32⟩
  | 33 => ⟨S4x2048x2048, .i32⟩
  | 34 => ⟨S_, .i32⟩
  | 35 => ⟨S4x2048x2048, .i32⟩
  | 36 => ⟨S4x2048x2048, .i32⟩
  | 37 => ⟨S_, .i32⟩
  | 38 => ⟨S4x2048x2048, .i32⟩
  | 39 => ⟨S4x2048x2048, .i32⟩
  | 40 => ⟨S4x2048x2048, .i32⟩
  | 41 => ⟨S4x2048x2048, .i32⟩
  | 42 => ⟨S4x2048x2048, .i32⟩
  | 43 => ⟨S_, .i32⟩
  | 44 => ⟨S4x2048x2048, .i32⟩
  | 45 => ⟨S4x2048x2048, .i32⟩
  | 46 => ⟨S_, .i32⟩
  | 47 => ⟨S4x2048x2048, .i32⟩
  | 48 => ⟨S4x2048x2048, .i32⟩
  | 49 => ⟨S4x2048x2048, .i32⟩
  | 50 => ⟨S4x2048x2048, .i32⟩
  | 51 => ⟨S4x2048x2048, .i32⟩
  | 52 => ⟨S_, .i32⟩
  | 53 => ⟨S4x2048x2048, .i32⟩
  | 54 => ⟨S4x2048x2048, .i32⟩
  | 55 => ⟨S_, .i32⟩
  | 56 => ⟨S4x2048x2048, .i32⟩
  | 57 => ⟨S4x2048x2048, .i32⟩
  | 58 => ⟨S4x2048x2048, .i32⟩
  | 59 => ⟨S4x2048x2048, .i32⟩
  | 60 => ⟨S4x2048x2048, .i32⟩
  | 61 => ⟨S4x2048x2048, .i32⟩
  | 62 => ⟨S4x2048x2048, .i32⟩
  | 63 => ⟨S4x2048x2048, .i32⟩
  | 64 => ⟨S_, .i32⟩
  | 65 => ⟨S4x2048x2048, .i32⟩
  | 66 => ⟨S4x2048x2048, .i32⟩
  | 67 => ⟨S4x2048x2048, .i32⟩
  | 68 => ⟨S_, .i32⟩
  | 69 => ⟨S4x2048x2048, .i32⟩
  | 70 => ⟨S4x2048x2048, .i32⟩
  | 71 => ⟨S_, .i32⟩
  | 72 => ⟨S4x2048x2048, .i32⟩
  | 73 => ⟨S4x2048x2048, .i32⟩
  | 74 => ⟨S4x2048x2048, .f32⟩
  | 75 => ⟨S_, .f32⟩
  | 76 => ⟨S4x2048x2048, .f32⟩
  | 77 => ⟨S4x2048x2048, .f32⟩
  | 78 => ⟨S1x1x1, .f32⟩
  | 79 => ⟨S4x2048x2048, .f32⟩
  | 80 => ⟨S4x2048x2048, .f32⟩
  | 81 => ⟨S4x2048x2048, .f32⟩
  | 82 => ⟨S4x2048x2048, .f32⟩
  | 83 => ⟨S4x2048x2048, .f32⟩
  | 84 => ⟨S4x2048x2048, .f32⟩
  | 85 => ⟨S4x2048x2048x1, .f32⟩
  | 86 => ⟨S4x2048x2048, .f32⟩
  | 87 => ⟨S4x2048x2048, .i1⟩
  | 88 => ⟨S4x2048x2048, .i32⟩
  | 89 => ⟨S1x2x2, .f32⟩
  | 90 => ⟨S2x2, .f32⟩
  | 91 => ⟨S_, .i32⟩
  | 92 => ⟨S4, .i32⟩
  | 93 => ⟨S4, .i32⟩
  | 94 => ⟨S_, .i32⟩
  | 95 => ⟨S4, .i32⟩
  | 96 => ⟨S4, .i1⟩
  | 97 => ⟨S_, .i32⟩
  | 98 => ⟨S4, .i32⟩
  | 99 => ⟨S4, .i32⟩
  | 100 => ⟨S4, .i32⟩
  | 101 => ⟨S4x1, .i32⟩
  | 102 => ⟨S4x2x2, .f32⟩
  | 103 => ⟨S_, .i32⟩
  | 104 => ⟨S4, .i32⟩
  | 105 => ⟨S4, .i1⟩
  | 106 => ⟨S_, .i32⟩
  | 107 => ⟨S4, .i32⟩
  | 108 => ⟨S4, .i32⟩
  | 109 => ⟨S4, .i32⟩
  | 110 => ⟨S4x1, .i32⟩
  | 111 => ⟨S4x2x2, .f32⟩
  | 112 => ⟨S_, .i32⟩
  | 113 => ⟨S4x2048x2048, .i32⟩
  | 114 => ⟨S4x2048x2048, .i1⟩
  | 115 => ⟨S_, .i32⟩
  | 116 => ⟨S4x2048x2048, .i32⟩
  | 117 => ⟨S4x2048x2048, .i32⟩
  | 118 => ⟨S4x2048x2048, .i32⟩
  | 119 => ⟨S4x2048x2048x1, .i32⟩
  | 120 => ⟨S4x2048x2048x2, .f32⟩
  | 121 => ⟨S_, .i32⟩
  | 122 => ⟨S4x1x1, .i32⟩
  | 123 => ⟨S4x1x1, .i1⟩
  | 124 => ⟨S_, .i32⟩
  | 125 => ⟨S4x1x1, .i32⟩
  | 126 => ⟨S4x1x1, .i32⟩
  | 127 => ⟨S4x1x1, .i32⟩
  | _ => ⟨S4x2048x64, .f32⟩

abbrev hbmTy0_3 (i : Nat) : BufTy := match i % 128 with
  | 0 => ⟨S_, .i32⟩
  | 1 => ⟨S4x2048x2048, .i32⟩
  | 2 => ⟨S4x2048x2048, .i1⟩
  | 3 => ⟨S_, .i32⟩
  | 4 => ⟨S4x2048x2048, .i32⟩
  | 5 => ⟨S4x2048x2048, .i32⟩
  | 6 => ⟨S4x2048x2048, .i32⟩
  | 7 => ⟨S4x2048x2048, .i32⟩
  | 8 => ⟨S4x2048x2048x1, .i32⟩
  | 9 => ⟨S4x2048x2048x1, .i32⟩
  | 10 => ⟨S4x2048x2048x2, .i32⟩
  | 11 => ⟨S4x2048x2048x2, .f32⟩
  | 12 => ⟨S_, .i32⟩
  | 13 => ⟨S4x1x1, .i32⟩
  | 14 => ⟨S4x1x1, .i1⟩
  | 15 => ⟨S_, .i32⟩
  | 16 => ⟨S4x1x1, .i32⟩
  | 17 => ⟨S4x1x1, .i32⟩
  | 18 => ⟨S4x1x1, .i32⟩
  | 19 => ⟨S_, .i32⟩
  | 20 => ⟨S4x2048x2048, .i32⟩
  | 21 => ⟨S4x2048x2048, .i1⟩
  | 22 => ⟨S_, .i32⟩
  | 23 => ⟨S4x2048x2048, .i32⟩
  | 24 => ⟨S4x2048x2048, .i32⟩
  | 25 => ⟨S4x2048x2048, .i32⟩
  | 26 => ⟨S_, .i32⟩
  | 27 => ⟨S4x2048x2048, .i32⟩
  | 28 => ⟨S4x2048x2048, .i1⟩
  | 29 => ⟨S_, .i32⟩
  | 30 => ⟨S4x2048x2048, .i32⟩
  | 31 => ⟨S4x2048x2048, .i32⟩
  | 32 => ⟨S4x2048x2048, .i32⟩
  | 33 => ⟨S4x2048x2048, .i32⟩
  | 34 => ⟨S4x2048x2048x1, .i32⟩
  | 35 => ⟨S4x2048x2048x1, .i32⟩
  | 36 => ⟨S4x2048x2048x1, .i32⟩
  | 37 => ⟨S4x2048x2048x3, .i32⟩
  | 38 => ⟨S4x2048x2048, .f32⟩
  | 39 => ⟨S4x2048x2048x2, .f32⟩
  | 40 => ⟨S4x2048x2048x1, .f32⟩
  | 41 => ⟨S4x2048x2048x2, .f32⟩
  | 42 => ⟨S4x2048x2048x2, .f32⟩
  | 43 => ⟨S4x2048x2048x1, .f32⟩
  | 44 => ⟨S4x2048x2048, .f32⟩
  | 45 => ⟨S4x2048x64, .f32⟩
  | 46 => ⟨S4x2048x2048, .f32⟩
  | 47 => ⟨S_, .f32⟩
  | 48 => ⟨S4x2048x2048, .f32⟩
  | 49 => ⟨S4x2048x2048, .f32⟩
  | 50 => ⟨S4x2048x2048, .f32⟩
  | 51 => ⟨S4x2048x2048, .f32⟩
  | 52 => ⟨S4x2048x2048, .f32⟩
  | 53 => ⟨S4x2048x2048, .f32⟩
  | 54 => ⟨S4x2048x2048, .f32⟩
  | 55 => ⟨S4x2048x2048, .f32⟩
  | 56 => ⟨S4x2048x2048, .f32⟩
  | 57 => ⟨S4x2048x2048, .i32⟩
  | 58 => ⟨S4x2048x2048, .i32⟩
  | 59 => ⟨S4x2048x2048, .i1⟩
  | 60 => ⟨S_, .f32⟩
  | 61 => ⟨S_, .f32⟩
  | 62 => ⟨S4x2048x2048, .f32⟩
  | 63 => ⟨S4x2048x2048, .f32⟩
  | 64 => ⟨S_, .f32⟩
  | 65 => ⟨S_, .f32⟩
  | 66 => ⟨S_, .f32⟩
  | 67 => ⟨S_, .f32⟩
  | _ => ⟨S4x2048x64, .f32⟩

abbrev hbmTy (i : Nat) : BufTy := match i / 128 with
  | 0 => hbmTy0_0 i
  | 1 => hbmTy0_1 i
  | 2 => hbmTy0_2 i
  | 3 => hbmTy0_3 i
  | _ => ⟨S4x2048x64, .f32⟩

abbrev bufTy : (tb : Table) → Fin (tcTables nBuf tb) → BufTy
  | .hbm, ⟨i, _⟩ => hbmTy i
  | _, _ => ⟨S4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_c_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_10 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_cst_14 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_v9 : Ref sig .tc := ⟨.hbm, 83, rfl⟩
abbrev main_call0_v10 : Ref sig .tc := ⟨.hbm, 84, rfl⟩
abbrev main_call0_c : Ref sig .tc := ⟨.hbm, 85, rfl⟩
abbrev main_call0_v11 : Ref sig .tc := ⟨.hbm, 86, rfl⟩
abbrev main_call0_v12 : Ref sig .tc := ⟨.hbm, 87, rfl⟩
abbrev main_call0_c_0 : Ref sig .tc := ⟨.hbm, 88, rfl⟩
abbrev main_call0_v13 : Ref sig .tc := ⟨.hbm, 89, rfl⟩
abbrev main_call0_v14 : Ref sig .tc := ⟨.hbm, 90, rfl⟩
abbrev main_call0_c_1 : Ref sig .tc := ⟨.hbm, 91, rfl⟩
abbrev main_call0_v15 : Ref sig .tc := ⟨.hbm, 92, rfl⟩
abbrev main_call0_v16 : Ref sig .tc := ⟨.hbm, 93, rfl⟩
abbrev main_call0_v17 : Ref sig .tc := ⟨.hbm, 94, rfl⟩
abbrev main_call0_v18 : Ref sig .tc := ⟨.hbm, 95, rfl⟩
abbrev main_call0_c_2 : Ref sig .tc := ⟨.hbm, 96, rfl⟩
abbrev main_call0_v19 : Ref sig .tc := ⟨.hbm, 97, rfl⟩
abbrev main_call0_v20 : Ref sig .tc := ⟨.hbm, 98, rfl⟩
abbrev main_call0_v21 : Ref sig .tc := ⟨.hbm, 99, rfl⟩
abbrev main_call0_v22 : Ref sig .tc := ⟨.hbm, 100, rfl⟩
abbrev main_call0_call0_v0 : Ref sig .tc := ⟨.hbm, 101, rfl⟩
abbrev main_call0_call0_c : Ref sig .tc := ⟨.hbm, 102, rfl⟩
abbrev main_call0_call0_v1 : Ref sig .tc := ⟨.hbm, 103, rfl⟩
abbrev main_call0_call0_v2 : Ref sig .tc := ⟨.hbm, 104, rfl⟩
abbrev main_call0_call0_v3 : Ref sig .tc := ⟨.hbm, 105, rfl⟩
abbrev main_call0_call0_v4 : Ref sig .tc := ⟨.hbm, 106, rfl⟩
abbrev main_call0_call0_v5 : Ref sig .tc := ⟨.hbm, 107, rfl⟩
abbrev main_call0_call0_v6 : Ref sig .tc := ⟨.hbm, 108, rfl⟩
abbrev main_call0_call0_c_0 : Ref sig .tc := ⟨.hbm, 109, rfl⟩
abbrev main_call0_call0_v7 : Ref sig .tc := ⟨.hbm, 110, rfl⟩
abbrev main_call0_call0_v8 : Ref sig .tc := ⟨.hbm, 111, rfl⟩
abbrev main_call0_call0_c_1 : Ref sig .tc := ⟨.hbm, 112, rfl⟩
abbrev main_call0_call0_v9 : Ref sig .tc := ⟨.hbm, 113, rfl⟩
abbrev main_call0_call0_v10 : Ref sig .tc := ⟨.hbm, 114, rfl⟩
abbrev main_call0_call0_v11 : Ref sig .tc := ⟨.hbm, 115, rfl⟩
abbrev main_call0_call0_v12 : Ref sig .tc := ⟨.hbm, 116, rfl⟩
abbrev main_call0_call0_v13 : Ref sig .tc := ⟨.hbm, 117, rfl⟩
abbrev main_call0_call0_c_2 : Ref sig .tc := ⟨.hbm, 118, rfl⟩
abbrev main_call0_call0_v14 : Ref sig .tc := ⟨.hbm, 119, rfl⟩
abbrev main_call0_call0_v15 : Ref sig .tc := ⟨.hbm, 120, rfl⟩
abbrev main_call0_call0_c_3 : Ref sig .tc := ⟨.hbm, 121, rfl⟩
abbrev main_call0_call0_v16 : Ref sig .tc := ⟨.hbm, 122, rfl⟩
abbrev main_call0_call0_v17 : Ref sig .tc := ⟨.hbm, 123, rfl⟩
abbrev main_call0_call0_v18 : Ref sig .tc := ⟨.hbm, 124, rfl⟩
abbrev main_call0_call0_v19 : Ref sig .tc := ⟨.hbm, 125, rfl⟩
abbrev main_call0_call0_v20 : Ref sig .tc := ⟨.hbm, 126, rfl⟩
abbrev main_call0_call0_c_4 : Ref sig .tc := ⟨.hbm, 127, rfl⟩
abbrev main_call0_call0_v21 : Ref sig .tc := ⟨.hbm, 128, rfl⟩
abbrev main_call0_call0_v22 : Ref sig .tc := ⟨.hbm, 129, rfl⟩
abbrev main_call0_call0_c_5 : Ref sig .tc := ⟨.hbm, 130, rfl⟩
abbrev main_call0_call0_v23 : Ref sig .tc := ⟨.hbm, 131, rfl⟩
abbrev main_call0_call0_v24 : Ref sig .tc := ⟨.hbm, 132, rfl⟩
abbrev main_call0_call0_v25 : Ref sig .tc := ⟨.hbm, 133, rfl⟩
abbrev main_call0_call0_v26 : Ref sig .tc := ⟨.hbm, 134, rfl⟩
abbrev main_call0_call0_v27 : Ref sig .tc := ⟨.hbm, 135, rfl⟩
abbrev main_call0_call0_c_6 : Ref sig .tc := ⟨.hbm, 136, rfl⟩
abbrev main_call0_call0_v28 : Ref sig .tc := ⟨.hbm, 137, rfl⟩
abbrev main_call0_call0_v29 : Ref sig .tc := ⟨.hbm, 138, rfl⟩
abbrev main_call0_call0_c_7 : Ref sig .tc := ⟨.hbm, 139, rfl⟩
abbrev main_call0_call0_v30 : Ref sig .tc := ⟨.hbm, 140, rfl⟩
abbrev main_call0_call0_v31 : Ref sig .tc := ⟨.hbm, 141, rfl⟩
abbrev main_call0_call0_v32 : Ref sig .tc := ⟨.hbm, 142, rfl⟩
abbrev main_call0_call0_v33 : Ref sig .tc := ⟨.hbm, 143, rfl⟩
abbrev main_call0_call0_v34 : Ref sig .tc := ⟨.hbm, 144, rfl⟩
abbrev main_call0_call0_v35 : Ref sig .tc := ⟨.hbm, 145, rfl⟩
abbrev main_call0_call0_v36 : Ref sig .tc := ⟨.hbm, 146, rfl⟩
abbrev main_call0_call0_v37 : Ref sig .tc := ⟨.hbm, 147, rfl⟩
abbrev main_call0_call0_c_8 : Ref sig .tc := ⟨.hbm, 148, rfl⟩
abbrev main_call0_call0_v38 : Ref sig .tc := ⟨.hbm, 149, rfl⟩
abbrev main_call0_call0_v39 : Ref sig .tc := ⟨.hbm, 150, rfl⟩
abbrev main_call0_call0_v40 : Ref sig .tc := ⟨.hbm, 151, rfl⟩
abbrev main_call0_call0_c_9 : Ref sig .tc := ⟨.hbm, 152, rfl⟩
abbrev main_call0_call0_v41 : Ref sig .tc := ⟨.hbm, 153, rfl⟩
abbrev main_call0_call0_v42 : Ref sig .tc := ⟨.hbm, 154, rfl⟩
abbrev main_call0_call0_c_10 : Ref sig .tc := ⟨.hbm, 155, rfl⟩
abbrev main_call0_call0_v43 : Ref sig .tc := ⟨.hbm, 156, rfl⟩
abbrev main_call0_call0_v44 : Ref sig .tc := ⟨.hbm, 157, rfl⟩
abbrev main_call0_call0_v45 : Ref sig .tc := ⟨.hbm, 158, rfl⟩
abbrev main_call0_call0_v46 : Ref sig .tc := ⟨.hbm, 159, rfl⟩
abbrev main_call0_call0_v47 : Ref sig .tc := ⟨.hbm, 160, rfl⟩
abbrev main_call0_call0_c_11 : Ref sig .tc := ⟨.hbm, 161, rfl⟩
abbrev main_call0_call0_v48 : Ref sig .tc := ⟨.hbm, 162, rfl⟩
abbrev main_call0_call0_v49 : Ref sig .tc := ⟨.hbm, 163, rfl⟩
abbrev main_call0_call0_c_12 : Ref sig .tc := ⟨.hbm, 164, rfl⟩
abbrev main_call0_call0_v50 : Ref sig .tc := ⟨.hbm, 165, rfl⟩
abbrev main_call0_call0_v51 : Ref sig .tc := ⟨.hbm, 166, rfl⟩
abbrev main_call0_call0_v52 : Ref sig .tc := ⟨.hbm, 167, rfl⟩
abbrev main_call0_call0_v53 : Ref sig .tc := ⟨.hbm, 168, rfl⟩
abbrev main_call0_call0_v54 : Ref sig .tc := ⟨.hbm, 169, rfl⟩
abbrev main_call0_call0_c_13 : Ref sig .tc := ⟨.hbm, 170, rfl⟩
abbrev main_call0_call0_v55 : Ref sig .tc := ⟨.hbm, 171, rfl⟩
abbrev main_call0_call0_v56 : Ref sig .tc := ⟨.hbm, 172, rfl⟩
abbrev main_call0_call0_c_14 : Ref sig .tc := ⟨.hbm, 173, rfl⟩
abbrev main_call0_call0_v57 : Ref sig .tc := ⟨.hbm, 174, rfl⟩
abbrev main_call0_call0_v58 : Ref sig .tc := ⟨.hbm, 175, rfl⟩
abbrev main_call0_call0_v59 : Ref sig .tc := ⟨.hbm, 176, rfl⟩
abbrev main_call0_call0_v60 : Ref sig .tc := ⟨.hbm, 177, rfl⟩
abbrev main_call0_call0_v61 : Ref sig .tc := ⟨.hbm, 178, rfl⟩
abbrev main_call0_call0_c_15 : Ref sig .tc := ⟨.hbm, 179, rfl⟩
abbrev main_call0_call0_v62 : Ref sig .tc := ⟨.hbm, 180, rfl⟩
abbrev main_call0_call0_v63 : Ref sig .tc := ⟨.hbm, 181, rfl⟩
abbrev main_call0_call0_c_16 : Ref sig .tc := ⟨.hbm, 182, rfl⟩
abbrev main_call0_call0_v64 : Ref sig .tc := ⟨.hbm, 183, rfl⟩
abbrev main_call0_call0_v65 : Ref sig .tc := ⟨.hbm, 184, rfl⟩
abbrev main_call0_call0_v66 : Ref sig .tc := ⟨.hbm, 185, rfl⟩
abbrev main_call0_call0_v67 : Ref sig .tc := ⟨.hbm, 186, rfl⟩
abbrev main_call0_call0_v68 : Ref sig .tc := ⟨.hbm, 187, rfl⟩
abbrev main_call0_call0_v69 : Ref sig .tc := ⟨.hbm, 188, rfl⟩
abbrev main_call0_call0_v70 : Ref sig .tc := ⟨.hbm, 189, rfl⟩
abbrev main_call0_call0_v71 : Ref sig .tc := ⟨.hbm, 190, rfl⟩
abbrev main_call0_call0_c_17 : Ref sig .tc := ⟨.hbm, 191, rfl⟩
abbrev main_call0_call0_v72 : Ref sig .tc := ⟨.hbm, 192, rfl⟩
abbrev main_call0_call0_v73 : Ref sig .tc := ⟨.hbm, 193, rfl⟩
abbrev main_call0_call0_v74 : Ref sig .tc := ⟨.hbm, 194, rfl⟩
abbrev main_call0_call0_c_18 : Ref sig .tc := ⟨.hbm, 195, rfl⟩
abbrev main_call0_call0_v75 : Ref sig .tc := ⟨.hbm, 196, rfl⟩
abbrev main_call0_call0_v76 : Ref sig .tc := ⟨.hbm, 197, rfl⟩
abbrev main_call0_call0_c_19 : Ref sig .tc := ⟨.hbm, 198, rfl⟩
abbrev main_call0_call0_v77 : Ref sig .tc := ⟨.hbm, 199, rfl⟩
abbrev main_call0_call0_v78 : Ref sig .tc := ⟨.hbm, 200, rfl⟩
abbrev main_call0_call0_v79 : Ref sig .tc := ⟨.hbm, 201, rfl⟩
abbrev main_call0_call0_v80 : Ref sig .tc := ⟨.hbm, 202, rfl⟩
abbrev main_call0_call0_v81 : Ref sig .tc := ⟨.hbm, 203, rfl⟩
abbrev main_call0_call0_c_20 : Ref sig .tc := ⟨.hbm, 204, rfl⟩
abbrev main_call0_call0_v82 : Ref sig .tc := ⟨.hbm, 205, rfl⟩
abbrev main_call0_call0_v83 : Ref sig .tc := ⟨.hbm, 206, rfl⟩
abbrev main_call0_call0_c_21 : Ref sig .tc := ⟨.hbm, 207, rfl⟩
abbrev main_call0_call0_v84 : Ref sig .tc := ⟨.hbm, 208, rfl⟩
abbrev main_call0_call0_v85 : Ref sig .tc := ⟨.hbm, 209, rfl⟩
abbrev main_call0_call0_v86 : Ref sig .tc := ⟨.hbm, 210, rfl⟩
abbrev main_call0_call0_v87 : Ref sig .tc := ⟨.hbm, 211, rfl⟩
abbrev main_call0_call0_v88 : Ref sig .tc := ⟨.hbm, 212, rfl⟩
abbrev main_call0_call0_c_22 : Ref sig .tc := ⟨.hbm, 213, rfl⟩
abbrev main_call0_call0_v89 : Ref sig .tc := ⟨.hbm, 214, rfl⟩
abbrev main_call0_call0_v90 : Ref sig .tc := ⟨.hbm, 215, rfl⟩
abbrev main_call0_call0_c_23 : Ref sig .tc := ⟨.hbm, 216, rfl⟩
abbrev main_call0_call0_v91 : Ref sig .tc := ⟨.hbm, 217, rfl⟩
abbrev main_call0_call0_v92 : Ref sig .tc := ⟨.hbm, 218, rfl⟩
abbrev main_call0_call0_v93 : Ref sig .tc := ⟨.hbm, 219, rfl⟩
abbrev main_call0_call0_v94 : Ref sig .tc := ⟨.hbm, 220, rfl⟩
abbrev main_call0_call0_v95 : Ref sig .tc := ⟨.hbm, 221, rfl⟩
abbrev main_call0_call0_c_24 : Ref sig .tc := ⟨.hbm, 222, rfl⟩
abbrev main_call0_call0_v96 : Ref sig .tc := ⟨.hbm, 223, rfl⟩
abbrev main_call0_call0_v97 : Ref sig .tc := ⟨.hbm, 224, rfl⟩
abbrev main_call0_call0_c_25 : Ref sig .tc := ⟨.hbm, 225, rfl⟩
abbrev main_call0_call0_v98 : Ref sig .tc := ⟨.hbm, 226, rfl⟩
abbrev main_call0_call0_v99 : Ref sig .tc := ⟨.hbm, 227, rfl⟩
abbrev main_call0_call0_v100 : Ref sig .tc := ⟨.hbm, 228, rfl⟩
abbrev main_call0_call0_v101 : Ref sig .tc := ⟨.hbm, 229, rfl⟩
abbrev main_call0_call0_v102 : Ref sig .tc := ⟨.hbm, 230, rfl⟩
abbrev main_call0_call0_v103 : Ref sig .tc := ⟨.hbm, 231, rfl⟩
abbrev main_call0_call0_v104 : Ref sig .tc := ⟨.hbm, 232, rfl⟩
abbrev main_call0_call0_v105 : Ref sig .tc := ⟨.hbm, 233, rfl⟩
abbrev main_call0_call0_c_26 : Ref sig .tc := ⟨.hbm, 234, rfl⟩
abbrev main_call0_call0_v106 : Ref sig .tc := ⟨.hbm, 235, rfl⟩
abbrev main_call0_call0_v107 : Ref sig .tc := ⟨.hbm, 236, rfl⟩
abbrev main_call0_call0_v108 : Ref sig .tc := ⟨.hbm, 237, rfl⟩
abbrev main_call0_call0_c_27 : Ref sig .tc := ⟨.hbm, 238, rfl⟩
abbrev main_call0_call0_v109 : Ref sig .tc := ⟨.hbm, 239, rfl⟩
abbrev main_call0_call0_v110 : Ref sig .tc := ⟨.hbm, 240, rfl⟩
abbrev main_call0_call0_c_28 : Ref sig .tc := ⟨.hbm, 241, rfl⟩
abbrev main_call0_call0_v111 : Ref sig .tc := ⟨.hbm, 242, rfl⟩
abbrev main_call0_call0_v112 : Ref sig .tc := ⟨.hbm, 243, rfl⟩
abbrev main_call0_call0_v113 : Ref sig .tc := ⟨.hbm, 244, rfl⟩
abbrev main_call0_call0_v114 : Ref sig .tc := ⟨.hbm, 245, rfl⟩
abbrev main_call0_call0_v115 : Ref sig .tc := ⟨.hbm, 246, rfl⟩
abbrev main_call0_call0_c_29 : Ref sig .tc := ⟨.hbm, 247, rfl⟩
abbrev main_call0_call0_v116 : Ref sig .tc := ⟨.hbm, 248, rfl⟩
abbrev main_call0_call0_v117 : Ref sig .tc := ⟨.hbm, 249, rfl⟩
abbrev main_call0_call0_c_30 : Ref sig .tc := ⟨.hbm, 250, rfl⟩
abbrev main_call0_call0_v118 : Ref sig .tc := ⟨.hbm, 251, rfl⟩
abbrev main_call0_call0_v119 : Ref sig .tc := ⟨.hbm, 252, rfl⟩
abbrev main_call0_call0_v120 : Ref sig .tc := ⟨.hbm, 253, rfl⟩
abbrev main_call0_call0_v121 : Ref sig .tc := ⟨.hbm, 254, rfl⟩
abbrev main_call0_call0_v122 : Ref sig .tc := ⟨.hbm, 255, rfl⟩
abbrev main_call0_call0_c_31 : Ref sig .tc := ⟨.hbm, 256, rfl⟩
abbrev main_call0_call0_v123 : Ref sig .tc := ⟨.hbm, 257, rfl⟩
abbrev main_call0_call0_v124 : Ref sig .tc := ⟨.hbm, 258, rfl⟩
abbrev main_call0_call0_c_32 : Ref sig .tc := ⟨.hbm, 259, rfl⟩
abbrev main_call0_call0_v125 : Ref sig .tc := ⟨.hbm, 260, rfl⟩
abbrev main_call0_call0_v126 : Ref sig .tc := ⟨.hbm, 261, rfl⟩
abbrev main_call0_call0_v127 : Ref sig .tc := ⟨.hbm, 262, rfl⟩
abbrev main_call0_call0_v128 : Ref sig .tc := ⟨.hbm, 263, rfl⟩
abbrev main_call0_call0_v129 : Ref sig .tc := ⟨.hbm, 264, rfl⟩
abbrev main_call0_call0_c_33 : Ref sig .tc := ⟨.hbm, 265, rfl⟩
abbrev main_call0_call0_v130 : Ref sig .tc := ⟨.hbm, 266, rfl⟩
abbrev main_call0_call0_v131 : Ref sig .tc := ⟨.hbm, 267, rfl⟩
abbrev main_call0_call0_c_34 : Ref sig .tc := ⟨.hbm, 268, rfl⟩
abbrev main_call0_call0_v132 : Ref sig .tc := ⟨.hbm, 269, rfl⟩
abbrev main_call0_call0_v133 : Ref sig .tc := ⟨.hbm, 270, rfl⟩
abbrev main_call0_call0_v134 : Ref sig .tc := ⟨.hbm, 271, rfl⟩
abbrev main_call0_call0_v135 : Ref sig .tc := ⟨.hbm, 272, rfl⟩
abbrev main_call0_call0_v136 : Ref sig .tc := ⟨.hbm, 273, rfl⟩
abbrev main_call0_call0_v137 : Ref sig .tc := ⟨.hbm, 274, rfl⟩
abbrev main_call0_call0_v138 : Ref sig .tc := ⟨.hbm, 275, rfl⟩
abbrev main_call0_call0_v139 : Ref sig .tc := ⟨.hbm, 276, rfl⟩
abbrev main_call0_call0_c_35 : Ref sig .tc := ⟨.hbm, 277, rfl⟩
abbrev main_call0_call0_v140 : Ref sig .tc := ⟨.hbm, 278, rfl⟩
abbrev main_call0_call0_v141 : Ref sig .tc := ⟨.hbm, 279, rfl⟩
abbrev main_call0_call0_v142 : Ref sig .tc := ⟨.hbm, 280, rfl⟩
abbrev main_call0_call0_c_36 : Ref sig .tc := ⟨.hbm, 281, rfl⟩
abbrev main_call0_call0_v143 : Ref sig .tc := ⟨.hbm, 282, rfl⟩
abbrev main_call0_call0_v144 : Ref sig .tc := ⟨.hbm, 283, rfl⟩
abbrev main_call0_call0_c_37 : Ref sig .tc := ⟨.hbm, 284, rfl⟩
abbrev main_call0_call0_v145 : Ref sig .tc := ⟨.hbm, 285, rfl⟩
abbrev main_call0_call0_v146 : Ref sig .tc := ⟨.hbm, 286, rfl⟩
abbrev main_call0_call0_v147 : Ref sig .tc := ⟨.hbm, 287, rfl⟩
abbrev main_call0_call0_v148 : Ref sig .tc := ⟨.hbm, 288, rfl⟩
abbrev main_call0_call0_v149 : Ref sig .tc := ⟨.hbm, 289, rfl⟩
abbrev main_call0_call0_c_38 : Ref sig .tc := ⟨.hbm, 290, rfl⟩
abbrev main_call0_call0_v150 : Ref sig .tc := ⟨.hbm, 291, rfl⟩
abbrev main_call0_call0_v151 : Ref sig .tc := ⟨.hbm, 292, rfl⟩
abbrev main_call0_call0_c_39 : Ref sig .tc := ⟨.hbm, 293, rfl⟩
abbrev main_call0_call0_v152 : Ref sig .tc := ⟨.hbm, 294, rfl⟩
abbrev main_call0_call0_v153 : Ref sig .tc := ⟨.hbm, 295, rfl⟩
abbrev main_call0_call0_v154 : Ref sig .tc := ⟨.hbm, 296, rfl⟩
abbrev main_call0_call0_v155 : Ref sig .tc := ⟨.hbm, 297, rfl⟩
abbrev main_call0_call0_v156 : Ref sig .tc := ⟨.hbm, 298, rfl⟩
abbrev main_call0_call0_c_40 : Ref sig .tc := ⟨.hbm, 299, rfl⟩
abbrev main_call0_call0_v157 : Ref sig .tc := ⟨.hbm, 300, rfl⟩
abbrev main_call0_call0_v158 : Ref sig .tc := ⟨.hbm, 301, rfl⟩
abbrev main_call0_call0_c_41 : Ref sig .tc := ⟨.hbm, 302, rfl⟩
abbrev main_call0_call0_v159 : Ref sig .tc := ⟨.hbm, 303, rfl⟩
abbrev main_call0_call0_v160 : Ref sig .tc := ⟨.hbm, 304, rfl⟩
abbrev main_call0_call0_v161 : Ref sig .tc := ⟨.hbm, 305, rfl⟩
abbrev main_call0_call0_v162 : Ref sig .tc := ⟨.hbm, 306, rfl⟩
abbrev main_call0_call0_v163 : Ref sig .tc := ⟨.hbm, 307, rfl⟩
abbrev main_call0_call0_c_42 : Ref sig .tc := ⟨.hbm, 308, rfl⟩
abbrev main_call0_call0_v164 : Ref sig .tc := ⟨.hbm, 309, rfl⟩
abbrev main_call0_call0_v165 : Ref sig .tc := ⟨.hbm, 310, rfl⟩
abbrev main_call0_call0_c_43 : Ref sig .tc := ⟨.hbm, 311, rfl⟩
abbrev main_call0_call0_v166 : Ref sig .tc := ⟨.hbm, 312, rfl⟩
abbrev main_call0_call0_v167 : Ref sig .tc := ⟨.hbm, 313, rfl⟩
abbrev main_call0_call0_v168 : Ref sig .tc := ⟨.hbm, 314, rfl⟩
abbrev main_call0_call0_v169 : Ref sig .tc := ⟨.hbm, 315, rfl⟩
abbrev main_call0_call0_v170 : Ref sig .tc := ⟨.hbm, 316, rfl⟩
abbrev main_call0_v23_0 : Ref sig .tc := ⟨.hbm, 317, rfl⟩
abbrev main_call0_call0_v172 : Ref sig .tc := ⟨.hbm, 318, rfl⟩
abbrev main_call0_call0_v173 : Ref sig .tc := ⟨.hbm, 319, rfl⟩
abbrev main_call0_call0_c_44 : Ref sig .tc := ⟨.hbm, 320, rfl⟩
abbrev main_call0_call0_v174 : Ref sig .tc := ⟨.hbm, 321, rfl⟩
abbrev main_call0_v23_1 : Ref sig .tc := ⟨.hbm, 322, rfl⟩
abbrev main_call0_v24 : Ref sig .tc := ⟨.hbm, 323, rfl⟩
abbrev main_call0_c_3 : Ref sig .tc := ⟨.hbm, 324, rfl⟩
abbrev main_call0_v25 : Ref sig .tc := ⟨.hbm, 325, rfl⟩
abbrev main_call0_v26 : Ref sig .tc := ⟨.hbm, 326, rfl⟩
abbrev main_call0_c_4 : Ref sig .tc := ⟨.hbm, 327, rfl⟩
abbrev main_call0_v27 : Ref sig .tc := ⟨.hbm, 328, rfl⟩
abbrev main_call0_v28 : Ref sig .tc := ⟨.hbm, 329, rfl⟩
abbrev main_call0_v29 : Ref sig .tc := ⟨.hbm, 330, rfl⟩
abbrev main_call0_cst : Ref sig .tc := ⟨.hbm, 331, rfl⟩
abbrev main_call0_v30 : Ref sig .tc := ⟨.hbm, 332, rfl⟩
abbrev main_call0_v31 : Ref sig .tc := ⟨.hbm, 333, rfl⟩
abbrev main_call0_v32 : Ref sig .tc := ⟨.hbm, 334, rfl⟩
abbrev main_call0_v33 : Ref sig .tc := ⟨.hbm, 335, rfl⟩
abbrev main_call0_v34 : Ref sig .tc := ⟨.hbm, 336, rfl⟩
abbrev main_call0_v35 : Ref sig .tc := ⟨.hbm, 337, rfl⟩
abbrev main_call0_v36 : Ref sig .tc := ⟨.hbm, 338, rfl⟩
abbrev main_call0_v37 : Ref sig .tc := ⟨.hbm, 339, rfl⟩
abbrev main_v53 : Ref sig .tc := ⟨.hbm, 340, rfl⟩
abbrev main_v54 : Ref sig .tc := ⟨.hbm, 341, rfl⟩
abbrev main_v55 : Ref sig .tc := ⟨.hbm, 342, rfl⟩
abbrev main_v56 : Ref sig .tc := ⟨.hbm, 343, rfl⟩
abbrev main_v57 : Ref sig .tc := ⟨.hbm, 344, rfl⟩
abbrev main_v58 : Ref sig .tc := ⟨.hbm, 345, rfl⟩
abbrev main_v59 : Ref sig .tc := ⟨.hbm, 346, rfl⟩
abbrev main_c_15 : Ref sig .tc := ⟨.hbm, 347, rfl⟩
abbrev main_v60 : Ref sig .tc := ⟨.hbm, 348, rfl⟩
abbrev main_v61 : Ref sig .tc := ⟨.hbm, 349, rfl⟩
abbrev main_c_16 : Ref sig .tc := ⟨.hbm, 350, rfl⟩
abbrev main_v62 : Ref sig .tc := ⟨.hbm, 351, rfl⟩
abbrev main_v63 : Ref sig .tc := ⟨.hbm, 352, rfl⟩
abbrev main_c_17 : Ref sig .tc := ⟨.hbm, 353, rfl⟩
abbrev main_v64 : Ref sig .tc := ⟨.hbm, 354, rfl⟩
abbrev main_v65 : Ref sig .tc := ⟨.hbm, 355, rfl⟩
abbrev main_v66 : Ref sig .tc := ⟨.hbm, 356, rfl⟩
abbrev main_v67 : Ref sig .tc := ⟨.hbm, 357, rfl⟩
abbrev main_v68 : Ref sig .tc := ⟨.hbm, 358, rfl⟩
abbrev main_c_18 : Ref sig .tc := ⟨.hbm, 359, rfl⟩
abbrev main_v69 : Ref sig .tc := ⟨.hbm, 360, rfl⟩
abbrev main_v70 : Ref sig .tc := ⟨.hbm, 361, rfl⟩
abbrev main_c_19 : Ref sig .tc := ⟨.hbm, 362, rfl⟩
abbrev main_v71 : Ref sig .tc := ⟨.hbm, 363, rfl⟩
abbrev main_v72 : Ref sig .tc := ⟨.hbm, 364, rfl⟩
abbrev main_v73 : Ref sig .tc := ⟨.hbm, 365, rfl⟩
abbrev main_v74 : Ref sig .tc := ⟨.hbm, 366, rfl⟩
abbrev main_v75 : Ref sig .tc := ⟨.hbm, 367, rfl⟩
abbrev main_c_20 : Ref sig .tc := ⟨.hbm, 368, rfl⟩
abbrev main_v76 : Ref sig .tc := ⟨.hbm, 369, rfl⟩
abbrev main_v77 : Ref sig .tc := ⟨.hbm, 370, rfl⟩
abbrev main_c_21 : Ref sig .tc := ⟨.hbm, 371, rfl⟩
abbrev main_v78 : Ref sig .tc := ⟨.hbm, 372, rfl⟩
abbrev main_v79 : Ref sig .tc := ⟨.hbm, 373, rfl⟩
abbrev main_v80 : Ref sig .tc := ⟨.hbm, 374, rfl⟩
abbrev main_v81 : Ref sig .tc := ⟨.hbm, 375, rfl⟩
abbrev main_v82 : Ref sig .tc := ⟨.hbm, 376, rfl⟩
abbrev main_c_22 : Ref sig .tc := ⟨.hbm, 377, rfl⟩
abbrev main_v83 : Ref sig .tc := ⟨.hbm, 378, rfl⟩
abbrev main_v84 : Ref sig .tc := ⟨.hbm, 379, rfl⟩
abbrev main_c_23 : Ref sig .tc := ⟨.hbm, 380, rfl⟩
abbrev main_v85 : Ref sig .tc := ⟨.hbm, 381, rfl⟩
abbrev main_v86 : Ref sig .tc := ⟨.hbm, 382, rfl⟩
abbrev main_v87 : Ref sig .tc := ⟨.hbm, 383, rfl⟩
abbrev main_c_24 : Ref sig .tc := ⟨.hbm, 384, rfl⟩
abbrev main_v88 : Ref sig .tc := ⟨.hbm, 385, rfl⟩
abbrev main_v89 : Ref sig .tc := ⟨.hbm, 386, rfl⟩
abbrev main_c_25 : Ref sig .tc := ⟨.hbm, 387, rfl⟩
abbrev main_v90 : Ref sig .tc := ⟨.hbm, 388, rfl⟩
abbrev main_v91 : Ref sig .tc := ⟨.hbm, 389, rfl⟩
abbrev main_v92 : Ref sig .tc := ⟨.hbm, 390, rfl⟩
abbrev main_v93 : Ref sig .tc := ⟨.hbm, 391, rfl⟩
abbrev main_v94 : Ref sig .tc := ⟨.hbm, 392, rfl⟩
abbrev main_v95 : Ref sig .tc := ⟨.hbm, 393, rfl⟩
abbrev main_v96 : Ref sig .tc := ⟨.hbm, 394, rfl⟩
abbrev main_v97 : Ref sig .tc := ⟨.hbm, 395, rfl⟩
abbrev main_c_26 : Ref sig .tc := ⟨.hbm, 396, rfl⟩
abbrev main_v98 : Ref sig .tc := ⟨.hbm, 397, rfl⟩
abbrev main_v99 : Ref sig .tc := ⟨.hbm, 398, rfl⟩
abbrev main_c_27 : Ref sig .tc := ⟨.hbm, 399, rfl⟩
abbrev main_v100 : Ref sig .tc := ⟨.hbm, 400, rfl⟩
abbrev main_v101 : Ref sig .tc := ⟨.hbm, 401, rfl⟩
abbrev main_v102 : Ref sig .tc := ⟨.hbm, 402, rfl⟩
abbrev main_c_28 : Ref sig .tc := ⟨.hbm, 403, rfl⟩
abbrev main_v103 : Ref sig .tc := ⟨.hbm, 404, rfl⟩
abbrev main_v104 : Ref sig .tc := ⟨.hbm, 405, rfl⟩
abbrev main_c_29 : Ref sig .tc := ⟨.hbm, 406, rfl⟩
abbrev main_v105 : Ref sig .tc := ⟨.hbm, 407, rfl⟩
abbrev main_v106 : Ref sig .tc := ⟨.hbm, 408, rfl⟩
abbrev main_v107 : Ref sig .tc := ⟨.hbm, 409, rfl⟩
abbrev main_c_30 : Ref sig .tc := ⟨.hbm, 410, rfl⟩
abbrev main_v108 : Ref sig .tc := ⟨.hbm, 411, rfl⟩
abbrev main_v109 : Ref sig .tc := ⟨.hbm, 412, rfl⟩
abbrev main_c_31 : Ref sig .tc := ⟨.hbm, 413, rfl⟩
abbrev main_v110 : Ref sig .tc := ⟨.hbm, 414, rfl⟩
abbrev main_v111 : Ref sig .tc := ⟨.hbm, 415, rfl⟩
abbrev main_v112 : Ref sig .tc := ⟨.hbm, 416, rfl⟩
abbrev main_v113 : Ref sig .tc := ⟨.hbm, 417, rfl⟩
abbrev main_v114 : Ref sig .tc := ⟨.hbm, 418, rfl⟩
abbrev main_v115 : Ref sig .tc := ⟨.hbm, 419, rfl⟩
abbrev main_v116 : Ref sig .tc := ⟨.hbm, 420, rfl⟩
abbrev main_v117 : Ref sig .tc := ⟨.hbm, 421, rfl⟩
abbrev main_v118 : Ref sig .tc := ⟨.hbm, 422, rfl⟩
abbrev main_v119 : Ref sig .tc := ⟨.hbm, 423, rfl⟩
abbrev main_v120 : Ref sig .tc := ⟨.hbm, 424, rfl⟩
abbrev main_v121 : Ref sig .tc := ⟨.hbm, 425, rfl⟩
abbrev main_v122 : Ref sig .tc := ⟨.hbm, 426, rfl⟩
abbrev main_v123 : Ref sig .tc := ⟨.hbm, 427, rfl⟩
abbrev main_v124 : Ref sig .tc := ⟨.hbm, 428, rfl⟩
abbrev main_v125 : Ref sig .tc := ⟨.hbm, 429, rfl⟩
abbrev main_v126 : Ref sig .tc := ⟨.hbm, 430, rfl⟩
abbrev main_cst_32 : Ref sig .tc := ⟨.hbm, 431, rfl⟩
abbrev main_v127 : Ref sig .tc := ⟨.hbm, 432, rfl⟩
abbrev main_v128 : Ref sig .tc := ⟨.hbm, 433, rfl⟩
abbrev main_v129 : Ref sig .tc := ⟨.hbm, 434, rfl⟩
abbrev main_v130 : Ref sig .tc := ⟨.hbm, 435, rfl⟩
abbrev main_v131 : Ref sig .tc := ⟨.hbm, 436, rfl⟩
abbrev main_v132 : Ref sig .tc := ⟨.hbm, 437, rfl⟩
abbrev main_v133 : Ref sig .tc := ⟨.hbm, 438, rfl⟩
abbrev main_v134 : Ref sig .tc := ⟨.hbm, 439, rfl⟩
abbrev main_v135 : Ref sig .tc := ⟨.hbm, 440, rfl⟩
abbrev main_v136 : Ref sig .tc := ⟨.hbm, 441, rfl⟩
abbrev main_v137 : Ref sig .tc := ⟨.hbm, 442, rfl⟩
abbrev main_v138 : Ref sig .tc := ⟨.hbm, 443, rfl⟩
abbrev main_cst_33 : Ref sig .tc := ⟨.hbm, 444, rfl⟩
abbrev main_call1_v0 : Ref sig .tc := ⟨.hbm, 445, rfl⟩
abbrev main_call1_v1 : Ref sig .tc := ⟨.hbm, 446, rfl⟩
abbrev main_v139 : Ref sig .tc := ⟨.hbm, 447, rfl⟩
abbrev main_cst_34 : Ref sig .tc := ⟨.hbm, 448, rfl⟩
abbrev main_v140 : Ref sig .tc := ⟨.hbm, 449, rfl⟩
abbrev main_cst_35 : Ref sig .tc := ⟨.hbm, 450, rfl⟩
abbrev main_v141 : Ref sig .tc := ⟨.hbm, 451, rfl⟩

abbrev nD : Nat := 1
abbrev τ : Topo := Topo.v7x

variable {F : FTy → Type} [FloatOps F]
-- ==== Proof.HostLine.lean ====
/-
Reading a straight line of host operations.

Every operation of the lines proved about here writes one buffer of its own, and the buffers come in
program order.  So the contents after the whole line satisfy one equation for each operation: the
operation's result is its function of its operands' FINAL contents.  A proof then uses these
equations one at a time and never has to expand an expression of hundreds of operations.
-/
module

public import Idealize.ShloMosaic.Lib.StableHlo.Run
public import Idealize.ShloMosaic.Lib.Pipeline.Frame

@[expose] public section

noncomputable section

namespace Cert.HostLine

open Idealize.ShloMosaic Idealize.ShloMosaic.StableHlo

variable {τ : Topo} {sig : RefSig} {Val : EltTy → Type}

/-- The operations write, in order, single buffers whose positions `key` are `n`, `n + 1`, and so on. -/
def Ordered (key : Ref sig .tc → Nat) : Nat → List (HloOp τ sig Val) → Prop
  | _, [] => True
  | n, op :: ops => (∃ r : Ref sig .tc, op.writes = {Proc.devRef .tc r} ∧ key r = n) ∧ Ordered key (n + 1) ops

/-- `Ordered` from two list equations: the write sets are the singletons of `W`, whose positions count up. -/
theorem ordered_of_map {key : Ref sig .tc → Nat} {W : List (Ref sig .tc)} :
    ∀ {ops : List (HloOp τ sig Val)} {n : Nat},
      ops.map HloOp.writes = W.map (fun r => {Proc.devRef (τ := τ) .tc r}) →
      W.map key = List.range' n W.length → Ordered key n ops := by
  induction W with
  | nil => intro ops n h _; cases ops with | nil => trivial | cons _ _ => cases h
  | cons r W ih =>
    intro ops n h hk
    cases ops with
    | nil => cases h
    | cons op ops =>
      simp only [List.map_cons, List.cons.injEq, List.length_cons, List.range'_succ] at h hk
      exact ⟨⟨r, h.1, hk.1⟩, ih h.2 hk.2⟩

/-- A buffer placed before every buffer the line writes keeps its contents. -/
theorem after_of_lt {key : Ref sig .tc → Nat} {r : Ref sig .tc} :
    ∀ {ops : List (HloOp τ sig Val)} {n : Nat} (V : Valuation τ sig Val), Ordered key n ops → key r < n →
      after ops V (Proc.devRef .tc r) = V (Proc.devRef .tc r)
  | [], _, _, _, _ => rfl
  | op :: ops, n, V, h, hr => by
    obtain ⟨⟨w, hw, hk⟩, h'⟩ := h
    rw [after_cons, after_of_lt _ h' (Nat.lt_succ_of_lt hr),
      op.result_of_not_mem V (by
        rw [hw, Finset.mem_singleton]; intro e
        have := Proc.devRef_injective _ e; subst this; omega)]

/-- Within an ordered line, operation `k`: there are contents `U` before it that agree with the final ones on every buffer
    placed before operation `k`'s, and its own buffer ends as it leaves it. -/
theorem split {key : Ref sig .tc → Nat} {op : HloOp τ sig Val} :
    ∀ {ops : List (HloOp τ sig Val)} {n : Nat} (V : Valuation τ sig Val), Ordered key n ops →
      ∀ k : Nat, ops[k]? = some op →
      ∃ U : Valuation τ sig Val,
        (∀ r : Ref sig .tc, key r < n + k → U (Proc.devRef .tc r) = after ops V (Proc.devRef .tc r)) ∧
        (∀ r : Ref sig .tc, key r < n + k + 1 → after ops V (Proc.devRef .tc r) = op.result U (Proc.devRef .tc r))
  | [], _, _, _, _, h => by simp at h
  | o :: ops, n, V, h, 0, hk => by
    simp only [List.getElem?_cons_zero, Option.some.injEq] at hk
    subst hk
    obtain ⟨⟨w, hw, hkw⟩, h'⟩ := h
    refine ⟨V, fun r hr => ?_, fun r hr => ?_⟩
    · exact (after_of_lt (ops := o :: ops) V ⟨⟨w, hw, hkw⟩, h'⟩ hr).symm
    · rw [after_cons, after_of_lt _ h' hr]
  | o :: ops, n, V, h, k + 1, hk => by
    rw [List.getElem?_cons_succ] at hk
    obtain ⟨U, h1, h2⟩ := split (o.result V) h.2 k hk
    refine ⟨U, fun r hr => ?_, fun r hr => ?_⟩
    · rw [h1 r (by omega), after_cons]
    · rw [after_cons, h2 r (by omega)]

variable {key : Ref sig .tc → Nat} {ops : List (HloOp τ sig Val)} {n : Nat}

/-- A constant's buffer ends at the constant. -/
theorem nullary_at (h : Ordered key n ops) (V : Valuation τ sig Val) (k : Nat) {y : Ref sig .tc} {v : y.ty.Contents Val} {hy}
    (hk : ops[k]? = some (nullary y v hy)) (ky : key y < n + k + 1) :
    after ops V (Proc.devRef .tc y) = v := by
  obtain ⟨U, _, h2⟩ := split V h k hk
  rw [h2 y ky, nullary_result]

/-- A one-operand operation's buffer ends at its function of the operand's final contents. -/
theorem unary_at (h : Ordered key n ops) (V : Valuation τ sig Val) (k : Nat) {a y : Ref sig .tc}
    {f : a.ty.Contents Val → y.ty.Contents Val} {ha hy}
    (hk : ops[k]? = some (unary a y f ha hy)) (ky : key y < n + k + 1) (ka : key a < n + k) :
    after ops V (Proc.devRef .tc y) = f (after ops V (Proc.devRef .tc a)) := by
  obtain ⟨U, h1, h2⟩ := split V h k hk
  rw [h2 y ky, unary_result, h1 a ka]

/-- A two-operand operation's buffer ends at its function of the operands' final contents. -/
theorem binary_at (h : Ordered key n ops) (V : Valuation τ sig Val) (k : Nat) {a b y : Ref sig .tc}
    {f : a.ty.Contents Val → b.ty.Contents Val → y.ty.Contents Val} {ha hb hy}
    (hk : ops[k]? = some (binary a b y f ha hb hy)) (ky : key y < n + k + 1) (ka : key a < n + k) (kb : key b < n + k) :
    after ops V (Proc.devRef .tc y) = f (after ops V (Proc.devRef .tc a)) (after ops V (Proc.devRef .tc b)) := by
  obtain ⟨U, h1, h2⟩ := split V h k hk
  rw [h2 y ky, binary_result, h1 a ka, h1 b kb]

/-- A three-operand operation's buffer ends at its function of the operands' final contents. -/
theorem ternary_at (h : Ordered key n ops) (V : Valuation τ sig Val) (k : Nat) {c a b y : Ref sig .tc}
    {f : c.ty.Contents Val → a.ty.Contents Val → b.ty.Contents Val → y.ty.Contents Val} {hc ha hb hy}
    (hk : ops[k]? = some (ternary c a b y f hc ha hb hy)) (ky : key y < n + k + 1) (kc : key c < n + k) (ka : key a < n + k)
    (kb : key b < n + k) :
    after ops V (Proc.devRef .tc y)
      = f (after ops V (Proc.devRef .tc c)) (after ops V (Proc.devRef .tc a)) (after ops V (Proc.devRef .tc b)) := by
  obtain ⟨U, h1, h2⟩ := split V h k hk
  rw [h2 y ky, ternary_result, h1 c kc, h1 a ka, h1 b kb]

/-- An operation of a family of operands ends at its function of their final contents. -/
theorem nary_at (h : Ordered key n ops) (V : Valuation τ sig Val) (k : Nat) {q : Nat} {xs : Fin q → Ref sig .tc} {y : Ref sig .tc}
    {f : ((j : Fin q) → (xs j).ty.Contents Val) → y.ty.Contents Val} {hxs hy}
    (hk : ops[k]? = some (nary xs y f hxs hy)) (ky : key y < n + k + 1) (kx : ∀ j, key (xs j) < n + k) :
    after ops V (Proc.devRef .tc y) = f (fun j => after ops V (Proc.devRef .tc (xs j))) := by
  obtain ⟨U, h1, h2⟩ := split V h k hk
  rw [h2 y ky, nary_result]
  exact congrArg f (funext fun j => h1 (xs j) (kx j))

/-- A reshape's buffer ends at its operand's final contents in the new shape. -/
theorem reshape_at (h : Ordered key n ops) (V : Valuation τ sig Val) (k : Nat) {x y : Ref sig .tc} {he hn hx hy}
    (hk : ops[k]? = some (reshape x y he hn hx hy)) (ky : key y < n + k + 1) (kx : key x < n + k) :
    after ops V (Proc.devRef .tc y) = fun i => he ▸ shapeCast y.ty.shape (after ops V (Proc.devRef .tc x)) hn i := by
  obtain ⟨U, h1, h2⟩ := split V h k hk
  rw [h2 y ky, reshape_result, h1 x kx]

end Cert.HostLine

end
-- ==== Proof.KernelIdeal.Setup.lean ====
/-
The launch of the kernel's one pallas_call: what the host lines before it leave (`V0`), the two
prefetched tables read off them, the lines after it, and each window's block at a grid point.
-/
module

public import proofs.«01_k».proof.Proof.Gen.KernelIdeal.Launch
public import proofs.«01_k».proof.Proof.Gen.KernelIdeal.Skeleton
public import proofs.«01_k».proof.Proof.HostLine
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the call, as one list. -/
abbrev pre : List (HloOp τ sig (Elt F)) := List.flatten [hostOps0, hostOps0_1, hostOps0_2]

/-- The buffers those lines write, in order. -/
abbrev preRefs : List (Ref sig .tc) :=
  [main_c, main_c_0, main_v0, main_cst, main_v1, main_v2, main_cst_1, main_v3, main_v4, main_cst_2, main_v5, main_v6, main_cst_3, main_v7, main_v8, main_cst_4, main_v9, main_v10, main_v11, main_v12, main_v13, main_v14, main_v15, main_v16, main_v17, main_v18, main_v19, main_c_5, main_v20, main_v21, main_c_6, main_v22, main_v23, main_c_7, main_v24, main_v25, main_v26, main_v27, main_v28, main_c_8, main_v29, main_v30, main_c_9, main_v31, main_v32, main_c_10, main_v33, main_v34, main_v35, main_v36, main_v37, main_v38, main_v39, main_v40, main_v41, main_v42, main_v43, main_v44, main_v45, main_v46, main_v47, main_v48, main_v49, main_v50, main_v51, main_v52, main_v53, main_c_11, main_call0_v0, main_v54, main_c_12, main_v55, main_v56, main_c_13, main_v57, main_v58, main_c_14, main_v59, main_v60, main_v61, main_c_15, main_v62, main_v63, main_c_16, main_v64, main_v65, main_v66, main_v67, main_v68, main_c_17, main_v69, main_v70, main_c_18, main_v71, main_v72, main_v73, main_v74, main_v75, main_c_19, main_v76, main_v77, main_c_20, main_v78, main_v79, main_v80, main_v81, main_v82, main_c_21, main_v83, main_v84, main_c_22, main_v85, main_v86, main_v87, main_v88, main_c_23, main_v89, main_v90, main_c_24, main_v91, main_v92, main_c_25, main_v93, main_v94, main_v95, main_c_26, main_v96, main_v97, main_c_27, main_v98, main_v99, main_v100, main_v101, main_v102, main_c_28, main_v103, main_v104, main_c_29, main_v105, main_v106, main_v107, main_v108, main_v109, main_c_30, main_v110, main_v111, main_c_31, main_v112, main_v113, main_v114, main_v115, main_v116, main_c_32, main_v117, main_v118, main_c_33, main_v119, main_v120, main_v121, main_v122, main_c_34, main_v123, main_v124, main_c_35, main_v125, main_v126, main_c_36, main_v127, main_v128, main_v129, main_c_37, main_v130, main_v131, main_c_38, main_v132, main_v133, main_v134, main_v135, main_v136, main_c_39, main_v137, main_v138, main_c_40, main_v139, main_v140, main_v141, main_v142, main_v143, main_c_41, main_v144, main_v145, main_c_42, main_v146, main_v147, main_v148, main_v149, main_v150, main_c_43, main_v151, main_v152, main_c_44, main_v153, main_v154, main_v155, main_v156, main_c_45, main_v157, main_v158, main_c_46, main_v159, main_v160, main_c_47, main_v161, main_v162, main_v163, main_c_48, main_v164, main_v165, main_c_49, main_v166, main_v167, main_v168, main_v169, main_v170, main_c_50, main_v171, main_v172, main_c_51, main_v173, main_v174, main_v175, main_v176, main_v177, main_c_52, main_v178, main_v179, main_c_53, main_v180, main_v181, main_v182, main_v183, main_v184, main_c_54, main_v185, main_v186, main_c_55, main_v187, main_v188, main_v189, main_v190, main_c_56, main_v191, main_v192, main_c_57, main_v193, main_v194, main_c_58, main_v195, main_v196, main_v197, main_c_59, main_v198, main_v199, main_c_60, main_v200, main_v201, main_v202, main_v203, main_v204, main_c_61, main_v205, main_v206, main_c_62, main_v207, main_v208, main_v209, main_v210, main_v211, main_c_63, main_v212, main_v213, main_c_64, main_v214, main_v215, main_v216, main_v217, main_v218, main_c_65, main_v219, main_v220, main_c_66, main_v221, main_v222, main_v223, main_v224, main_c_67, main_v225, main_v226, main_c_68, main_v227, main_v228, main_c_69, main_v229, main_v230, main_v231, main_c_70, main_v232, main_v233, main_c_71, main_v234, main_v235, main_v236, main_cst_72, main_v237, main_v238, main_v239]

/-- The place of a buffer in program order: the arguments first, then the two tables, then every other result. -/
def place (r : Ref sig .tc) : Nat :=
  match r.space with
  | .hbm => if r.idx.val < 4 then r.idx.val else r.idx.val + 2
  | .smem => 4 + r.idx.val
  | _ => 0

set_option maxHeartbeats 4000000 in
/-- The host lines before the call write one buffer each, in the order of the buffers' places. -/
theorem pre_ordered : HostLine.Ordered place 4 (pre : List (HloOp τ sig (Elt F))) :=
  HostLine.ordered_of_map (W := preRefs) rfl (by decide)

/-- The device's buffers when the call is entered. -/
abbrev V0 (c : Dev nD) : Valuation τ sig (Elt F) := StableHlo.after pre (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ :=
  StableHlo.forall_fresh_of_map rfl
theorem hostOps0_1_fresh : (hostOps0_1 : List (HloOp τ sig (Elt F))).Forall fun op => op.fresh = ∅ :=
  StableHlo.forall_fresh_of_map rfl
theorem hostOps0_2_fresh : (hostOps0_2 : List (HloOp τ sig (Elt F))).Forall fun op => op.fresh = ∅ :=
  StableHlo.forall_fresh_of_map rfl
theorem hostOps1_fresh : (hostOps1 : List (HloOp τ sig (Elt F))).Forall fun op => op.fresh = ∅ :=
  StableHlo.forall_fresh_of_map rfl

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host line before the call writes argument 0. -/
theorem V_main_arg0 (c : Dev nD) : V m c main_arg0 = m ((c : Thread nD τ).loc main_arg0) :=
  HostLine.after_of_lt (r := main_arg0) _ pre_ordered (by decide)
/-- No host line before the call writes argument 1. -/
theorem V_main_arg1 (c : Dev nD) : V m c main_arg1 = m ((c : Thread nD τ).loc main_arg1) :=
  HostLine.after_of_lt (r := main_arg1) _ pre_ordered (by decide)
/-- No host line before the call writes argument 2. -/
theorem V_main_arg2 (c : Dev nD) : V m c main_arg2 = m ((c : Thread nD τ).loc main_arg2) :=
  HostLine.after_of_lt (r := main_arg2) _ pre_ordered (by decide)
/-- No host line before the call writes argument 3. -/
theorem V_main_arg3 (c : Dev nD) : V m c main_arg3 = m ((c : Thread nD τ).loc main_arg3) :=
  HostLine.after_of_lt (r := main_arg3) _ pre_ordered (by decide)

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S36 .i32 := Memref.whole main_c
abbrev htbM0_0 : tbM0_0.IsWhole := Memref.isWhole_whole _
abbrev tbM0_1 : Memref sig .tc .smem S36 .i32 := Memref.whole main_c_0
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (((dats 0 c).arrAt_in 4 rfl _).trans ((hA c 4).trans (V_main_arg0 m c))),
      ((h c).1 5).trans (((dats 0 c).arrAt_in 5 rfl _).trans ((hA c 5).trans (V_main_arg1 m c))),
      ((h c).1 1).trans (((dats 0 c).arrAt_in 1 rfl _).trans ((hA c 1).trans (V_main_arg2 m c))),
      (((h c).2 main_arg3 (by decide : main_arg3 ∈ Pipeline.restRefs sig spec0)).trans (W_main_arg3 m hO dats c))⟩) h

/-! ## The kernel body on any staging memrefs: a subtype the run finds -/

/-- One staging buffer of output window 6, through which its contents are stated (`View.read_writes_of_cover`: the
    choice does not matter). -/
abbrev VO0_6 : View sig .tc .vmem S1x1x256 .f32 := (Memref.whole cc0_stg6_0 : Memref sig .tc .vmem S1x1x256 .f32).view
/-- Each window's current staging memref at point `t`, spelled as the pipeline passes it (`bodyAt0`), and its wholeness. -/
abbrev ms0_0 (hO : Ok m) (t : Fin (cfgM m hO).N) : Memref sig .tc .smem S4x8 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S4x256x256 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S4x256x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S4x256x64 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4x256x64 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S64x64 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x256 .f32 := spec0_6.stage ((cfgM m hO).slots t 6)
abbrev hs0_6 (hO : Ok m) (t : Fin (cfgM m hO).N) : (ms0_6 m hO t).IsWhole := hstage0_6 (((cfgM m hO).slots t 6).cast nbuf0_6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__loss_block_kernel (grid0.coords t) (Memref.whole main_c) (Memref.isWhole_whole _) (Memref.whole main_c_0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6))

/-- The word of the first table (block rows) that the body reads at grid point `i`. -/
abbrev wd0 (c : Dev nD) (i : grid0.Coords) (xt0 : TbBuf0 (F := F) c tbM0_0) : BitVec 32 :=
  View.readAt (Elt F) tbM0_0.view (Rect.unit (s := S36) (k0_off1 i) S1.size (k0_off1_inb i)).toLoadRect xt0 (Shape.Idx.first (Nat.lt_of_lt_of_eq Nat.one_pos numel1_S1.symm))
/-- The word of the second table (block columns) that the body reads at grid point `i`. -/
abbrev wd1 (c : Dev nD) (i : grid0.Coords) (xt1 : TbBuf0 (F := F) c tbM0_1) : BitVec 32 :=
  View.readAt (Elt F) tbM0_1.view (Rect.unit (s := S36) (k0_off1 i) S1.size (k0_off1_inb i)).toLoadRect xt1 (Shape.Idx.first (Nat.lt_of_lt_of_eq Nat.one_pos numel1_S1.symm))

end Cert.KernelIdeal.Frame

end
-- ==== Proof.KernelIdeal.Tables.lean ====
/-
The two prefetched tables: the literal block rows and block columns of the thirty-six tiles on or
below the diagonal, and the pipeline's side condition that every block lies inside its array.
-/
module

public import proofs.«01_k».proof.Proof.KernelIdeal.Setup

@[expose] public section

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first table holds the literal block rows. -/
theorem tbl_zero : tbl m 0 = fun i => lit0 (S36.rowMajor i) :=
  HostLine.nullary_at pre_ordered _ 0 (y := main_c) rfl (by decide)

/-- The second table holds the literal block columns. -/
theorem tbl_one : tbl m 1 = fun i => lit1 (S36.rowMajor i) :=
  HostLine.nullary_at pre_ordered _ 1 (y := main_c_0) rfl (by decide)

/-- The one element of the tables read at grid point `i` is element `i` of the literal. -/
theorem row_first (i : grid0.Coords) : S36.rowMajor
    ((Rect.unit (s := S36) (k0_off1 i) S1.size (k0_off1_inb i)).emb (Shape.Idx.first (numel1_S1.symm ▸ Nat.one_pos))) = i 0 := by
  have h : ∀ i : grid0.Coords, (S36.rowMajor ((Rect.unit (s := S36) (k0_off1 i) S1.size (k0_off1_inb i)).emb
      (Shape.Idx.first (numel1_S1.symm ▸ Nat.one_pos)))).val = (i 0).val := by decide +kernel
  exact Fin.ext (h i)

/-- The block row at grid point `i`. -/
theorem at_zero (i : grid0.Coords) : (tbl m).at 0 (Rect.unit (s := S36) (k0_off1 i) S1.size (k0_off1_inb i)) numel1_S1 = lit0 (i 0) := by
  show tbl m 0 _ = _
  rw [tbl_zero]
  exact congrArg lit0 (row_first i)

/-- The block column at grid point `i`. -/
theorem at_one (i : grid0.Coords) : (tbl m).at 1 (Rect.unit (s := S36) (k0_off1 i) S1.size (k0_off1_inb i)) numel1_S1 = lit1 (i 0) := by
  show tbl m 1 _ = _
  rw [tbl_one]
  exact congrArg lit1 (row_first i)

theorem lit0_lt : ∀ k : Fin 36, (lit0 k).toNat < 8 := by decide
theorem lit1_lt : ∀ k : Fin 36, (lit1 k).toNat < 8 := by decide

/-- The adjacency block's index at a grid point. -/
theorem index1 (i : grid0.Coords) : cc0_transform_1 k0_off1_inb numel1_S1 (tbl m) i = ![0, (lit0 (i 0)).toNat, (lit1 (i 0)).toNat] := by
  rw [← at_zero m i, ← at_one m i]; rfl
/-- The draws' block has the same index. -/
theorem index2 (i : grid0.Coords) : cc0_transform_2 k0_off1_inb numel1_S1 (tbl m) i = ![0, (lit0 (i 0)).toNat, (lit1 (i 0)).toNat] := by
  rw [← at_zero m i, ← at_one m i]; rfl
/-- The row features' block. -/
theorem index3 (i : grid0.Coords) : cc0_transform_3 k0_off1_inb numel1_S1 (tbl m) i = ![0, (lit0 (i 0)).toNat, 0] := by
  rw [← at_zero m i]; rfl
/-- The column features' block. -/
theorem index4 (i : grid0.Coords) : cc0_transform_4 k0_off1_inb numel1_S1 (tbl m) i = ![0, (lit1 (i 0)).toNat, 0] := by
  rw [← at_one m i]; rfl

/-- Every block lies inside its array. -/
theorem ok : Ok m := by
  refine ⟨fun i => ⟨?_, .inl rfl⟩, fun i => ⟨?_, .inl rfl⟩, fun i => ⟨?_, .inl rfl⟩, fun i => ⟨?_, .inl rfl⟩⟩
  · rw [index1]
    have h0 := lit0_lt (i 0); have h1 := lit1_lt (i 0)
    generalize (lit0 (i 0)).toNat = p at *; generalize (lit1 (i 0)).toNat = q at *
    intro a; fin_cases a
    · show (0 + 1) * 4 ≤ 4; omega
    · show (p + 1) * 256 ≤ 2048; omega
    · show (q + 1) * 256 ≤ 2048; omega
  · rw [index2]
    have h0 := lit0_lt (i 0); have h1 := lit1_lt (i 0)
    generalize (lit0 (i 0)).toNat = p at *; generalize (lit1 (i 0)).toNat = q at *
    intro a; fin_cases a
    · show (0 + 1) * 4 ≤ 4; omega
    · show (p + 1) * 256 ≤ 2048; omega
    · show (q + 1) * 256 ≤ 2048; omega
  · rw [index3]
    have h0 := lit0_lt (i 0)
    generalize (lit0 (i 0)).toNat = p at *
    intro a; fin_cases a
    · show (0 + 1) * 4 ≤ 4; omega
    · show (p + 1) * 256 ≤ 2048; omega
    · show (0 + 1) * 64 ≤ 64; omega
  · rw [index4]
    have h1 := lit1_lt (i 0)
    generalize (lit1 (i 0)).toNat = q at *
    intro a; fin_cases a
    · show (0 + 1) * 4 ≤ 4; omega
    · show (q + 1) * 256 ≤ 2048; omega
    · show (0 + 1) * 64 ≤ 64; omega

end Cert.KernelIdeal.Frame

end
-- ==== Proof.KernelIdeal.BodyA.lean ====
/-
The kernel body run once at a grid point whose two table words are equal: the block row and the
block column coincide, so of the two guarded stores exactly the masked one is taken.
-/
module

public import proofs.«01_k».proof.Proof.KernelIdeal.Setup

@[expose] public section

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the output's staging memref, as a list of written pieces, together with the proof that
    on whole staging memrefs the body runs to its end, leaves its inputs and the tables as they were, and leaves the
    output's memref with those pieces written. -/
noncomputable def kernelRun0_A (c : Dev nD) (i : grid0.Coords) (arg3 : Memref sig .tc .smem S4x8 .f32) (harg3 : arg3.IsWhole) (arg4 : Memref sig .tc .vmem S4x256x256 .i32) (harg4 : arg4.IsWhole) (arg5 : Memref sig .tc .vmem S4x256x256 .f32) (harg5 : arg5.IsWhole) (arg6 : Memref sig .tc .vmem S4x256x64 .f32) (harg6 : arg6.IsWhole) (arg7 : Memref sig .tc .vmem S4x256x64 .f32) (harg7 : arg7.IsWhole) (arg8 : Memref sig .tc .vmem S64x64 .f32) (harg8 : arg8.IsWhole) (arg9 : Memref sig .tc .vmem S1x1x256 .f32) (harg9 : arg9.IsWhole)
    (x0 : Vec F S4x8 .f32) (x1 : Vec F S4x256x256 .i32) (x2 : Vec F S4x256x256 .f32) (x3 : Vec F S4x256x64 .f32) (x4 : Vec F S4x256x64 .f32) (x5 : Vec F S64x64 .f32) (xt0 : TbBuf0 (F := F) c tbM0_0) (xt1 : TbBuf0 (F := F) c tbM0_1)
    (hc1 : k0_cond1 (wd0 c i xt0) (wd1 c i xt1) = 1#1) (hc2 : ¬ k0_cond2 (wd0 c i xt0) (wd1 c i xt1) = 1#1) :
    { L6 : List (View.Piece (Elt F) S1x1x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ tbPt0 c tbM0_0 xt0 ∗ tbPt0 c tbM0_1 xt1) -∗ K ⟨⟩))
          ⊢ wp frame (wpE (defs₀ (F := F)) Variants.none c none) E (cc0__loss_block_kernel i tbM0_0 htbM0_0 tbM0_1 htbM0_1 arg3 harg3 arg4 harg4 arg5 harg5 arg6 harg6 arg7 harg7 arg8 harg8 arg9 harg9) K } := by
  refine ⟨?_, fun E K => ?run⟩
  case run =>
    simp only [cc0__loss_block_kernel_eq_skeleton]; unfold cc0__loss_block_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HT0]; · iexact HT0
    iexact HT1

end Cert.KernelIdeal.Frame

end
-- ==== Proof.KernelIdeal.BodyB.lean ====
/-
The kernel body run once at a grid point whose two table words are different: the block row and the
block column differ, so of the two guarded stores exactly the unmasked one is taken.
-/
module

public import proofs.«01_k».proof.Proof.KernelIdeal.BodyA

@[expose] public section

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the output's staging memref, as a list of written pieces, together with the proof that
    on whole staging memrefs the body runs to its end, leaves its inputs and the tables as they were, and leaves the
    output's memref with those pieces written. -/
noncomputable def kernelRun0_B (c : Dev nD) (i : grid0.Coords) (arg3 : Memref sig .tc .smem S4x8 .f32) (harg3 : arg3.IsWhole) (arg4 : Memref sig .tc .vmem S4x256x256 .i32) (harg4 : arg4.IsWhole) (arg5 : Memref sig .tc .vmem S4x256x256 .f32) (harg5 : arg5.IsWhole) (arg6 : Memref sig .tc .vmem S4x256x64 .f32) (harg6 : arg6.IsWhole) (arg7 : Memref sig .tc .vmem S4x256x64 .f32) (harg7 : arg7.IsWhole) (arg8 : Memref sig .tc .vmem S64x64 .f32) (harg8 : arg8.IsWhole) (arg9 : Memref sig .tc .vmem S1x1x256 .f32) (harg9 : arg9.IsWhole)
    (x0 : Vec F S4x8 .f32) (x1 : Vec F S4x256x256 .i32) (x2 : Vec F S4x256x256 .f32) (x3 : Vec F S4x256x64 .f32) (x4 : Vec F S4x256x64 .f32) (x5 : Vec F S64x64 .f32) (xt0 : TbBuf0 (F := F) c tbM0_0) (xt1 : TbBuf0 (F := F) c tbM0_1)
    (hc1 : ¬ k0_cond1 (wd0 c i xt0) (wd1 c i xt1) = 1#1) (hc2 : k0_cond2 (wd0 c i xt0) (wd1 c i xt1) = 1#1) :
    { L6 : List (View.Piece (Elt F) S1x1x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ tbPt0 c tbM0_0 xt0 ∗ tbPt0 c tbM0_1 xt1) -∗ K ⟨⟩))
          ⊢ wp frame (wpE (defs₀ (F := F)) Variants.none c none) E (cc0__loss_block_kernel i tbM0_0 htbM0_0 tbM0_1 htbM0_1 arg3 harg3 arg4 harg4 arg5 harg5 arg6 harg6 arg7 harg7 arg8 harg8 arg9 harg9) K } := by
  refine ⟨?_, fun E K => ?run⟩
  case run =>
    simp only [cc0__loss_block_kernel_eq_skeleton]; unfold cc0__loss_block_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HT0]; · iexact HT0
    iexact HT1

end Cert.KernelIdeal.Frame

end
-- ==== Proof.KernelIdeal.Frame.lean ====
/-
The launch of the kernel: what the output's staging buffer holds after each grid point, the body's
obligation at a generic point, the run of the whole program, and its frame (the arguments end as
they began and every semaphore counter ends at zero).
-/
module

public import proofs.«01_k».proof.Proof.KernelIdeal.BodyB
public import Idealize.ShloMosaic.Lib.Claim

@[expose] public section

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two guards of the body are each other's negation. -/
theorem guard_flip (a b : BitVec 32) : k0_cond2 a b = 1#1 ↔ ¬ k0_cond1 a b = 1#1 := by
  unfold k0_cond1 k0_cond2 Scalar.cmpi Scalar.extui IntOp.cmpi
  simp only [bne]
  generalize (a == b) = q
  cases q <;> decide

/-- So the body stores into the output's buffer at every point. -/
theorem not_idle (a b : BitVec 32) : (!(k0_cond1 a b == 1#1) && !(k0_cond2 a b == 1#1)) = false := by
  by_cases h : k0_cond1 a b = 1#1
  · simp [h]
  · simp [(guard_flip a b).mpr h]

/-- The run's one store covers the output's block (on a diagonal block). -/
theorem cover0_A_6 (c : Dev nD) (i : grid0.Coords) (arg3 : Memref sig .tc .smem S4x8 .f32) (harg3 : arg3.IsWhole) (arg4 : Memref sig .tc .vmem S4x256x256 .i32) (harg4 : arg4.IsWhole) (arg5 : Memref sig .tc .vmem S4x256x256 .f32) (harg5 : arg5.IsWhole) (arg6 : Memref sig .tc .vmem S4x256x64 .f32) (harg6 : arg6.IsWhole) (arg7 : Memref sig .tc .vmem S4x256x64 .f32) (harg7 : arg7.IsWhole) (arg8 : Memref sig .tc .vmem S64x64 .f32) (harg8 : arg8.IsWhole) (arg9 : Memref sig .tc .vmem S1x1x256 .f32) (harg9 : arg9.IsWhole)
    (x0 : Vec F S4x8 .f32) (x1 : Vec F S4x256x256 .i32) (x2 : Vec F S4x256x256 .f32) (x3 : Vec F S4x256x64 .f32) (x4 : Vec F S4x256x64 .f32) (x5 : Vec F S64x64 .f32) (xt0 : TbBuf0 (F := F) c tbM0_0) (xt1 : TbBuf0 (F := F) c tbM0_1)
    (hc1 : k0_cond1 (wd0 c i xt0) (wd1 c i xt1) = 1#1) (hc2 : ¬ k0_cond2 (wd0 c i xt0) (wd1 c i xt1) = 1#1) (y : S1x1x256.Idx) :
    ∃ pc ∈ (kernelRun0_A c i arg3 harg3 arg4 harg4 arg5 harg5 arg6 harg6 arg7 harg7 arg8 harg8 arg9 harg9 x0 x1 x2 x3 x4 x5 xt0 xt1 hc1 hc2).1, y ∈ pc.1.set :=
  View.cover_of_tiledL (kernelRun0_A c i arg3 harg3 arg4 harg4 arg5 harg5 arg6 harg6 arg7 harg7 arg8 harg8 arg9 harg9 x0 x1 x2 x3 x4 x5 xt0 xt1 hc1 hc2).1 S1x1x256.size (by sl_kernel_rfl) y

/-- What the run leaves in the output's staging buffer (on a diagonal block). -/
def out0_A_6 (c : Dev nD) (i : grid0.Coords) (arg3 : Memref sig .tc .smem S4x8 .f32) (harg3 : arg3.IsWhole) (arg4 : Memref sig .tc .vmem S4x256x256 .i32) (harg4 : arg4.IsWhole) (arg5 : Memref sig .tc .vmem S4x256x256 .f32) (harg5 : arg5.IsWhole) (arg6 : Memref sig .tc .vmem S4x256x64 .f32) (harg6 : arg6.IsWhole) (arg7 : Memref sig .tc .vmem S4x256x64 .f32) (harg7 : arg7.IsWhole) (arg8 : Memref sig .tc .vmem S64x64 .f32) (harg8 : arg8.IsWhole) (arg9 : Memref sig .tc .vmem S1x1x256 .f32) (harg9 : arg9.IsWhole)
    (x0 : Vec F S4x8 .f32) (x1 : Vec F S4x256x256 .i32) (x2 : Vec F S4x256x256 .f32) (x3 : Vec F S4x256x64 .f32) (x4 : Vec F S4x256x64 .f32) (x5 : Vec F S64x64 .f32) (xt0 : TbBuf0 (F := F) c tbM0_0) (xt1 : TbBuf0 (F := F) c tbM0_1)
    (hc1 : k0_cond1 (wd0 c i xt0) (wd1 c i xt1) = 1#1) (hc2 : ¬ k0_cond2 (wd0 c i xt0) (wd1 c i xt1) = 1#1) : Vec F S1x1x256 .f32 :=
  VO0_6.read (Elt F) (VO0_6.writes (Elt F) VO0_6.junk (kernelRun0_A c i arg3 harg3 arg4 harg4 arg5 harg5 arg6 harg6 arg7 harg7 arg8 harg8 arg9 harg9 x0 x1 x2 x3 x4 x5 xt0 xt1 hc1 hc2).1)

/-- The run's one store covers the output's block (off the diagonal). -/
theorem cover0_B_6 (c : Dev nD) (i : grid0.Coords) (arg3 : Memref sig .tc .smem S4x8 .f32) (harg3 : arg3.IsWhole) (arg4 : Memref sig .tc .vmem S4x256x256 .i32) (harg4 : arg4.IsWhole) (arg5 : Memref sig .tc .vmem S4x256x256 .f32) (harg5 : arg5.IsWhole) (arg6 : Memref sig .tc .vmem S4x256x64 .f32) (harg6 : arg6.IsWhole) (arg7 : Memref sig .tc .vmem S4x256x64 .f32) (harg7 : arg7.IsWhole) (arg8 : Memref sig .tc .vmem S64x64 .f32) (harg8 : arg8.IsWhole) (arg9 : Memref sig .tc .vmem S1x1x256 .f32) (harg9 : arg9.IsWhole)
    (x0 : Vec F S4x8 .f32) (x1 : Vec F S4x256x256 .i32) (x2 : Vec F S4x256x256 .f32) (x3 : Vec F S4x256x64 .f32) (x4 : Vec F S4x256x64 .f32) (x5 : Vec F S64x64 .f32) (xt0 : TbBuf0 (F := F) c tbM0_0) (xt1 : TbBuf0 (F := F) c tbM0_1)
    (hc1 : ¬ k0_cond1 (wd0 c i xt0) (wd1 c i xt1) = 1#1) (hc2 : k0_cond2 (wd0 c i xt0) (wd1 c i xt1) = 1#1) (y : S1x1x256.Idx) :
    ∃ pc ∈ (kernelRun0_B c i arg3 harg3 arg4 harg4 arg5 harg5 arg6 harg6 arg7 harg7 arg8 harg8 arg9 harg9 x0 x1 x2 x3 x4 x5 xt0 xt1 hc1 hc2).1, y ∈ pc.1.set :=
  View.cover_of_tiledL (kernelRun0_B c i arg3 harg3 arg4 harg4 arg5 harg5 arg6 harg6 arg7 harg7 arg8 harg8 arg9 harg9 x0 x1 x2 x3 x4 x5 xt0 xt1 hc1 hc2).1 S1x1x256.size (by sl_kernel_rfl) y

/-- What the run leaves in the output's staging buffer (off the diagonal). -/
def out0_B_6 (c : Dev nD) (i : grid0.Coords) (arg3 : Memref sig .tc .smem S4x8 .f32) (harg3 : arg3.IsWhole) (arg4 : Memref sig .tc .vmem S4x256x256 .i32) (harg4 : arg4.IsWhole) (arg5 : Memref sig .tc .vmem S4x256x256 .f32) (harg5 : arg5.IsWhole) (arg6 : Memref sig .tc .vmem S4x256x64 .f32) (harg6 : arg6.IsWhole) (arg7 : Memref sig .tc .vmem S4x256x64 .f32) (harg7 : arg7.IsWhole) (arg8 : Memref sig .tc .vmem S64x64 .f32) (harg8 : arg8.IsWhole) (arg9 : Memref sig .tc .vmem S1x1x256 .f32) (harg9 : arg9.IsWhole)
    (x0 : Vec F S4x8 .f32) (x1 : Vec F S4x256x256 .i32) (x2 : Vec F S4x256x256 .f32) (x3 : Vec F S4x256x64 .f32) (x4 : Vec F S4x256x64 .f32) (x5 : Vec F S64x64 .f32) (xt0 : TbBuf0 (F := F) c tbM0_0) (xt1 : TbBuf0 (F := F) c tbM0_1)
    (hc1 : ¬ k0_cond1 (wd0 c i xt0) (wd1 c i xt1) = 1#1) (hc2 : k0_cond2 (wd0 c i xt0) (wd1 c i xt1) = 1#1) : Vec F S1x1x256 .f32 :=
  VO0_6.read (Elt F) (VO0_6.writes (Elt F) VO0_6.junk (kernelRun0_B c i arg3 harg3 arg4 harg4 arg5 harg5 arg6 harg6 arg7 harg7 arg8 harg8 arg9 harg9 x0 x1 x2 x3 x4 x5 xt0 xt1 hc1 hc2).1)

/-- What the output's staging buffer holds after the body at point `t`: the masked result where the point's two
    table words agree, the unmasked one elsewhere. -/
def outsAt0 (hO : Ok m) (c : Dev nD) (t : Fin (cfgM m hO).N) : Vec F S1x1x256 .f32 :=
  if hc : k0_cond1 (wd0 c (grid0.coords t) (tbl m 0)) (wd1 c (grid0.coords t) (tbl m 1)) = 1#1 then
    out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (iblk m hO c 0 t) (iblk m hO c 1 t) (iblk m hO c 2 t) (iblk m hO c 3 t) (iblk m hO c 4 t) (iblk m hO c 5 t) (tbl m 0) (tbl m 1) hc (fun h => (guard_flip _ _).mp h hc)
  else
    out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (iblk m hO c 0 t) (iblk m hO c 1 t) (iblk m hO c 2 t) (iblk m hO c 3 t) (iblk m hO c 4 t) (iblk m hO c 5 t) (tbl m 0) (tbl m 1) hc ((guard_flip _ _).mpr hc)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t)
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t))

/-- The body at any point: the inputs' memrefs hold their blocks, so the run of the point's case applies; the invariant
    passes through unread. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq]
  unfold outsAt0
  by_cases hc : k0_cond1 (wd0 c (grid0.coords t) (tbl m 0)) (wd1 c (grid0.coords t) (tbl m 1)) = 1#1
  · rw [dif_pos hc]
    unfold out0_A_6
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ (iblk m hO c 0 t) (iblk m hO c 1 t) (iblk m hO c 2 t) (iblk m hO c 3 t) (iblk m hO c 4 t) (iblk m hO c 5 t) (tbl m 0) (tbl m 1) hc (fun h => (guard_flip _ _).mp h hc)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HT0]; · iexact HT0
    isplitl [HT1]; · iexact HT1
    iintro ⟨H0, H1, H2, H3, H4, H5, ⟨%e6, H6⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_A_6 c _ _ _ _ _ _ _ _ _ _ _ _ _ _ _ _ _ _ _ _ _ _ _ _ _)
  · rw [dif_neg hc]
    unfold out0_B_6
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (iblk m hO c 0 t) (iblk m hO c 1 t) (iblk m hO c 2 t) (iblk m hO c 3 t) (iblk m hO c 4 t) (iblk m hO c 5 t) (tbl m 0) (tbl m 1) hc ((guard_flip _ _).mpr hc)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HT0]; · iexact HT0
    isplitl [HT1]; · iexact HT1
    iintro ⟨H0, H1, H2, H3, H4, H5, ⟨%e6, H6⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B_6 c _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- What the body leaves in the output's buffer is what the launch asks for: no point is idle for it. -/
theorem leaves6 (hO : Ok m) (c : Dev nD) (t : Fin (cfgM m hO).N) :
    (owns (c : Thread nD τ) (ms0_6 m hO t) fullShare ((dats m hO 0 c).after 6 t) : sProp 𝕄) ⊢ (dats m hO 0 c).leavesExact 6 t := by
  have hi : (cfgM m hO).idle 6 ((cfgM m hO).grid.coords t) = false := not_idle _ _
  unfold Dat.leavesExact; rw [hi]; exact .rfl

/-- The body's obligation at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ =>
    sep_mono .rfl (sep_mono .rfl (sep_mono .rfl (sep_mono .rfl (sep_mono .rfl (sep_mono .rfl (sep_mono .rfl (sep_mono .rfl (leaves6 m hO c t))))))))

/-! ## The run and the frame -/

-- `θ_run_frameP_around_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- The frame: the arguments end as they began and every semaphore counter ends at zero, whenever the tables place every
    block inside its array. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Frame

end
-- ==== Proof.Reference.Line.lean ====
/-
The reference program as one line of its 448 host operations, in program order, and its run: every
execution ends with each buffer at the contents the line leaves in it.
-/
module

public import proofs.«01_k».proof.Proof.Gen.ReferenceIdeal
public import proofs.«01_k».proof.Proof.HostLine

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Joins the first rows of the step matrices. -/
def cat_main_v13 : (⟨S1000x1, .f32⟩ : BufTy).Contents (Elt F) → (⟨S1000x1, .f32⟩ : BufTy).Contents (Elt F) → (⟨S1000x2, .f32⟩ : BufTy).Contents (Elt F) :=
  (fun a b => concatenate S1000x2 1 [⟨S1000x1, a⟩, ⟨S1000x1, b⟩] concatenates_S1000x1_S1000x1_S1000x2_d1)

/-- Joins the second rows. -/
def cat_main_v16 : (⟨S1000x1, .f32⟩ : BufTy).Contents (Elt F) → (⟨S1000x1, .f32⟩ : BufTy).Contents (Elt F) → (⟨S1000x2, .f32⟩ : BufTy).Contents (Elt F) :=
  (fun a b => concatenate S1000x2 1 [⟨S1000x1, a⟩, ⟨S1000x1, b⟩] concatenates_S1000x1_S1000x1_S1000x2_d1)

/-- Joins the two rows into one matrix for each step. -/
def cat_main_v19 : (⟨S1000x1x2, .f32⟩ : BufTy).Contents (Elt F) → (⟨S1000x1x2, .f32⟩ : BufTy).Contents (Elt F) → (⟨S1000x2x2, .f32⟩ : BufTy).Contents (Elt F) :=
  (fun a b => concatenate S1000x2x2 1 [⟨S1000x1x2, a⟩, ⟨S1000x1x2, b⟩] concatenates_S1000x1x2_S1000x1x2_S1000x2x2_d1)

/-- Joins batch and label into the index of the first gather. -/
def cat_main_v44 : (⟨S4x2048x2048x1, .i32⟩ : BufTy).Contents (Elt F) → (⟨S4x2048x2048x1, .i32⟩ : BufTy).Contents (Elt F) → (⟨S4x2048x2048x2, .i32⟩ : BufTy).Contents (Elt F) :=
  (fun a b => concatenate S4x2048x2048x2 3 [⟨S4x2048x2048x1, a⟩, ⟨S4x2048x2048x1, b⟩] concatenates_S4x2048x2048x1_S4x2048x2048x1_S4x2048x2048x2_d3)

/-- Joins the two words of the key. -/
def cat_main_v52 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- Joins batch and label into the index of the prior gather. -/
def cat_main_v96 : (⟨S4x2048x2048x1, .i32⟩ : BufTy).Contents (Elt F) → (⟨S4x2048x2048x1, .i32⟩ : BufTy).Contents (Elt F) → (⟨S4x2048x2048x2, .i32⟩ : BufTy).Contents (Elt F) :=
  (fun a b => concatenate S4x2048x2048x2 3 [⟨S4x2048x2048x1, a⟩, ⟨S4x2048x2048x1, b⟩] concatenates_S4x2048x2048x1_S4x2048x2048x1_S4x2048x2048x2_d3)

/-- Joins batch, label and noisy label into the index of the evidence gather. -/
def cat_main_v117 : (main_v114 : Ref sig .tc).ty.Contents (Elt F) → (main_v115 : Ref sig .tc).ty.Contents (Elt F) → (main_v116 : Ref sig .tc).ty.Contents (Elt F) → (main_v117 : Ref sig .tc).ty.Contents (Elt F) :=
  (fun u0 u1 u2 => (concatenate S4x2048x2048x3 3 [⟨S4x2048x2048x1, (u0 : (⟨S4x2048x2048x1, .i32⟩ : BufTy).Contents (Elt F))⟩, ⟨S4x2048x2048x1, (u1 : (⟨S4x2048x2048x1, .i32⟩ : BufTy).Contents (Elt F))⟩, ⟨S4x2048x2048x1, (u2 : (⟨S4x2048x2048x1, .i32⟩ : BufTy).Contents (Elt F))⟩] concatenates_S4x2048x2048x1_S4x2048x2048x1_S4x2048x2048x1_S4x2048x2048x3_d3 : (⟨S4x2048x2048x3, .i32⟩ : BufTy).Contents (Elt F)))

/-- Operations 0 to 59. -/
abbrev steps_0 : List (HloOp τ sig (Elt F)) :=
  [ nullary main_v0 (sitofp .f32 (iotaInDim S1000 32 0)),
    nullary main_cst (constant S_ .f32 0x3F800000#32),
    unary main_cst main_v1 (broadcastInDim S1000 ![] bcast_S_S1000 : (⟨S_, .f32⟩ : BufTy).Contents (Elt F) → (⟨S1000, .f32⟩ : BufTy).Contents (Elt F)),
    binary main_v1 main_v0 main_v2 (addf : (⟨S1000, .f32⟩ : BufTy).Contents (Elt F) → (⟨S1000, .f32⟩ : BufTy).Contents (Elt F) → (⟨S1000, .f32⟩ : BufTy).Contents (Elt F)),
    nullary main_cst_0 (constant S_ .f32 0x3F666666#32),
    unary main_cst_0 main_v3 (broadcastInDim S1000 ![] bcast_S_S1000 : (⟨S_, .f32⟩ : BufTy).Contents (Elt F) → (⟨S1000, .f32⟩ : BufTy).Contents (Elt F)),
    binary main_v3 main_v2 main_v4 (Host.powf : (⟨S1000, .f32⟩ : BufTy).Contents (Elt F) → (⟨S1000, .f32⟩ : BufTy).Contents (Elt F) → (⟨S1000, .f32⟩ : BufTy).Contents (Elt F)),
    nullary main_cst_1 (constant S_ .f32 0x3F800000#32),
    unary main_cst_1 main_v5 (broadcastInDim S1000 ![] bcast_S_S1000 : (⟨S_, .f32⟩ : BufTy).Contents (Elt F) → (⟨S1000, .f32⟩ : BufTy).Contents (Elt F)),
    binary main_v5 main_v4 main_v6 (subf : (⟨S1000, .f32⟩ : BufTy).Contents (Elt F) → (⟨S1000, .f32⟩ : BufTy).Contents (Elt F) → (⟨S1000, .f32⟩ : BufTy).Contents (Elt F)),
    nullary main_cst_2 (constant S_ .f32 0x3F000000#32),
    unary main_cst_2 main_v7 (broadcastInDim S1000 ![] bcast_S_S1000 : (⟨S_, .f32⟩ : BufTy).Contents (Elt F) → (⟨S1000, .f32⟩ : BufTy).Contents (Elt F)),
    binary main_v7 main_v6 main_v8 (mulf : (⟨S1000, .f32⟩ : BufTy).Contents (Elt F) → (⟨S1000, .f32⟩ : BufTy).Contents (Elt F) → (⟨S1000, .f32⟩ : BufTy).Contents (Elt F)),
    nullary main_cst_3 (constant S_ .f32 0x3F800000#32),
    unary main_cst_3 main_v9 (broadcastInDim S1000 ![] bcast_S_S1000 : (⟨S_, .f32⟩ : BufTy).Contents (Elt F) → (⟨S1000, .f32⟩ : BufTy).Contents (Elt F)),
    binary main_v9 main_v8 main_v10 (subf : (⟨S1000, .f32⟩ : BufTy).Contents (Elt F) → (⟨S1000, .f32⟩ : BufTy).Contents (Elt F) → (⟨S1000, .f32⟩ : BufTy).Contents (Elt F)),
    unary main_v10 main_v11 (broadcastInDim S1000x1 ![0] bcast_S1000_S1000x1_0 : (⟨S1000, .f32⟩ : BufTy).Contents (Elt F) → (⟨S1000x1, .f32⟩ : BufTy).Contents (Elt F)),
    unary main_v8 main_v12 (broadcastInDim S1000x1 ![0] bcast_S1000_S1000x1_0 : (⟨S1000, .f32⟩ : BufTy).Contents (Elt F) → (⟨S1000x1, .f32⟩ : BufTy).Contents (Elt F)),
    binary main_v11 main_v12 main_v13 (cat_main_v13 (F := F)),
    unary main_v8 main_v14 (broadcastInDim S1000x1 ![0] bcast_S1000_S1000x1_0 : (⟨S1000, .f32⟩ : BufTy).Contents (Elt F) → (⟨S1000x1, .f32⟩ : BufTy).Contents (Elt F)),
    unary main_v10 main_v15 (broadcastInDim S1000x1 ![0] bcast_S1000_S1000x1_0 : (⟨S1000, .f32⟩ : BufTy).Contents (Elt F) → (⟨S1000x1, .f32⟩ : BufTy).Contents (Elt F)),
    binary main_v14 main_v15 main_v16 (cat_main_v16 (F := F)),
    unary main_v13 main_v17 (broadcastInDim S1000x1x2 ![0, 2] bcast_S1000x2_S1000x1x2_0_2 : (⟨S1000x2, .f32⟩ : BufTy).Contents (Elt F) → (⟨S1000x1x2, .f32⟩ : BufTy).Contents (Elt F)),
    unary main_v16 main_v18 (broadcastInDim S1000x1x2 ![0, 2] bcast_S1000x2_S1000x1x2_0_2 : (⟨S1000x2, .f32⟩ : BufTy).Contents (Elt F) → (⟨S1000x1x2, .f32⟩ : BufTy).Contents (Elt F)),
    binary main_v17 main_v18 main_v19 (cat_main_v19 (F := F)),
    nullary main_c (constantI S_ 32 1#32),
    unary main_c main_v20 (broadcastInDim S4 ![] bcast_S_S4 : (⟨S_, .i32⟩ : BufTy).Contents (Elt F) → (⟨S4, .i32⟩ : BufTy).Contents (Elt F)),
    binary main_arg3 main_v20 main_v21 (addi : (⟨S4, .i32⟩ : BufTy).Contents (Elt F) → (⟨S4, .i32⟩ : BufTy).Contents (Elt F) → (⟨S4, .i32⟩ : BufTy).Contents (Elt F)),
    nullary main_v22 (iotaInDim S4 32 0),
    unary main_v22 main_v23 (broadcastInDim S4x1x1 ![0] bcast_S4_S4x1x1_0 : (⟨S4, .i32⟩ : BufTy).Contents (Elt F) → (⟨S4x1x1, .i32⟩ : BufTy).Contents (Elt F)),
    nullary main_c_4 (constantI S_ 32 0#32),
    unary main_c_4 main_v24 (broadcastInDim S4 ![] bcast_S_S4 : (⟨S_, .i32⟩ : BufTy).Contents (Elt F) → (⟨S4, .i32⟩ : BufTy).Contents (Elt F)),
    binary main_v21 main_v24 main_v25 (cmpi .slt : (⟨S4, .i32⟩ : BufTy).Contents (Elt F) → (⟨S4, .i32⟩ : BufTy).Contents (Elt F) → (⟨S4, .i1⟩ : BufTy).Contents (Elt F)),
    nullary main_c_5 (constantI S_ 32 1000#32),
    unary main_c_5 main_v26 (broadcastInDim S4 ![] bcast_S_S4 : (⟨S_, .i32⟩ : BufTy).Contents (Elt F) → (⟨S4, .i32⟩ : BufTy).Contents (Elt F)),
    binary main_v21 main_v26 main_v27 (addi : (⟨S4, .i32⟩ : BufTy).Contents (Elt F) → (⟨S4, .i32⟩ : BufTy).Contents (Elt F) → (⟨S4, .i32⟩ : BufTy).Contents (Elt F)),
    ternary main_v25 main_v27 main_v21 main_v28 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v28 main_v29 (broadcastInDim S4x1 ![0] bcast_S4_S4x1_0 : (⟨S4, .i32⟩ : BufTy).Contents (Elt F) → (⟨S4x1, .i32⟩ : BufTy).Contents (Elt F)),
    binary main_v19 main_v29 main_v30 ((fun x i => Host.gather gather_S1000x2x2_S4x1_S4x2x2_12_0_n_n_0_1_122 x i) : (⟨S1000x2x2, .f32⟩ : BufTy).Contents (Elt F) → (⟨S4x1, .i32⟩ : BufTy).Contents (Elt F) → (⟨S4x2x2, .f32⟩ : BufTy).Contents (Elt F)),
    nullary main_c_6 (constantI S_ 32 0#32),
    unary main_c_6 main_v31 (broadcastInDim S4x1x1 ![] bcast_S_S4x1x1 : (⟨S_, .i32⟩ : BufTy).Contents (Elt F) → (⟨S4x1x1, .i32⟩ : BufTy).Contents (Elt F)),
    binary main_v23 main_v31 main_v32 (cmpi .slt : (⟨S4x1x1, .i32⟩ : BufTy).Contents (Elt F) → (⟨S4x1x1, .i32⟩ : BufTy).Contents (Elt F) → (⟨S4x1x1, .i1⟩ : BufTy).Contents (Elt F)),
    nullary main_c_7 (constantI S_ 32 4#32),
    unary main_c_7 main_v33 (broadcastInDim S4x1x1 ![] bcast_S_S4x1x1 : (⟨S_, .i32⟩ : BufTy).Contents (Elt F) → (⟨S4x1x1, .i32⟩ : BufTy).Contents (Elt F)),
    binary main_v23 main_v33 main_v34 (addi : (⟨S4x1x1, .i32⟩ : BufTy).Contents (Elt F) → (⟨S4x1x1, .i32⟩ : BufTy).Contents (Elt F) → (⟨S4x1x1, .i32⟩ : BufTy).Contents (Elt F)),
    ternary main_v32 main_v34 main_v23 main_v35 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)),
    nullary main_c_8 (constantI S_ 32 0#32),
    unary main_c_8 main_v36 (broadcastInDim S4x2048x2048 ![] bcast_S_S4x2048x2048 : (⟨S_, .i32⟩ : BufTy).Contents (Elt F) → (⟨S4x2048x2048, .i32⟩ : BufTy).Contents (Elt F)),
    binary main_arg2 main_v36 main_v37 (cmpi .slt : (⟨S4x2048x2048, .i32⟩ : BufTy).Contents (Elt F) → (⟨S4x2048x2048, .i32⟩ : BufTy).Contents (Elt F) → (⟨S4x2048x2048, .i1⟩ : BufTy).Contents (Elt F)),
    nullary main_c_9 (constantI S_ 32 2#32),
    unary main_c_9 main_v38 (broadcastInDim S4x2048x2048 ![] bcast_S_S4x2048x2048 : (⟨S_, .i32⟩ : BufTy).Contents (Elt F) → (⟨S4x2048x2048, .i32⟩ : BufTy).Contents (Elt F)),
    binary main_arg2 main_v38 main_v39 (addi : (⟨S4x2048x2048, .i32⟩ : BufTy).Contents (Elt F) → (⟨S4x2048x2048, .i32⟩ : BufTy).Contents (Elt F) → (⟨S4x2048x2048, .i32⟩ : BufTy).Contents (Elt F)),
    ternary main_v37 main_v39 main_arg2 main_v40 (select : (⟨S4x2048x2048, .i1⟩ : BufTy).Contents (Elt F) → (⟨S4x2048x2048, .i32⟩ : BufTy).Contents (Elt F) → (⟨S4x2048x2048, .i32⟩ : BufTy).Contents (Elt F) → (⟨S4x2048x2048, .i32⟩ : BufTy).Contents (Elt F)),
    unary main_v35 main_v41 (broadcastInDim S4x2048x2048 ![0, 1, 2] bcast_S4x1x1_S4x2048x2048_0_1_2 : (⟨S4x1x1, .i32⟩ : BufTy).Contents (Elt F) → (⟨S4x2048x2048, .i32⟩ : BufTy).Contents (Elt F)),
    unary main_v41 main_v42 (broadcastInDim S4x2048x2048x1 ![0, 1, 2] bcast_S4x2048x2048_S4x2048x2048x1_0_1_2 : (⟨S4x2048x2048, .i32⟩ : BufTy).Contents (Elt F) → (⟨S4x2048x2048x1, .i32⟩ : BufTy).Contents (Elt F)),
    unary main_v40 main_v43 (broadcastInDim S4x2048x2048x1 ![0, 1, 2] bcast_S4x2048x2048_S4x2048x2048x1_0_1_2 : (⟨S4x2048x2048, .i32⟩ : BufTy).Contents (Elt F) → (⟨S4x2048x2048x1, .i32⟩ : BufTy).Contents (Elt F)),
    binary main_v42 main_v43 main_v44 (cat_main_v44 (F := F)),
    binary main_v30 main_v44 main_v45 ((fun x i => Host.gather gather_S4x2x2_S4x2048x2048x2_S4x2048x2048x2_3_01_n_n_01_3_112 x i) : (⟨S4x2x2, .f32⟩ : BufTy).Contents (Elt F) → (⟨S4x2048x2048x2, .i32⟩ : BufTy).Contents (Elt F) → (⟨S4x2048x2048x2, .f32⟩ : BufTy).Contents (Elt F)),
    nullary main_c_10 (constantI S_ 32 42#32),
    nullary main_c_11 (constantI S_ 32 32#32) ]

/-- Operations 60 to 89. -/
abbrev steps_1_0 : List (HloOp τ sig (Elt F)) :=
  [ binary main_c_10 main_c_11 main_v46 (Host.shrui : (⟨S_, .i32⟩ : BufTy).Contents (Elt F) → (⟨S_, .i32⟩ : BufTy).Contents (Elt F) → (⟨S_, .i32⟩ : BufTy).Contents (Elt F)),
    unary main_v46 main_v47 (id : (⟨S_, .i32⟩ : BufTy).Contents (Elt F) → (⟨S_, .i32⟩ : BufTy).Contents (Elt F)),
    unary main_v47 main_v48 (broadcastInDim S1 ![] bcast_S_S1 : (⟨S_, .i32⟩ : BufTy).Contents (Elt F) → (⟨S1, .i32⟩ : BufTy).Contents (Elt F)),
    nullary main_c_12 (constantI S_ 32 4294967295#32),
    binary main_c_10 main_c_12 main_v49 (andi : (⟨S_, .i32⟩ : BufTy).Contents (Elt F) → (⟨S_, .i32⟩ : BufTy).Contents (Elt F) → (⟨S_, .i32⟩ : BufTy).Contents (Elt F)),
    unary main_v49 main_v50 (id : (⟨S_, .i32⟩ : BufTy).Contents (Elt F) → (⟨S_, .i32⟩ : BufTy).Contents (Elt F)),
    unary main_v50 main_v51 (broadcastInDim S1 ![] bcast_S_S1 : (⟨S_, .i32⟩ : BufTy).Contents (Elt F) → (⟨S1, .i32⟩ : BufTy).Contents (Elt F)),
    binary main_v48 main_v51 main_v52 (cat_main_v52 (F := F)),
    nullary main_cst_13 (constant S_ .f32 0x00000000#32),
    nullary main_cst_14 (constant S_ .f32 0x3F800000#32),
    TRef.unary (TRef.of (T := ⟨S_, .f32⟩) main_cst_13) (TRef.of (T := ⟨S_, .f32⟩) main_call0_v0) id,
    TRef.unary (TRef.of (T := ⟨S_, .f32⟩) main_cst_14) (TRef.of (T := ⟨S_, .f32⟩) main_call0_v1) id,
    TRef.unary (TRef.of (T := ⟨S_, .f32⟩) main_call0_v0) (TRef.of (T := ⟨S1x1x1, .f32⟩) main_call0_v2) (broadcastInDim S1x1x1 ![] bcast_S_S1x1x1),
    TRef.unary (TRef.of (T := ⟨S_, .f32⟩) main_call0_v1) (TRef.of (T := ⟨S1x1x1, .f32⟩) main_call0_v3) (broadcastInDim S1x1x1 ![] bcast_S_S1x1x1),
    TRef.unary (TRef.of (T := ⟨S2, .i32⟩) main_v52) (TRef.of (T := ⟨S1, .i32⟩) main_call0_v4) (extractStridedSlice S1 ![0] · slices_S2_S1_0),
    TRef.reshape (TRef.of (T := ⟨S1, .i32⟩) main_call0_v4) (TRef.of (T := ⟨S_, .i32⟩) main_call0_v5) (rfl : (.i32 : EltTy) = .i32) shapeCasts_S1_S_,
    TRef.unary (TRef.of (T := ⟨S2, .i32⟩) main_v52) (TRef.of (T := ⟨S1, .i32⟩) main_call0_v6) (extractStridedSlice S1 ![1] · slices_S2_S1_1),
    TRef.reshape (TRef.of (T := ⟨S1, .i32⟩) main_call0_v6) (TRef.of (T := ⟨S_, .i32⟩) main_call0_v7) (rfl : (.i32 : EltTy) = .i32) shapeCasts_S1_S_,
    TRef.nullary (TRef.of (T := ⟨S4x2048x2048, .i64⟩) main_call0_v8) (iotaInDim S4x2048x2048 64 0),
    TRef.nullary (TRef.of (T := ⟨S4x2048x2048, .i64⟩) main_call0_v9) (iotaInDim S4x2048x2048 64 1),
    TRef.nullary (TRef.of (T := ⟨S4x2048x2048, .i64⟩) main_call0_v10) (iotaInDim S4x2048x2048 64 2),
    TRef.nullary (TRef.of (T := ⟨S_, .i64⟩) main_call0_c) (constantI S_ 64 4194304#64),
    TRef.unary (TRef.of (T := ⟨S_, .i64⟩) main_call0_c) (TRef.of (T := ⟨S4x2048x2048, .i64⟩) main_call0_v11) (broadcastInDim S4x2048x2048 ![] bcast_S_S4x2048x2048),
    TRef.binary (TRef.of (T := ⟨S4x2048x2048, .i64⟩) main_call0_v11) (TRef.of (T := ⟨S4x2048x2048, .i64⟩) main_call0_v8) (TRef.of (T := ⟨S4x2048x2048, .i64⟩) main_call0_v12) muli,
    TRef.nullary (TRef.of (T := ⟨S_, .i64⟩) main_call0_c_0) (constantI S_ 64 2048#64),
    TRef.unary (TRef.of (T := ⟨S_, .i64⟩) main_call0_c_0) (TRef.of (T := ⟨S4x2048x2048, .i64⟩) main_call0_v13) (broadcastInDim S4x2048x2048 ![] bcast_S_S4x2048x2048),
    TRef.binary (TRef.of (T := ⟨S4x2048x2048, .i64⟩) main_call0_v13) (TRef.of (T := ⟨S4x2048x2048, .i64⟩) main_call0_v9) (TRef.of (T := ⟨S4x2048x2048, .i64⟩) main_call0_v14) muli,
    TRef.nullary (TRef.of (T := ⟨S_, .i64⟩) main_call0_c_1) (constantI S_ 64 1#64),
    TRef.unary (TRef.of (T := ⟨S_, .i64⟩) main_call0_c_1) (TRef.of (T := ⟨S4x2048x2048, .i64⟩) main_call0_v15) (broadcastInDim S4x2048x2048 ![] bcast_S_S4x2048x2048),
    TRef.binary (TRef.of (T := ⟨S4x2048x2048, .i64⟩) main_call0_v15) (TRef.of (T := ⟨S4x2048x2048, .i64⟩) main_call0_v10) (TRef.of (T := ⟨S4x2048x2048, .i64⟩) main_call0_v16) muli ]

/-- Operations 90 to 119. -/
abbrev steps_1_1 : List (HloOp τ sig (Elt F)) :=
  [ TRef.binary (TRef.of (T := ⟨S4x2048x2048, .i64⟩) main_call0_v12) (TRef.of (T := ⟨S4x2048x2048, .i64⟩) main_call0_v14) (TRef.of (T := ⟨S4x2048x2048, .i64⟩) main_call0_v17) addi,
    TRef.binary (TRef.of (T := ⟨S4x2048x2048, .i64⟩) main_call0_v17) (TRef.of (T := ⟨S4x2048x2048, .i64⟩) main_call0_v16) (TRef.of (T := ⟨S4x2048x2048, .i64⟩) main_call0_v18) addi,
    TRef.nullary (TRef.of (T := ⟨S_, .i64⟩) main_call0_c_2) (constantI S_ 64 32#64),
    TRef.unary (TRef.of (T := ⟨S_, .i64⟩) main_call0_c_2) (TRef.of (T := ⟨S4x2048x2048, .i64⟩) main_call0_v19) (broadcastInDim S4x2048x2048 ![] bcast_S_S4x2048x2048),
    TRef.binary (TRef.of (T := ⟨S4x2048x2048, .i64⟩) main_call0_v18) (TRef.of (T := ⟨S4x2048x2048, .i64⟩) main_call0_v19) (TRef.of (T := ⟨S4x2048x2048, .i64⟩) main_call0_v20) Host.shrui,
    TRef.unary (TRef.of (T := ⟨S4x2048x2048, .i64⟩) main_call0_v18) (TRef.of (T := ⟨S4x2048x2048, .i32⟩) main_call0_v21) (trunci 32 · natLt_32_64),
    TRef.unary (TRef.of (T := ⟨S4x2048x2048, .i64⟩) main_call0_v20) (TRef.of (T := ⟨S4x2048x2048, .i32⟩) main_call0_v22) (trunci 32 · natLt_32_64),
    TRef.binary (TRef.of (T := ⟨S_, .i32⟩) main_call0_v5) (TRef.of (T := ⟨S_, .i32⟩) main_call0_v7) (TRef.of (T := ⟨S_, .i32⟩) main_call0_call0_v0) xori,
    TRef.nullary (TRef.of (T := ⟨S_, .i32⟩) main_call0_call0_c) (constantI S_ 32 466688986#32),
    TRef.binary (TRef.of (T := ⟨S_, .i32⟩) main_call0_call0_v0) (TRef.of (T := ⟨S_, .i32⟩) main_call0_call0_c) (TRef.of (T := ⟨S_, .i32⟩) main_call0_call0_v1) xori,
    TRef.unary (TRef.of (T := ⟨S_, .i32⟩) main_call0_v5) (TRef.of (T := ⟨S4x2048x2048, .i32⟩) main_call0_call0_v2) (broadcastInDim S4x2048x2048 ![] bcast_S_S4x2048x2048),
    TRef.binary (TRef.of (T := ⟨S4x2048x2048, .i32⟩) main_call0_v22) (TRef.of (T := ⟨S4x2048x2048, .i32⟩) main_call0_call0_v2) (TRef.of (T := ⟨S4x2048x2048, .i32⟩) main_call0_call0_v3) addi,
    TRef.unary (TRef.of (T := ⟨S_, .i32⟩) main_call0_v7) (TRef.of (T := ⟨S4x2048x2048, .i32⟩) main_call0_call0_v4) (broadcastInDim S4x2048x2048 ![] bcast_S_S4x2048x2048),
    TRef.binary (TRef.of (T := ⟨S4x2048x2048, .i32⟩) main_call0_v21) (TRef.of (T := ⟨S4x2048x2048, .i32⟩) main_call0_call0_v4) (TRef.of (T := ⟨S4x2048x2048, .i32⟩) main_call0_call0_v5) addi,
    TRef.binary (TRef.of (T := ⟨S4x2048x2048, .i32⟩) main_call0_call0_v3) (TRef.of (T := ⟨S4x2048x2048, .i32⟩) main_call0_call0_v5) (TRef.of (T := ⟨S4x2048x2048, .i32⟩) main_call0_call0_v6) addi,
    TRef.nullary (TRef.of (T := ⟨S_, .i32⟩) main_call0_call0_c_0) (constantI S_ 32 13#32),
    TRef.unary (TRef.of (T := ⟨S_, .i32⟩) main_call0_call0_c_0) (TRef.of (T := ⟨S4x2048x2048, .i32⟩) main_call0_call0_v7) (broadcastInDim S4x2048x2048 ![] bcast_S_S4x2048x2048),
    TRef.binary (TRef.of (T := ⟨S4x2048x2048, .i32⟩) main_call0_call0_v5) (TRef.of (T := ⟨S4x2048x2048, .i32⟩) main_call0_call0_v7) (TRef.of (T := ⟨S4x2048x2048, .i32⟩) main_call0_call0_v8) Host.shli,
    TRef.nullary (TRef.of (T := ⟨S_, .i32⟩) main_call0_call0_c_1) (constantI S_ 32 19#32),
    TRef.unary (TRef.of (T := ⟨S_, .i32⟩) main_call0_call0_c_1) (TRef.of (T := ⟨S4x2048x2048, .i32⟩) main_call0_call0_v9) (broadcastInDim S4x2048x2048 ![] bcast_S_S4x2048x2048),
    TRef.binary (TRef.of (T := ⟨S4x2048x2048, .i32⟩) main_call0_call0_v5) (TRef.of (T := ⟨S4x2048x2048, .i32⟩) main_call0_call0_v9) (TRef.of (T := ⟨S4x2048x2048, .i32⟩) main_call0_call0_v10) Host.shrui,
    TRef.binary (TRef.of (T := ⟨S4x2048x2048, .i32⟩) main_call0_call0_v8) (TRef.of (T := ⟨S4x2048x2048, .i32⟩) main_call0_call0_v10) (TRef.of (T := ⟨S4x2048x2048, .i32⟩) main_call0_call0_v11) ori,
    TRef.binary (TRef.of (T := ⟨S4x2048x2048, .i32⟩) main_call0_call0_v6) (TRef.of (T := ⟨S4x2048x2048, .i32⟩) main_call0_call0_v11) (TRef.of (T := ⟨S4x2048x2048, .i32⟩) main_call0_call0_v12) xori,
    TRef.binary (TRef.of (T := ⟨S4x2048x2048, .i32⟩) main_call0_call0_v6) (TRef.of (T := ⟨S4x2048x2048, .i32⟩) main_call0_call0_v12) (TRef.of (T := ⟨S4x2048x2048, .i32⟩) main_call0_call0_v13) addi,
    TRef.nullary (TRef.of (T := ⟨S_, .i32⟩) main_call0_call0_c_2) (constantI S_ 32 15#32),
    TRef.unary (TRef.of (T := ⟨S_, .i32⟩) main_call0_call0_c_2) (TRef.of (T := ⟨S4x2048x2048, .i32⟩) main_call0_call0_v14) (broadcastInDim S4x2048x2048 ![] bcast_S_S4x2048x2048),
    TRef.binary (TRef.of (T := ⟨S4x2048x2048, .i32⟩) main_call0_call0_v12) (TRef.of (T := ⟨S4x2048x2048, .i32⟩) main_call0_call0_v14) (TRef.of (T := ⟨S4x2048x2048, .i32⟩) main_call0_call0_v15) Host.shli,
    TRef.nullary (TRef.of (T := ⟨S_, .i32⟩) main_call0_call0_c_3) (constantI S_ 32 17#32),
    TRef.unary (TRef.of (T := ⟨S_, .i32⟩) main_call0_call0_c_3) (TRef.of (T := ⟨S4x2048x2048, .i32⟩) main_call0_call0_v16) (broadcastInDim S4x2048x2048 ![] bcast_S_S4x2048x2048),
    TRef.binary (TRef.of (T := ⟨S4x2048x2048, .i32⟩) main_call0_call0_v12) (TRef.of (T := ⟨S4x2048x2048, .i32⟩) main_call0_call0_v16) (TRef.of (T := ⟨S4x2048x2048, .i32⟩) main_call0_call0_v17) Host.shrui ]

/-- Operations 120 to 149. -/
abbrev steps_1_2 : List (HloOp τ sig (Elt F)) :=
  [ TRef.binary (TRef.of (T := ⟨S4x2048x2048, .i32⟩) main_call0_call0_v15) (TRef.of (T := ⟨S4x2048x2048, .i32⟩) main_call0_call0_v17) (TRef.of (T := ⟨S4x2048x2048, .i32⟩) main_call0_call0_v18) ori,
    TRef.binary (TRef.of (T := ⟨S4x2048x2048, .i32⟩) main_call0_call0_v13) (TRef.of (T := ⟨S4x2048x2048, .i32⟩) main_call0_call0_v18) (TRef.of (T := ⟨S4x2048x2048, .i32⟩) main_call0_call0_v19) xori,
    TRef.binary (TRef.of (T := ⟨S4x2048x2048, .i32⟩) main_call0_call0_v13) (TRef.of (T := ⟨S4x2048x2048, .i32⟩) main_call0_call0_v19) (TRef.of (T := ⟨S4x2048x2048, .i32⟩) main_call0_call0_v20) addi,
    TRef.nullary (TRef.of (T := ⟨S_, .i32⟩) main_call0_call0_c_4) (constantI S_ 32 26#32),
    TRef.unary (TRef.of (T := ⟨S_, .i32⟩) main_call0_call0_c_4) (TRef.of (T := ⟨S4x2048x2048, .i32⟩) main_call0_call0_v21) (broadcastInDim S4x2048x2048 ![] bcast_S_S4x2048x2048),
    TRef.binary (TRef.of (T := ⟨S4x2048x2048, .i32⟩) main_call0_call0_v19) (TRef.of (T := ⟨S4x2048x2048, .i32⟩) main_call0_call0_v21) (TRef.of (T := ⟨S4x2048x2048, .i32⟩) main_call0_call0_v22) Host.shli,
    TRef.nullary (TRef.of (T := ⟨S_, .i32⟩) main_call0_call0_c_5) (constantI S_ 32 6#32),
    TRef.unary (TRef.of (T := ⟨S_, .i32⟩) main_call0_call0_c_5) (TRef.of (T := ⟨S4x2048x2048, .i32⟩) main_call0_call0_v23) (broadcastInDim S4x2048x2048 ![] bcast_S_S4x2048x2048),
    TRef.binary (TRef.of (T := ⟨S4x2048x2048, .i32⟩) main_call0_call0_v19) (TRef.of (T := ⟨S4x2048x2048, .i32⟩) main_call0_call0_v23) (TRef.of (T := ⟨S4x2048x2048, .i32⟩) main_call0_call0_v24) Host.shrui,
    TRef.binary (TRef.of (T := ⟨S4x2048x2048, .i32⟩) main_call0_call0_v22) (TRef.of (T := ⟨S4x2048x2048, .i32⟩) main_call0_call0_v24) (TRef.of (T := ⟨S4x2048x2048, .i32⟩) main_call0_call0_v25) ori,
    TRef.binary (TRef.of (T := ⟨S4x2048x2048, .i32⟩) main_call0_call0_v20) (TRef.of (T := ⟨S4x2048x2048, .i32⟩) main_call0_call0_v25) (TRef.of (T := ⟨S4x2048x2048, .i32⟩) main_call0_call0_v26) xori,
    TRef.binary (TRef.of (T := ⟨S4x2048x2048, .i32⟩) main_call0_call0_v20) (TRef.of (T := ⟨S4x2048x2048, .i32⟩) main_call0_call0_v26) (TRef.of (T := ⟨S4x2048x2048, .i32⟩) main_call0_call0_v27) addi,
    TRef.nullary (TRef.of (T := ⟨S_, .i32⟩) main_call0_call0_c_6) (constantI S_ 32 6#32),
    TRef.unary (TRef.of (T := ⟨S_, .i32⟩) main_call0_call0_c_6) (TRef.of (T := ⟨S4x2048x2048, .i32⟩) main_call0_call0_v28) (broadcastInDim S4x2048x2048 ![] bcast_S_S4x2048x2048),
    TRef.binary (TRef.of (T := ⟨S4x2048x2048, .i32⟩) main_call0_call0_v26) (TRef.of (T := ⟨S4x2048x2048, .i32⟩) main_call0_call0_v28) (TRef.of (T := ⟨S4x2048x2048, .i32⟩) main_call0_call0_v29) Host.shli,
    TRef.nullary (TRef.of (T := ⟨S_, .i32⟩) main_call0_call0_c_7) (constantI S_ 32 26#32),
    TRef.unary (TRef.of (T := ⟨S_, .i32⟩) main_call0_call0_c_7) (TRef.of (T := ⟨S4x2048x2048, .i32⟩) main_call0_call0_v30) (broadcastInDim S4x2048x2048 ![] bcast_S_S4x2048x2048),
    TRef.binary (TRef.of (T := ⟨S4x2048x2048, .i32⟩) main_call0_call0_v26) (TRef.of (T := ⟨S4x2048x2048, .i32⟩) main_call0_call0_v30) (TRef.of (T := ⟨S4x2048x2048, .i32⟩) main_call0_call0_v31) Host.shrui,
    TRef.binary (TRef.of (T := ⟨S4x2048x2048, .i32⟩) main_call0_call0_v29) (TRef.of (T := ⟨S4x2048x2048, .i32⟩) main_call0_call0_v31) (TRef.of (T := ⟨S4x2048x2048, .i32⟩) main_call0_call0_v32) ori,
    TRef.binary (TRef.of (T := ⟨S4x2048x2048, .i32⟩) main_call0_call0_v27) (TRef.of (T := ⟨S4x2048x2048, .i32⟩) main_call0_call0_v32) (TRef.of (T := ⟨S4x2048x2048, .i32⟩) main_call0_call0_v33) xori,
    TRef.unary (TRef.of (T := ⟨S_, .i32⟩) main_call0_v7) (TRef.of (T := ⟨S4x2048x2048, .i32⟩) main_call0_call0_v34) (broadcastInDim S4x2048x2048 ![] bcast_S_S4x2048x2048),
    TRef.binary (TRef.of (T := ⟨S4x2048x2048, .i32⟩) main_call0_call0_v27) (TRef.of (T := ⟨S4x2048x2048, .i32⟩) main_call0_call0_v34) (TRef.of (T := ⟨S4x2048x2048, .i32⟩) main_call0_call0_v35) addi,
    TRef.unary (TRef.of (T := ⟨S_, .i32⟩) main_call0_call0_v1) (TRef.of (T := ⟨S4x2048x2048, .i32⟩) main_call0_call0_v36) (broadcastInDim S4x2048x2048 ![] bcast_S_S4x2048x2048),
    TRef.binary (TRef.of (T := ⟨S4x2048x2048, .i32⟩) main_call0_call0_v33) (TRef.of (T := ⟨S4x2048x2048, .i32⟩) main_call0_call0_v36) (TRef.of (T := ⟨S4x2048x2048, .i32⟩) main_call0_call0_v37) addi,
    TRef.nullary (TRef.of (T := ⟨S_, .i32⟩) main_call0_call0_c_8) (constantI S_ 32 1#32),
    TRef.unary (TRef.of (T := ⟨S_, .i32⟩) main_call0_call0_c_8) (TRef.of (T := ⟨S4x2048x2048, .i32⟩) main_call0_call0_v38) (broadcastInDim S4x2048x2048 ![] bcast_S_S4x2048x2048),
    TRef.binary (TRef.of (T := ⟨S4x2048x2048, .i32⟩) main_call0_call0_v37) (TRef.of (T := ⟨S4x2048x2048, .i32⟩) main_call0_call0_v38) (TRef.of (T := ⟨S4x2048x2048, .i32⟩) main_call0_call0_v39) addi,
    TRef.binary (TRef.of (T := ⟨S4x2048x2048, .i32⟩) main_call0_call0_v35) (TRef.of (T := ⟨S4x2048x2048, .i32⟩) main_call0_call0_v39) (TRef.of (T := ⟨S4x2048x2048, .i32⟩) main_call0_call0_v40) addi,
    TRef.nullary (TRef.of (T := ⟨S_, .i32⟩) main_call0_call0_c_9) (constantI S_ 32 17#32),
    TRef.unary (TRef.of (T := ⟨S_, .i32⟩) main_call0_call0_c_9) (TRef.of (T := ⟨S4x2048x2048, .i32⟩) main_call0_call0_v41) (broadcastInDim S4x2048x2048 ![] bcast_S_S4x2048x2048) ]

/-- Operations 150 to 179. -/
abbrev steps_1_3 : List (HloOp τ sig (Elt F)) :=
  [ TRef.binary (TRef.of (T := ⟨S4x2048x2048, .i32⟩) main_call0_call0_v39) (TRef.of (T := ⟨S4x2048x2048, .i32⟩) main_call0_call0_v41) (TRef.of (T := ⟨S4x2048x2048, .i32⟩) main_call0_call0_v42) Host.shli,
    TRef.nullary (TRef.of (T := ⟨S_, .i32⟩) main_call0_call0_c_10) (constantI S_ 32 15#32),
    TRef.unary (TRef.of (T := ⟨S_, .i32⟩) main_call0_call0_c_10) (TRef.of (T := ⟨S4x2048x2048, .i32⟩) main_call0_call0_v43) (broadcastInDim S4x2048x2048 ![] bcast_S_S4x2048x2048),
    TRef.binary (TRef.of (T := ⟨S4x2048x2048, .i32⟩) main_call0_call0_v39) (TRef.of (T := ⟨S4x2048x2048, .i32⟩) main_call0_call0_v43) (TRef.of (T := ⟨S4x2048x2048, .i32⟩) main_call0_call0_v44) Host.shrui,
    TRef.binary (TRef.of (T := ⟨S4x2048x2048, .i32⟩) main_call0_call0_v42) (TRef.of (T := ⟨S4x2048x2048, .i32⟩) main_call0_call0_v44) (TRef.of (T := ⟨S4x2048x2048, .i32⟩) main_call0_call0_v45) ori,
    TRef.binary (TRef.of (T := ⟨S4x2048x2048, .i32⟩) main_call0_call0_v40) (TRef.of (T := ⟨S4x2048x2048, .i32⟩) main_call0_call0_v45) (TRef.of (T := ⟨S4x2048x2048, .i32⟩) main_call0_call0_v46) xori,
    TRef.binary (TRef.of (T := ⟨S4x2048x2048, .i32⟩) main_call0_call0_v40) (TRef.of (T := ⟨S4x2048x2048, .i32⟩) main_call0_call0_v46) (TRef.of (T := ⟨S4x2048x2048, .i32⟩) main_call0_call0_v47) addi,
    TRef.nullary (TRef.of (T := ⟨S_, .i32⟩) main_call0_call0_c_11) (constantI S_ 32 29#32),
    TRef.unary (TRef.of (T := ⟨S_, .i32⟩) main_call0_call0_c_11) (TRef.of (T := ⟨S4x2048x2048, .i32⟩) main_call0_call0_v48) (broadcastInDim S4x2048x2048 ![] bcast_S_S4x2048x2048),
    TRef.binary (TRef.of (T := ⟨S4x2048x2048, .i32⟩) main_call0_call0_v46) (TRef.of (T := ⟨S4x2048x2048, .i32⟩) main_call0_call0_v48) (TRef.of (T := ⟨S4x2048x2048, .i32⟩) main_call0_call0_v49) Host.shli,
    TRef.nullary (TRef.of (T := ⟨S_, .i32⟩) main_call0_call0_c_12) (constantI S_ 32 3#32),
    TRef.unary (TRef.of (T := ⟨S_, .i32⟩) main_call0_call0_c_12) (TRef.of (T := ⟨S4x2048x2048, .i32⟩) main_call0_call0_v50) (broadcastInDim S4x2048x2048 ![] bcast_S_S4x2048x2048),
    TRef.binary (TRef.of (T := ⟨S4x2048x2048, .i32⟩) main_call0_call0_v46) (TRef.of (T := ⟨S4x2048x2048, .i32⟩) main_call0_call0_v50) (TRef.of (T := ⟨S4x2048x2048, .i32⟩) main_call0_call0_v51) Host.shrui,
    TRef.binary (TRef.of (T := ⟨S4x2048x2048, .i32⟩) main_call0_call0_v49) (TRef.of (T := ⟨S4x2048x2048, .i32⟩) main_call0_call0_v51) (TRef.of (T := ⟨S4x2048x2048, .i32⟩) main_call0_call0_v52) ori,
    TRef.binary (TRef.of (T := ⟨S4x2048x2048, .i32⟩) main_call0_call0_v47) (TRef.of (T := ⟨S4x2048x2048, .i32⟩) main_call0_call0_v52) (TRef.of (T := ⟨S4x2048x2048, .i32⟩) main_call0_call0_v53) xori,
    TRef.binary (TRef.of (T := ⟨S4x2048x2048, .i32⟩) main_call0_call0_v47) (TRef.of (T := ⟨S4x2048x2048, .i32⟩) main_call0_call0_v53) (TRef.of (T := ⟨S4x2048x2048, .i32⟩) main_call0_call0_v54) addi,
    TRef.nullary (TRef.of (T := ⟨S_, .i32⟩) main_call0_call0_c_13) (constantI S_ 32 16#32),
    TRef.unary (TRef.of (T := ⟨S_, .i32⟩) main_call0_call0_c_13) (TRef.of (T := ⟨S4x2048x2048, .i32⟩) main_call0_call0_v55) (broadcastInDim S4x2048x2048 ![] bcast_S_S4x2048x2048),
    TRef.binary (TRef.of (T := ⟨S4x2048x2048, .i32⟩) main_call0_call0_v53) (TRef.of (T := ⟨S4x2048x2048, .i32⟩) main_call0_call0_v55) (TRef.of (T := ⟨S4x2048x2048, .i32⟩) main_call0_call0_v56) Host.shli,
    TRef.nullary (TRef.of (T := ⟨S_, .i32⟩) main_call0_call0_c_14) (constantI S_ 32 16#32),
    TRef.unary (TRef.of (T := ⟨S_, .i32⟩) main_call0_call0_c_14) (TRef.of (T := ⟨S4x2048x2048, .i32⟩) main_call0_call0_v57) (broadcastInDim S4x2048x2048 ![] bcast_S_S4x2048x2048),
    TRef.binary (TRef.of (T := ⟨S4x2048x2048, .i32⟩) main_call0_call0_v53) (TRef.of (T := ⟨S4x2048x2048, .i32⟩) main_call0_call0_v57) (TRef.of (T := ⟨S4x2048x2048, .i32⟩) main_call0_call0_v58) Host.shrui,
    TRef.binary (TRef.of (T := ⟨S4x2048x2048, .i32⟩) main_call0_call0_v56) (TRef.of (T := ⟨S4x2048x2048, .i32⟩) main_call0_call0_v58) (TRef.of (T := ⟨S4x2048x2048, .i32⟩) main_call0_call0_v59) ori,
    TRef.binary (TRef.of (T := ⟨S4x2048x2048, .i32⟩) main_call0_call0_v54) (TRef.of (T := ⟨S4x2048x2048, .i32⟩) main_call0_call0_v59) (TRef.of (T := ⟨S4x2048x2048, .i32⟩) main_call0_call0_v60) xori,
    TRef.binary (TRef.of (T := ⟨S4x2048x2048, .i32⟩) main_call0_call0_v54) (TRef.of (T := ⟨S4x2048x2048, .i32⟩) main_call0_call0_v60) (TRef.of (T := ⟨S4x2048x2048, .i32⟩) main_call0_call0_v61) addi,
    TRef.nullary (TRef.of (T := ⟨S_, .i32⟩) main_call0_call0_c_15) (constantI S_ 32 24#32),
    TRef.unary (TRef.of (T := ⟨S_, .i32⟩) main_call0_call0_c_15) (TRef.of (T := ⟨S4x2048x2048, .i32⟩) main_call0_call0_v62) (broadcastInDim S4x2048x2048 ![] bcast_S_S4x2048x2048),
    TRef.binary (TRef.of (T := ⟨S4x2048x2048, .i32⟩) main_call0_call0_v60) (TRef.of (T := ⟨S4x2048x2048, .i32⟩) main_call0_call0_v62) (TRef.of (T := ⟨S4x2048x2048, .i32⟩) main_call0_call0_v63) Host.shli,
    TRef.nullary (TRef.of (T := ⟨S_, .i32⟩) main_call0_call0_c_16) (constantI S_ 32 8#32),
    TRef.unary (TRef.of (T := ⟨S_, .i32⟩) main_call0_call0_c_16) (TRef.of (T := ⟨S4x2048x2048, .i32⟩) main_call0_call0_v64) (broadcastInDim S4x2048x2048 ![] bcast_S_S4x2048x2048) ]

/-- Operations 180 to 209. -/
abbrev steps_1_4 : List (HloOp τ sig (Elt F)) :=
  [ TRef.binary (TRef.of (T := ⟨S4x2048x2048, .i32⟩) main_call0_call0_v60) (TRef.of (T := ⟨S4x2048x2048, .i32⟩) main_call0_call0_v64) (TRef.of (T := ⟨S4x2048x2048, .i32⟩) main_call0_call0_v65) Host.shrui,
    TRef.binary (TRef.of (T := ⟨S4x2048x2048, .i32⟩) main_call0_call0_v63) (TRef.of (T := ⟨S4x2048x2048, .i32⟩) main_call0_call0_v65) (TRef.of (T := ⟨S4x2048x2048, .i32⟩) main_call0_call0_v66) ori,
    TRef.binary (TRef.of (T := ⟨S4x2048x2048, .i32⟩) main_call0_call0_v61) (TRef.of (T := ⟨S4x2048x2048, .i32⟩) main_call0_call0_v66) (TRef.of (T := ⟨S4x2048x2048, .i32⟩) main_call0_call0_v67) xori,
    TRef.unary (TRef.of (T := ⟨S_, .i32⟩) main_call0_call0_v1) (TRef.of (T := ⟨S4x2048x2048, .i32⟩) main_call0_call0_v68) (broadcastInDim S4x2048x2048 ![] bcast_S_S4x2048x2048),
    TRef.binary (TRef.of (T := ⟨S4x2048x2048, .i32⟩) main_call0_call0_v61) (TRef.of (T := ⟨S4x2048x2048, .i32⟩) main_call0_call0_v68) (TRef.of (T := ⟨S4x2048x2048, .i32⟩) main_call0_call0_v69) addi,
    TRef.unary (TRef.of (T := ⟨S_, .i32⟩) main_call0_v5) (TRef.of (T := ⟨S4x2048x2048, .i32⟩) main_call0_call0_v70) (broadcastInDim S4x2048x2048 ![] bcast_S_S4x2048x2048),
    TRef.binary (TRef.of (T := ⟨S4x2048x2048, .i32⟩) main_call0_call0_v67) (TRef.of (T := ⟨S4x2048x2048, .i32⟩) main_call0_call0_v70) (TRef.of (T := ⟨S4x2048x2048, .i32⟩) main_call0_call0_v71) addi,
    TRef.nullary (TRef.of (T := ⟨S_, .i32⟩) main_call0_call0_c_17) (constantI S_ 32 2#32),
    TRef.unary (TRef.of (T := ⟨S_, .i32⟩) main_call0_call0_c_17) (TRef.of (T := ⟨S4x2048x2048, .i32⟩) main_call0_call0_v72) (broadcastInDim S4x2048x2048 ![] bcast_S_S4x2048x2048),
    TRef.binary (TRef.of (T := ⟨S4x2048x2048, .i32⟩) main_call0_call0_v71) (TRef.of (T := ⟨S4x2048x2048, .i32⟩) main_call0_call0_v72) (TRef.of (T := ⟨S4x2048x2048, .i32⟩) main_call0_call0_v73) addi,
    TRef.binary (TRef.of (T := ⟨S4x2048x2048, .i32⟩) main_call0_call0_v69) (TRef.of (T := ⟨S4x2048x2048, .i32⟩) main_call0_call0_v73) (TRef.of (T := ⟨S4x2048x2048, .i32⟩) main_call0_call0_v74) addi,
    TRef.nullary (TRef.of (T := ⟨S_, .i32⟩) main_call0_call0_c_18) (constantI S_ 32 13#32),
    TRef.unary (TRef.of (T := ⟨S_, .i32⟩) main_call0_call0_c_18) (TRef.of (T := ⟨S4x2048x2048, .i32⟩) main_call0_call0_v75) (broadcastInDim S4x2048x2048 ![] bcast_S_S4x2048x2048),
    TRef.binary (TRef.of (T := ⟨S4x2048x2048, .i32⟩) main_call0_call0_v73) (TRef.of (T := ⟨S4x2048x2048, .i32⟩) main_call0_call0_v75) (TRef.of (T := ⟨S4x2048x2048, .i32⟩) main_call0_call0_v76) Host.shli,
    TRef.nullary (TRef.of (T := ⟨S_, .i32⟩) main_call0_call0_c_19) (constantI S_ 32 19#32),
    TRef.unary (TRef.of (T := ⟨S_, .i32⟩) main_call0_call0_c_19) (TRef.of (T := ⟨S4x2048x2048, .i32⟩) main_call0_call0_v77) (broadcastInDim S4x2048x2048 ![] bcast_S_S4x2048x2048),
    TRef.binary (TRef.of (T := ⟨S4x2048x2048, .i32⟩) main_call0_call0_v73) (TRef.of (T := ⟨S4x2048x2048, .i32⟩) main_call0_call0_v77) (TRef.of (T := ⟨S4x2048x2048, .i32⟩) main_call0_call0_v78) Host.shrui,
    TRef.binary (TRef.of (T := ⟨S4x2048x2048, .i32⟩) main_call0_call0_v76) (TRef.of (T := ⟨S4x2048x2048, .i32⟩) main_call0_call0_v78) (TRef.of (T := ⟨S4x2048x2048, .i32⟩) main_call0_call0_v79) ori,
    TRef.binary (TRef.of (T := ⟨S4x2048x2048, .i32⟩) main_call0_call0_v74) (TRef.of (T := ⟨S4x2048x2048, .i32⟩) main_call0_call0_v79) (TRef.of (T := ⟨S4x2048x2048, .i32⟩) main_call0_call0_v80) xori,
    TRef.binary (TRef.of (T := ⟨S4x2048x2048, .i32⟩) main_call0_call0_v74) (TRef.of (T := ⟨S4x2048x2048, .i32⟩) main_call0_call0_v80) (TRef.of (T := ⟨S4x2048x2048, .i32⟩) main_call0_call0_v81) addi,
    TRef.nullary (TRef.of (T := ⟨S_, .i32⟩) main_call0_call0_c_20) (constantI S_ 32 15#32),
    TRef.unary (TRef.of (T := ⟨S_, .i32⟩) main_call0_call0_c_20) (TRef.of (T := ⟨S4x2048x2048, .i32⟩) main_call0_call0_v82) (broadcastInDim S4x2048x2048 ![] bcast_S_S4x2048x2048),
    TRef.binary (TRef.of (T := ⟨S4x2048x2048, .i32⟩) main_call0_call0_v80) (TRef.of (T := ⟨S4x2048x2048, .i32⟩) main_call0_call0_v82) (TRef.of (T := ⟨S4x2048x2048, .i32⟩) main_call0_call0_v83) Host.shli,
    TRef.nullary (TRef.of (T := ⟨S_, .i32⟩) main_call0_call0_c_21) (constantI S_ 32 17#32),
    TRef.unary (TRef.of (T := ⟨S_, .i32⟩) main_call0_call0_c_21) (TRef.of (T := ⟨S4x2048x2048, .i32⟩) main_call0_call0_v84) (broadcastInDim S4x2048x2048 ![] bcast_S_S4x2048x2048),
    TRef.binary (TRef.of (T := ⟨S4x2048x2048, .i32⟩) main_call0_call0_v80) (TRef.of (T := ⟨S4x2048x2048, .i32⟩) main_call0_call0_v84) (TRef.of (T := ⟨S4x2048x2048, .i32⟩) main_call0_call0_v85) Host.shrui,
    TRef.binary (TRef.of (T := ⟨S4x2048x2048, .i32⟩) main_call0_call0_v83) (TRef.of (T := ⟨S4x2048x2048, .i32⟩) main_call0_call0_v85) (TRef.of (T := ⟨S4x2048x2048, .i32⟩) main_call0_call0_v86) ori,
    TRef.binary (TRef.of (T := ⟨S4x2048x2048, .i32⟩) main_call0_call0_v81) (TRef.of (T := ⟨S4x2048x2048, .i32⟩) main_call0_call0_v86) (TRef.of (T := ⟨S4x2048x2048, .i32⟩) main_call0_call0_v87) xori,
    TRef.binary (TRef.of (T := ⟨S4x2048x2048, .i32⟩) main_call0_call0_v81) (TRef.of (T := ⟨S4x2048x2048, .i32⟩) main_call0_call0_v87) (TRef.of (T := ⟨S4x2048x2048, .i32⟩) main_call0_call0_v88) addi,
    TRef.nullary (TRef.of (T := ⟨S_, .i32⟩) main_call0_call0_c_22) (constantI S_ 32 26#32) ]

/-- Operations 210 to 239. -/
abbrev steps_1_5 : List (HloOp τ sig (Elt F)) :=
  [ TRef.unary (TRef.of (T := ⟨S_, .i32⟩) main_call0_call0_c_22) (TRef.of (T := ⟨S4x2048x2048, .i32⟩) main_call0_call0_v89) (broadcastInDim S4x2048x2048 ![] bcast_S_S4x2048x2048),
    TRef.binary (TRef.of (T := ⟨S4x2048x2048, .i32⟩) main_call0_call0_v87) (TRef.of (T := ⟨S4x2048x2048, .i32⟩) main_call0_call0_v89) (TRef.of (T := ⟨S4x2048x2048, .i32⟩) main_call0_call0_v90) Host.shli,
    TRef.nullary (TRef.of (T := ⟨S_, .i32⟩) main_call0_call0_c_23) (constantI S_ 32 6#32),
    TRef.unary (TRef.of (T := ⟨S_, .i32⟩) main_call0_call0_c_23) (TRef.of (T := ⟨S4x2048x2048, .i32⟩) main_call0_call0_v91) (broadcastInDim S4x2048x2048 ![] bcast_S_S4x2048x2048),
    TRef.binary (TRef.of (T := ⟨S4x2048x2048, .i32⟩) main_call0_call0_v87) (TRef.of (T := ⟨S4x2048x2048, .i32⟩) main_call0_call0_v91) (TRef.of (T := ⟨S4x2048x2048, .i32⟩) main_call0_call0_v92) Host.shrui,
    TRef.binary (TRef.of (T := ⟨S4x2048x2048, .i32⟩) main_call0_call0_v90) (TRef.of (T := ⟨S4x2048x2048, .i32⟩) main_call0_call0_v92) (TRef.of (T := ⟨S4x2048x2048, .i32⟩) main_call0_call0_v93) ori,
    TRef.binary (TRef.of (T := ⟨S4x2048x2048, .i32⟩) main_call0_call0_v88) (TRef.of (T := ⟨S4x2048x2048, .i32⟩) main_call0_call0_v93) (TRef.of (T := ⟨S4x2048x2048, .i32⟩) main_call0_call0_v94) xori,
    TRef.binary (TRef.of (T := ⟨S4x2048x2048, .i32⟩) main_call0_call0_v88) (TRef.of (T := ⟨S4x2048x2048, .i32⟩) main_call0_call0_v94) (TRef.of (T := ⟨S4x2048x2048, .i32⟩) main_call0_call0_v95) addi,
    TRef.nullary (TRef.of (T := ⟨S_, .i32⟩) main_call0_call0_c_24) (constantI S_ 32 6#32),
    TRef.unary (TRef.of (T := ⟨S_, .i32⟩) main_call0_call0_c_24) (TRef.of (T := ⟨S4x2048x2048, .i32⟩) main_call0_call0_v96) (broadcastInDim S4x2048x2048 ![] bcast_S_S4x2048x2048),
    TRef.binary (TRef.of (T := ⟨S4x2048x2048, .i32⟩) main_call0_call0_v94) (TRef.of (T := ⟨S4x2048x2048, .i32⟩) main_call0_call0_v96) (TRef.of (T := ⟨S4x2048x2048, .i32⟩) main_call0_call0_v97) Host.shli,
    TRef.nullary (TRef.of (T := ⟨S_, .i32⟩) main_call0_call0_c_25) (constantI S_ 32 26#32),
    TRef.unary (TRef.of (T := ⟨S_, .i32⟩) main_call0_call0_c_25) (TRef.of (T := ⟨S4x2048x2048, .i32⟩) main_call0_call0_v98) (broadcastInDim S4x2048x2048 ![] bcast_S_S4x2048x2048),
    TRef.binary (TRef.of (T := ⟨S4x2048x2048, .i32⟩) main_call0_call0_v94) (TRef.of (T := ⟨S4x2048x2048, .i32⟩) main_call0_call0_v98) (TRef.of (T := ⟨S4x2048x2048, .i32⟩) main_call0_call0_v99) Host.shrui,
    TRef.binary (TRef.of (T := ⟨S4x2048x2048, .i32⟩) main_call0_call0_v97) (TRef.of (T := ⟨S4x2048x2048, .i32⟩) main_call0_call0_v99) (TRef.of (T := ⟨S4x2048x2048, .i32⟩) main_call0_call0_v100) ori,
    TRef.binary (TRef.of (T := ⟨S4x2048x2048, .i32⟩) main_call0_call0_v95) (TRef.of (T := ⟨S4x2048x2048, .i32⟩) main_call0_call0_v100) (TRef.of (T := ⟨S4x2048x2048, .i32⟩) main_call0_call0_v101) xori,
    TRef.unary (TRef.of (T := ⟨S_, .i32⟩) main_call0_v5) (TRef.of (T := ⟨S4x2048x2048, .i32⟩) main_call0_call0_v102) (broadcastInDim S4x2048x2048 ![] bcast_S_S4x2048x2048),
    TRef.binary (TRef.of (T := ⟨S4x2048x2048, .i32⟩) main_call0_call0_v95) (TRef.of (T := ⟨S4x2048x2048, .i32⟩) main_call0_call0_v102) (TRef.of (T := ⟨S4x2048x2048, .i32⟩) main_call0_call0_v103) addi,
    TRef.unary (TRef.of (T := ⟨S_, .i32⟩) main_call0_v7) (TRef.of (T := ⟨S4x2048x2048, .i32⟩) main_call0_call0_v104) (broadcastInDim S4x2048x2048 ![] bcast_S_S4x2048x2048),
    TRef.binary (TRef.of (T := ⟨S4x2048x2048, .i32⟩) main_call0_call0_v101) (TRef.of (T := ⟨S4x2048x2048, .i32⟩) main_call0_call0_v104) (TRef.of (T := ⟨S4x2048x2048, .i32⟩) main_call0_call0_v105) addi,
    TRef.nullary (TRef.of (T := ⟨S_, .i32⟩) main_call0_call0_c_26) (constantI S_ 32 3#32),
    TRef.unary (TRef.of (T := ⟨S_, .i32⟩) main_call0_call0_c_26) (TRef.of (T := ⟨S4x2048x2048, .i32⟩) main_call0_call0_v106) (broadcastInDim S4x2048x2048 ![] bcast_S_S4x2048x2048),
    TRef.binary (TRef.of (T := ⟨S4x2048x2048, .i32⟩) main_call0_call0_v105) (TRef.of (T := ⟨S4x2048x2048, .i32⟩) main_call0_call0_v106) (TRef.of (T := ⟨S4x2048x2048, .i32⟩) main_call0_call0_v107) addi,
    TRef.binary (TRef.of (T := ⟨S4x2048x2048, .i32⟩) main_call0_call0_v103) (TRef.of (T := ⟨S4x2048x2048, .i32⟩) main_call0_call0_v107) (TRef.of (T := ⟨S4x2048x2048, .i32⟩) main_call0_call0_v108) addi,
    TRef.nullary (TRef.of (T := ⟨S_, .i32⟩) main_call0_call0_c_27) (constantI S_ 32 17#32),
    TRef.unary (TRef.of (T := ⟨S_, .i32⟩) main_call0_call0_c_27) (TRef.of (T := ⟨S4x2048x2048, .i32⟩) main_call0_call0_v109) (broadcastInDim S4x2048x2048 ![] bcast_S_S4x2048x2048),
    TRef.binary (TRef.of (T := ⟨S4x2048x2048, .i32⟩) main_call0_call0_v107) (TRef.of (T := ⟨S4x2048x2048, .i32⟩) main_call0_call0_v109) (TRef.of (T := ⟨S4x2048x2048, .i32⟩) main_call0_call0_v110) Host.shli,
    TRef.nullary (TRef.of (T := ⟨S_, .i32⟩) main_call0_call0_c_28) (constantI S_ 32 15#32),
    TRef.unary (TRef.of (T := ⟨S_, .i32⟩) main_call0_call0_c_28) (TRef.of (T := ⟨S4x2048x2048, .i32⟩) main_call0_call0_v111) (broadcastInDim S4x2048x2048 ![] bcast_S_S4x2048x2048),
    TRef.binary (TRef.of (T := ⟨S4x2048x2048, .i32⟩) main_call0_call0_v107) (TRef.of (T := ⟨S4x2048x2048, .i32⟩) main_call0_call0_v111) (TRef.of (T := ⟨S4x2048x2048, .i32⟩) main_call0_call0_v112) Host.shrui ]

/-- Operations 240 to 269. -/
abbrev steps_1_6 : List (HloOp τ sig (Elt F)) :=
  [ TRef.binary (TRef.of (T := ⟨S4x2048x2048, .i32⟩) main_call0_call0_v110) (TRef.of (T := ⟨S4x2048x2048, .i32⟩) main_call0_call0_v112) (TRef.of (T := ⟨S4x2048x2048, .i32⟩) main_call0_call0_v113) ori,
    TRef.binary (TRef.of (T := ⟨S4x2048x2048, .i32⟩) main_call0_call0_v108) (TRef.of (T := ⟨S4x2048x2048, .i32⟩) main_call0_call0_v113) (TRef.of (T := ⟨S4x2048x2048, .i32⟩) main_call0_call0_v114) xori,
    TRef.binary (TRef.of (T := ⟨S4x2048x2048, .i32⟩) main_call0_call0_v108) (TRef.of (T := ⟨S4x2048x2048, .i32⟩) main_call0_call0_v114) (TRef.of (T := ⟨S4x2048x2048, .i32⟩) main_call0_call0_v115) addi,
    TRef.nullary (TRef.of (T := ⟨S_, .i32⟩) main_call0_call0_c_29) (constantI S_ 32 29#32),
    TRef.unary (TRef.of (T := ⟨S_, .i32⟩) main_call0_call0_c_29) (TRef.of (T := ⟨S4x2048x2048, .i32⟩) main_call0_call0_v116) (broadcastInDim S4x2048x2048 ![] bcast_S_S4x2048x2048),
    TRef.binary (TRef.of (T := ⟨S4x2048x2048, .i32⟩) main_call0_call0_v114) (TRef.of (T := ⟨S4x2048x2048, .i32⟩) main_call0_call0_v116) (TRef.of (T := ⟨S4x2048x2048, .i32⟩) main_call0_call0_v117) Host.shli,
    TRef.nullary (TRef.of (T := ⟨S_, .i32⟩) main_call0_call0_c_30) (constantI S_ 32 3#32),
    TRef.unary (TRef.of (T := ⟨S_, .i32⟩) main_call0_call0_c_30) (TRef.of (T := ⟨S4x2048x2048, .i32⟩) main_call0_call0_v118) (broadcastInDim S4x2048x2048 ![] bcast_S_S4x2048x2048),
    TRef.binary (TRef.of (T := ⟨S4x2048x2048, .i32⟩) main_call0_call0_v114) (TRef.of (T := ⟨S4x2048x2048, .i32⟩) main_call0_call0_v118) (TRef.of (T := ⟨S4x2048x2048, .i32⟩) main_call0_call0_v119) Host.shrui,
    TRef.binary (TRef.of (T := ⟨S4x2048x2048, .i32⟩) main_call0_call0_v117) (TRef.of (T := ⟨S4x2048x2048, .i32⟩) main_call0_call0_v119) (TRef.of (T := ⟨S4x2048x2048, .i32⟩) main_call0_call0_v120) ori,
    TRef.binary (TRef.of (T := ⟨S4x2048x2048, .i32⟩) main_call0_call0_v115) (TRef.of (T := ⟨S4x2048x2048, .i32⟩) main_call0_call0_v120) (TRef.of (T := ⟨S4x2048x2048, .i32⟩) main_call0_call0_v121) xori,
    TRef.binary (TRef.of (T := ⟨S4x2048x2048, .i32⟩) main_call0_call0_v115) (TRef.of (T := ⟨S4x2048x2048, .i32⟩) main_call0_call0_v121) (TRef.of (T := ⟨S4x2048x2048, .i32⟩) main_call0_call0_v122) addi,
    TRef.nullary (TRef.of (T := ⟨S_, .i32⟩) main_call0_call0_c_31) (constantI S_ 32 16#32),
    TRef.unary (TRef.of (T := ⟨S_, .i32⟩) main_call0_call0_c_31) (TRef.of (T := ⟨S4x2048x2048, .i32⟩) main_call0_call0_v123) (broadcastInDim S4x2048x2048 ![] bcast_S_S4x2048x2048),
    TRef.binary (TRef.of (T := ⟨S4x2048x2048, .i32⟩) main_call0_call0_v121) (TRef.of (T := ⟨S4x2048x2048, .i32⟩) main_call0_call0_v123) (TRef.of (T := ⟨S4x2048x2048, .i32⟩) main_call0_call0_v124) Host.shli,
    TRef.nullary (TRef.of (T := ⟨S_, .i32⟩) main_call0_call0_c_32) (constantI S_ 32 16#32),
    TRef.unary (TRef.of (T := ⟨S_, .i32⟩) main_call0_call0_c_32) (TRef.of (T := ⟨S4x2048x2048, .i32⟩) main_call0_call0_v125) (broadcastInDim S4x2048x2048 ![] bcast_S_S4x2048x2048),
    TRef.binary (TRef.of (T := ⟨S4x2048x2048, .i32⟩) main_call0_call0_v121) (TRef.of (T := ⟨S4x2048x2048, .i32⟩) main_call0_call0_v125) (TRef.of (T := ⟨S4x2048x2048, .i32⟩) main_call0_call0_v126) Host.shrui,
    TRef.binary (TRef.of (T := ⟨S4x2048x2048, .i32⟩) main_call0_call0_v124) (TRef.of (T := ⟨S4x2048x2048, .i32⟩) main_call0_call0_v126) (TRef.of (T := ⟨S4x2048x2048, .i32⟩) main_call0_call0_v127) ori,
    TRef.binary (TRef.of (T := ⟨S4x2048x2048, .i32⟩) main_call0_call0_v122) (TRef.of (T := ⟨S4x2048x2048, .i32⟩) main_call0_call0_v127) (TRef.of (T := ⟨S4x2048x2048, .i32⟩) main_call0_call0_v128) xori,
    TRef.binary (TRef.of (T := ⟨S4x2048x2048, .i32⟩) main_call0_call0_v122) (TRef.of (T := ⟨S4x2048x2048, .i32⟩) main_call0_call0_v128) (TRef.of (T := ⟨S4x2048x2048, .i32⟩) main_call0_call0_v129) addi,
    TRef.nullary (TRef.of (T := ⟨S_, .i32⟩) main_call0_call0_c_33) (constantI S_ 32 24#32),
    TRef.unary (TRef.of (T := ⟨S_, .i32⟩) main_call0_call0_c_33) (TRef.of (T := ⟨S4x2048x2048, .i32⟩) main_call0_call0_v130) (broadcastInDim S4x2048x2048 ![] bcast_S_S4x2048x2048),
    TRef.binary (TRef.of (T := ⟨S4x2048x2048, .i32⟩) main_call0_call0_v128) (TRef.of (T := ⟨S4x2048x2048, .i32⟩) main_call0_call0_v130) (TRef.of (T := ⟨S4x2048x2048, .i32⟩) main_call0_call0_v131) Host.shli,
    TRef.nullary (TRef.of (T := ⟨S_, .i32⟩) main_call0_call0_c_34) (constantI S_ 32 8#32),
    TRef.unary (TRef.of (T := ⟨S_, .i32⟩) main_call0_call0_c_34) (TRef.of (T := ⟨S4x2048x2048, .i32⟩) main_call0_call0_v132) (broadcastInDim S4x2048x2048 ![] bcast_S_S4x2048x2048),
    TRef.binary (TRef.of (T := ⟨S4x2048x2048, .i32⟩) main_call0_call0_v128) (TRef.of (T := ⟨S4x2048x2048, .i32⟩) main_call0_call0_v132) (TRef.of (T := ⟨S4x2048x2048, .i32⟩) main_call0_call0_v133) Host.shrui,
    TRef.binary (TRef.of (T := ⟨S4x2048x2048, .i32⟩) main_call0_call0_v131) (TRef.of (T := ⟨S4x2048x2048, .i32⟩) main_call0_call0_v133) (TRef.of (T := ⟨S4x2048x2048, .i32⟩) main_call0_call0_v134) ori,
    TRef.binary (TRef.of (T := ⟨S4x2048x2048, .i32⟩) main_call0_call0_v129) (TRef.of (T := ⟨S4x2048x2048, .i32⟩) main_call0_call0_v134) (TRef.of (T := ⟨S4x2048x2048, .i32⟩) main_call0_call0_v135) xori,
    TRef.unary (TRef.of (T := ⟨S_, .i32⟩) main_call0_v7) (TRef.of (T := ⟨S4x2048x2048, .i32⟩) main_call0_call0_v136) (broadcastInDim S4x2048x2048 ![] bcast_S_S4x2048x2048) ]

/-- Operations 270 to 299. -/
abbrev steps_1_7 : List (HloOp τ sig (Elt F)) :=
  [ TRef.binary (TRef.of (T := ⟨S4x2048x2048, .i32⟩) main_call0_call0_v129) (TRef.of (T := ⟨S4x2048x2048, .i32⟩) main_call0_call0_v136) (TRef.of (T := ⟨S4x2048x2048, .i32⟩) main_call0_call0_v137) addi,
    TRef.unary (TRef.of (T := ⟨S_, .i32⟩) main_call0_call0_v1) (TRef.of (T := ⟨S4x2048x2048, .i32⟩) main_call0_call0_v138) (broadcastInDim S4x2048x2048 ![] bcast_S_S4x2048x2048),
    TRef.binary (TRef.of (T := ⟨S4x2048x2048, .i32⟩) main_call0_call0_v135) (TRef.of (T := ⟨S4x2048x2048, .i32⟩) main_call0_call0_v138) (TRef.of (T := ⟨S4x2048x2048, .i32⟩) main_call0_call0_v139) addi,
    TRef.nullary (TRef.of (T := ⟨S_, .i32⟩) main_call0_call0_c_35) (constantI S_ 32 4#32),
    TRef.unary (TRef.of (T := ⟨S_, .i32⟩) main_call0_call0_c_35) (TRef.of (T := ⟨S4x2048x2048, .i32⟩) main_call0_call0_v140) (broadcastInDim S4x2048x2048 ![] bcast_S_S4x2048x2048),
    TRef.binary (TRef.of (T := ⟨S4x2048x2048, .i32⟩) main_call0_call0_v139) (TRef.of (T := ⟨S4x2048x2048, .i32⟩) main_call0_call0_v140) (TRef.of (T := ⟨S4x2048x2048, .i32⟩) main_call0_call0_v141) addi,
    TRef.binary (TRef.of (T := ⟨S4x2048x2048, .i32⟩) main_call0_call0_v137) (TRef.of (T := ⟨S4x2048x2048, .i32⟩) main_call0_call0_v141) (TRef.of (T := ⟨S4x2048x2048, .i32⟩) main_call0_call0_v142) addi,
    TRef.nullary (TRef.of (T := ⟨S_, .i32⟩) main_call0_call0_c_36) (constantI S_ 32 13#32),
    TRef.unary (TRef.of (T := ⟨S_, .i32⟩) main_call0_call0_c_36) (TRef.of (T := ⟨S4x2048x2048, .i32⟩) main_call0_call0_v143) (broadcastInDim S4x2048x2048 ![] bcast_S_S4x2048x2048),
    TRef.binary (TRef.of (T := ⟨S4x2048x2048, .i32⟩) main_call0_call0_v141) (TRef.of (T := ⟨S4x2048x2048, .i32⟩) main_call0_call0_v143) (TRef.of (T := ⟨S4x2048x2048, .i32⟩) main_call0_call0_v144) Host.shli,
    TRef.nullary (TRef.of (T := ⟨S_, .i32⟩) main_call0_call0_c_37) (constantI S_ 32 19#32),
    TRef.unary (TRef.of (T := ⟨S_, .i32⟩) main_call0_call0_c_37) (TRef.of (T := ⟨S4x2048x2048, .i32⟩) main_call0_call0_v145) (broadcastInDim S4x2048x2048 ![] bcast_S_S4x2048x2048),
    TRef.binary (TRef.of (T := ⟨S4x2048x2048, .i32⟩) main_call0_call0_v141) (TRef.of (T := ⟨S4x2048x2048, .i32⟩) main_call0_call0_v145) (TRef.of (T := ⟨S4x2048x2048, .i32⟩) main_call0_call0_v146) Host.shrui,
    TRef.binary (TRef.of (T := ⟨S4x2048x2048, .i32⟩) main_call0_call0_v144) (TRef.of (T := ⟨S4x2048x2048, .i32⟩) main_call0_call0_v146) (TRef.of (T := ⟨S4x2048x2048, .i32⟩) main_call0_call0_v147) ori,
    TRef.binary (TRef.of (T := ⟨S4x2048x2048, .i32⟩) main_call0_call0_v142) (TRef.of (T := ⟨S4x2048x2048, .i32⟩) main_call0_call0_v147) (TRef.of (T := ⟨S4x2048x2048, .i32⟩) main_call0_call0_v148) xori,
    TRef.binary (TRef.of (T := ⟨S4x2048x2048, .i32⟩) main_call0_call0_v142) (TRef.of (T := ⟨S4x2048x2048, .i32⟩) main_call0_call0_v148) (TRef.of (T := ⟨S4x2048x2048, .i32⟩) main_call0_call0_v149) addi,
    TRef.nullary (TRef.of (T := ⟨S_, .i32⟩) main_call0_call0_c_38) (constantI S_ 32 15#32),
    TRef.unary (TRef.of (T := ⟨S_, .i32⟩) main_call0_call0_c_38) (TRef.of (T := ⟨S4x2048x2048, .i32⟩) main_call0_call0_v150) (broadcastInDim S4x2048x2048 ![] bcast_S_S4x2048x2048),
    TRef.binary (TRef.of (T := ⟨S4x2048x2048, .i32⟩) main_call0_call0_v148) (TRef.of (T := ⟨S4x2048x2048, .i32⟩) main_call0_call0_v150) (TRef.of (T := ⟨S4x2048x2048, .i32⟩) main_call0_call0_v151) Host.shli,
    TRef.nullary (TRef.of (T := ⟨S_, .i32⟩) main_call0_call0_c_39) (constantI S_ 32 17#32),
    TRef.unary (TRef.of (T := ⟨S_, .i32⟩) main_call0_call0_c_39) (TRef.of (T := ⟨S4x2048x2048, .i32⟩) main_call0_call0_v152) (broadcastInDim S4x2048x2048 ![] bcast_S_S4x2048x2048),
    TRef.binary (TRef.of (T := ⟨S4x2048x2048, .i32⟩) main_call0_call0_v148) (TRef.of (T := ⟨S4x2048x2048, .i32⟩) main_call0_call0_v152) (TRef.of (T := ⟨S4x2048x2048, .i32⟩) main_call0_call0_v153) Host.shrui,
    TRef.binary (TRef.of (T := ⟨S4x2048x2048, .i32⟩) main_call0_call0_v151) (TRef.of (T := ⟨S4x2048x2048, .i32⟩) main_call0_call0_v153) (TRef.of (T := ⟨S4x2048x2048, .i32⟩) main_call0_call0_v154) ori,
    TRef.binary (TRef.of (T := ⟨S4x2048x2048, .i32⟩) main_call0_call0_v149) (TRef.of (T := ⟨S4x2048x2048, .i32⟩) main_call0_call0_v154) (TRef.of (T := ⟨S4x2048x2048, .i32⟩) main_call0_call0_v155) xori,
    TRef.binary (TRef.of (T := ⟨S4x2048x2048, .i32⟩) main_call0_call0_v149) (TRef.of (T := ⟨S4x2048x2048, .i32⟩) main_call0_call0_v155) (TRef.of (T := ⟨S4x2048x2048, .i32⟩) main_call0_call0_v156) addi,
    TRef.nullary (TRef.of (T := ⟨S_, .i32⟩) main_call0_call0_c_40) (constantI S_ 32 26#32),
    TRef.unary (TRef.of (T := ⟨S_, .i32⟩) main_call0_call0_c_40) (TRef.of (T := ⟨S4x2048x2048, .i32⟩) main_call0_call0_v157) (broadcastInDim S4x2048x2048 ![] bcast_S_S4x2048x2048),
    TRef.binary (TRef.of (T := ⟨S4x2048x2048, .i32⟩) main_call0_call0_v155) (TRef.of (T := ⟨S4x2048x2048, .i32⟩) main_call0_call0_v157) (TRef.of (T := ⟨S4x2048x2048, .i32⟩) main_call0_call0_v158) Host.shli,
    TRef.nullary (TRef.of (T := ⟨S_, .i32⟩) main_call0_call0_c_41) (constantI S_ 32 6#32),
    TRef.unary (TRef.of (T := ⟨S_, .i32⟩) main_call0_call0_c_41) (TRef.of (T := ⟨S4x2048x2048, .i32⟩) main_call0_call0_v159) (broadcastInDim S4x2048x2048 ![] bcast_S_S4x2048x2048) ]

/-- Operations 300 to 329. -/
abbrev steps_1_8 : List (HloOp τ sig (Elt F)) :=
  [ TRef.binary (TRef.of (T := ⟨S4x2048x2048, .i32⟩) main_call0_call0_v155) (TRef.of (T := ⟨S4x2048x2048, .i32⟩) main_call0_call0_v159) (TRef.of (T := ⟨S4x2048x2048, .i32⟩) main_call0_call0_v160) Host.shrui,
    TRef.binary (TRef.of (T := ⟨S4x2048x2048, .i32⟩) main_call0_call0_v158) (TRef.of (T := ⟨S4x2048x2048, .i32⟩) main_call0_call0_v160) (TRef.of (T := ⟨S4x2048x2048, .i32⟩) main_call0_call0_v161) ori,
    TRef.binary (TRef.of (T := ⟨S4x2048x2048, .i32⟩) main_call0_call0_v156) (TRef.of (T := ⟨S4x2048x2048, .i32⟩) main_call0_call0_v161) (TRef.of (T := ⟨S4x2048x2048, .i32⟩) main_call0_call0_v162) xori,
    TRef.binary (TRef.of (T := ⟨S4x2048x2048, .i32⟩) main_call0_call0_v156) (TRef.of (T := ⟨S4x2048x2048, .i32⟩) main_call0_call0_v162) (TRef.of (T := ⟨S4x2048x2048, .i32⟩) main_call0_call0_v163) addi,
    TRef.nullary (TRef.of (T := ⟨S_, .i32⟩) main_call0_call0_c_42) (constantI S_ 32 6#32),
    TRef.unary (TRef.of (T := ⟨S_, .i32⟩) main_call0_call0_c_42) (TRef.of (T := ⟨S4x2048x2048, .i32⟩) main_call0_call0_v164) (broadcastInDim S4x2048x2048 ![] bcast_S_S4x2048x2048),
    TRef.binary (TRef.of (T := ⟨S4x2048x2048, .i32⟩) main_call0_call0_v162) (TRef.of (T := ⟨S4x2048x2048, .i32⟩) main_call0_call0_v164) (TRef.of (T := ⟨S4x2048x2048, .i32⟩) main_call0_call0_v165) Host.shli,
    TRef.nullary (TRef.of (T := ⟨S_, .i32⟩) main_call0_call0_c_43) (constantI S_ 32 26#32),
    TRef.unary (TRef.of (T := ⟨S_, .i32⟩) main_call0_call0_c_43) (TRef.of (T := ⟨S4x2048x2048, .i32⟩) main_call0_call0_v166) (broadcastInDim S4x2048x2048 ![] bcast_S_S4x2048x2048),
    TRef.binary (TRef.of (T := ⟨S4x2048x2048, .i32⟩) main_call0_call0_v162) (TRef.of (T := ⟨S4x2048x2048, .i32⟩) main_call0_call0_v166) (TRef.of (T := ⟨S4x2048x2048, .i32⟩) main_call0_call0_v167) Host.shrui,
    TRef.binary (TRef.of (T := ⟨S4x2048x2048, .i32⟩) main_call0_call0_v165) (TRef.of (T := ⟨S4x2048x2048, .i32⟩) main_call0_call0_v167) (TRef.of (T := ⟨S4x2048x2048, .i32⟩) main_call0_call0_v168) ori,
    TRef.binary (TRef.of (T := ⟨S4x2048x2048, .i32⟩) main_call0_call0_v163) (TRef.of (T := ⟨S4x2048x2048, .i32⟩) main_call0_call0_v168) (TRef.of (T := ⟨S4x2048x2048, .i32⟩) main_call0_call0_v169) xori,
    TRef.unary (TRef.of (T := ⟨S_, .i32⟩) main_call0_call0_v1) (TRef.of (T := ⟨S4x2048x2048, .i32⟩) main_call0_call0_v170) (broadcastInDim S4x2048x2048 ![] bcast_S_S4x2048x2048),
    TRef.binary (TRef.of (T := ⟨S4x2048x2048, .i32⟩) main_call0_call0_v163) (TRef.of (T := ⟨S4x2048x2048, .i32⟩) main_call0_call0_v170) (TRef.of (T := ⟨S4x2048x2048, .i32⟩) main_call0_v23_0) addi,
    TRef.unary (TRef.of (T := ⟨S_, .i32⟩) main_call0_v5) (TRef.of (T := ⟨S4x2048x2048, .i32⟩) main_call0_call0_v172) (broadcastInDim S4x2048x2048 ![] bcast_S_S4x2048x2048),
    TRef.binary (TRef.of (T := ⟨S4x2048x2048, .i32⟩) main_call0_call0_v169) (TRef.of (T := ⟨S4x2048x2048, .i32⟩) main_call0_call0_v172) (TRef.of (T := ⟨S4x2048x2048, .i32⟩) main_call0_call0_v173) addi,
    TRef.nullary (TRef.of (T := ⟨S_, .i32⟩) main_call0_call0_c_44) (constantI S_ 32 5#32),
    TRef.unary (TRef.of (T := ⟨S_, .i32⟩) main_call0_call0_c_44) (TRef.of (T := ⟨S4x2048x2048, .i32⟩) main_call0_call0_v174) (broadcastInDim S4x2048x2048 ![] bcast_S_S4x2048x2048),
    TRef.binary (TRef.of (T := ⟨S4x2048x2048, .i32⟩) main_call0_call0_v173) (TRef.of (T := ⟨S4x2048x2048, .i32⟩) main_call0_call0_v174) (TRef.of (T := ⟨S4x2048x2048, .i32⟩) main_call0_v23_1) addi,
    TRef.binary (TRef.of (T := ⟨S4x2048x2048, .i32⟩) main_call0_v23_0) (TRef.of (T := ⟨S4x2048x2048, .i32⟩) main_call0_v23_1) (TRef.of (T := ⟨S4x2048x2048, .i32⟩) main_call0_v24) xori,
    TRef.nullary (TRef.of (T := ⟨S_, .i32⟩) main_call0_c_3) (constantI S_ 32 9#32),
    TRef.unary (TRef.of (T := ⟨S_, .i32⟩) main_call0_c_3) (TRef.of (T := ⟨S4x2048x2048, .i32⟩) main_call0_v25) (broadcastInDim S4x2048x2048 ![] bcast_S_S4x2048x2048),
    TRef.binary (TRef.of (T := ⟨S4x2048x2048, .i32⟩) main_call0_v24) (TRef.of (T := ⟨S4x2048x2048, .i32⟩) main_call0_v25) (TRef.of (T := ⟨S4x2048x2048, .i32⟩) main_call0_v26) Host.shrui,
    TRef.nullary (TRef.of (T := ⟨S_, .i32⟩) main_call0_c_4) (constantI S_ 32 1065353216#32),
    TRef.unary (TRef.of (T := ⟨S_, .i32⟩) main_call0_c_4) (TRef.of (T := ⟨S4x2048x2048, .i32⟩) main_call0_v27) (broadcastInDim S4x2048x2048 ![] bcast_S_S4x2048x2048),
    TRef.binary (TRef.of (T := ⟨S4x2048x2048, .i32⟩) main_call0_v26) (TRef.of (T := ⟨S4x2048x2048, .i32⟩) main_call0_v27) (TRef.of (T := ⟨S4x2048x2048, .i32⟩) main_call0_v28) ori,
    TRef.unary (TRef.of (T := ⟨S4x2048x2048, .i32⟩) main_call0_v28) (TRef.of (T := ⟨S4x2048x2048, .f32⟩) main_call0_v29) (bitcastToFloat (F := F) .f32),
    TRef.nullary (TRef.of (T := ⟨S_, .f32⟩) main_call0_cst) (constant S_ .f32 0x3F800000#32),
    TRef.unary (TRef.of (T := ⟨S_, .f32⟩) main_call0_cst) (TRef.of (T := ⟨S4x2048x2048, .f32⟩) main_call0_v30) (broadcastInDim S4x2048x2048 ![] bcast_S_S4x2048x2048),
    TRef.binary (TRef.of (T := ⟨S4x2048x2048, .f32⟩) main_call0_v29) (TRef.of (T := ⟨S4x2048x2048, .f32⟩) main_call0_v30) (TRef.of (T := ⟨S4x2048x2048, .f32⟩) main_call0_v31) subf ]

/-- Operations 330 to 359. -/
abbrev steps_1_9 : List (HloOp τ sig (Elt F)) :=
  [ TRef.binary (TRef.of (T := ⟨S1x1x1, .f32⟩) main_call0_v3) (TRef.of (T := ⟨S1x1x1, .f32⟩) main_call0_v2) (TRef.of (T := ⟨S1x1x1, .f32⟩) main_call0_v32) subf,
    TRef.unary (TRef.of (T := ⟨S1x1x1, .f32⟩) main_call0_v32) (TRef.of (T := ⟨S4x2048x2048, .f32⟩) main_call0_v33) (broadcastInDim S4x2048x2048 ![0, 1, 2] bcast_S1x1x1_S4x2048x2048_0_1_2),
    TRef.binary (TRef.of (T := ⟨S4x2048x2048, .f32⟩) main_call0_v31) (TRef.of (T := ⟨S4x2048x2048, .f32⟩) main_call0_v33) (TRef.of (T := ⟨S4x2048x2048, .f32⟩) main_call0_v34) mulf,
    TRef.unary (TRef.of (T := ⟨S1x1x1, .f32⟩) main_call0_v2) (TRef.of (T := ⟨S4x2048x2048, .f32⟩) main_call0_v35) (broadcastInDim S4x2048x2048 ![0, 1, 2] bcast_S1x1x1_S4x2048x2048_0_1_2),
    TRef.binary (TRef.of (T := ⟨S4x2048x2048, .f32⟩) main_call0_v34) (TRef.of (T := ⟨S4x2048x2048, .f32⟩) main_call0_v35) (TRef.of (T := ⟨S4x2048x2048, .f32⟩) main_call0_v36) addf,
    TRef.unary (TRef.of (T := ⟨S1x1x1, .f32⟩) main_call0_v2) (TRef.of (T := ⟨S4x2048x2048, .f32⟩) main_call0_v37) (broadcastInDim S4x2048x2048 ![0, 1, 2] bcast_S1x1x1_S4x2048x2048_0_1_2),
    TRef.binary (TRef.of (T := ⟨S4x2048x2048, .f32⟩) main_call0_v37) (TRef.of (T := ⟨S4x2048x2048, .f32⟩) main_call0_v36) (TRef.of (T := ⟨S4x2048x2048, .f32⟩) main_v53) maximumf,
    unary main_v45 main_v54 ((extractStridedSlice S4x2048x2048x1 ![0, 0, 0, 1] · slices_S4x2048x2048x2_S4x2048x2048x1_0_0_0_1) : (⟨S4x2048x2048x2, .f32⟩ : BufTy).Contents (Elt F) → (⟨S4x2048x2048x1, .f32⟩ : BufTy).Contents (Elt F)),
    reshape main_v54 main_v55 (rfl : (.f32 : EltTy) = .f32) shapeCasts_S4x2048x2048x1_S4x2048x2048,
    binary main_v53 main_v55 main_v56 (cmpf .olt : (⟨S4x2048x2048, .f32⟩ : BufTy).Contents (Elt F) → (⟨S4x2048x2048, .f32⟩ : BufTy).Contents (Elt F) → (⟨S4x2048x2048, .i1⟩ : BufTy).Contents (Elt F)),
    unary main_v56 main_v57 ((extui 32 · natLt_1_32) : (⟨S4x2048x2048, .i1⟩ : BufTy).Contents (Elt F) → (⟨S4x2048x2048, .i32⟩ : BufTy).Contents (Elt F)),
    unary main_v19 main_v58 ((extractStridedSlice S1x2x2 ![0, 0, 0] · slices_S1000x2x2_S1x2x2_0_0_0) : (⟨S1000x2x2, .f32⟩ : BufTy).Contents (Elt F) → (⟨S1x2x2, .f32⟩ : BufTy).Contents (Elt F)),
    reshape main_v58 main_v59 (rfl : (.f32 : EltTy) = .f32) shapeCasts_S1x2x2_S2x2,
    nullary main_c_15 (constantI S_ 32 1#32),
    unary main_c_15 main_v60 (broadcastInDim S4 ![] bcast_S_S4 : (⟨S_, .i32⟩ : BufTy).Contents (Elt F) → (⟨S4, .i32⟩ : BufTy).Contents (Elt F)),
    binary main_v21 main_v60 main_v61 (subi : (⟨S4, .i32⟩ : BufTy).Contents (Elt F) → (⟨S4, .i32⟩ : BufTy).Contents (Elt F) → (⟨S4, .i32⟩ : BufTy).Contents (Elt F)),
    nullary main_c_16 (constantI S_ 32 0#32),
    unary main_c_16 main_v62 (broadcastInDim S4 ![] bcast_S_S4 : (⟨S_, .i32⟩ : BufTy).Contents (Elt F) → (⟨S4, .i32⟩ : BufTy).Contents (Elt F)),
    binary main_v61 main_v62 main_v63 (cmpi .slt : (⟨S4, .i32⟩ : BufTy).Contents (Elt F) → (⟨S4, .i32⟩ : BufTy).Contents (Elt F) → (⟨S4, .i1⟩ : BufTy).Contents (Elt F)),
    nullary main_c_17 (constantI S_ 32 1000#32),
    unary main_c_17 main_v64 (broadcastInDim S4 ![] bcast_S_S4 : (⟨S_, .i32⟩ : BufTy).Contents (Elt F) → (⟨S4, .i32⟩ : BufTy).Contents (Elt F)),
    binary main_v61 main_v64 main_v65 (addi : (⟨S4, .i32⟩ : BufTy).Contents (Elt F) → (⟨S4, .i32⟩ : BufTy).Contents (Elt F) → (⟨S4, .i32⟩ : BufTy).Contents (Elt F)),
    ternary main_v63 main_v65 main_v61 main_v66 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v66 main_v67 (broadcastInDim S4x1 ![0] bcast_S4_S4x1_0 : (⟨S4, .i32⟩ : BufTy).Contents (Elt F) → (⟨S4x1, .i32⟩ : BufTy).Contents (Elt F)),
    binary main_v19 main_v67 main_v68 ((fun x i => Host.gather gather_S1000x2x2_S4x1_S4x2x2_12_0_n_n_0_1_122 x i) : (⟨S1000x2x2, .f32⟩ : BufTy).Contents (Elt F) → (⟨S4x1, .i32⟩ : BufTy).Contents (Elt F) → (⟨S4x2x2, .f32⟩ : BufTy).Contents (Elt F)),
    nullary main_c_18 (constantI S_ 32 0#32),
    unary main_c_18 main_v69 (broadcastInDim S4 ![] bcast_S_S4 : (⟨S_, .i32⟩ : BufTy).Contents (Elt F) → (⟨S4, .i32⟩ : BufTy).Contents (Elt F)),
    binary main_v21 main_v69 main_v70 (cmpi .slt : (⟨S4, .i32⟩ : BufTy).Contents (Elt F) → (⟨S4, .i32⟩ : BufTy).Contents (Elt F) → (⟨S4, .i1⟩ : BufTy).Contents (Elt F)),
    nullary main_c_19 (constantI S_ 32 1000#32),
    unary main_c_19 main_v71 (broadcastInDim S4 ![] bcast_S_S4 : (⟨S_, .i32⟩ : BufTy).Contents (Elt F) → (⟨S4, .i32⟩ : BufTy).Contents (Elt F)) ]

/-- Operations 360 to 385. -/
abbrev steps_1_10 : List (HloOp τ sig (Elt F)) :=
  [ binary main_v21 main_v71 main_v72 (addi : (⟨S4, .i32⟩ : BufTy).Contents (Elt F) → (⟨S4, .i32⟩ : BufTy).Contents (Elt F) → (⟨S4, .i32⟩ : BufTy).Contents (Elt F)),
    ternary main_v70 main_v72 main_v21 main_v73 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v73 main_v74 (broadcastInDim S4x1 ![0] bcast_S4_S4x1_0 : (⟨S4, .i32⟩ : BufTy).Contents (Elt F) → (⟨S4x1, .i32⟩ : BufTy).Contents (Elt F)),
    binary main_v19 main_v74 main_v75 ((fun x i => Host.gather gather_S1000x2x2_S4x1_S4x2x2_12_0_n_n_0_1_122 x i) : (⟨S1000x2x2, .f32⟩ : BufTy).Contents (Elt F) → (⟨S4x1, .i32⟩ : BufTy).Contents (Elt F) → (⟨S4x2x2, .f32⟩ : BufTy).Contents (Elt F)),
    nullary main_c_20 (constantI S_ 32 0#32),
    unary main_c_20 main_v76 (broadcastInDim S4x2048x2048 ![] bcast_S_S4x2048x2048 : (⟨S_, .i32⟩ : BufTy).Contents (Elt F) → (⟨S4x2048x2048, .i32⟩ : BufTy).Contents (Elt F)),
    binary main_v57 main_v76 main_v77 (cmpi .slt : (⟨S4x2048x2048, .i32⟩ : BufTy).Contents (Elt F) → (⟨S4x2048x2048, .i32⟩ : BufTy).Contents (Elt F) → (⟨S4x2048x2048, .i1⟩ : BufTy).Contents (Elt F)),
    nullary main_c_21 (constantI S_ 32 2#32),
    unary main_c_21 main_v78 (broadcastInDim S4x2048x2048 ![] bcast_S_S4x2048x2048 : (⟨S_, .i32⟩ : BufTy).Contents (Elt F) → (⟨S4x2048x2048, .i32⟩ : BufTy).Contents (Elt F)),
    binary main_v57 main_v78 main_v79 (addi : (⟨S4x2048x2048, .i32⟩ : BufTy).Contents (Elt F) → (⟨S4x2048x2048, .i32⟩ : BufTy).Contents (Elt F) → (⟨S4x2048x2048, .i32⟩ : BufTy).Contents (Elt F)),
    ternary main_v77 main_v79 main_v57 main_v80 (select : (⟨S4x2048x2048, .i1⟩ : BufTy).Contents (Elt F) → (⟨S4x2048x2048, .i32⟩ : BufTy).Contents (Elt F) → (⟨S4x2048x2048, .i32⟩ : BufTy).Contents (Elt F) → (⟨S4x2048x2048, .i32⟩ : BufTy).Contents (Elt F)),
    unary main_v80 main_v81 (broadcastInDim S4x2048x2048x1 ![0, 1, 2] bcast_S4x2048x2048_S4x2048x2048x1_0_1_2 : (⟨S4x2048x2048, .i32⟩ : BufTy).Contents (Elt F) → (⟨S4x2048x2048x1, .i32⟩ : BufTy).Contents (Elt F)),
    binary main_v59 main_v81 main_v82 ((fun x i => Host.gather gather_S2x2_S4x2048x2048x1_S4x2048x2048x2_3_0_n_n_0_3_12 x i) : (⟨S2x2, .f32⟩ : BufTy).Contents (Elt F) → (⟨S4x2048x2048x1, .i32⟩ : BufTy).Contents (Elt F) → (⟨S4x2048x2048x2, .f32⟩ : BufTy).Contents (Elt F)),
    nullary main_c_22 (constantI S_ 32 0#32),
    unary main_c_22 main_v83 (broadcastInDim S4x1x1 ![] bcast_S_S4x1x1 : (⟨S_, .i32⟩ : BufTy).Contents (Elt F) → (⟨S4x1x1, .i32⟩ : BufTy).Contents (Elt F)),
    binary main_v23 main_v83 main_v84 (cmpi .slt : (⟨S4x1x1, .i32⟩ : BufTy).Contents (Elt F) → (⟨S4x1x1, .i32⟩ : BufTy).Contents (Elt F) → (⟨S4x1x1, .i1⟩ : BufTy).Contents (Elt F)),
    nullary main_c_23 (constantI S_ 32 4#32),
    unary main_c_23 main_v85 (broadcastInDim S4x1x1 ![] bcast_S_S4x1x1 : (⟨S_, .i32⟩ : BufTy).Contents (Elt F) → (⟨S4x1x1, .i32⟩ : BufTy).Contents (Elt F)),
    binary main_v23 main_v85 main_v86 (addi : (⟨S4x1x1, .i32⟩ : BufTy).Contents (Elt F) → (⟨S4x1x1, .i32⟩ : BufTy).Contents (Elt F) → (⟨S4x1x1, .i32⟩ : BufTy).Contents (Elt F)),
    ternary main_v84 main_v86 main_v23 main_v87 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)),
    nullary main_c_24 (constantI S_ 32 0#32),
    unary main_c_24 main_v88 (broadcastInDim S4x2048x2048 ![] bcast_S_S4x2048x2048 : (⟨S_, .i32⟩ : BufTy).Contents (Elt F) → (⟨S4x2048x2048, .i32⟩ : BufTy).Contents (Elt F)),
    binary main_arg2 main_v88 main_v89 (cmpi .slt : (⟨S4x2048x2048, .i32⟩ : BufTy).Contents (Elt F) → (⟨S4x2048x2048, .i32⟩ : BufTy).Contents (Elt F) → (⟨S4x2048x2048, .i1⟩ : BufTy).Contents (Elt F)),
    nullary main_c_25 (constantI S_ 32 2#32),
    unary main_c_25 main_v90 (broadcastInDim S4x2048x2048 ![] bcast_S_S4x2048x2048 : (⟨S_, .i32⟩ : BufTy).Contents (Elt F) → (⟨S4x2048x2048, .i32⟩ : BufTy).Contents (Elt F)),
    binary main_arg2 main_v90 main_v91 (addi : (⟨S4x2048x2048, .i32⟩ : BufTy).Contents (Elt F) → (⟨S4x2048x2048, .i32⟩ : BufTy).Contents (Elt F) → (⟨S4x2048x2048, .i32⟩ : BufTy).Contents (Elt F)) ]

/-- Operations 386 to 415. -/
abbrev steps_2_0 : List (HloOp τ sig (Elt F)) :=
  [ ternary main_v89 main_v91 main_arg2 main_v92 (select : (⟨S4x2048x2048, .i1⟩ : BufTy).Contents (Elt F) → (⟨S4x2048x2048, .i32⟩ : BufTy).Contents (Elt F) → (⟨S4x2048x2048, .i32⟩ : BufTy).Contents (Elt F) → (⟨S4x2048x2048, .i32⟩ : BufTy).Contents (Elt F)),
    unary main_v87 main_v93 (broadcastInDim S4x2048x2048 ![0, 1, 2] bcast_S4x1x1_S4x2048x2048_0_1_2 : (⟨S4x1x1, .i32⟩ : BufTy).Contents (Elt F) → (⟨S4x2048x2048, .i32⟩ : BufTy).Contents (Elt F)),
    unary main_v93 main_v94 (broadcastInDim S4x2048x2048x1 ![0, 1, 2] bcast_S4x2048x2048_S4x2048x2048x1_0_1_2 : (⟨S4x2048x2048, .i32⟩ : BufTy).Contents (Elt F) → (⟨S4x2048x2048x1, .i32⟩ : BufTy).Contents (Elt F)),
    unary main_v92 main_v95 (broadcastInDim S4x2048x2048x1 ![0, 1, 2] bcast_S4x2048x2048_S4x2048x2048x1_0_1_2 : (⟨S4x2048x2048, .i32⟩ : BufTy).Contents (Elt F) → (⟨S4x2048x2048x1, .i32⟩ : BufTy).Contents (Elt F)),
    binary main_v94 main_v95 main_v96 (cat_main_v96 (F := F)),
    binary main_v68 main_v96 main_v97 ((fun x i => Host.gather gather_S4x2x2_S4x2048x2048x2_S4x2048x2048x2_3_01_n_n_01_3_112 x i) : (⟨S4x2x2, .f32⟩ : BufTy).Contents (Elt F) → (⟨S4x2048x2048x2, .i32⟩ : BufTy).Contents (Elt F) → (⟨S4x2048x2048x2, .f32⟩ : BufTy).Contents (Elt F)),
    nullary main_c_26 (constantI S_ 32 0#32),
    unary main_c_26 main_v98 (broadcastInDim S4x1x1 ![] bcast_S_S4x1x1 : (⟨S_, .i32⟩ : BufTy).Contents (Elt F) → (⟨S4x1x1, .i32⟩ : BufTy).Contents (Elt F)),
    binary main_v23 main_v98 main_v99 (cmpi .slt : (⟨S4x1x1, .i32⟩ : BufTy).Contents (Elt F) → (⟨S4x1x1, .i32⟩ : BufTy).Contents (Elt F) → (⟨S4x1x1, .i1⟩ : BufTy).Contents (Elt F)),
    nullary main_c_27 (constantI S_ 32 4#32),
    unary main_c_27 main_v100 (broadcastInDim S4x1x1 ![] bcast_S_S4x1x1 : (⟨S_, .i32⟩ : BufTy).Contents (Elt F) → (⟨S4x1x1, .i32⟩ : BufTy).Contents (Elt F)),
    binary main_v23 main_v100 main_v101 (addi : (⟨S4x1x1, .i32⟩ : BufTy).Contents (Elt F) → (⟨S4x1x1, .i32⟩ : BufTy).Contents (Elt F) → (⟨S4x1x1, .i32⟩ : BufTy).Contents (Elt F)),
    ternary main_v99 main_v101 main_v23 main_v102 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)),
    nullary main_c_28 (constantI S_ 32 0#32),
    unary main_c_28 main_v103 (broadcastInDim S4x2048x2048 ![] bcast_S_S4x2048x2048 : (⟨S_, .i32⟩ : BufTy).Contents (Elt F) → (⟨S4x2048x2048, .i32⟩ : BufTy).Contents (Elt F)),
    binary main_arg2 main_v103 main_v104 (cmpi .slt : (⟨S4x2048x2048, .i32⟩ : BufTy).Contents (Elt F) → (⟨S4x2048x2048, .i32⟩ : BufTy).Contents (Elt F) → (⟨S4x2048x2048, .i1⟩ : BufTy).Contents (Elt F)),
    nullary main_c_29 (constantI S_ 32 2#32),
    unary main_c_29 main_v105 (broadcastInDim S4x2048x2048 ![] bcast_S_S4x2048x2048 : (⟨S_, .i32⟩ : BufTy).Contents (Elt F) → (⟨S4x2048x2048, .i32⟩ : BufTy).Contents (Elt F)),
    binary main_arg2 main_v105 main_v106 (addi : (⟨S4x2048x2048, .i32⟩ : BufTy).Contents (Elt F) → (⟨S4x2048x2048, .i32⟩ : BufTy).Contents (Elt F) → (⟨S4x2048x2048, .i32⟩ : BufTy).Contents (Elt F)),
    ternary main_v104 main_v106 main_arg2 main_v107 (select : (⟨S4x2048x2048, .i1⟩ : BufTy).Contents (Elt F) → (⟨S4x2048x2048, .i32⟩ : BufTy).Contents (Elt F) → (⟨S4x2048x2048, .i32⟩ : BufTy).Contents (Elt F) → (⟨S4x2048x2048, .i32⟩ : BufTy).Contents (Elt F)),
    nullary main_c_30 (constantI S_ 32 0#32),
    unary main_c_30 main_v108 (broadcastInDim S4x2048x2048 ![] bcast_S_S4x2048x2048 : (⟨S_, .i32⟩ : BufTy).Contents (Elt F) → (⟨S4x2048x2048, .i32⟩ : BufTy).Contents (Elt F)),
    binary main_v57 main_v108 main_v109 (cmpi .slt : (⟨S4x2048x2048, .i32⟩ : BufTy).Contents (Elt F) → (⟨S4x2048x2048, .i32⟩ : BufTy).Contents (Elt F) → (⟨S4x2048x2048, .i1⟩ : BufTy).Contents (Elt F)),
    nullary main_c_31 (constantI S_ 32 2#32),
    unary main_c_31 main_v110 (broadcastInDim S4x2048x2048 ![] bcast_S_S4x2048x2048 : (⟨S_, .i32⟩ : BufTy).Contents (Elt F) → (⟨S4x2048x2048, .i32⟩ : BufTy).Contents (Elt F)),
    binary main_v57 main_v110 main_v111 (addi : (⟨S4x2048x2048, .i32⟩ : BufTy).Contents (Elt F) → (⟨S4x2048x2048, .i32⟩ : BufTy).Contents (Elt F) → (⟨S4x2048x2048, .i32⟩ : BufTy).Contents (Elt F)),
    ternary main_v109 main_v111 main_v57 main_v112 (select : (⟨S4x2048x2048, .i1⟩ : BufTy).Contents (Elt F) → (⟨S4x2048x2048, .i32⟩ : BufTy).Contents (Elt F) → (⟨S4x2048x2048, .i32⟩ : BufTy).Contents (Elt F) → (⟨S4x2048x2048, .i32⟩ : BufTy).Contents (Elt F)),
    unary main_v102 main_v113 (broadcastInDim S4x2048x2048 ![0, 1, 2] bcast_S4x1x1_S4x2048x2048_0_1_2 : (⟨S4x1x1, .i32⟩ : BufTy).Contents (Elt F) → (⟨S4x2048x2048, .i32⟩ : BufTy).Contents (Elt F)),
    unary main_v113 main_v114 (broadcastInDim S4x2048x2048x1 ![0, 1, 2] bcast_S4x2048x2048_S4x2048x2048x1_0_1_2 : (⟨S4x2048x2048, .i32⟩ : BufTy).Contents (Elt F) → (⟨S4x2048x2048x1, .i32⟩ : BufTy).Contents (Elt F)),
    unary main_v107 main_v115 (broadcastInDim S4x2048x2048x1 ![0, 1, 2] bcast_S4x2048x2048_S4x2048x2048x1_0_1_2 : (⟨S4x2048x2048, .i32⟩ : BufTy).Contents (Elt F) → (⟨S4x2048x2048x1, .i32⟩ : BufTy).Contents (Elt F)) ]

/-- Operations 416 to 445. -/
abbrev steps_2_1 : List (HloOp τ sig (Elt F)) :=
  [ unary main_v112 main_v116 (broadcastInDim S4x2048x2048x1 ![0, 1, 2] bcast_S4x2048x2048_S4x2048x2048x1_0_1_2 : (⟨S4x2048x2048, .i32⟩ : BufTy).Contents (Elt F) → (⟨S4x2048x2048x1, .i32⟩ : BufTy).Contents (Elt F)),
    nary ![main_v114, main_v115, main_v116] main_v117 (fun u => cat_main_v117 (F := F) (u 0) (u 1) (u 2)),
    binary main_v75 main_v117 main_v118 ((fun x i => Host.gather gather_S4x2x2_S4x2048x2048x3_S4x2048x2048_n_012_n_n_012_3_111 x i) : (⟨S4x2x2, .f32⟩ : BufTy).Contents (Elt F) → (⟨S4x2048x2048x3, .i32⟩ : BufTy).Contents (Elt F) → (⟨S4x2048x2048, .f32⟩ : BufTy).Contents (Elt F)),
    binary main_v82 main_v97 main_v119 (mulf : (⟨S4x2048x2048x2, .f32⟩ : BufTy).Contents (Elt F) → (⟨S4x2048x2048x2, .f32⟩ : BufTy).Contents (Elt F) → (⟨S4x2048x2048x2, .f32⟩ : BufTy).Contents (Elt F)),
    unary main_v118 main_v120 (broadcastInDim S4x2048x2048x1 ![0, 1, 2] bcast_S4x2048x2048_S4x2048x2048x1_0_1_2 : (⟨S4x2048x2048, .f32⟩ : BufTy).Contents (Elt F) → (⟨S4x2048x2048x1, .f32⟩ : BufTy).Contents (Elt F)),
    unary main_v120 main_v121 (broadcastInDim S4x2048x2048x2 ![0, 1, 2, 3] bcast_S4x2048x2048x1_S4x2048x2048x2_0_1_2_3 : (⟨S4x2048x2048x1, .f32⟩ : BufTy).Contents (Elt F) → (⟨S4x2048x2048x2, .f32⟩ : BufTy).Contents (Elt F)),
    binary main_v119 main_v121 main_v122 (Host.divf : (⟨S4x2048x2048x2, .f32⟩ : BufTy).Contents (Elt F) → (⟨S4x2048x2048x2, .f32⟩ : BufTy).Contents (Elt F) → (⟨S4x2048x2048x2, .f32⟩ : BufTy).Contents (Elt F)),
    unary main_v122 main_v123 ((extractStridedSlice S4x2048x2048x1 ![0, 0, 0, 1] · slices_S4x2048x2048x2_S4x2048x2048x1_0_0_0_1) : (⟨S4x2048x2048x2, .f32⟩ : BufTy).Contents (Elt F) → (⟨S4x2048x2048x1, .f32⟩ : BufTy).Contents (Elt F)),
    reshape main_v123 main_v124 (rfl : (.f32 : EltTy) = .f32) shapeCasts_S4x2048x2048x1_S4x2048x2048,
    binary main_arg0 main_arg1 main_v125 ((fun l r => Host.dotGeneral dot_S4x2048x64_S64x64_S4x2048x64_2_0_01_1_n_n none l r) : (⟨S4x2048x64, .f32⟩ : BufTy).Contents (Elt F) → (⟨S64x64, .f32⟩ : BufTy).Contents (Elt F) → (⟨S4x2048x64, .f32⟩ : BufTy).Contents (Elt F)),
    binary main_v125 main_arg0 main_v126 ((fun l r => Host.dotGeneral dot_S4x2048x64_S4x2048x64_S4x2048x2048_2_2_1_1_0_0 none l r) : (⟨S4x2048x64, .f32⟩ : BufTy).Contents (Elt F) → (⟨S4x2048x64, .f32⟩ : BufTy).Contents (Elt F) → (⟨S4x2048x2048, .f32⟩ : BufTy).Contents (Elt F)),
    nullary main_cst_32 (constant S_ .f32 0x00000000#32),
    unary main_cst_32 main_v127 (broadcastInDim S4x2048x2048 ![] bcast_S_S4x2048x2048 : (⟨S_, .f32⟩ : BufTy).Contents (Elt F) → (⟨S4x2048x2048, .f32⟩ : BufTy).Contents (Elt F)),
    binary main_v126 main_v127 main_v128 (maximumf : (⟨S4x2048x2048, .f32⟩ : BufTy).Contents (Elt F) → (⟨S4x2048x2048, .f32⟩ : BufTy).Contents (Elt F) → (⟨S4x2048x2048, .f32⟩ : BufTy).Contents (Elt F)),
    binary main_v126 main_v124 main_v129 (mulf : (⟨S4x2048x2048, .f32⟩ : BufTy).Contents (Elt F) → (⟨S4x2048x2048, .f32⟩ : BufTy).Contents (Elt F) → (⟨S4x2048x2048, .f32⟩ : BufTy).Contents (Elt F)),
    binary main_v128 main_v129 main_v130 (subf : (⟨S4x2048x2048, .f32⟩ : BufTy).Contents (Elt F) → (⟨S4x2048x2048, .f32⟩ : BufTy).Contents (Elt F) → (⟨S4x2048x2048, .f32⟩ : BufTy).Contents (Elt F)),
    unary main_v126 main_v131 (Host.absf : (⟨S4x2048x2048, .f32⟩ : BufTy).Contents (Elt F) → (⟨S4x2048x2048, .f32⟩ : BufTy).Contents (Elt F)),
    unary main_v131 main_v132 (Host.negf : (⟨S4x2048x2048, .f32⟩ : BufTy).Contents (Elt F) → (⟨S4x2048x2048, .f32⟩ : BufTy).Contents (Elt F)),
    unary main_v132 main_v133 (Host.exp : (⟨S4x2048x2048, .f32⟩ : BufTy).Contents (Elt F) → (⟨S4x2048x2048, .f32⟩ : BufTy).Contents (Elt F)),
    unary main_v133 main_v134 (Host.log1p : (⟨S4x2048x2048, .f32⟩ : BufTy).Contents (Elt F) → (⟨S4x2048x2048, .f32⟩ : BufTy).Contents (Elt F)),
    binary main_v130 main_v134 main_v135 (addf : (⟨S4x2048x2048, .f32⟩ : BufTy).Contents (Elt F) → (⟨S4x2048x2048, .f32⟩ : BufTy).Contents (Elt F) → (⟨S4x2048x2048, .f32⟩ : BufTy).Contents (Elt F)),
    nullary main_v136 (iotaInDim S4x2048x2048 32 1),
    nullary main_v137 (iotaInDim S4x2048x2048 32 2),
    binary main_v136 main_v137 main_v138 (cmpi .sgt : (⟨S4x2048x2048, .i32⟩ : BufTy).Contents (Elt F) → (⟨S4x2048x2048, .i32⟩ : BufTy).Contents (Elt F) → (⟨S4x2048x2048, .i1⟩ : BufTy).Contents (Elt F)),
    nullary main_cst_33 (constant S_ .f32 0x00000000#32),
    TRef.unary (TRef.of (T := ⟨S_, .f32⟩) main_cst_33) (TRef.of (T := ⟨S_, .f32⟩) main_call1_v0) id,
    TRef.unary (TRef.of (T := ⟨S_, .f32⟩) main_call1_v0) (TRef.of (T := ⟨S4x2048x2048, .f32⟩) main_call1_v1) (broadcastInDim S4x2048x2048 ![] bcast_S_S4x2048x2048),
    TRef.ternary (TRef.of (T := ⟨S4x2048x2048, .i1⟩) main_v138) (TRef.of (T := ⟨S4x2048x2048, .f32⟩) main_v135) (TRef.of (T := ⟨S4x2048x2048, .f32⟩) main_call1_v1) (TRef.of (T := ⟨S4x2048x2048, .f32⟩) main_v139) select,
    nullary main_cst_34 (constant S_ .f32 0x00000000#32),
    binary main_v139 main_cst_34 main_v140 ((fun x v => Host.reduceAdd x v reducesTo_S4x2048x2048_S_d0_1_2 h_S_) : (⟨S4x2048x2048, .f32⟩ : BufTy).Contents (Elt F) → (⟨S_, .f32⟩ : BufTy).Contents (Elt F) → (⟨S_, .f32⟩ : BufTy).Contents (Elt F)) ]

/-- Operations 446 to 447. -/
abbrev steps_2_2 : List (HloOp τ sig (Elt F)) :=
  [ nullary main_cst_35 (constant S_ .f32 0x4AFFE000#32),
    binary main_v140 main_cst_35 main_v141 (Host.divf : (⟨S_, .f32⟩ : BufTy).Contents (Elt F) → (⟨S_, .f32⟩ : BufTy).Contents (Elt F) → (⟨S_, .f32⟩ : BufTy).Contents (Elt F)) ]

/-- The operations of the program's second part. -/
def second : List (HloOp τ sig (Elt F)) :=
  steps_1_0 ++ (steps_1_1 ++ (steps_1_2 ++ (steps_1_3 ++ (steps_1_4 ++ (steps_1_5 ++ (steps_1_6 ++ (steps_1_7 ++ (steps_1_8 ++ (steps_1_9 ++ (steps_1_10))))))))))

/-- The operations of the program's third part. -/
def third : List (HloOp τ sig (Elt F)) :=
  steps_2_0 ++ (steps_2_1 ++ (steps_2_2))

/-- All operations in order. -/
abbrev line : List (HloOp τ sig (Elt F)) := steps_0 ++ (second ++ third)

theorem part0_eq (c : Dev nD) : main_part0 (F := F) c = seq steps_0 := rfl
set_option maxHeartbeats 4000000 in
theorem part1_eq (c : Dev nD) : main_part1 (F := F) c = seq second := rfl
set_option maxHeartbeats 4000000 in
theorem part2_eq (c : Dev nD) : main_part2 (F := F) c = seq third := rfl
/-- The program runs the line. -/
theorem main_eq (c : Dev nD) : main (F := F) c = seq line := by
  simp only [line, seq_append, ← part0_eq c, ← part1_eq c, ← part2_eq c]
  rfl

theorem steps_0_sub : (steps_0 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., nullary_bufs_sub ..⟩
theorem steps_1_0_sub : (steps_1_0 : List (HloOp τ sig (Elt F))).Forall fun op => op.bufs ⊆ tcRefs τ sig :=
  ⟨binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub ..⟩
theorem steps_1_1_sub : (steps_1_1 : List (HloOp τ sig (Elt F))).Forall fun op => op.bufs ⊆ tcRefs τ sig :=
  ⟨binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩
theorem steps_1_2_sub : (steps_1_2 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub ..⟩
theorem steps_1_3_sub : (steps_1_3 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
theorem steps_1_4_sub : (steps_1_4 : List (HloOp τ sig (Elt F))).Forall fun op => op.bufs ⊆ tcRefs τ sig :=
  ⟨binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
theorem steps_1_5_sub : (steps_1_5 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub ..⟩
theorem steps_1_6_sub : (steps_1_6 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub ..⟩
theorem steps_1_7_sub : (steps_1_7 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
theorem steps_1_8_sub : (steps_1_8 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub ..⟩
theorem steps_1_9_sub : (steps_1_9 : List (HloOp τ sig (Elt F))).Forall fun op => op.bufs ⊆ tcRefs τ sig :=
  ⟨binary_bufs_sub .., unary_bufs_sub .., binary_bufs_sub .., unary_bufs_sub .., binary_bufs_sub .., unary_bufs_sub .., binary_bufs_sub .., unary_bufs_sub .., reshape_bufs_sub .., binary_bufs_sub .., unary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub ..⟩
theorem steps_1_10_sub : (steps_1_10 : List (HloOp τ sig (Elt F))).Forall fun op => op.bufs ⊆ tcRefs τ sig :=
  ⟨binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩
theorem steps_2_0_sub : (steps_2_0 : List (HloOp τ sig (Elt F))).Forall fun op => op.bufs ⊆ tcRefs τ sig :=
  ⟨ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
theorem steps_2_1_sub : (steps_2_1 : List (HloOp τ sig (Elt F))).Forall fun op => op.bufs ⊆ tcRefs τ sig :=
  ⟨unary_bufs_sub .., nary_bufs_sub .., binary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., nullary_bufs_sub .., nullary_bufs_sub .., binary_bufs_sub .., nullary_bufs_sub .., unary_bufs_sub .., unary_bufs_sub .., ternary_bufs_sub .., nullary_bufs_sub .., binary_bufs_sub ..⟩
theorem steps_2_2_sub : (steps_2_2 : List (HloOp τ sig (Elt F))).Forall fun op => op.bufs ⊆ tcRefs τ sig :=
  ⟨nullary_bufs_sub .., binary_bufs_sub ..⟩

/-- Every operation touches the device's buffers only. -/
theorem line_sub : (line : List (HloOp τ sig (Elt F))).Forall fun op => op.bufs ⊆ tcRefs τ sig :=
  List.forall_append.mpr ⟨steps_0_sub, List.forall_append.mpr ⟨List.forall_append.mpr ⟨steps_1_0_sub, List.forall_append.mpr ⟨steps_1_1_sub, List.forall_append.mpr ⟨steps_1_2_sub, List.forall_append.mpr ⟨steps_1_3_sub, List.forall_append.mpr ⟨steps_1_4_sub, List.forall_append.mpr ⟨steps_1_5_sub, List.forall_append.mpr ⟨steps_1_6_sub, List.forall_append.mpr ⟨steps_1_7_sub, List.forall_append.mpr ⟨steps_1_8_sub, List.forall_append.mpr ⟨steps_1_9_sub, steps_1_10_sub⟩⟩⟩⟩⟩⟩⟩⟩⟩⟩, List.forall_append.mpr ⟨steps_2_0_sub, List.forall_append.mpr ⟨steps_2_1_sub, steps_2_2_sub⟩⟩⟩⟩

set_option maxHeartbeats 4000000 in
/-- Every operation determines its result. -/
theorem line_fresh : ∀ op ∈ (line : List (HloOp τ sig (Elt F))), op.fresh = ∅ :=
  List.forall_iff_forall_mem.mp (forall_fresh_of_map rfl)

/-- The buffers the line writes, in order. -/
abbrev lineRefs : List (Ref sig .tc) :=
  [main_v0, main_cst, main_v1, main_v2, main_cst_0, main_v3, main_v4, main_cst_1, main_v5, main_v6, main_cst_2, main_v7, main_v8, main_cst_3, main_v9, main_v10, main_v11, main_v12, main_v13, main_v14, main_v15, main_v16, main_v17, main_v18, main_v19, main_c, main_v20, main_v21, main_v22, main_v23, main_c_4, main_v24, main_v25, main_c_5, main_v26, main_v27, main_v28, main_v29, main_v30, main_c_6, main_v31, main_v32, main_c_7, main_v33, main_v34, main_v35, main_c_8, main_v36, main_v37, main_c_9, main_v38, main_v39, main_v40, main_v41, main_v42, main_v43, main_v44, main_v45, main_c_10, main_c_11, main_v46, main_v47, main_v48, main_c_12, main_v49, main_v50, main_v51, main_v52, main_cst_13, main_cst_14, main_call0_v0, main_call0_v1, main_call0_v2, main_call0_v3, main_call0_v4, main_call0_v5, main_call0_v6, main_call0_v7, main_call0_v8, main_call0_v9, main_call0_v10, main_call0_c, main_call0_v11, main_call0_v12, main_call0_c_0, main_call0_v13, main_call0_v14, main_call0_c_1, main_call0_v15, main_call0_v16, main_call0_v17, main_call0_v18, main_call0_c_2, main_call0_v19, main_call0_v20, main_call0_v21, main_call0_v22, main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40, main_call0_call0_c_9, main_call0_call0_v41, main_call0_call0_v42, main_call0_call0_c_10, main_call0_call0_v43, main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67, main_call0_call0_v68, main_call0_call0_v69, main_call0_call0_v70, main_call0_call0_v71, main_call0_call0_c_17, main_call0_call0_v72, main_call0_call0_v73, main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23, main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28, main_call0_call0_v111, main_call0_call0_v112, main_call0_call0_v113, main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139, main_call0_call0_c_35, main_call0_call0_v140, main_call0_call0_v141, main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170, main_call0_v23_0, main_call0_call0_v172, main_call0_call0_v173, main_call0_call0_c_44, main_call0_call0_v174, main_call0_v23_1, main_call0_v24, main_call0_c_3, main_call0_v25, main_call0_v26, main_call0_c_4, main_call0_v27, main_call0_v28, main_call0_v29, main_call0_cst, main_call0_v30, main_call0_v31, main_call0_v32, main_call0_v33, main_call0_v34, main_call0_v35, main_call0_v36, main_call0_v37, main_v53, main_v54, main_v55, main_v56, main_v57, main_v58, main_v59, main_c_15, main_v60, main_v61, main_c_16, main_v62, main_v63, main_c_17, main_v64, main_v65, main_v66, main_v67, main_v68, main_c_18, main_v69, main_v70, main_c_19, main_v71, main_v72, main_v73, main_v74, main_v75, main_c_20, main_v76, main_v77, main_c_21, main_v78, main_v79, main_v80, main_v81, main_v82, main_c_22, main_v83, main_v84, main_c_23, main_v85, main_v86, main_v87, main_c_24, main_v88, main_v89, main_c_25, main_v90, main_v91, main_v92, main_v93, main_v94, main_v95, main_v96, main_v97, main_c_26, main_v98, main_v99, main_c_27, main_v100, main_v101, main_v102, main_c_28, main_v103, main_v104, main_c_29, main_v105, main_v106, main_v107, main_c_30, main_v108, main_v109, main_c_31, main_v110, main_v111, main_v112, main_v113, main_v114, main_v115, main_v116, main_v117, main_v118, main_v119, main_v120, main_v121, main_v122, main_v123, main_v124, main_v125, main_v126, main_cst_32, main_v127, main_v128, main_v129, main_v130, main_v131, main_v132, main_v133, main_v134, main_v135, main_v136, main_v137, main_v138, main_cst_33, main_call1_v0, main_call1_v1, main_v139, main_cst_34, main_v140, main_cst_35, main_v141]

/-- The place of a buffer in program order. -/
def place (r : Ref sig .tc) : Nat := r.idx.val

set_option maxHeartbeats 4000000 in
/-- Each operation writes one buffer of its own, in program order. -/
theorem ordered : HostLine.Ordered place 4 (line : List (HloOp τ sig (Elt F))) :=
  HostLine.ordered_of_map (W := lineRefs) rfl (by decide)

theorem scopedRefs_none : (Finset.univ.filter fun b : Ref sig .tc => b.isScoped) = ∅ := by decide
theorem scopedSems_none : (Finset.univ.filter fun sm : SemLoc sig => sm.isScoped .tc) = ∅ := by decide

/-- Every execution ends with every buffer at the contents the line leaves in it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after line (launchContents m c) (Proc.devRef .tc b) :=
  run_seq scopedRefs_none scopedSems_none defs main (fun _ => line) main_eq (fun _ => line_sub) m ρ fun _ => line_fresh

/-- An argument keeps its launch contents. -/
theorem arg_at (m : (ℓ : Loc nD τ sig) → Buf (Elt F) ℓ) (c : Dev nD) (b : Ref sig .tc) (h : place b < 4) :
    after line (launchContents m c) (Proc.devRef .tc b) = m ((c.tc : Thread nD τ).loc b) :=
  HostLine.after_of_lt _ ordered h

end Cert.ReferenceIdeal.Line

end
-- ==== Proof.Reference.Frame.lean ====
/-
The reference's frame: it declares no semaphore and writes none of its arguments.
-/
module

public import proofs.«01_k».proof.Proof.Reference.Line
public import Idealize.ShloMosaic.Lib.Pipeline.Frame

@[expose] public section

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The reference runs, its arguments end as they began and every semaphore counter ends at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h c main_arg0).trans (arg_at m c _ (by decide)),
      (h c main_arg1).trans (arg_at m c _ (by decide)), (h c main_arg2).trans (arg_at m c _ (by decide)),
      (h c main_arg3).trans (arg_at m c _ (by decide))⟩, sem_eq_zero_of_no_sems (by decide) r.2⟩) (run m ρ)

end Cert.ReferenceIdeal.Line

end
-- ==== Proof.Value.Loss.lean ====
/-
The loss of one edge as a number: the logit, the posterior probability and the cross entropy of the two.
-/
module

public import Idealize.ShloMosaic.Lib.Pointwise

@[expose] public section

noncomputable section

namespace Cert.Loss

open Idealize.ShloMosaic

/-- The cross entropy of a logit with a probability. -/
def bce (l q : EReal) : EReal := max l 0 - l * q + Ideal.log (1 + Ideal.exp (0 - FloatOps.absf (F := Ideal) (φ := .f32) l))

/-- The probability picked by a label and its noisy draw out of a batch's six numbers. -/
def posterior (a : BitVec 32) (u p0 p1 p2 p3 p4 p5 : EReal) : EReal :=
  if a = 1#32 then (if u < p1 then p5 else p4) else (if u < p0 then p3 else p2)

/-- A bilinear form: `x W y`. -/
def form (x : Fin 64 → EReal) (w : Fin 64 → Fin 64 → EReal) (y : Fin 64 → EReal) : EReal := ∑ d, (∑ e, x e * w e d) * y d

theorem toInt_small (n : ℕ) (h : n < 2147483648) : (BitVec.ofNat 32 n).toInt = n := by
  have e : (BitVec.ofNat 32 n).toNat = n := by rw [BitVec.toNat_ofNat]; omega
  rw [BitVec.toInt_eq_toNat_of_lt (by rw [e]; omega), e]

theorem ofBool_iff (p : Prop) [Decidable p] : BitVec.ofBool (decide p) = 1 ↔ p := by
  by_cases h : p <;> simp [h]

/-- The signed comparison of small words is the comparison of their numbers. -/
theorem gt_iff (m n : ℕ) (hm : m < 2147483648) (hn : n < 2147483648) :
    IntOp.cmpi CmpIPredicate.sgt (BitVec.ofNat 32 m) (BitVec.ofNat 32 n) = 1 ↔ n < m := by
  have : IntOp.cmpi CmpIPredicate.sgt (BitVec.ofNat 32 m) (BitVec.ofNat 32 n) = BitVec.ofBool (decide ((BitVec.ofNat 32 n).toInt < (BitVec.ofNat 32 m).toInt)) := rfl
  rw [this, toInt_small m hm, toInt_small n hn, ofBool_iff]
  exact Int.ofNat_lt

end Cert.Loss

end
-- ==== Proof.KernelIdeal.Pays.lean ====
/-
What the kernel's stores compute, read at an index.
-/
module

public import proofs.«01_k».proof.Proof.Gen.KernelIdeal.Skeleton
public import proofs.«01_k».proof.Proof.Value.Loss

@[expose] public section

set_option maxRecDepth 16384

noncomputable section

namespace Cert.KernelIdeal.Pays

open Cert.KernelIdeal Cert.KernelIdeal.Gen Cert.Loss Idealize.ShloMosaic Idealize.ShloMosaic.TcCoe

/-- A batch's loss at a place of a tile, from the batch's rows of the tile's blocks. -/
def term (w : Vec Ideal S64x64 .f32) (a : Vec Ideal S1x256x256 .i32) (u : Vec Ideal S1x256x256 .f32) (p0 p1 p2 p3 p4 p5 : EReal)
    (x y : Vec Ideal S1x256x64 .f32) (r q : Fin 256) : EReal :=
  bce (form (fun e => x (ix3 (0 : Fin 1) r e)) (fun e d => w (ix2 e d)) (fun d => y (ix3 (0 : Fin 1) q d)))
    (posterior (a (ix3 (0 : Fin 1) r q)) (u (ix3 (0 : Fin 1) r q)) p0 p1 p2 p3 p4 p5)

/-- The kernel's nested choice is the posterior. -/
theorem choice (a : BitVec 32) (u p0 p1 p2 p3 p4 p5 : EReal) :
    Scalar.select (IntOp.cmpi CmpIPredicate.eq a 1#32)
      (if u < Scalar.select (IntOp.cmpi CmpIPredicate.eq a 1#32) p1 p0 then p5 else p4)
      (if u < Scalar.select (IntOp.cmpi CmpIPredicate.eq a 1#32) p1 p0 then p3 else p2) = posterior a u p0 p1 p2 p3 p4 p5 := by
  unfold posterior Scalar.select
  by_cases h : a = 1#32
  · have e : IntOp.cmpi CmpIPredicate.eq a 1#32 = 1 := by subst h; rfl
    rw [if_pos e, if_pos e, if_pos h]
  · have e : ¬ IntOp.cmpi CmpIPredicate.eq a 1#32 = 1 := by
      intro e
      have e2 : BitVec.ofBool (a == 1#32) = 1 := e
      exact h (eq_of_beq (by revert e2; cases (a == 1#32) <;> simp))
    rw [if_neg e, if_neg e, if_neg h]

variable (w : Vec Ideal S64x64 .f32) (z : FVec Ideal S256x256 .f32) (a : Vec Ideal S1x256x256 .i32) (u : Vec Ideal S1x256x256 .f32)
  (p0 p1 p2 p3 p4 p5 : Elt Ideal .f32) (x y : Vec Ideal S1x256x64 .f32) (r q : Fin 256)

/-- The first batch's loss. -/
theorem pay4_at : k0_pay4 (F := Ideal) (k0_pay2 a u p0 p1 p2 p3 p4 p5) (k0_pay3 w x) y (ix2 r q) = term w a u p0 p1 p2 p3 p4 p5 x y r q := by
  unfold_payloads
  pointwise
  rw [choice]; rfl
/-- The second batch's, added to what came before. -/
theorem pay9_at : k0_pay9 (F := Ideal) w z (k0_pay5 a) (k0_pay7 a u p0 p1 p4 p5) (k0_pay8 a u p0 p1 p2 p3) x y (ix2 r q) = (show EReal from z (ix2 r q)) + term w a u p0 p1 p2 p3 p4 p5 x y r q := by
  unfold_payloads
  pointwise
  rw [choice]; rfl
/-- The third batch's. -/
theorem pay12_at : k0_pay12 (F := Ideal) w z (k0_pay10 a) (k0_pay11 u) p0 p1 p2 p3 p4 p5 1#32 x y (ix2 r q) = (show EReal from z (ix2 r q)) + term w a u p0 p1 p2 p3 p4 p5 x y r q := by
  unfold_payloads
  pointwise
  rw [choice]; rfl
/-- The fourth batch's. -/
theorem pay15_at : k0_pay15 (F := Ideal) w z (k0_pay13 a) (k0_pay14 u) p0 p1 p2 p3 p4 p5 x y (ix2 r q) = (show EReal from z (ix2 r q)) + term w a u p0 p1 p2 p3 p4 p5 x y r q := by
  unfold_payloads
  pointwise
  rw [choice]; rfl
/-- A column's sum. -/
theorem pay1_at : k0_pay1 (F := Ideal) z (ix3 (0 : Fin 1) (0 : Fin 1) q) = ∑ r : Fin 256, (show EReal from z (ix2 r q)) := by
  unfold_payloads
  pointwise

/-- A column's sum over the rows below the diagonal. -/
theorem pay16_at (b : IVec S256x256 32) (v : FVec Ideal S256x256 .f32) : k0_pay16 (F := Ideal) w z b v p0 p1 p2 p3 p4 p5 x y (ix3 (0 : Fin 1) (0 : Fin 1) q)
    = ∑ r : Fin 256, if q.val < r.val then (show EReal from k0_pay15 (F := Ideal) w z b v p0 p1 p2 p3 p4 p5 x y (ix2 r q)) else 0 := by
  unfold k0_pay16
  generalize k0_pay15 (F := Ideal) w z b v p0 p1 p2 p3 p4 p5 x y = Z
  pointwise
  refine Finset.sum_congr rfl fun r _ => ?_
  unfold Scalar.select
  exact if_congr (gt_iff r.val q.val (by omega) (by omega)) rfl rfl

end Cert.KernelIdeal.Pays

end
-- ==== Proof.KernelIdeal.Tile.lean ====
/-
What the kernel's body leaves in the output's block, read at an index.
-/
module

public import proofs.«01_k».proof.Proof.KernelIdeal.Frame
public import proofs.«01_k».proof.Proof.KernelIdeal.Pays

@[expose] public section

set_option maxRecDepth 16384

noncomputable section

namespace Cert.KernelIdeal.Tile

open Cert.KernelIdeal Cert.KernelIdeal.Gen Cert.KernelIdeal.Frame Cert.KernelIdeal.Pays Cert.Loss Idealize.ShloMosaic Idealize.ShloMosaic.TcCoe Idealize.SL.Sem

/-- Batch `b`'s loss at row `r` and column `q` of a tile, from the tile's blocks. -/
def tile (x0 : Vec Ideal S4x8 .f32) (x1 : Vec Ideal S4x256x256 .i32) (x2 : Vec Ideal S4x256x256 .f32) (x3 : Vec Ideal S4x256x64 .f32) (x4 : Vec Ideal S4x256x64 .f32) (x5 : Vec Ideal S64x64 .f32) (b : Fin 4) (r q : Fin 256) : EReal :=
  bce (form (fun e => x3 (ix3 b r e)) (fun e d => x5 (ix2 e d)) (fun d => x4 (ix3 b q d)))
    (posterior (x1 (ix3 b r q)) (x2 (ix3 b r q)) (x0 (ix2 b (0 : Fin 8))) (x0 (ix2 b (1 : Fin 8))) (x0 (ix2 b (2 : Fin 8))) (x0 (ix2 b (3 : Fin 8))) (x0 (ix2 b (4 : Fin 8))) (x0 (ix2 b (5 : Fin 8))))

theorem hz : (![0, 0, 0] : Fin 3 → Nat) = fun _ => 0 := funext fun a => by fin_cases a <;> rfl

/-- On a diagonal tile: each column's sum over the rows below the diagonal. -/
theorem out_A (c : Dev nD) (i : grid0.Coords) (arg3 : Memref sig .tc .smem S4x8 .f32) (harg3 : arg3.IsWhole) (arg4 : Memref sig .tc .vmem S4x256x256 .i32) (harg4 : arg4.IsWhole) (arg5 : Memref sig .tc .vmem S4x256x256 .f32) (harg5 : arg5.IsWhole) (arg6 : Memref sig .tc .vmem S4x256x64 .f32) (harg6 : arg6.IsWhole) (arg7 : Memref sig .tc .vmem S4x256x64 .f32) (harg7 : arg7.IsWhole) (arg8 : Memref sig .tc .vmem S64x64 .f32) (harg8 : arg8.IsWhole) (arg9 : Memref sig .tc .vmem S1x1x256 .f32) (harg9 : arg9.IsWhole)
    (x0 : Vec Ideal S4x8 .f32) (x1 : Vec Ideal S4x256x256 .i32) (x2 : Vec Ideal S4x256x256 .f32) (x3 : Vec Ideal S4x256x64 .f32) (x4 : Vec Ideal S4x256x64 .f32) (x5 : Vec Ideal S64x64 .f32) (xt0 : TbBuf0 (F := Ideal) c tbM0_0) (xt1 : TbBuf0 (F := Ideal) c tbM0_1)
    (hc1 : k0_cond1 (wd0 c i xt0) (wd1 c i xt1) = 1#1) (hc2 : ¬ k0_cond2 (wd0 c i xt0) (wd1 c i xt1) = 1#1) (q : Fin 256) :
    out0_A_6 c i arg3 harg3 arg4 harg4 arg5 harg5 arg6 harg6 arg7 harg7 arg8 harg8 arg9 harg9 x0 x1 x2 x3 x4 x5 xt0 xt1 hc1 hc2 (ix3 (0 : Fin 1) (0 : Fin 1) q)
      = ∑ r : Fin 256, if q.val < r.val then ∑ b : Fin 4, tile x0 x1 x2 x3 x4 x5 b r q else 0 := by
  unfold out0_A_6
  rw [View.read_writes_junk_eq_canon]
  unfold kernelRun0_A
  dsimp only
  rw [View.canon_unit_zero hz]
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38]
  rw [pay16_at]
  refine Finset.sum_congr rfl fun r _ => ?_
  refine if_congr Iff.rfl ?_ rfl
  · rw [pay15_at, pay12_at, pay9_at, pay4_at, Fin.sum_univ_four]
    simp only [View.readAt_eq_ld, harg3.read_unread, harg4.read_unread, harg5.read_unread, harg6.read_unread, harg7.read_unread, harg8.read_unread]
    unfold term tile
    pointwise

/-- Off the diagonal: each column's sum over all rows. -/
theorem out_B (c : Dev nD) (i : grid0.Coords) (arg3 : Memref sig .tc .smem S4x8 .f32) (harg3 : arg3.IsWhole) (arg4 : Memref sig .tc .vmem S4x256x256 .i32) (harg4 : arg4.IsWhole) (arg5 : Memref sig .tc .vmem S4x256x256 .f32) (harg5 : arg5.IsWhole) (arg6 : Memref sig .tc .vmem S4x256x64 .f32) (harg6 : arg6.IsWhole) (arg7 : Memref sig .tc .vmem S4x256x64 .f32) (harg7 : arg7.IsWhole) (arg8 : Memref sig .tc .vmem S64x64 .f32) (harg8 : arg8.IsWhole) (arg9 : Memref sig .tc .vmem S1x1x256 .f32) (harg9 : arg9.IsWhole)
    (x0 : Vec Ideal S4x8 .f32) (x1 : Vec Ideal S4x256x256 .i32) (x2 : Vec Ideal S4x256x256 .f32) (x3 : Vec Ideal S4x256x64 .f32) (x4 : Vec Ideal S4x256x64 .f32) (x5 : Vec Ideal S64x64 .f32) (xt0 : TbBuf0 (F := Ideal) c tbM0_0) (xt1 : TbBuf0 (F := Ideal) c tbM0_1)
    (hc1 : ¬ k0_cond1 (wd0 c i xt0) (wd1 c i xt1) = 1#1) (hc2 : k0_cond2 (wd0 c i xt0) (wd1 c i xt1) = 1#1) (q : Fin 256) :
    out0_B_6 c i arg3 harg3 arg4 harg4 arg5 harg5 arg6 harg6 arg7 harg7 arg8 harg8 arg9 harg9 x0 x1 x2 x3 x4 x5 xt0 xt1 hc1 hc2 (ix3 (0 : Fin 1) (0 : Fin 1) q)
      = ∑ r : Fin 256, ∑ b : Fin 4, tile x0 x1 x2 x3 x4 x5 b r q := by
  unfold out0_B_6
  rw [View.read_writes_junk_eq_canon]
  unfold kernelRun0_B
  dsimp only
  rw [View.canon_unit_zero hz]
  simp only [kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39]
  rw [pay1_at]
  refine Finset.sum_congr rfl fun r _ => ?_
  · rw [pay15_at, pay12_at, pay9_at, pay4_at, Fin.sum_univ_four]
    simp only [View.readAt_eq_ld, harg3.read_unread, harg4.read_unread, harg5.read_unread, harg6.read_unread, harg7.read_unread, harg8.read_unread]
    unfold term tile
    pointwise

end Cert.KernelIdeal.Tile

end
-- ==== Proof.KernelIdeal.Blocks.lean ====
/-
The blocks a grid point reads, as functions of the arrays the region finds.
-/
module

public import proofs.«01_k».proof.Proof.KernelIdeal.Tables
public import proofs.«01_k».proof.Proof.KernelIdeal.Tile

@[expose] public section

set_option maxRecDepth 16384

noncomputable section

namespace Cert.KernelIdeal.Points

open Cert.KernelIdeal Cert.KernelIdeal.Gen Cert.KernelIdeal.Frame Cert.KernelIdeal.Tile Cert.Loss Idealize.ShloMosaic Idealize.ShloMosaic.TcCoe Idealize.SL.Sem
open Idealize.ShloMosaic.Pipeline (Dat Cfg Window)

/-- The arrays' plain types. -/
abbrev Params := (⟨S4x8, .f32⟩ : BufTy).Contents (Elt Ideal)
abbrev Labels := (⟨S4x2048x2048, .i32⟩ : BufTy).Contents (Elt Ideal)
abbrev Box := (⟨S4x2048x2048, .f32⟩ : BufTy).Contents (Elt Ideal)
abbrev Feats := (⟨S4x2048x64, .f32⟩ : BufTy).Contents (Elt Ideal)
abbrev Weights := (⟨S64x64, .f32⟩ : BufTy).Contents (Elt Ideal)
abbrev Sums := (⟨S36x1x256, .f32⟩ : BufTy).Contents (Elt Ideal)

/-- The loss of batch `b` at row `i` and column `j`, from the arrays. -/
def loss (P : Params) (A : Labels) (U : Box) (X : Feats) (W : Weights) (b : Fin 4) (i j : Fin 2048) : EReal :=
  bce (form (fun e => X (ix3 b i e)) (fun e d => W (ix2 e d)) (fun d => X (ix3 b j d)))
    (posterior (A (ix3 b i j)) (U (ix3 b i j)) (P (ix2 b (0 : Fin 8))) (P (ix2 b (1 : Fin 8))) (P (ix2 b (2 : Fin 8))) (P (ix2 b (3 : Fin 8))) (P (ix2 b (4 : Fin 8))) (P (ix2 b (5 : Fin 8))))

/-- The block row and the block column of tile `k`. -/
def row (k : Fin 36) : Fin 8 := ⟨(lit0 k).toNat, lit0_lt k⟩
def col (k : Fin 36) : Fin 8 := ⟨(lit1 k).toNat, lit1_lt k⟩
/-- Place `r` of block `p`. -/
def at256 (p : Fin 8) (r : Fin 256) : Fin 2048 := ⟨p.val * 256 + r.val, by omega⟩

/-- Tile `k`'s sum of column `q`. -/
def colsum (P : Params) (A : Labels) (U : Box) (X : Feats) (W : Weights) (k : Fin 36) (q : Fin 256) : EReal :=
  ∑ r : Fin 256, if row k = col k → q.val < r.val then ∑ b : Fin 4, loss P A U X W b (at256 (row k) r) (at256 (col k) q) else 0

/-- The result array. -/
def result (P : Params) (A : Labels) (U : Box) (X : Feats) (W : Weights) : Sums := fun y => colsum P A U X W (y 0) (y 2)

/-- The tile of a grid point is its number. -/
theorem tileOf_val : ∀ t : Fin grid0.N, ((grid0.coords t) 0).val = t.val := by decide +kernel

/-- The result's block at a grid point is the point's own row. -/
theorem step6 : ∀ i : grid0.Coords, cc0_transform_6 i 0 = (i 0).val := by decide +kernel

/-- Where a block's places lie in its array, from the block's index. -/
theorem emb1 (a : (pcfg0 (F := Ideal)).Adm) (t : Fin (cfg0 a).N) (b : Fin 4) (r : Fin 256) (q : Fin 256) (p p' : Fin 8) (h : cc0_transform_1 k0_off1_inb numel1_S1 a.1 (grid0.coords t) = ![0, p.val, p'.val]) :
    (((cfg0 a).win 1).blk t).view.emb (ix3 b r q) = ix3 b (at256 p r) (at256 p' q) := by
  funext x
  apply Fin.ext
  match x with
  | ⟨0, _⟩ =>
    show cc0_transform_1 k0_off1_inb numel1_S1 a.1 (grid0.coords t) 0 * 4 + 1 * b.val = b.val
    rw [h]; show 0 * 4 + 1 * b.val = b.val; omega
  | ⟨1, _⟩ =>
    show cc0_transform_1 k0_off1_inb numel1_S1 a.1 (grid0.coords t) 1 * 256 + 1 * r.val = _
    rw [h, one_mul]; rfl
  | ⟨2, _⟩ =>
    show cc0_transform_1 k0_off1_inb numel1_S1 a.1 (grid0.coords t) 2 * 256 + 1 * q.val = _
    rw [h, one_mul]; rfl
theorem emb2 (a : (pcfg0 (F := Ideal)).Adm) (t : Fin (cfg0 a).N) (b : Fin 4) (r : Fin 256) (q : Fin 256) (p p' : Fin 8) (h : cc0_transform_2 k0_off1_inb numel1_S1 a.1 (grid0.coords t) = ![0, p.val, p'.val]) :
    (((cfg0 a).win 2).blk t).view.emb (ix3 b r q) = ix3 b (at256 p r) (at256 p' q) := by
  funext x
  apply Fin.ext
  match x with
  | ⟨0, _⟩ =>
    show cc0_transform_2 k0_off1_inb numel1_S1 a.1 (grid0.coords t) 0 * 4 + 1 * b.val = b.val
    rw [h]; show 0 * 4 + 1 * b.val = b.val; omega
  | ⟨1, _⟩ =>
    show cc0_transform_2 k0_off1_inb numel1_S1 a.1 (grid0.coords t) 1 * 256 + 1 * r.val = _
    rw [h, one_mul]; rfl
  | ⟨2, _⟩ =>
    show cc0_transform_2 k0_off1_inb numel1_S1 a.1 (grid0.coords t) 2 * 256 + 1 * q.val = _
    rw [h, one_mul]; rfl
theorem emb3 (a : (pcfg0 (F := Ideal)).Adm) (t : Fin (cfg0 a).N) (b : Fin 4) (r : Fin 256) (e : Fin 64) (p : Fin 8) (h : cc0_transform_3 k0_off1_inb numel1_S1 a.1 (grid0.coords t) = ![0, p.val, 0]) :
    (((cfg0 a).win 3).blk t).view.emb (ix3 b r e) = ix3 b (at256 p r) e := by
  funext x
  apply Fin.ext
  match x with
  | ⟨0, _⟩ =>
    show cc0_transform_3 k0_off1_inb numel1_S1 a.1 (grid0.coords t) 0 * 4 + 1 * b.val = b.val
    rw [h]; show 0 * 4 + 1 * b.val = b.val; omega
  | ⟨1, _⟩ =>
    show cc0_transform_3 k0_off1_inb numel1_S1 a.1 (grid0.coords t) 1 * 256 + 1 * r.val = _
    rw [h, one_mul]; rfl
  | ⟨2, _⟩ =>
    show cc0_transform_3 k0_off1_inb numel1_S1 a.1 (grid0.coords t) 2 * 64 + 1 * e.val = _
    rw [h, one_mul]; show 0 * 64 + e.val = e.val; omega
theorem emb4 (a : (pcfg0 (F := Ideal)).Adm) (t : Fin (cfg0 a).N) (b : Fin 4) (r : Fin 256) (e : Fin 64) (p : Fin 8) (h : cc0_transform_4 k0_off1_inb numel1_S1 a.1 (grid0.coords t) = ![0, p.val, 0]) :
    (((cfg0 a).win 4).blk t).view.emb (ix3 b r e) = ix3 b (at256 p r) e := by
  funext x
  apply Fin.ext
  match x with
  | ⟨0, _⟩ =>
    show cc0_transform_4 k0_off1_inb numel1_S1 a.1 (grid0.coords t) 0 * 4 + 1 * b.val = b.val
    rw [h]; show 0 * 4 + 1 * b.val = b.val; omega
  | ⟨1, _⟩ =>
    show cc0_transform_4 k0_off1_inb numel1_S1 a.1 (grid0.coords t) 1 * 256 + 1 * r.val = _
    rw [h, one_mul]; rfl
  | ⟨2, _⟩ =>
    show cc0_transform_4 k0_off1_inb numel1_S1 a.1 (grid0.coords t) 2 * 64 + 1 * e.val = _
    rw [h, one_mul]; show 0 * 64 + e.val = e.val; omega

/-- A block read at a place is the array there. -/
theorem read1 (a : (pcfg0 (F := Ideal)).Adm) (t : Fin (cfg0 a).N) (A : Labels) (p p' : Fin 8) (h : cc0_transform_1 k0_off1_inb numel1_S1 a.1 (grid0.coords t) = ![0, p.val, p'.val]) (b : Fin 4) (r q : Fin 256) :
    (((cfg0 a).win 1).blk t).view.read (Elt Ideal) A (ix3 b r q) = A (ix3 b (at256 p r) (at256 p' q)) := congrArg A (emb1 a t b r q p p' h)
theorem read2 (a : (pcfg0 (F := Ideal)).Adm) (t : Fin (cfg0 a).N) (A : Box) (p p' : Fin 8) (h : cc0_transform_2 k0_off1_inb numel1_S1 a.1 (grid0.coords t) = ![0, p.val, p'.val]) (b : Fin 4) (r q : Fin 256) :
    (((cfg0 a).win 2).blk t).view.read (Elt Ideal) A (ix3 b r q) = A (ix3 b (at256 p r) (at256 p' q)) := congrArg A (emb2 a t b r q p p' h)
theorem read3 (a : (pcfg0 (F := Ideal)).Adm) (t : Fin (cfg0 a).N) (A : Feats) (p : Fin 8) (h : cc0_transform_3 k0_off1_inb numel1_S1 a.1 (grid0.coords t) = ![0, p.val, 0]) (b : Fin 4) (r : Fin 256) (e : Fin 64) :
    (((cfg0 a).win 3).blk t).view.read (Elt Ideal) A (ix3 b r e) = A (ix3 b (at256 p r) e) := congrArg A (emb3 a t b r e p h)
theorem read4 (a : (pcfg0 (F := Ideal)).Adm) (t : Fin (cfg0 a).N) (A : Feats) (p : Fin 8) (h : cc0_transform_4 k0_off1_inb numel1_S1 a.1 (grid0.coords t) = ![0, p.val, 0]) (b : Fin 4) (r : Fin 256) (e : Fin 64) :
    (((cfg0 a).win 4).blk t).view.read (Elt Ideal) A (ix3 b r e) = A (ix3 b (at256 p r) e) := congrArg A (emb4 a t b r e p h)

/-- A tile's loss from blocks that hold the arrays' values at the tile's places. -/
theorem tile_of (x0 : Vec Ideal S4x8 .f32) (x1 : Vec Ideal S4x256x256 .i32) (x2 : Vec Ideal S4x256x256 .f32) (x3 x4 : Vec Ideal S4x256x64 .f32) (x5 : Vec Ideal S64x64 .f32)
    (P : Params) (A : Labels) (U : Box) (X : Feats) (W : Weights) (p p' : Fin 8)
    (h0 : ∀ b k, x0 (ix2 b k) = P (ix2 b k)) (h1 : ∀ b r q, x1 (ix3 b r q) = A (ix3 b (at256 p r) (at256 p' q))) (h2 : ∀ b r q, x2 (ix3 b r q) = U (ix3 b (at256 p r) (at256 p' q)))
    (h3 : ∀ b r e, x3 (ix3 b r e) = X (ix3 b (at256 p r) e)) (h4 : ∀ b r e, x4 (ix3 b r e) = X (ix3 b (at256 p' r) e)) (h5 : ∀ e d, x5 (ix2 e d) = W (ix2 e d))
    (b : Fin 4) (r q : Fin 256) : tile x0 x1 x2 x3 x4 x5 b r q = loss P A U X W b (at256 p r) (at256 p' q) := by
  unfold tile loss
  simp only [h0, h1, h2, h3, h4, h5]

/-- Windows 0 and 5 read their whole arrays. -/
theorem read0 (a : (pcfg0 (F := Ideal)).Adm) (t : Fin (cfg0 a).N) (A : Params) (b : Fin 4) (k : Fin 8) :
    (((cfg0 a).win 0).blk t).view.read (Elt Ideal) A (ix2 b k) = A (ix2 b k) := by
  refine congrArg A (funext fun x => Fin.ext ?_)
  match x with
  | ⟨0, _⟩ => show 0 * 4 + 1 * b.val = b.val; omega
  | ⟨1, _⟩ => show 0 * 8 + 1 * k.val = k.val; omega
theorem read5 (a : (pcfg0 (F := Ideal)).Adm) (t : Fin (cfg0 a).N) (A : Weights) (e d : Fin 64) :
    (((cfg0 a).win 5).blk t).view.read (Elt Ideal) A (ix2 e d) = A (ix2 e d) := by
  refine congrArg A (funext fun x => Fin.ext ?_)
  match x with
  | ⟨0, _⟩ => show 0 * 64 + 1 * e.val = e.val; omega
  | ⟨1, _⟩ => show 0 * 64 + 1 * d.val = d.val; omega

/-- A tile's loss from the blocks a grid point reads of the arrays. -/
theorem tile_read (a : (pcfg0 (F := Ideal)).Adm) (t : Fin (cfg0 a).N) (P : Params) (A : Labels) (U : Box) (X : Feats) (W : Weights) (p p' : Fin 8)
    (h1 : cc0_transform_1 k0_off1_inb numel1_S1 a.1 (grid0.coords t) = ![0, p.val, p'.val]) (h2 : cc0_transform_2 k0_off1_inb numel1_S1 a.1 (grid0.coords t) = ![0, p.val, p'.val])
    (h3 : cc0_transform_3 k0_off1_inb numel1_S1 a.1 (grid0.coords t) = ![0, p.val, 0]) (h4 : cc0_transform_4 k0_off1_inb numel1_S1 a.1 (grid0.coords t) = ![0, p'.val, 0])
    (b : Fin 4) (r q : Fin 256) :
    tile ((((cfg0 a).win 0).blk t).view.read (Elt Ideal) P) ((((cfg0 a).win 1).blk t).view.read (Elt Ideal) A) ((((cfg0 a).win 2).blk t).view.read (Elt Ideal) U)
      ((((cfg0 a).win 3).blk t).view.read (Elt Ideal) X) ((((cfg0 a).win 4).blk t).view.read (Elt Ideal) X) ((((cfg0 a).win 5).blk t).view.read (Elt Ideal) W) b r q
      = loss P A U X W b (at256 p r) (at256 p' q) :=
  tile_of _ _ _ _ _ _ P A U X W p p' (read0 a t P) (read1 a t A p p' h1) (read2 a t U p p' h2) (read3 a t X p h3) (read4 a t X p' h4) (read5 a t W) b r q

end Cert.KernelIdeal.Points

end
-- ==== Proof.KernelIdeal.Points.lean ====
/-
The kernel's result array: what each grid point writes, as a function of the arrays the region finds.
-/
module

public import proofs.«01_k».proof.Proof.KernelIdeal.Blocks
public import proofs.«01_k».proof.Proof.KernelIdeal.Tile

@[expose] public section

set_option maxRecDepth 16384

noncomputable section

namespace Cert.KernelIdeal.Points

open Cert.KernelIdeal Cert.KernelIdeal.Gen Cert.KernelIdeal.Frame Cert.KernelIdeal.Tile Cert.Loss Idealize.ShloMosaic Idealize.ShloMosaic.TcCoe Idealize.SL.Sem
open Idealize.ShloMosaic.Pipeline (Dat Cfg Window)

variable (m : (ℓ : Loc nD τ sig) → Buf (Elt Ideal) ℓ) (hO : Ok m) (c : Dev nD) (t : Fin (cfgM m hO).N)

attribute [local irreducible] StableHlo.after tbl

/-- The tile of a grid point. -/
abbrev tileOf : Fin 36 := (grid0.coords t) 0

/-- A tile's loss is the arrays' at its place. -/
theorem tile_eq (b : Fin 4) (r q : Fin 256) :
    tile (iblk m hO c 0 t) (iblk m hO c 1 t) (iblk m hO c 2 t) (iblk m hO c 3 t) (iblk m hO c 4 t) (iblk m hO c 5 t) b r q
      = loss (V m c main_v54) (V m c main_arg2) (V m c main_v239) (V m c main_arg0) (V m c main_arg1) b (at256 (row (tileOf m hO t)) r) (at256 (col (tileOf m hO t)) q) :=
  tile_read (adm m hO) t (V m c main_v54) (V m c main_arg2) (V m c main_v239) (V m c main_arg0) (V m c main_arg1) (row (tileOf m hO t)) (col (tileOf m hO t))
    (index1 m (grid0.coords t)) (index2 m (grid0.coords t)) (index3 m (grid0.coords t)) (index4 m (grid0.coords t)) b r q

/-- The body's guard at a grid point: the tile is on the diagonal. -/
theorem guard_iff : k0_cond1 (wd0 c (grid0.coords t) (tbl m 0)) (wd1 c (grid0.coords t) (tbl m 1)) = 1#1 ↔ row (tileOf m hO t) = col (tileOf m hO t) := by
  have e0 : wd0 c (grid0.coords t) (tbl m 0) = lit0 (tileOf m hO t) := at_zero m _
  have e1 : wd1 c (grid0.coords t) (tbl m 1) = lit1 (tileOf m hO t) := at_one m _
  rw [e0, e1]
  generalize tileOf m hO t = k
  revert k
  decide

/-- What a grid point leaves in the output's block. -/
theorem outs_at (q : Fin 256) : outsAt0 m hO c t (ix3 (0 : Fin 1) (0 : Fin 1) q)
    = colsum (V m c main_v54) (V m c main_arg2) (V m c main_v239) (V m c main_arg0) (V m c main_arg1) (tileOf m hO t) q := by
  unfold outsAt0 colsum
  split
  · rename_i h
    have hd := (guard_iff m hO c t).mp h
    refine Eq.trans (out_A c (grid0.coords t) _ _ _ _ _ _ _ _ _ _ _ _ _ _ (iblk m hO c 0 t) (iblk m hO c 1 t) (iblk m hO c 2 t) (iblk m hO c 3 t) (iblk m hO c 4 t) (iblk m hO c 5 t) (tbl m 0) (tbl m 1) _ _ q) ?_
    refine Finset.sum_congr rfl fun r _ => ?_
    refine if_congr ⟨fun h _ => h, fun h => h hd⟩ ?_ rfl
    exact Finset.sum_congr rfl fun b _ => tile_eq m hO c t b r q
  · rename_i h
    have hd : ¬ row (tileOf m hO t) = col (tileOf m hO t) := fun e => h ((guard_iff m hO c t).mpr e)
    refine Eq.trans (out_B c (grid0.coords t) _ _ _ _ _ _ _ _ _ _ _ _ _ _ (iblk m hO c 0 t) (iblk m hO c 1 t) (iblk m hO c 2 t) (iblk m hO c 3 t) (iblk m hO c 4 t) (iblk m hO c 5 t) (tbl m 0) (tbl m 1) _ _ q) ?_
    refine Finset.sum_congr rfl fun r _ => ?_
    rw [if_pos (fun e => absurd e hd)]
    exact Finset.sum_congr rfl fun b _ => tile_eq m hO c t b r q

/-- A grid point writes its block of the result. -/
theorem flushed_eq : (dats m hO 0 c).flushed 6 t = (((cfgM m hO).win 6).blk t).view.read (Elt Ideal)
    (result (V m c main_v54) (V m c main_arg2) (V m c main_v239) (V m c main_arg0) (V m c main_arg1)) := by
  show ((cfgM m hO).win 6).cut (grid0.coords t) ((dats m hO 0 c).after 6 t) = _
  rw [after0_6]
  funext y
  obtain ⟨q, rfl⟩ : ∃ q : Fin 256, y = ix3 (0 : Fin 1) (0 : Fin 1) q := ⟨(show Fin 256 from (show S1x1x256.Idx from y) 2), by
    funext a; match a with
    | ⟨0, _⟩ => exact Subsingleton.elim (α := Fin 1) _ _
    | ⟨1, _⟩ => exact Subsingleton.elim (α := Fin 1) _ _
    | ⟨2, _⟩ => rfl⟩
  show outsAt0 m hO c t (ix3 (0 : Fin 1) (0 : Fin 1) q) = result _ _ _ _ _ ((((cfgM m hO).win 6).blk t).view.emb (ix3 (0 : Fin 1) (0 : Fin 1) q))
  rw [outs_at]
  unfold result
  refine congrArg₂ (colsum _ _ _ _ _) (Fin.ext ?_) (Fin.ext ?_)
  · show ((grid0.coords t) 0).val = cc0_transform_6 (grid0.coords t) 0 * 1 + 1 * 0
    rw [step6]; omega
  · show q.val = 0 * 256 + 1 * q.val
    omega

/-- Every grid point writes its block. -/
theorem flushes (a : (pcfg0 (F := Ideal)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)

/-- Every place of the result is in some grid point's block. -/
theorem covered (i : S36x1x256.Idx) : ∃ t : Fin (cfgM m hO).N, ((cfgM m hO).win 6).flush t = true ∧ i ∈ (((cfgM m hO).win 6).blk t).view.set := by
  refine ⟨(⟨(i 0).val, (i 0).isLt⟩ : Fin grid0.N), flushes _ _, ?_⟩
  have h := (((cfgM m hO).win 6).blk (⟨(i 0).val, (i 0).isLt⟩ : Fin grid0.N)).view.emb_mem_set (ix3 (0 : Fin 1) (0 : Fin 1) (i 2))
  have e : (((cfgM m hO).win 6).blk (⟨(i 0).val, (i 0).isLt⟩ : Fin grid0.N)).view.emb (ix3 (0 : Fin 1) (0 : Fin 1) (i 2)) = i := by
    funext a; apply Fin.ext
    match a with
    | ⟨0, _⟩ =>
      show cc0_transform_6 (grid0.coords (⟨(i 0).val, (i 0).isLt⟩ : Fin grid0.N)) 0 * 1 + 1 * 0 = (i 0).val
      rw [step6, tileOf_val]; simp
    | ⟨1, _⟩ =>
      show 0 * 1 + 1 * 0 = (i 1).val
      have h1 : (i 1).val < 1 := (i 1).isLt
      omega
    | ⟨2, _⟩ => show 0 * 256 + 1 * (i 2).val = (i 2).val; omega
  rwa [e] at h

/-- The result array after the run. -/
theorem final : (dats m hO 0 c).arrAt 6 (cfgM m hO).N = result (V m c main_v54) (V m c main_arg2) (V m c main_v239) (V m c main_arg0) (V m c main_arg1) :=
  (dats m hO 0 c).arrAt_eq_of_cover 6 _ (fun t _ => flushed_eq m hO c t) (covered m hO)

end Cert.KernelIdeal.Points

end
-- ==== Proof.KernelIdeal.Final.lean ====
/-
The kernel's run read off: its result is the sum of the tiles' column sums, by the number of places under
the diagonals.
-/
module

public import proofs.«01_k».proof.Proof.KernelIdeal.Points
public import proofs.«01_k».proof.Proof.HostLine

@[expose] public section

set_option maxRecDepth 16384

noncomputable section

namespace Cert.KernelIdeal.Points

open Cert.KernelIdeal Cert.KernelIdeal.Gen Cert.KernelIdeal.Frame Cert.Loss Idealize.ShloMosaic Idealize.ShloMosaic.TcCoe Idealize.ShloMosaic.StableHlo Idealize.SL.Sem
open Idealize.ShloMosaic.Pipeline (Dat Cfg Window)

/-- A single number's type. -/
abbrev Single := (⟨S_, .f32⟩ : BufTy).Contents (Elt Ideal)

/-- The sum of a result array by the number of places. -/
def mean (x : Sums) : Single :=
  Host.divf (F := Ideal) (φ := .f32) (Host.reduceAdd (F := Ideal) (φ := .f32) x (constant (F := Ideal) S_ .f32 0x00000000#32) reducesTo_S36x1x256_S_d0_1_2 h_S_ : Single) (constant (F := Ideal) S_ .f32 0x4AFFE000#32)

theorem mean_at (x : Sums) (k : S_.Idx) : (show EReal from mean x k) = Ideal.div (∑ t : Fin 36, ∑ q : Fin 256, (show EReal from x (ix3 t (0 : Fin 1) q))) (Ideal.ofBits .f32 0x4AFFE000#32) := by
  have h : (show EReal from (Host.reduceAdd (F := Ideal) (φ := .f32) x (constant (F := Ideal) S_ .f32 0x00000000#32) reducesTo_S36x1x256_S_d0_1_2 h_S_ : Single) k) = ∑ t : Fin 36, ∑ q : Fin 256, (show EReal from x (ix3 t (0 : Fin 1) q)) := by
    pointwise
    exact Finset.sum_congr rfl fun _ _ => Fin.sum_univ_one _
  exact congrArg (fun y => Ideal.div y (Ideal.ofBits .f32 0x4AFFE000#32)) h

/-- The lines after the call write one buffer each, in the order of the buffers' places. -/
theorem tail_ordered : HostLine.Ordered place 321 (hostOps1 : List (HloOp τ sig (Elt Ideal))) :=
  HostLine.ordered_of_map (W := [main_cst_73, main_v241, main_cst_74, main_v242]) rfl (by decide)

/-- They take the mean of the result array. -/
theorem tail_at (W : Valuation τ sig (Elt Ideal)) :
    (after (hostOps1 : List (HloOp τ sig (Elt Ideal))) W (Proc.devRef .tc main_v242) : Single) = mean (W (Proc.devRef .tc main_v240)) := by
  have h3 := HostLine.binary_at tail_ordered W 3 rfl (by decide) (by decide) (by decide)
  have h2 := HostLine.nullary_at tail_ordered W 2 rfl (by decide)
  have h1 := HostLine.binary_at tail_ordered W 1 rfl (by decide) (by decide) (by decide)
  have h0 := HostLine.nullary_at tail_ordered W 0 rfl (by decide)
  have hx := HostLine.after_of_lt (r := main_v240) W tail_ordered (by decide)
  rw [h0, hx] at h1
  rw [h1, h2] at h3
  exact h3

variable (m : (ℓ : Loc nD τ sig) → Buf (Elt Ideal) ℓ) (ρ : Dev nD → PrngReg) (hO : Ok m)

/-- The kernel's result. -/
def value (c : Dev nD) : Single := mean (result (V m c main_v54) (V m c main_arg2) (V m c main_v239) (V m c main_arg0) (V m c main_arg1))

/-- What the lines after the call leave in the result's buffer. -/
theorem afterTail_eq (c : Dev nD) : Pipeline.afterTail pcfgs (fun _ => adm m hO) (dats m hO) 0 (V0 m) [hostOps1] c main_v242 = value m c := by
  unfold Pipeline.afterTail
  refine (tail_at _).trans (congrArg mean ?_)
  refine Eq.trans (Pipeline.withArrays_arr_shared spec0 c (V0 m c) (fun w => (dats m hO 0 c).arrAt w (cfgM m hO).N)
    ((dats m hO 0 c).arrAt_sharedIn sharedIn0 (V0 m c) (A_eq m hO c) _) 6) ?_
  exact final m hO c

/-- The kernel runs, ends with its result there and leaves its arguments. -/
theorem run_value : θ_run defs (onTc (τ := τ) (main (F := Ideal))) ⟨m, fun _ => 0, ρ⟩ (fun r => ∀ c : Dev nD,
      r.2.mem ((c.tc : Thread nD τ).loc main_v242) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hO := ok m
  have h1 : θ_run defs (onTc (τ := τ) (main (F := Ideal))) ⟨m, fun _ => 0, ρ⟩ (fun r => ∀ c : Dev nD, r.2.mem ((c.tc : Thread nD τ).loc main_v242) = value m c) :=
    (θ_run defs _ _).mono (fun _ h c => ((h c).2 main_v242 (by decide : main_v242 ∈ Pipeline.restRefs sig spec0)).trans (afterTail_eq m hO c)) (run_main m ρ hO)
  exact (θ_run defs _ _).mono (fun _ h c => ⟨h.1 c, h.2 c⟩) (θ_run_and h1 (unchanged m ρ hO))

end Cert.KernelIdeal.Points

end
-- ==== Proof.KernelIdeal.EqA.lean ====
/-
One equation for each operation of a stretch of the kernel's host lines before the call: what it leaves in
its buffer is its function of what its operands hold in the end.
-/
module

public import proofs.«01_k».proof.Proof.KernelIdeal.Setup
public import Idealize.ShloMosaic.Lib.Pointwise

@[expose] public section

set_option maxRecDepth 16384

noncomputable section

namespace Cert.KernelIdeal.Eqs

open Cert.KernelIdeal Cert.KernelIdeal.Gen Cert.KernelIdeal.Frame Idealize.ShloMosaic Idealize.ShloMosaic.TcCoe Idealize.ShloMosaic.StableHlo

/-- The host lines' operations write their own buffers in program order. -/
theorem od : HostLine.Ordered place 4 (pre : List (HloOp τ sig (Elt Ideal))) := pre_ordered
/-- What the host lines before the call leave in a buffer, from launch contents `V`. -/
abbrev R (V : Valuation τ sig (Elt Ideal)) (b : Ref sig .tc) : b.ty.Contents (Elt Ideal) := after pre V (Proc.devRef .tc b)
/-- The contents of a buffer of a shape and element type. -/
abbrev C (s : Shape) (e : EltTy) := (⟨s, e⟩ : BufTy).Contents (Elt Ideal)
/-- Words and numbers over all draws, scalar words, and the operations between them. -/
abbrev W1 := C S16777216 .i32
abbrev X1 := C S16777216 .f32
abbrev W0 := C S_ .i32
abbrev W1o := W1 → W1 → W1
abbrev W01 := W0 → W1

variable (V : Valuation τ sig (Elt Ideal))

theorem e2 : R V main_v0 = (sitofp (F := Ideal) .f32 (iotaInDim S1000 32 0)) := HostLine.nullary_at od V 2 rfl (by decide)
theorem e3 : R V main_cst = (constant (F := Ideal) S_ .f32 0x3F800000#32) := HostLine.nullary_at od V 3 rfl (by decide)
theorem e4 : R V main_v1 = (broadcastInDim S1000 ![] bcast_S_S1000 : C S_ .f32 → C S1000 .f32) (R V main_cst) := HostLine.unary_at od V 4 rfl (by decide) (by decide)
theorem e5 : R V main_v2 = (addf (F := Ideal) (φ := .f32) : C S1000 .f32 → C S1000 .f32 → C S1000 .f32) (R V main_v1) (R V main_v0) := HostLine.binary_at od V 5 rfl (by decide) (by decide) (by decide)
theorem e6 : R V main_cst_1 = (constant (F := Ideal) S_ .f32 0x3F666666#32) := HostLine.nullary_at od V 6 rfl (by decide)
theorem e7 : R V main_v3 = (broadcastInDim S1000 ![] bcast_S_S1000 : C S_ .f32 → C S1000 .f32) (R V main_cst_1) := HostLine.unary_at od V 7 rfl (by decide) (by decide)
theorem e8 : R V main_v4 = (Host.powf (F := Ideal) (φ := .f32) : C S1000 .f32 → C S1000 .f32 → C S1000 .f32) (R V main_v3) (R V main_v2) := HostLine.binary_at od V 8 rfl (by decide) (by decide) (by decide)
theorem e9 : R V main_cst_2 = (constant (F := Ideal) S_ .f32 0x3F800000#32) := HostLine.nullary_at od V 9 rfl (by decide)
theorem e10 : R V main_v5 = (broadcastInDim S1000 ![] bcast_S_S1000 : C S_ .f32 → C S1000 .f32) (R V main_cst_2) := HostLine.unary_at od V 10 rfl (by decide) (by decide)
theorem e11 : R V main_v6 = (subf (F := Ideal) (φ := .f32) : C S1000 .f32 → C S1000 .f32 → C S1000 .f32) (R V main_v5) (R V main_v4) := HostLine.binary_at od V 11 rfl (by decide) (by decide) (by decide)
theorem e12 : R V main_cst_3 = (constant (F := Ideal) S_ .f32 0x3F000000#32) := HostLine.nullary_at od V 12 rfl (by decide)
theorem e13 : R V main_v7 = (broadcastInDim S1000 ![] bcast_S_S1000 : C S_ .f32 → C S1000 .f32) (R V main_cst_3) := HostLine.unary_at od V 13 rfl (by decide) (by decide)
theorem e14 : R V main_v8 = (mulf (F := Ideal) (φ := .f32) : C S1000 .f32 → C S1000 .f32 → C S1000 .f32) (R V main_v7) (R V main_v6) := HostLine.binary_at od V 14 rfl (by decide) (by decide) (by decide)
theorem e15 : R V main_cst_4 = (constant (F := Ideal) S_ .f32 0x3F800000#32) := HostLine.nullary_at od V 15 rfl (by decide)
theorem e16 : R V main_v9 = (broadcastInDim S1000 ![] bcast_S_S1000 : C S_ .f32 → C S1000 .f32) (R V main_cst_4) := HostLine.unary_at od V 16 rfl (by decide) (by decide)
theorem e17 : R V main_v10 = (subf (F := Ideal) (φ := .f32) : C S1000 .f32 → C S1000 .f32 → C S1000 .f32) (R V main_v9) (R V main_v8) := HostLine.binary_at od V 17 rfl (by decide) (by decide) (by decide)
theorem e18 : R V main_v11 = (broadcastInDim S1000x1 ![0] bcast_S1000_S1000x1_0 : C S1000 .f32 → C S1000x1 .f32) (R V main_v10) := HostLine.unary_at od V 18 rfl (by decide) (by decide)
theorem e19 : R V main_v12 = (broadcastInDim S1000x1 ![0] bcast_S1000_S1000x1_0 : C S1000 .f32 → C S1000x1 .f32) (R V main_v8) := HostLine.unary_at od V 19 rfl (by decide) (by decide)
theorem e20 : R V main_v13 = ((fun a b => concatenate S1000x2 1 [⟨S1000x1, a⟩, ⟨S1000x1, b⟩] concatenates_S1000x1_S1000x1_S1000x2_d1) : C S1000x1 .f32 → C S1000x1 .f32 → C S1000x2 .f32) (R V main_v11) (R V main_v12) := HostLine.binary_at od V 20 rfl (by decide) (by decide) (by decide)
theorem e21 : R V main_v14 = (broadcastInDim S1000x1 ![0] bcast_S1000_S1000x1_0 : C S1000 .f32 → C S1000x1 .f32) (R V main_v8) := HostLine.unary_at od V 21 rfl (by decide) (by decide)
theorem e22 : R V main_v15 = (broadcastInDim S1000x1 ![0] bcast_S1000_S1000x1_0 : C S1000 .f32 → C S1000x1 .f32) (R V main_v10) := HostLine.unary_at od V 22 rfl (by decide) (by decide)
theorem e23 : R V main_v16 = ((fun a b => concatenate S1000x2 1 [⟨S1000x1, a⟩, ⟨S1000x1, b⟩] concatenates_S1000x1_S1000x1_S1000x2_d1) : C S1000x1 .f32 → C S1000x1 .f32 → C S1000x2 .f32) (R V main_v14) (R V main_v15) := HostLine.binary_at od V 23 rfl (by decide) (by decide) (by decide)
theorem e24 : R V main_v17 = (broadcastInDim S1000x1x2 ![0, 2] bcast_S1000x2_S1000x1x2_0_2 : C S1000x2 .f32 → C S1000x1x2 .f32) (R V main_v13) := HostLine.unary_at od V 24 rfl (by decide) (by decide)
theorem e25 : R V main_v18 = (broadcastInDim S1000x1x2 ![0, 2] bcast_S1000x2_S1000x1x2_0_2 : C S1000x2 .f32 → C S1000x1x2 .f32) (R V main_v16) := HostLine.unary_at od V 25 rfl (by decide) (by decide)
theorem e26 : R V main_v19 = ((fun a b => concatenate S1000x2x2 1 [⟨S1000x1x2, a⟩, ⟨S1000x1x2, b⟩] concatenates_S1000x1x2_S1000x1x2_S1000x2x2_d1) : C S1000x1x2 .f32 → C S1000x1x2 .f32 → C S1000x2x2 .f32) (R V main_v17) (R V main_v18) := HostLine.binary_at od V 26 rfl (by decide) (by decide) (by decide)
theorem e27 : R V main_c_5 = (constantI S_ 32 1#32) := HostLine.nullary_at od V 27 rfl (by decide)
theorem e28 : R V main_v20 = (broadcastInDim S4 ![] bcast_S_S4 : W0 → C S4 .i32) (R V main_c_5) := HostLine.unary_at od V 28 rfl (by decide) (by decide)
theorem e29 : R V main_v21 = (addi : C S4 .i32 → C S4 .i32 → C S4 .i32) (R V main_arg3) (R V main_v20) := HostLine.binary_at od V 29 rfl (by decide) (by decide) (by decide)
theorem e30 : R V main_c_6 = (constantI S_ 32 0#32) := HostLine.nullary_at od V 30 rfl (by decide)
theorem e31 : R V main_v22 = (broadcastInDim S4 ![] bcast_S_S4 : W0 → C S4 .i32) (R V main_c_6) := HostLine.unary_at od V 31 rfl (by decide) (by decide)
theorem e32 : R V main_v23 = (cmpi .slt : C S4 .i32 → C S4 .i32 → C S4 .i1) (R V main_v21) (R V main_v22) := HostLine.binary_at od V 32 rfl (by decide) (by decide) (by decide)
theorem e33 : R V main_c_7 = (constantI S_ 32 1000#32) := HostLine.nullary_at od V 33 rfl (by decide)
theorem e34 : R V main_v24 = (broadcastInDim S4 ![] bcast_S_S4 : W0 → C S4 .i32) (R V main_c_7) := HostLine.unary_at od V 34 rfl (by decide) (by decide)
theorem e35 : R V main_v25 = (addi : C S4 .i32 → C S4 .i32 → C S4 .i32) (R V main_v21) (R V main_v24) := HostLine.binary_at od V 35 rfl (by decide) (by decide) (by decide)
theorem e36 : R V main_v26 = (select : C S4 .i1 → C S4 .i32 → C S4 .i32 → C S4 .i32) (R V main_v23) (R V main_v25) (R V main_v21) := HostLine.ternary_at od V 36 rfl (by decide) (by decide) (by decide) (by decide)
theorem e37 : R V main_v27 = (broadcastInDim S4x1 ![0] bcast_S4_S4x1_0 : C S4 .i32 → C S4x1 .i32) (R V main_v26) := HostLine.unary_at od V 37 rfl (by decide) (by decide)
theorem e38 : R V main_v28 = ((fun x i => Host.gather gather_S1000x2x2_S4x1_S4x2x2_12_0_n_n_0_1_122 x i) : C S1000x2x2 .f32 → C S4x1 .i32 → C S4x2x2 .f32) (R V main_v19) (R V main_v27) := HostLine.binary_at od V 38 rfl (by decide) (by decide) (by decide)
theorem e39 : R V main_c_8 = (constantI S_ 32 1#32) := HostLine.nullary_at od V 39 rfl (by decide)
theorem e40 : R V main_v29 = (broadcastInDim S4 ![] bcast_S_S4 : W0 → C S4 .i32) (R V main_c_8) := HostLine.unary_at od V 40 rfl (by decide) (by decide)
theorem e41 : R V main_v30 = (subi : C S4 .i32 → C S4 .i32 → C S4 .i32) (R V main_v21) (R V main_v29) := HostLine.binary_at od V 41 rfl (by decide) (by decide) (by decide)
theorem e42 : R V main_c_9 = (constantI S_ 32 0#32) := HostLine.nullary_at od V 42 rfl (by decide)
theorem e43 : R V main_v31 = (broadcastInDim S4 ![] bcast_S_S4 : W0 → C S4 .i32) (R V main_c_9) := HostLine.unary_at od V 43 rfl (by decide) (by decide)
theorem e44 : R V main_v32 = (cmpi .slt : C S4 .i32 → C S4 .i32 → C S4 .i1) (R V main_v30) (R V main_v31) := HostLine.binary_at od V 44 rfl (by decide) (by decide) (by decide)
theorem e45 : R V main_c_10 = (constantI S_ 32 1000#32) := HostLine.nullary_at od V 45 rfl (by decide)
theorem e46 : R V main_v33 = (broadcastInDim S4 ![] bcast_S_S4 : W0 → C S4 .i32) (R V main_c_10) := HostLine.unary_at od V 46 rfl (by decide) (by decide)
theorem e47 : R V main_v34 = (addi : C S4 .i32 → C S4 .i32 → C S4 .i32) (R V main_v30) (R V main_v33) := HostLine.binary_at od V 47 rfl (by decide) (by decide) (by decide)
theorem e48 : R V main_v35 = (select : C S4 .i1 → C S4 .i32 → C S4 .i32 → C S4 .i32) (R V main_v32) (R V main_v34) (R V main_v30) := HostLine.ternary_at od V 48 rfl (by decide) (by decide) (by decide) (by decide)
theorem e49 : R V main_v36 = (broadcastInDim S4x1 ![0] bcast_S4_S4x1_0 : C S4 .i32 → C S4x1 .i32) (R V main_v35) := HostLine.unary_at od V 49 rfl (by decide) (by decide)
theorem e50 : R V main_v37 = ((fun x i => Host.gather gather_S1000x2x2_S4x1_S4x2x2_12_0_n_n_0_1_122 x i) : C S1000x2x2 .f32 → C S4x1 .i32 → C S4x2x2 .f32) (R V main_v19) (R V main_v36) := HostLine.binary_at od V 50 rfl (by decide) (by decide) (by decide)
theorem e51 : R V main_v38 = ((extractStridedSlice S1x2x2 ![0, 0, 0] · slices_S1000x2x2_S1x2x2_0_0_0) : C S1000x2x2 .f32 → C S1x2x2 .f32) (R V main_v19) := HostLine.unary_at od V 51 rfl (by decide) (by decide)
theorem e52 : R V main_v39 = shapeCast (s := S1x2x2) S2x2 (R V main_v38) shapeCasts_S1x2x2_S2x2 := by
  have h := HostLine.reshape_at od V 52 (x := main_v38) (y := main_v39) (he := rfl) (hn := shapeCasts_S1x2x2_S2x2) rfl (by decide) (by decide)
  exact h
theorem e53 : R V main_v40 = ((extractStridedSlice S4x2x1 ![0, 0, 1] · slices_S4x2x2_S4x2x1_0_0_1) : C S4x2x2 .f32 → C S4x2x1 .f32) (R V main_v28) := HostLine.unary_at od V 53 rfl (by decide) (by decide)
theorem e54 : R V main_v41 = shapeCast (s := S4x2x1) S4x2 (R V main_v40) shapeCasts_S4x2x1_S4x2 := by
  have h := HostLine.reshape_at od V 54 (x := main_v40) (y := main_v41) (he := rfl) (hn := shapeCasts_S4x2x1_S4x2) rfl (by decide) (by decide)
  exact h
theorem e55 : R V main_v42 = ((extractStridedSlice S2x1 ![0, 1] · slices_S2x2_S2x1_0_1) : C S2x2 .f32 → C S2x1 .f32) (R V main_v39) := HostLine.unary_at od V 55 rfl (by decide) (by decide)
theorem e56 : R V main_v43 = shapeCast (s := S2x1) S2 (R V main_v42) shapeCasts_S2x1_S2 := by
  have h := HostLine.reshape_at od V 56 (x := main_v42) (y := main_v43) (he := rfl) (hn := shapeCasts_S2x1_S2) rfl (by decide) (by decide)
  exact h
theorem e57 : R V main_v44 = (broadcastInDim S1x1x2 ![2] bcast_S2_S1x1x2_2 : C S2 .f32 → C S1x1x2 .f32) (R V main_v43) := HostLine.unary_at od V 57 rfl (by decide) (by decide)
theorem e58 : R V main_v45 = ((extractStridedSlice S4x2x1 ![0, 0, 1] · slices_S4x2x2_S4x2x1_0_0_1) : C S4x2x2 .f32 → C S4x2x1 .f32) (R V main_v37) := HostLine.unary_at od V 58 rfl (by decide) (by decide)
theorem e59 : R V main_v46 = shapeCast (s := S4x2x1) S4x2 (R V main_v45) shapeCasts_S4x2x1_S4x2 := by
  have h := HostLine.reshape_at od V 59 (x := main_v45) (y := main_v46) (he := rfl) (hn := shapeCasts_S4x2x1_S4x2) rfl (by decide) (by decide)
  exact h
theorem e60 : R V main_v47 = (broadcastInDim S4x2x1 ![0, 1] bcast_S4x2_S4x2x1_0_1 : C S4x2 .f32 → C S4x2x1 .f32) (R V main_v46) := HostLine.unary_at od V 60 rfl (by decide) (by decide)
theorem e61 : R V main_v48 = (broadcastInDim S4x2x2 ![0, 1, 2] bcast_S1x1x2_S4x2x2_0_1_2 : C S1x1x2 .f32 → C S4x2x2 .f32) (R V main_v44) := HostLine.unary_at od V 61 rfl (by decide) (by decide)
theorem e62 : R V main_v49 = (broadcastInDim S4x2x2 ![0, 1, 2] bcast_S4x2x1_S4x2x2_0_1_2 : C S4x2x1 .f32 → C S4x2x2 .f32) (R V main_v47) := HostLine.unary_at od V 62 rfl (by decide) (by decide)
theorem e63 : R V main_v50 = (mulf (F := Ideal) (φ := .f32) : C S4x2x2 .f32 → C S4x2x2 .f32 → C S4x2x2 .f32) (R V main_v48) (R V main_v49) := HostLine.binary_at od V 63 rfl (by decide) (by decide) (by decide)
theorem e64 : R V main_v51 = (Host.divf (F := Ideal) (φ := .f32) : C S4x2x2 .f32 → C S4x2x2 .f32 → C S4x2x2 .f32) (R V main_v50) (R V main_v28) := HostLine.binary_at od V 64 rfl (by decide) (by decide) (by decide)
theorem e65 : R V main_v52 = shapeCast (s := S4x2x2) S4x4 (R V main_v51) shapeCasts_S4x2x2_S4x4 := by
  have h := HostLine.reshape_at od V 65 (x := main_v51) (y := main_v52) (he := rfl) (hn := shapeCasts_S4x2x2_S4x4) rfl (by decide) (by decide)
  exact h
theorem e66 : R V main_v53 = ((fun a b => concatenate S4x6 1 [⟨S4x2, a⟩, ⟨S4x4, b⟩] concatenates_S4x2_S4x4_S4x6_d1) : C S4x2 .f32 → C S4x4 .f32 → C S4x6 .f32) (R V main_v41) (R V main_v52) := HostLine.binary_at od V 66 rfl (by decide) (by decide) (by decide)
theorem e67 : R V main_c_11 = (constantI S_ 32 0#32) := HostLine.nullary_at od V 67 rfl (by decide)
theorem e68 : R V main_call0_v0 = ((sitofp (F := Ideal) .f32) : W0 → C S_ .f32) (R V main_c_11) := HostLine.unary_at od V 68 rfl (by decide) (by decide)
theorem e69 : R V main_v54 = ((fun x v => pad S4x8 ![0, 0] ![0, 2] ![0, 0] x v pads_S4x6_S4x8_000_020 h_S_) : C S4x6 .f32 → C S_ .f32 → C S4x8 .f32) (R V main_v53) (R V main_call0_v0) := HostLine.binary_at od V 69 rfl (by decide) (by decide) (by decide)

end Cert.KernelIdeal.Eqs

end
-- ==== Proof.KernelIdeal.Params.lean ====
/-
The six parameters of each batch, read off the kernel's tables.
-/
module

public import proofs.«01_k».proof.Proof.KernelIdeal.EqA
public import Idealize.ShloMosaic.Lib.IdealHost

@[expose] public section

set_option maxRecDepth 16384

noncomputable section

namespace Cert.KernelIdeal.Eqs

open Cert.KernelIdeal Cert.KernelIdeal.Gen Idealize.ShloMosaic Idealize.ShloMosaic.TcCoe Idealize.ShloMosaic.StableHlo

/-- The parameters from the three tables. -/
def paramsOf (x28 x37 : C S4x2x2 .f32) (x39 : C S2x2 .f32) (z : C S_ .f32) : C S4x8 .f32 :=
  pad S4x8 ![0, 0] ![0, 2] ![0, 0]
    (concatenate S4x6 1 [⟨S4x2, shapeCast (s := S4x2x1) S4x2 (extractStridedSlice S4x2x1 ![0, 0, 1] x28 slices_S4x2x2_S4x2x1_0_0_1) shapeCasts_S4x2x1_S4x2⟩,
      ⟨S4x4, shapeCast (s := S4x2x2) S4x4 (Host.divf (F := Ideal) (φ := .f32)
        (mulf (F := Ideal) (φ := .f32)
          (broadcastInDim S4x2x2 ![0, 1, 2] bcast_S1x1x2_S4x2x2_0_1_2 (broadcastInDim S1x1x2 ![2] bcast_S2_S1x1x2_2 (shapeCast (s := S2x1) S2 (extractStridedSlice S2x1 ![0, 1] x39 slices_S2x2_S2x1_0_1) shapeCasts_S2x1_S2)))
          (broadcastInDim S4x2x2 ![0, 1, 2] bcast_S4x2x1_S4x2x2_0_1_2 (broadcastInDim S4x2x1 ![0, 1] bcast_S4x2_S4x2x1_0_1 (shapeCast (s := S4x2x1) S4x2 (extractStridedSlice S4x2x1 ![0, 0, 1] x37 slices_S4x2x2_S4x2x1_0_0_1) shapeCasts_S4x2x1_S4x2))))
        x28) shapeCasts_S4x2x2_S4x4⟩] concatenates_S4x2_S4x4_S4x6_d1) z pads_S4x6_S4x8_000_020 h_S_

variable (x28 x37 : C S4x2x2 .f32) (x39 : C S2x2 .f32) (z : C S_ .f32) (b : Fin 4)

/-- The first two parameters are the chances that a label is kept, the other four the posteriors of an edge. -/
theorem param0 : paramsOf x28 x37 x39 z (ix2 b (0 : Fin 8)) = x28 (ix3 b (0 : Fin 2) (1 : Fin 2)) := by pointwise [paramsOf]
theorem param1 : paramsOf x28 x37 x39 z (ix2 b (1 : Fin 8)) = x28 (ix3 b (1 : Fin 2) (1 : Fin 2)) := by pointwise [paramsOf]
theorem param2 : (show EReal from paramsOf x28 x37 x39 z (ix2 b (2 : Fin 8))) = Ideal.div ((show EReal from x39 (ix2 (0 : Fin 2) (1 : Fin 2))) * (show EReal from x37 (ix3 b (0 : Fin 2) (1 : Fin 2)))) (x28 (ix3 b (0 : Fin 2) (0 : Fin 2))) := by pointwise [paramsOf]
theorem param3 : (show EReal from paramsOf x28 x37 x39 z (ix2 b (3 : Fin 8))) = Ideal.div ((show EReal from x39 (ix2 (1 : Fin 2) (1 : Fin 2))) * (show EReal from x37 (ix3 b (0 : Fin 2) (1 : Fin 2)))) (x28 (ix3 b (0 : Fin 2) (1 : Fin 2))) := by pointwise [paramsOf]
theorem param4 : (show EReal from paramsOf x28 x37 x39 z (ix2 b (4 : Fin 8))) = Ideal.div ((show EReal from x39 (ix2 (0 : Fin 2) (1 : Fin 2))) * (show EReal from x37 (ix3 b (1 : Fin 2) (1 : Fin 2)))) (x28 (ix3 b (1 : Fin 2) (0 : Fin 2))) := by pointwise [paramsOf]
theorem param5 : (show EReal from paramsOf x28 x37 x39 z (ix2 b (5 : Fin 8))) = Ideal.div ((show EReal from x39 (ix2 (1 : Fin 2) (1 : Fin 2))) * (show EReal from x37 (ix3 b (1 : Fin 2) (1 : Fin 2)))) (x28 (ix3 b (1 : Fin 2) (1 : Fin 2))) := by pointwise [paramsOf]

/-- The kernel's parameter table is that table. -/
theorem params_eq (V : Valuation τ sig (Elt Ideal)) : (R V main_v54 : C S4x8 .f32) = paramsOf (R V main_v28) (R V main_v37) (R V main_v39) (R V main_call0_v0) := by
  rw [e69, e66, e65, e64, e63, e62, e61, e60, e59, e58, e57, e56, e55, e54, e53]; rfl

end Cert.KernelIdeal.Eqs

end
-- ==== Proof.KernelIdeal.EqB.lean ====
/-
One equation for each operation of a stretch of the kernel's host lines before the call: what it leaves in
its buffer is its function of what its operands hold in the end.
-/
module

public import proofs.«01_k».proof.Proof.KernelIdeal.EqA
public import Idealize.ShloMosaic.Lib.Pointwise

@[expose] public section

set_option maxRecDepth 16384

noncomputable section

namespace Cert.KernelIdeal.Eqs

open Cert.KernelIdeal Cert.KernelIdeal.Gen Cert.KernelIdeal.Frame Idealize.ShloMosaic Idealize.ShloMosaic.TcCoe Idealize.ShloMosaic.StableHlo

variable (V : Valuation τ sig (Elt Ideal))

theorem e70 : R V main_c_12 = (constantI S_ 32 0#32) := HostLine.nullary_at od V 70 rfl (by decide)
theorem e71 : R V main_v55 = (broadcastInDim S16777216 ![] bcast_S_S16777216 : W01) (R V main_c_12) := HostLine.unary_at od V 71 rfl (by decide) (by decide)
theorem e72 : R V main_v56 = (iotaInDim S16777216 32 0) := HostLine.nullary_at od V 72 rfl (by decide)
theorem e73 : R V main_c_13 = (constantI S_ 32 0#32) := HostLine.nullary_at od V 73 rfl (by decide)
theorem e74 : R V main_v57 = (broadcastInDim S16777216 ![] bcast_S_S16777216 : W01) (R V main_c_13) := HostLine.unary_at od V 74 rfl (by decide) (by decide)
theorem e75 : R V main_v58 = (addi : W1o) (R V main_v55) (R V main_v57) := HostLine.binary_at od V 75 rfl (by decide) (by decide) (by decide)
theorem e76 : R V main_c_14 = (constantI S_ 32 42#32) := HostLine.nullary_at od V 76 rfl (by decide)
theorem e77 : R V main_v59 = (broadcastInDim S16777216 ![] bcast_S_S16777216 : W01) (R V main_c_14) := HostLine.unary_at od V 77 rfl (by decide) (by decide)
theorem e78 : R V main_v60 = (addi : W1o) (R V main_v56) (R V main_v59) := HostLine.binary_at od V 78 rfl (by decide) (by decide) (by decide)
theorem e79 : R V main_v61 = (addi : W1o) (R V main_v58) (R V main_v60) := HostLine.binary_at od V 79 rfl (by decide) (by decide) (by decide)
theorem e80 : R V main_c_15 = (constantI S_ 32 13#32) := HostLine.nullary_at od V 80 rfl (by decide)
theorem e81 : R V main_v62 = (broadcastInDim S16777216 ![] bcast_S_S16777216 : W01) (R V main_c_15) := HostLine.unary_at od V 81 rfl (by decide) (by decide)
theorem e82 : R V main_v63 = (Host.shli : W1o) (R V main_v60) (R V main_v62) := HostLine.binary_at od V 82 rfl (by decide) (by decide) (by decide)
theorem e83 : R V main_c_16 = (constantI S_ 32 19#32) := HostLine.nullary_at od V 83 rfl (by decide)
theorem e84 : R V main_v64 = (broadcastInDim S16777216 ![] bcast_S_S16777216 : W01) (R V main_c_16) := HostLine.unary_at od V 84 rfl (by decide) (by decide)
theorem e85 : R V main_v65 = (Host.shrui : W1o) (R V main_v60) (R V main_v64) := HostLine.binary_at od V 85 rfl (by decide) (by decide) (by decide)
theorem e86 : R V main_v66 = (ori : W1o) (R V main_v63) (R V main_v65) := HostLine.binary_at od V 86 rfl (by decide) (by decide) (by decide)
theorem e87 : R V main_v67 = (xori : W1o) (R V main_v61) (R V main_v66) := HostLine.binary_at od V 87 rfl (by decide) (by decide) (by decide)
theorem e88 : R V main_v68 = (addi : W1o) (R V main_v61) (R V main_v67) := HostLine.binary_at od V 88 rfl (by decide) (by decide) (by decide)
theorem e89 : R V main_c_17 = (constantI S_ 32 15#32) := HostLine.nullary_at od V 89 rfl (by decide)
theorem e90 : R V main_v69 = (broadcastInDim S16777216 ![] bcast_S_S16777216 : W01) (R V main_c_17) := HostLine.unary_at od V 90 rfl (by decide) (by decide)
theorem e91 : R V main_v70 = (Host.shli : W1o) (R V main_v67) (R V main_v69) := HostLine.binary_at od V 91 rfl (by decide) (by decide) (by decide)
theorem e92 : R V main_c_18 = (constantI S_ 32 17#32) := HostLine.nullary_at od V 92 rfl (by decide)
theorem e93 : R V main_v71 = (broadcastInDim S16777216 ![] bcast_S_S16777216 : W01) (R V main_c_18) := HostLine.unary_at od V 93 rfl (by decide) (by decide)
theorem e94 : R V main_v72 = (Host.shrui : W1o) (R V main_v67) (R V main_v71) := HostLine.binary_at od V 94 rfl (by decide) (by decide) (by decide)
theorem e95 : R V main_v73 = (ori : W1o) (R V main_v70) (R V main_v72) := HostLine.binary_at od V 95 rfl (by decide) (by decide) (by decide)
theorem e96 : R V main_v74 = (xori : W1o) (R V main_v68) (R V main_v73) := HostLine.binary_at od V 96 rfl (by decide) (by decide) (by decide)
theorem e97 : R V main_v75 = (addi : W1o) (R V main_v68) (R V main_v74) := HostLine.binary_at od V 97 rfl (by decide) (by decide) (by decide)
theorem e98 : R V main_c_19 = (constantI S_ 32 26#32) := HostLine.nullary_at od V 98 rfl (by decide)
theorem e99 : R V main_v76 = (broadcastInDim S16777216 ![] bcast_S_S16777216 : W01) (R V main_c_19) := HostLine.unary_at od V 99 rfl (by decide) (by decide)
theorem e100 : R V main_v77 = (Host.shli : W1o) (R V main_v74) (R V main_v76) := HostLine.binary_at od V 100 rfl (by decide) (by decide) (by decide)
theorem e101 : R V main_c_20 = (constantI S_ 32 6#32) := HostLine.nullary_at od V 101 rfl (by decide)
theorem e102 : R V main_v78 = (broadcastInDim S16777216 ![] bcast_S_S16777216 : W01) (R V main_c_20) := HostLine.unary_at od V 102 rfl (by decide) (by decide)
theorem e103 : R V main_v79 = (Host.shrui : W1o) (R V main_v74) (R V main_v78) := HostLine.binary_at od V 103 rfl (by decide) (by decide) (by decide)
theorem e104 : R V main_v80 = (ori : W1o) (R V main_v77) (R V main_v79) := HostLine.binary_at od V 104 rfl (by decide) (by decide) (by decide)
theorem e105 : R V main_v81 = (xori : W1o) (R V main_v75) (R V main_v80) := HostLine.binary_at od V 105 rfl (by decide) (by decide) (by decide)
theorem e106 : R V main_v82 = (addi : W1o) (R V main_v75) (R V main_v81) := HostLine.binary_at od V 106 rfl (by decide) (by decide) (by decide)
theorem e107 : R V main_c_21 = (constantI S_ 32 6#32) := HostLine.nullary_at od V 107 rfl (by decide)
theorem e108 : R V main_v83 = (broadcastInDim S16777216 ![] bcast_S_S16777216 : W01) (R V main_c_21) := HostLine.unary_at od V 108 rfl (by decide) (by decide)
theorem e109 : R V main_v84 = (Host.shli : W1o) (R V main_v81) (R V main_v83) := HostLine.binary_at od V 109 rfl (by decide) (by decide) (by decide)
theorem e110 : R V main_c_22 = (constantI S_ 32 26#32) := HostLine.nullary_at od V 110 rfl (by decide)
theorem e111 : R V main_v85 = (broadcastInDim S16777216 ![] bcast_S_S16777216 : W01) (R V main_c_22) := HostLine.unary_at od V 111 rfl (by decide) (by decide)
theorem e112 : R V main_v86 = (Host.shrui : W1o) (R V main_v81) (R V main_v85) := HostLine.binary_at od V 112 rfl (by decide) (by decide) (by decide)
theorem e113 : R V main_v87 = (ori : W1o) (R V main_v84) (R V main_v86) := HostLine.binary_at od V 113 rfl (by decide) (by decide) (by decide)
theorem e114 : R V main_v88 = (xori : W1o) (R V main_v82) (R V main_v87) := HostLine.binary_at od V 114 rfl (by decide) (by decide) (by decide)
theorem e115 : R V main_c_23 = (constantI S_ 32 42#32) := HostLine.nullary_at od V 115 rfl (by decide)
theorem e116 : R V main_v89 = (broadcastInDim S16777216 ![] bcast_S_S16777216 : W01) (R V main_c_23) := HostLine.unary_at od V 116 rfl (by decide) (by decide)
theorem e117 : R V main_v90 = (addi : W1o) (R V main_v82) (R V main_v89) := HostLine.binary_at od V 117 rfl (by decide) (by decide) (by decide)
theorem e118 : R V main_c_24 = (constantI S_ 32 466689008#32) := HostLine.nullary_at od V 118 rfl (by decide)
theorem e119 : R V main_v91 = (broadcastInDim S16777216 ![] bcast_S_S16777216 : W01) (R V main_c_24) := HostLine.unary_at od V 119 rfl (by decide) (by decide)
theorem e120 : R V main_v92 = (addi : W1o) (R V main_v88) (R V main_v91) := HostLine.binary_at od V 120 rfl (by decide) (by decide) (by decide)
theorem e121 : R V main_c_25 = (constantI S_ 32 1#32) := HostLine.nullary_at od V 121 rfl (by decide)
theorem e122 : R V main_v93 = (broadcastInDim S16777216 ![] bcast_S_S16777216 : W01) (R V main_c_25) := HostLine.unary_at od V 122 rfl (by decide) (by decide)
theorem e123 : R V main_v94 = (addi : W1o) (R V main_v92) (R V main_v93) := HostLine.binary_at od V 123 rfl (by decide) (by decide) (by decide)
theorem e124 : R V main_v95 = (addi : W1o) (R V main_v90) (R V main_v94) := HostLine.binary_at od V 124 rfl (by decide) (by decide) (by decide)
theorem e125 : R V main_c_26 = (constantI S_ 32 17#32) := HostLine.nullary_at od V 125 rfl (by decide)
theorem e126 : R V main_v96 = (broadcastInDim S16777216 ![] bcast_S_S16777216 : W01) (R V main_c_26) := HostLine.unary_at od V 126 rfl (by decide) (by decide)
theorem e127 : R V main_v97 = (Host.shli : W1o) (R V main_v94) (R V main_v96) := HostLine.binary_at od V 127 rfl (by decide) (by decide) (by decide)
theorem e128 : R V main_c_27 = (constantI S_ 32 15#32) := HostLine.nullary_at od V 128 rfl (by decide)
theorem e129 : R V main_v98 = (broadcastInDim S16777216 ![] bcast_S_S16777216 : W01) (R V main_c_27) := HostLine.unary_at od V 129 rfl (by decide) (by decide)
theorem e130 : R V main_v99 = (Host.shrui : W1o) (R V main_v94) (R V main_v98) := HostLine.binary_at od V 130 rfl (by decide) (by decide) (by decide)
theorem e131 : R V main_v100 = (ori : W1o) (R V main_v97) (R V main_v99) := HostLine.binary_at od V 131 rfl (by decide) (by decide) (by decide)
theorem e132 : R V main_v101 = (xori : W1o) (R V main_v95) (R V main_v100) := HostLine.binary_at od V 132 rfl (by decide) (by decide) (by decide)
theorem e133 : R V main_v102 = (addi : W1o) (R V main_v95) (R V main_v101) := HostLine.binary_at od V 133 rfl (by decide) (by decide) (by decide)
theorem e134 : R V main_c_28 = (constantI S_ 32 29#32) := HostLine.nullary_at od V 134 rfl (by decide)
theorem e135 : R V main_v103 = (broadcastInDim S16777216 ![] bcast_S_S16777216 : W01) (R V main_c_28) := HostLine.unary_at od V 135 rfl (by decide) (by decide)
theorem e136 : R V main_v104 = (Host.shli : W1o) (R V main_v101) (R V main_v103) := HostLine.binary_at od V 136 rfl (by decide) (by decide) (by decide)
theorem e137 : R V main_c_29 = (constantI S_ 32 3#32) := HostLine.nullary_at od V 137 rfl (by decide)
theorem e138 : R V main_v105 = (broadcastInDim S16777216 ![] bcast_S_S16777216 : W01) (R V main_c_29) := HostLine.unary_at od V 138 rfl (by decide) (by decide)
theorem e139 : R V main_v106 = (Host.shrui : W1o) (R V main_v101) (R V main_v105) := HostLine.binary_at od V 139 rfl (by decide) (by decide) (by decide)
theorem e140 : R V main_v107 = (ori : W1o) (R V main_v104) (R V main_v106) := HostLine.binary_at od V 140 rfl (by decide) (by decide) (by decide)
theorem e141 : R V main_v108 = (xori : W1o) (R V main_v102) (R V main_v107) := HostLine.binary_at od V 141 rfl (by decide) (by decide) (by decide)
theorem e142 : R V main_v109 = (addi : W1o) (R V main_v102) (R V main_v108) := HostLine.binary_at od V 142 rfl (by decide) (by decide) (by decide)
theorem e143 : R V main_c_30 = (constantI S_ 32 16#32) := HostLine.nullary_at od V 143 rfl (by decide)
theorem e144 : R V main_v110 = (broadcastInDim S16777216 ![] bcast_S_S16777216 : W01) (R V main_c_30) := HostLine.unary_at od V 144 rfl (by decide) (by decide)
theorem e145 : R V main_v111 = (Host.shli : W1o) (R V main_v108) (R V main_v110) := HostLine.binary_at od V 145 rfl (by decide) (by decide) (by decide)
theorem e146 : R V main_c_31 = (constantI S_ 32 16#32) := HostLine.nullary_at od V 146 rfl (by decide)
theorem e147 : R V main_v112 = (broadcastInDim S16777216 ![] bcast_S_S16777216 : W01) (R V main_c_31) := HostLine.unary_at od V 147 rfl (by decide) (by decide)
theorem e148 : R V main_v113 = (Host.shrui : W1o) (R V main_v108) (R V main_v112) := HostLine.binary_at od V 148 rfl (by decide) (by decide) (by decide)
theorem e149 : R V main_v114 = (ori : W1o) (R V main_v111) (R V main_v113) := HostLine.binary_at od V 149 rfl (by decide) (by decide) (by decide)
theorem e150 : R V main_v115 = (xori : W1o) (R V main_v109) (R V main_v114) := HostLine.binary_at od V 150 rfl (by decide) (by decide) (by decide)
theorem e151 : R V main_v116 = (addi : W1o) (R V main_v109) (R V main_v115) := HostLine.binary_at od V 151 rfl (by decide) (by decide) (by decide)
theorem e152 : R V main_c_32 = (constantI S_ 32 24#32) := HostLine.nullary_at od V 152 rfl (by decide)
theorem e153 : R V main_v117 = (broadcastInDim S16777216 ![] bcast_S_S16777216 : W01) (R V main_c_32) := HostLine.unary_at od V 153 rfl (by decide) (by decide)
theorem e154 : R V main_v118 = (Host.shli : W1o) (R V main_v115) (R V main_v117) := HostLine.binary_at od V 154 rfl (by decide) (by decide) (by decide)
theorem e155 : R V main_c_33 = (constantI S_ 32 8#32) := HostLine.nullary_at od V 155 rfl (by decide)
theorem e156 : R V main_v119 = (broadcastInDim S16777216 ![] bcast_S_S16777216 : W01) (R V main_c_33) := HostLine.unary_at od V 156 rfl (by decide) (by decide)
theorem e157 : R V main_v120 = (Host.shrui : W1o) (R V main_v115) (R V main_v119) := HostLine.binary_at od V 157 rfl (by decide) (by decide) (by decide)
theorem e158 : R V main_v121 = (ori : W1o) (R V main_v118) (R V main_v120) := HostLine.binary_at od V 158 rfl (by decide) (by decide) (by decide)
theorem e159 : R V main_v122 = (xori : W1o) (R V main_v116) (R V main_v121) := HostLine.binary_at od V 159 rfl (by decide) (by decide) (by decide)
theorem e160 : R V main_c_34 = (constantI S_ 32 466689008#32) := HostLine.nullary_at od V 160 rfl (by decide)
theorem e161 : R V main_v123 = (broadcastInDim S16777216 ![] bcast_S_S16777216 : W01) (R V main_c_34) := HostLine.unary_at od V 161 rfl (by decide) (by decide)
theorem e162 : R V main_v124 = (addi : W1o) (R V main_v116) (R V main_v123) := HostLine.binary_at od V 162 rfl (by decide) (by decide) (by decide)
theorem e163 : R V main_c_35 = (constantI S_ 32 0#32) := HostLine.nullary_at od V 163 rfl (by decide)
theorem e164 : R V main_v125 = (broadcastInDim S16777216 ![] bcast_S_S16777216 : W01) (R V main_c_35) := HostLine.unary_at od V 164 rfl (by decide) (by decide)
theorem e165 : R V main_v126 = (addi : W1o) (R V main_v122) (R V main_v125) := HostLine.binary_at od V 165 rfl (by decide) (by decide) (by decide)
theorem e166 : R V main_c_36 = (constantI S_ 32 2#32) := HostLine.nullary_at od V 166 rfl (by decide)
theorem e167 : R V main_v127 = (broadcastInDim S16777216 ![] bcast_S_S16777216 : W01) (R V main_c_36) := HostLine.unary_at od V 167 rfl (by decide) (by decide)
theorem e168 : R V main_v128 = (addi : W1o) (R V main_v126) (R V main_v127) := HostLine.binary_at od V 168 rfl (by decide) (by decide) (by decide)
theorem e169 : R V main_v129 = (addi : W1o) (R V main_v124) (R V main_v128) := HostLine.binary_at od V 169 rfl (by decide) (by decide) (by decide)
theorem e170 : R V main_c_37 = (constantI S_ 32 13#32) := HostLine.nullary_at od V 170 rfl (by decide)
theorem e171 : R V main_v130 = (broadcastInDim S16777216 ![] bcast_S_S16777216 : W01) (R V main_c_37) := HostLine.unary_at od V 171 rfl (by decide) (by decide)
theorem e172 : R V main_v131 = (Host.shli : W1o) (R V main_v128) (R V main_v130) := HostLine.binary_at od V 172 rfl (by decide) (by decide) (by decide)
theorem e173 : R V main_c_38 = (constantI S_ 32 19#32) := HostLine.nullary_at od V 173 rfl (by decide)
theorem e174 : R V main_v132 = (broadcastInDim S16777216 ![] bcast_S_S16777216 : W01) (R V main_c_38) := HostLine.unary_at od V 174 rfl (by decide) (by decide)
theorem e175 : R V main_v133 = (Host.shrui : W1o) (R V main_v128) (R V main_v132) := HostLine.binary_at od V 175 rfl (by decide) (by decide) (by decide)
theorem e176 : R V main_v134 = (ori : W1o) (R V main_v131) (R V main_v133) := HostLine.binary_at od V 176 rfl (by decide) (by decide) (by decide)
theorem e177 : R V main_v135 = (xori : W1o) (R V main_v129) (R V main_v134) := HostLine.binary_at od V 177 rfl (by decide) (by decide) (by decide)
theorem e178 : R V main_v136 = (addi : W1o) (R V main_v129) (R V main_v135) := HostLine.binary_at od V 178 rfl (by decide) (by decide) (by decide)
theorem e179 : R V main_c_39 = (constantI S_ 32 15#32) := HostLine.nullary_at od V 179 rfl (by decide)
theorem e180 : R V main_v137 = (broadcastInDim S16777216 ![] bcast_S_S16777216 : W01) (R V main_c_39) := HostLine.unary_at od V 180 rfl (by decide) (by decide)
theorem e181 : R V main_v138 = (Host.shli : W1o) (R V main_v135) (R V main_v137) := HostLine.binary_at od V 181 rfl (by decide) (by decide) (by decide)
theorem e182 : R V main_c_40 = (constantI S_ 32 17#32) := HostLine.nullary_at od V 182 rfl (by decide)
theorem e183 : R V main_v139 = (broadcastInDim S16777216 ![] bcast_S_S16777216 : W01) (R V main_c_40) := HostLine.unary_at od V 183 rfl (by decide) (by decide)
theorem e184 : R V main_v140 = (Host.shrui : W1o) (R V main_v135) (R V main_v139) := HostLine.binary_at od V 184 rfl (by decide) (by decide) (by decide)
theorem e185 : R V main_v141 = (ori : W1o) (R V main_v138) (R V main_v140) := HostLine.binary_at od V 185 rfl (by decide) (by decide) (by decide)
theorem e186 : R V main_v142 = (xori : W1o) (R V main_v136) (R V main_v141) := HostLine.binary_at od V 186 rfl (by decide) (by decide) (by decide)
theorem e187 : R V main_v143 = (addi : W1o) (R V main_v136) (R V main_v142) := HostLine.binary_at od V 187 rfl (by decide) (by decide) (by decide)
theorem e188 : R V main_c_41 = (constantI S_ 32 26#32) := HostLine.nullary_at od V 188 rfl (by decide)
theorem e189 : R V main_v144 = (broadcastInDim S16777216 ![] bcast_S_S16777216 : W01) (R V main_c_41) := HostLine.unary_at od V 189 rfl (by decide) (by decide)

end Cert.KernelIdeal.Eqs

end
-- ==== Proof.KernelIdeal.EqC.lean ====
/-
One equation for each operation of a stretch of the kernel's host lines before the call: what it leaves in
its buffer is its function of what its operands hold in the end.
-/
module

public import proofs.«01_k».proof.Proof.KernelIdeal.EqA
public import Idealize.ShloMosaic.Lib.Pointwise

@[expose] public section

set_option maxRecDepth 16384

noncomputable section

namespace Cert.KernelIdeal.Eqs

open Cert.KernelIdeal Cert.KernelIdeal.Gen Cert.KernelIdeal.Frame Idealize.ShloMosaic Idealize.ShloMosaic.TcCoe Idealize.ShloMosaic.StableHlo

variable (V : Valuation τ sig (Elt Ideal))

theorem e190 : R V main_v145 = (Host.shli : W1o) (R V main_v142) (R V main_v144) := HostLine.binary_at od V 190 rfl (by decide) (by decide) (by decide)
theorem e191 : R V main_c_42 = (constantI S_ 32 6#32) := HostLine.nullary_at od V 191 rfl (by decide)
theorem e192 : R V main_v146 = (broadcastInDim S16777216 ![] bcast_S_S16777216 : W01) (R V main_c_42) := HostLine.unary_at od V 192 rfl (by decide) (by decide)
theorem e193 : R V main_v147 = (Host.shrui : W1o) (R V main_v142) (R V main_v146) := HostLine.binary_at od V 193 rfl (by decide) (by decide) (by decide)
theorem e194 : R V main_v148 = (ori : W1o) (R V main_v145) (R V main_v147) := HostLine.binary_at od V 194 rfl (by decide) (by decide) (by decide)
theorem e195 : R V main_v149 = (xori : W1o) (R V main_v143) (R V main_v148) := HostLine.binary_at od V 195 rfl (by decide) (by decide) (by decide)
theorem e196 : R V main_v150 = (addi : W1o) (R V main_v143) (R V main_v149) := HostLine.binary_at od V 196 rfl (by decide) (by decide) (by decide)
theorem e197 : R V main_c_43 = (constantI S_ 32 6#32) := HostLine.nullary_at od V 197 rfl (by decide)
theorem e198 : R V main_v151 = (broadcastInDim S16777216 ![] bcast_S_S16777216 : W01) (R V main_c_43) := HostLine.unary_at od V 198 rfl (by decide) (by decide)
theorem e199 : R V main_v152 = (Host.shli : W1o) (R V main_v149) (R V main_v151) := HostLine.binary_at od V 199 rfl (by decide) (by decide) (by decide)
theorem e200 : R V main_c_44 = (constantI S_ 32 26#32) := HostLine.nullary_at od V 200 rfl (by decide)
theorem e201 : R V main_v153 = (broadcastInDim S16777216 ![] bcast_S_S16777216 : W01) (R V main_c_44) := HostLine.unary_at od V 201 rfl (by decide) (by decide)
theorem e202 : R V main_v154 = (Host.shrui : W1o) (R V main_v149) (R V main_v153) := HostLine.binary_at od V 202 rfl (by decide) (by decide) (by decide)
theorem e203 : R V main_v155 = (ori : W1o) (R V main_v152) (R V main_v154) := HostLine.binary_at od V 203 rfl (by decide) (by decide) (by decide)
theorem e204 : R V main_v156 = (xori : W1o) (R V main_v150) (R V main_v155) := HostLine.binary_at od V 204 rfl (by decide) (by decide) (by decide)
theorem e205 : R V main_c_45 = (constantI S_ 32 0#32) := HostLine.nullary_at od V 205 rfl (by decide)
theorem e206 : R V main_v157 = (broadcastInDim S16777216 ![] bcast_S_S16777216 : W01) (R V main_c_45) := HostLine.unary_at od V 206 rfl (by decide) (by decide)
theorem e207 : R V main_v158 = (addi : W1o) (R V main_v150) (R V main_v157) := HostLine.binary_at od V 207 rfl (by decide) (by decide) (by decide)
theorem e208 : R V main_c_46 = (constantI S_ 32 42#32) := HostLine.nullary_at od V 208 rfl (by decide)
theorem e209 : R V main_v159 = (broadcastInDim S16777216 ![] bcast_S_S16777216 : W01) (R V main_c_46) := HostLine.unary_at od V 209 rfl (by decide) (by decide)
theorem e210 : R V main_v160 = (addi : W1o) (R V main_v156) (R V main_v159) := HostLine.binary_at od V 210 rfl (by decide) (by decide) (by decide)
theorem e211 : R V main_c_47 = (constantI S_ 32 3#32) := HostLine.nullary_at od V 211 rfl (by decide)
theorem e212 : R V main_v161 = (broadcastInDim S16777216 ![] bcast_S_S16777216 : W01) (R V main_c_47) := HostLine.unary_at od V 212 rfl (by decide) (by decide)
theorem e213 : R V main_v162 = (addi : W1o) (R V main_v160) (R V main_v161) := HostLine.binary_at od V 213 rfl (by decide) (by decide) (by decide)
theorem e214 : R V main_v163 = (addi : W1o) (R V main_v158) (R V main_v162) := HostLine.binary_at od V 214 rfl (by decide) (by decide) (by decide)
theorem e215 : R V main_c_48 = (constantI S_ 32 17#32) := HostLine.nullary_at od V 215 rfl (by decide)
theorem e216 : R V main_v164 = (broadcastInDim S16777216 ![] bcast_S_S16777216 : W01) (R V main_c_48) := HostLine.unary_at od V 216 rfl (by decide) (by decide)
theorem e217 : R V main_v165 = (Host.shli : W1o) (R V main_v162) (R V main_v164) := HostLine.binary_at od V 217 rfl (by decide) (by decide) (by decide)
theorem e218 : R V main_c_49 = (constantI S_ 32 15#32) := HostLine.nullary_at od V 218 rfl (by decide)
theorem e219 : R V main_v166 = (broadcastInDim S16777216 ![] bcast_S_S16777216 : W01) (R V main_c_49) := HostLine.unary_at od V 219 rfl (by decide) (by decide)
theorem e220 : R V main_v167 = (Host.shrui : W1o) (R V main_v162) (R V main_v166) := HostLine.binary_at od V 220 rfl (by decide) (by decide) (by decide)
theorem e221 : R V main_v168 = (ori : W1o) (R V main_v165) (R V main_v167) := HostLine.binary_at od V 221 rfl (by decide) (by decide) (by decide)
theorem e222 : R V main_v169 = (xori : W1o) (R V main_v163) (R V main_v168) := HostLine.binary_at od V 222 rfl (by decide) (by decide) (by decide)
theorem e223 : R V main_v170 = (addi : W1o) (R V main_v163) (R V main_v169) := HostLine.binary_at od V 223 rfl (by decide) (by decide) (by decide)
theorem e224 : R V main_c_50 = (constantI S_ 32 29#32) := HostLine.nullary_at od V 224 rfl (by decide)
theorem e225 : R V main_v171 = (broadcastInDim S16777216 ![] bcast_S_S16777216 : W01) (R V main_c_50) := HostLine.unary_at od V 225 rfl (by decide) (by decide)
theorem e226 : R V main_v172 = (Host.shli : W1o) (R V main_v169) (R V main_v171) := HostLine.binary_at od V 226 rfl (by decide) (by decide) (by decide)
theorem e227 : R V main_c_51 = (constantI S_ 32 3#32) := HostLine.nullary_at od V 227 rfl (by decide)
theorem e228 : R V main_v173 = (broadcastInDim S16777216 ![] bcast_S_S16777216 : W01) (R V main_c_51) := HostLine.unary_at od V 228 rfl (by decide) (by decide)
theorem e229 : R V main_v174 = (Host.shrui : W1o) (R V main_v169) (R V main_v173) := HostLine.binary_at od V 229 rfl (by decide) (by decide) (by decide)
theorem e230 : R V main_v175 = (ori : W1o) (R V main_v172) (R V main_v174) := HostLine.binary_at od V 230 rfl (by decide) (by decide) (by decide)
theorem e231 : R V main_v176 = (xori : W1o) (R V main_v170) (R V main_v175) := HostLine.binary_at od V 231 rfl (by decide) (by decide) (by decide)
theorem e232 : R V main_v177 = (addi : W1o) (R V main_v170) (R V main_v176) := HostLine.binary_at od V 232 rfl (by decide) (by decide) (by decide)
theorem e233 : R V main_c_52 = (constantI S_ 32 16#32) := HostLine.nullary_at od V 233 rfl (by decide)
theorem e234 : R V main_v178 = (broadcastInDim S16777216 ![] bcast_S_S16777216 : W01) (R V main_c_52) := HostLine.unary_at od V 234 rfl (by decide) (by decide)
theorem e235 : R V main_v179 = (Host.shli : W1o) (R V main_v176) (R V main_v178) := HostLine.binary_at od V 235 rfl (by decide) (by decide) (by decide)
theorem e236 : R V main_c_53 = (constantI S_ 32 16#32) := HostLine.nullary_at od V 236 rfl (by decide)
theorem e237 : R V main_v180 = (broadcastInDim S16777216 ![] bcast_S_S16777216 : W01) (R V main_c_53) := HostLine.unary_at od V 237 rfl (by decide) (by decide)
theorem e238 : R V main_v181 = (Host.shrui : W1o) (R V main_v176) (R V main_v180) := HostLine.binary_at od V 238 rfl (by decide) (by decide) (by decide)
theorem e239 : R V main_v182 = (ori : W1o) (R V main_v179) (R V main_v181) := HostLine.binary_at od V 239 rfl (by decide) (by decide) (by decide)
theorem e240 : R V main_v183 = (xori : W1o) (R V main_v177) (R V main_v182) := HostLine.binary_at od V 240 rfl (by decide) (by decide) (by decide)
theorem e241 : R V main_v184 = (addi : W1o) (R V main_v177) (R V main_v183) := HostLine.binary_at od V 241 rfl (by decide) (by decide) (by decide)
theorem e242 : R V main_c_54 = (constantI S_ 32 24#32) := HostLine.nullary_at od V 242 rfl (by decide)
theorem e243 : R V main_v185 = (broadcastInDim S16777216 ![] bcast_S_S16777216 : W01) (R V main_c_54) := HostLine.unary_at od V 243 rfl (by decide) (by decide)
theorem e244 : R V main_v186 = (Host.shli : W1o) (R V main_v183) (R V main_v185) := HostLine.binary_at od V 244 rfl (by decide) (by decide) (by decide)
theorem e245 : R V main_c_55 = (constantI S_ 32 8#32) := HostLine.nullary_at od V 245 rfl (by decide)
theorem e246 : R V main_v187 = (broadcastInDim S16777216 ![] bcast_S_S16777216 : W01) (R V main_c_55) := HostLine.unary_at od V 246 rfl (by decide) (by decide)
theorem e247 : R V main_v188 = (Host.shrui : W1o) (R V main_v183) (R V main_v187) := HostLine.binary_at od V 247 rfl (by decide) (by decide) (by decide)
theorem e248 : R V main_v189 = (ori : W1o) (R V main_v186) (R V main_v188) := HostLine.binary_at od V 248 rfl (by decide) (by decide) (by decide)
theorem e249 : R V main_v190 = (xori : W1o) (R V main_v184) (R V main_v189) := HostLine.binary_at od V 249 rfl (by decide) (by decide) (by decide)
theorem e250 : R V main_c_56 = (constantI S_ 32 42#32) := HostLine.nullary_at od V 250 rfl (by decide)
theorem e251 : R V main_v191 = (broadcastInDim S16777216 ![] bcast_S_S16777216 : W01) (R V main_c_56) := HostLine.unary_at od V 251 rfl (by decide) (by decide)
theorem e252 : R V main_v192 = (addi : W1o) (R V main_v184) (R V main_v191) := HostLine.binary_at od V 252 rfl (by decide) (by decide) (by decide)
theorem e253 : R V main_c_57 = (constantI S_ 32 466689008#32) := HostLine.nullary_at od V 253 rfl (by decide)
theorem e254 : R V main_v193 = (broadcastInDim S16777216 ![] bcast_S_S16777216 : W01) (R V main_c_57) := HostLine.unary_at od V 254 rfl (by decide) (by decide)
theorem e255 : R V main_v194 = (addi : W1o) (R V main_v190) (R V main_v193) := HostLine.binary_at od V 255 rfl (by decide) (by decide) (by decide)
theorem e256 : R V main_c_58 = (constantI S_ 32 4#32) := HostLine.nullary_at od V 256 rfl (by decide)
theorem e257 : R V main_v195 = (broadcastInDim S16777216 ![] bcast_S_S16777216 : W01) (R V main_c_58) := HostLine.unary_at od V 257 rfl (by decide) (by decide)
theorem e258 : R V main_v196 = (addi : W1o) (R V main_v194) (R V main_v195) := HostLine.binary_at od V 258 rfl (by decide) (by decide) (by decide)
theorem e259 : R V main_v197 = (addi : W1o) (R V main_v192) (R V main_v196) := HostLine.binary_at od V 259 rfl (by decide) (by decide) (by decide)
theorem e260 : R V main_c_59 = (constantI S_ 32 13#32) := HostLine.nullary_at od V 260 rfl (by decide)
theorem e261 : R V main_v198 = (broadcastInDim S16777216 ![] bcast_S_S16777216 : W01) (R V main_c_59) := HostLine.unary_at od V 261 rfl (by decide) (by decide)
theorem e262 : R V main_v199 = (Host.shli : W1o) (R V main_v196) (R V main_v198) := HostLine.binary_at od V 262 rfl (by decide) (by decide) (by decide)
theorem e263 : R V main_c_60 = (constantI S_ 32 19#32) := HostLine.nullary_at od V 263 rfl (by decide)
theorem e264 : R V main_v200 = (broadcastInDim S16777216 ![] bcast_S_S16777216 : W01) (R V main_c_60) := HostLine.unary_at od V 264 rfl (by decide) (by decide)
theorem e265 : R V main_v201 = (Host.shrui : W1o) (R V main_v196) (R V main_v200) := HostLine.binary_at od V 265 rfl (by decide) (by decide) (by decide)
theorem e266 : R V main_v202 = (ori : W1o) (R V main_v199) (R V main_v201) := HostLine.binary_at od V 266 rfl (by decide) (by decide) (by decide)
theorem e267 : R V main_v203 = (xori : W1o) (R V main_v197) (R V main_v202) := HostLine.binary_at od V 267 rfl (by decide) (by decide) (by decide)
theorem e268 : R V main_v204 = (addi : W1o) (R V main_v197) (R V main_v203) := HostLine.binary_at od V 268 rfl (by decide) (by decide) (by decide)
theorem e269 : R V main_c_61 = (constantI S_ 32 15#32) := HostLine.nullary_at od V 269 rfl (by decide)
theorem e270 : R V main_v205 = (broadcastInDim S16777216 ![] bcast_S_S16777216 : W01) (R V main_c_61) := HostLine.unary_at od V 270 rfl (by decide) (by decide)
theorem e271 : R V main_v206 = (Host.shli : W1o) (R V main_v203) (R V main_v205) := HostLine.binary_at od V 271 rfl (by decide) (by decide) (by decide)
theorem e272 : R V main_c_62 = (constantI S_ 32 17#32) := HostLine.nullary_at od V 272 rfl (by decide)
theorem e273 : R V main_v207 = (broadcastInDim S16777216 ![] bcast_S_S16777216 : W01) (R V main_c_62) := HostLine.unary_at od V 273 rfl (by decide) (by decide)
theorem e274 : R V main_v208 = (Host.shrui : W1o) (R V main_v203) (R V main_v207) := HostLine.binary_at od V 274 rfl (by decide) (by decide) (by decide)
theorem e275 : R V main_v209 = (ori : W1o) (R V main_v206) (R V main_v208) := HostLine.binary_at od V 275 rfl (by decide) (by decide) (by decide)
theorem e276 : R V main_v210 = (xori : W1o) (R V main_v204) (R V main_v209) := HostLine.binary_at od V 276 rfl (by decide) (by decide) (by decide)
theorem e277 : R V main_v211 = (addi : W1o) (R V main_v204) (R V main_v210) := HostLine.binary_at od V 277 rfl (by decide) (by decide) (by decide)
theorem e278 : R V main_c_63 = (constantI S_ 32 26#32) := HostLine.nullary_at od V 278 rfl (by decide)
theorem e279 : R V main_v212 = (broadcastInDim S16777216 ![] bcast_S_S16777216 : W01) (R V main_c_63) := HostLine.unary_at od V 279 rfl (by decide) (by decide)
theorem e280 : R V main_v213 = (Host.shli : W1o) (R V main_v210) (R V main_v212) := HostLine.binary_at od V 280 rfl (by decide) (by decide) (by decide)
theorem e281 : R V main_c_64 = (constantI S_ 32 6#32) := HostLine.nullary_at od V 281 rfl (by decide)
theorem e282 : R V main_v214 = (broadcastInDim S16777216 ![] bcast_S_S16777216 : W01) (R V main_c_64) := HostLine.unary_at od V 282 rfl (by decide) (by decide)
theorem e283 : R V main_v215 = (Host.shrui : W1o) (R V main_v210) (R V main_v214) := HostLine.binary_at od V 283 rfl (by decide) (by decide) (by decide)
theorem e284 : R V main_v216 = (ori : W1o) (R V main_v213) (R V main_v215) := HostLine.binary_at od V 284 rfl (by decide) (by decide) (by decide)
theorem e285 : R V main_v217 = (xori : W1o) (R V main_v211) (R V main_v216) := HostLine.binary_at od V 285 rfl (by decide) (by decide) (by decide)
theorem e286 : R V main_v218 = (addi : W1o) (R V main_v211) (R V main_v217) := HostLine.binary_at od V 286 rfl (by decide) (by decide) (by decide)
theorem e287 : R V main_c_65 = (constantI S_ 32 6#32) := HostLine.nullary_at od V 287 rfl (by decide)
theorem e288 : R V main_v219 = (broadcastInDim S16777216 ![] bcast_S_S16777216 : W01) (R V main_c_65) := HostLine.unary_at od V 288 rfl (by decide) (by decide)
theorem e289 : R V main_v220 = (Host.shli : W1o) (R V main_v217) (R V main_v219) := HostLine.binary_at od V 289 rfl (by decide) (by decide) (by decide)
theorem e290 : R V main_c_66 = (constantI S_ 32 26#32) := HostLine.nullary_at od V 290 rfl (by decide)
theorem e291 : R V main_v221 = (broadcastInDim S16777216 ![] bcast_S_S16777216 : W01) (R V main_c_66) := HostLine.unary_at od V 291 rfl (by decide) (by decide)
theorem e292 : R V main_v222 = (Host.shrui : W1o) (R V main_v217) (R V main_v221) := HostLine.binary_at od V 292 rfl (by decide) (by decide) (by decide)
theorem e293 : R V main_v223 = (ori : W1o) (R V main_v220) (R V main_v222) := HostLine.binary_at od V 293 rfl (by decide) (by decide) (by decide)
theorem e294 : R V main_v224 = (xori : W1o) (R V main_v218) (R V main_v223) := HostLine.binary_at od V 294 rfl (by decide) (by decide) (by decide)
theorem e295 : R V main_c_67 = (constantI S_ 32 466689008#32) := HostLine.nullary_at od V 295 rfl (by decide)
theorem e296 : R V main_v225 = (broadcastInDim S16777216 ![] bcast_S_S16777216 : W01) (R V main_c_67) := HostLine.unary_at od V 296 rfl (by decide) (by decide)
theorem e297 : R V main_v226 = (addi : W1o) (R V main_v218) (R V main_v225) := HostLine.binary_at od V 297 rfl (by decide) (by decide) (by decide)
theorem e298 : R V main_c_68 = (constantI S_ 32 0#32) := HostLine.nullary_at od V 298 rfl (by decide)
theorem e299 : R V main_v227 = (broadcastInDim S16777216 ![] bcast_S_S16777216 : W01) (R V main_c_68) := HostLine.unary_at od V 299 rfl (by decide) (by decide)
theorem e300 : R V main_v228 = (addi : W1o) (R V main_v224) (R V main_v227) := HostLine.binary_at od V 300 rfl (by decide) (by decide) (by decide)
theorem e301 : R V main_c_69 = (constantI S_ 32 5#32) := HostLine.nullary_at od V 301 rfl (by decide)
theorem e302 : R V main_v229 = (broadcastInDim S16777216 ![] bcast_S_S16777216 : W01) (R V main_c_69) := HostLine.unary_at od V 302 rfl (by decide) (by decide)
theorem e303 : R V main_v230 = (addi : W1o) (R V main_v228) (R V main_v229) := HostLine.binary_at od V 303 rfl (by decide) (by decide) (by decide)
theorem e304 : R V main_v231 = (xori : W1o) (R V main_v226) (R V main_v230) := HostLine.binary_at od V 304 rfl (by decide) (by decide) (by decide)
theorem e305 : R V main_c_70 = (constantI S_ 32 9#32) := HostLine.nullary_at od V 305 rfl (by decide)
theorem e306 : R V main_v232 = (broadcastInDim S16777216 ![] bcast_S_S16777216 : W01) (R V main_c_70) := HostLine.unary_at od V 306 rfl (by decide) (by decide)
theorem e307 : R V main_v233 = (Host.shrui : W1o) (R V main_v231) (R V main_v232) := HostLine.binary_at od V 307 rfl (by decide) (by decide) (by decide)
theorem e308 : R V main_c_71 = (constantI S_ 32 1065353216#32) := HostLine.nullary_at od V 308 rfl (by decide)
theorem e309 : R V main_v234 = (broadcastInDim S16777216 ![] bcast_S_S16777216 : W01) (R V main_c_71) := HostLine.unary_at od V 309 rfl (by decide) (by decide)
theorem e310 : R V main_v235 = (ori : W1o) (R V main_v233) (R V main_v234) := HostLine.binary_at od V 310 rfl (by decide) (by decide) (by decide)
theorem e311 : R V main_v236 = (bitcastToFloat (F := Ideal) .f32 : W1 → X1) (R V main_v235) := HostLine.unary_at od V 311 rfl (by decide) (by decide)
theorem e312 : R V main_cst_72 = (constant (F := Ideal) S_ .f32 0x3F800000#32) := HostLine.nullary_at od V 312 rfl (by decide)
theorem e313 : R V main_v237 = (broadcastInDim S16777216 ![] bcast_S_S16777216 : C S_ .f32 → X1) (R V main_cst_72) := HostLine.unary_at od V 313 rfl (by decide) (by decide)
theorem e314 : R V main_v238 = (subf (F := Ideal) (φ := .f32) : X1 → X1 → X1) (R V main_v236) (R V main_v237) := HostLine.binary_at od V 314 rfl (by decide) (by decide) (by decide)
theorem e315 : R V main_v239 = shapeCast (s := S16777216) S4x2048x2048 (R V main_v238) shapeCasts_S16777216_S4x2048x2048 := by
  have h := HostLine.reshape_at od V 315 (x := main_v238) (y := main_v239) (he := rfl) (hn := shapeCasts_S16777216_S4x2048x2048) rfl (by decide) (by decide)
  exact h

end Cert.KernelIdeal.Eqs

end
-- ==== Proof.Value.Draws.lean ====
/-
The uniform draws, as a function of a draw's position: twenty rounds of the threefry hash with the key
words 0 and 42, folded to one word, whose upper bits make the fraction of a number in [1, 2); one is
subtracted from it.
-/
module

public import Idealize.ShloMosaic.Lib.Pointwise

@[expose] public section

noncomputable section

namespace Cert.Draws

open Idealize.ShloMosaic

/-- Two words of the hash's state. -/
abbrev Pair := BitVec 32 × BitVec 32

/-- A round: the first word takes the sum, the second is rotated (left by `a`, where `a + b = 32`) and combined with it. -/
def mix (a b : BitVec 32) (s : Pair) : Pair :=
  (IntOp.addi s.1 s.2,
    IntOp.xori (IntOp.addi s.1 s.2) (IntOp.ori (IntOp.shli .host s.2 a) (IntOp.shrui .host s.2 b)))

/-- A key injection: a key word on each word, and a counter on the second. -/
def inj (k l c : BitVec 32) (s : Pair) : Pair := (IntOp.addi s.1 k, IntOp.addi (IntOp.addi s.2 l) c)

/-- Four rounds with the first set of rotations. -/
def four (s : Pair) : Pair := mix 6#32 26#32 (mix 26#32 6#32 (mix 15#32 17#32 (mix 13#32 19#32 s)))
/-- Four rounds with the second set. -/
def four' (s : Pair) : Pair := mix 24#32 8#32 (mix 16#32 16#32 (mix 29#32 3#32 (mix 17#32 15#32 s)))

/-- All twenty rounds, with the injections between them. -/
def rounds (s : Pair) : Pair :=
  inj 466689008#32 0#32 5#32 (four (inj 42#32 466689008#32 4#32 (four' (inj 0#32 42#32 3#32 (four
    (inj 466689008#32 0#32 2#32 (four' (inj 42#32 466689008#32 1#32 (four s)))))))))

/-- The pattern of the number in [1, 2) made from the hash's words. -/
def pattern (s : Pair) : BitVec 32 :=
  IntOp.ori (IntOp.shrui .host (IntOp.xori s.1 s.2) 9#32) 1065353216#32

/-- The draw at position `n`. -/
def draw (n : BitVec 32) : EReal :=
  Ideal.ofBits .f32 (pattern (rounds (0#32, n + 42#32))) - Ideal.ofBits .f32 0x3F800000#32

end Cert.Draws

end
-- ==== Proof.KernelIdeal.Rounds.lean ====
/-
The kernel's threefry rounds, one theorem for each: the two words a round leaves at an index are the round
function's of the two words before it.
-/
module

public import proofs.«01_k».proof.Proof.KernelIdeal.EqB
public import proofs.«01_k».proof.Proof.KernelIdeal.EqC
public import proofs.«01_k».proof.Proof.Value.Draws

@[expose] public section

set_option maxRecDepth 16384

noncomputable section

namespace Cert.KernelIdeal.Eqs

open Cert.KernelIdeal Cert.KernelIdeal.Gen Cert.Draws Idealize.ShloMosaic Idealize.ShloMosaic.TcCoe Idealize.ShloMosaic.StableHlo

variable (V : Valuation τ sig (Elt Ideal)) (i : S16777216.Idx)

/-- Two buffers of words, read at one index. -/
abbrev two (a b : C S16777216 .i32) (i : S16777216.Idx) : Pair := (a i, b i)

theorem s1 : two (R V main_v61) (R V main_v67) i = mix 13#32 19#32 (two (R V main_v58) (R V main_v60) i) := by
  rw [e87, e86, e85, e84, e83, e82, e81, e80, e79]; rfl
theorem s2 : two (R V main_v68) (R V main_v74) i = mix 15#32 17#32 (two (R V main_v61) (R V main_v67) i) := by
  rw [e96, e95, e94, e93, e92, e91, e90, e89, e88]; rfl
theorem s3 : two (R V main_v75) (R V main_v81) i = mix 26#32 6#32 (two (R V main_v68) (R V main_v74) i) := by
  rw [e105, e104, e103, e102, e101, e100, e99, e98, e97]; rfl
theorem s4 : two (R V main_v82) (R V main_v88) i = mix 6#32 26#32 (two (R V main_v75) (R V main_v81) i) := by
  rw [e114, e113, e112, e111, e110, e109, e108, e107, e106]; rfl
theorem s5 : two (R V main_v90) (R V main_v94) i = inj 42#32 466689008#32 1#32 (two (R V main_v82) (R V main_v88) i) := by
  rw [e123, e122, e121, e120, e119, e118, e117, e116, e115]; rfl
theorem s6 : two (R V main_v95) (R V main_v101) i = mix 17#32 15#32 (two (R V main_v90) (R V main_v94) i) := by
  rw [e132, e131, e130, e129, e128, e127, e126, e125, e124]; rfl
theorem s7 : two (R V main_v102) (R V main_v108) i = mix 29#32 3#32 (two (R V main_v95) (R V main_v101) i) := by
  rw [e141, e140, e139, e138, e137, e136, e135, e134, e133]; rfl
theorem s8 : two (R V main_v109) (R V main_v115) i = mix 16#32 16#32 (two (R V main_v102) (R V main_v108) i) := by
  rw [e150, e149, e148, e147, e146, e145, e144, e143, e142]; rfl
theorem s9 : two (R V main_v116) (R V main_v122) i = mix 24#32 8#32 (two (R V main_v109) (R V main_v115) i) := by
  rw [e159, e158, e157, e156, e155, e154, e153, e152, e151]; rfl
theorem s10 : two (R V main_v124) (R V main_v128) i = inj 466689008#32 0#32 2#32 (two (R V main_v116) (R V main_v122) i) := by
  rw [e168, e167, e166, e165, e164, e163, e162, e161, e160]; rfl
theorem s11 : two (R V main_v129) (R V main_v135) i = mix 13#32 19#32 (two (R V main_v124) (R V main_v128) i) := by
  rw [e177, e176, e175, e174, e173, e172, e171, e170, e169]; rfl
theorem s12 : two (R V main_v136) (R V main_v142) i = mix 15#32 17#32 (two (R V main_v129) (R V main_v135) i) := by
  rw [e186, e185, e184, e183, e182, e181, e180, e179, e178]; rfl
theorem s13 : two (R V main_v143) (R V main_v149) i = mix 26#32 6#32 (two (R V main_v136) (R V main_v142) i) := by
  rw [e195, e194, e193, e192, e191, e190, e189, e188, e187]; rfl
theorem s14 : two (R V main_v150) (R V main_v156) i = mix 6#32 26#32 (two (R V main_v143) (R V main_v149) i) := by
  rw [e204, e203, e202, e201, e200, e199, e198, e197, e196]; rfl
theorem s15 : two (R V main_v158) (R V main_v162) i = inj 0#32 42#32 3#32 (two (R V main_v150) (R V main_v156) i) := by
  rw [e213, e212, e211, e210, e209, e208, e207, e206, e205]; rfl
theorem s16 : two (R V main_v163) (R V main_v169) i = mix 17#32 15#32 (two (R V main_v158) (R V main_v162) i) := by
  rw [e222, e221, e220, e219, e218, e217, e216, e215, e214]; rfl
theorem s17 : two (R V main_v170) (R V main_v176) i = mix 29#32 3#32 (two (R V main_v163) (R V main_v169) i) := by
  rw [e231, e230, e229, e228, e227, e226, e225, e224, e223]; rfl
theorem s18 : two (R V main_v177) (R V main_v183) i = mix 16#32 16#32 (two (R V main_v170) (R V main_v176) i) := by
  rw [e240, e239, e238, e237, e236, e235, e234, e233, e232]; rfl
theorem s19 : two (R V main_v184) (R V main_v190) i = mix 24#32 8#32 (two (R V main_v177) (R V main_v183) i) := by
  rw [e249, e248, e247, e246, e245, e244, e243, e242, e241]; rfl
theorem s20 : two (R V main_v192) (R V main_v196) i = inj 42#32 466689008#32 4#32 (two (R V main_v184) (R V main_v190) i) := by
  rw [e258, e257, e256, e255, e254, e253, e252, e251, e250]; rfl
theorem s21 : two (R V main_v197) (R V main_v203) i = mix 13#32 19#32 (two (R V main_v192) (R V main_v196) i) := by
  rw [e267, e266, e265, e264, e263, e262, e261, e260, e259]; rfl
theorem s22 : two (R V main_v204) (R V main_v210) i = mix 15#32 17#32 (two (R V main_v197) (R V main_v203) i) := by
  rw [e276, e275, e274, e273, e272, e271, e270, e269, e268]; rfl
theorem s23 : two (R V main_v211) (R V main_v217) i = mix 26#32 6#32 (two (R V main_v204) (R V main_v210) i) := by
  rw [e285, e284, e283, e282, e281, e280, e279, e278, e277]; rfl
theorem s24 : two (R V main_v218) (R V main_v224) i = mix 6#32 26#32 (two (R V main_v211) (R V main_v217) i) := by
  rw [e294, e293, e292, e291, e290, e289, e288, e287, e286]; rfl
theorem s25 : two (R V main_v226) (R V main_v230) i = inj 466689008#32 0#32 5#32 (two (R V main_v218) (R V main_v224) i) := by
  rw [e303, e302, e301, e300, e299, e298, e297, e296, e295]; rfl

/-- All rounds together. -/
theorem rounds_at : two (R V main_v226) (R V main_v230) i = rounds (two (R V main_v58) (R V main_v60) i) := by
  rw [s25, s24, s23, s22, s21, s20, s19, s18, s17, s16, s15, s14, s13, s12, s11, s10, s9, s8, s7, s6, s5, s4, s3, s2, s1]
  simp only [rounds, four, four']

end Cert.KernelIdeal.Eqs

end
-- ==== Proof.Value.Draws2.lean ====
/-
A draw is never negative: the pattern it is made from lies in [1, 2).
-/
module

public import proofs.«01_k».proof.Proof.Value.Draws
public import Idealize.ShloMosaic.Lib.IdealHost

@[expose] public section

noncomputable section

namespace Cert.Draws

open Idealize.ShloMosaic

theorem shr9 (w : BitVec 32) : IntOp.shrui .host w 9#32 = w >>> 9 := rfl

/-- The pattern's exponent field. -/
theorem exponent (w : BitVec 32) : (w >>> 9 ||| 1065353216#32).extractLsb' 23 8 = 127#8 := by
  apply BitVec.eq_of_getLsbD_eq
  intro i hi
  have h : (w >>> 9).getLsbD (23 + i) = false := by
    rw [BitVec.getLsbD_ushiftRight]; exact BitVec.getLsbD_of_ge _ _ (by omega)
  rw [BitVec.getLsbD_extractLsb', BitVec.getLsbD_or, h, Bool.false_or]
  interval_cases i <;> rfl

/-- The pattern's sign bit. -/
theorem sign (w : BitVec 32) : (w >>> 9 ||| 1065353216#32).extractLsb' 31 1 = 0#1 := by
  apply BitVec.eq_of_getLsbD_eq
  intro i hi
  have h : (w >>> 9).getLsbD (31 + i) = false := by
    rw [BitVec.getLsbD_ushiftRight]; exact BitVec.getLsbD_of_ge _ _ (by omega)
  rw [BitVec.getLsbD_extractLsb', BitVec.getLsbD_or, h, Bool.false_or]
  interval_cases i; rfl

/-- The number made from a pattern is at least one. -/
theorem one_le (s : Pair) : 1 ≤ Ideal.ofBits .f32 (pattern s) := by
  generalize hw : IntOp.xori s.1 s.2 = w
  have hp : pattern s = w >>> 9 ||| 1065353216#32 := by
    show IntOp.ori (IntOp.shrui .host (IntOp.xori s.1 s.2) 9#32) 1065353216#32 = _
    rw [hw, shr9]; rfl
  rw [hp]
  simp only [Ideal.ofBits, Ideal.ieee, exponent, sign]
  generalize ((w >>> 9 ||| 1065353216#32).extractLsb' 0 23).toNat = f
  norm_num
  rw [show (1 : EReal) = ((1 : ℝ) : EReal) by norm_cast]
  norm_cast
  rw [sign, if_neg (by decide)]
  have := (Nat.cast_nonneg f : (0 : ℝ) ≤ f)
  push_cast
  linarith

/-- A draw is not negative. -/
theorem draw_nonneg (n : BitVec 32) : 0 ≤ draw n := by
  unfold draw
  rw [Ideal.ofBits_one_f32]
  have h := one_le (rounds (0#32, n + 42#32))
  calc (0 : EReal) = 1 - 1 := by rw [show (1 : EReal) = ((1 : ℝ) : EReal) by norm_cast, ← EReal.coe_sub, sub_self]; rfl
    _ ≤ _ := EReal.sub_le_sub h le_rfl

/-- Scaling by `1 - 0`, adding 0 and taking the maximum with 0 keeps a draw. -/
theorem scale_draw (x : EReal) (h : 0 ≤ x) :
    max (0 : EReal) (x * (1 - 0) + 0) = x := by
  rw [sub_zero, mul_one, add_zero, max_eq_right h]

/-- The position of an index in row-major order. -/
def pos (b : Fin 4) (i j : Fin 2048) : ℕ := b.val * 4194304 + i.val * 2048 + j.val

theorem pos_lt (b : Fin 4) (i j : Fin 2048) : pos b i j < 16777216 := by unfold pos; omega

end Cert.Draws

end
-- ==== Proof.KernelIdeal.Draws.lean ====
/-
The kernel's table of draws at an index: the draw at the index's position in row-major order.
-/
module

public import proofs.«01_k».proof.Proof.KernelIdeal.Rounds
public import proofs.«01_k».proof.Proof.Value.Draws2

@[expose] public section

set_option maxRecDepth 16384

noncomputable section

namespace Cert.KernelIdeal.Eqs

open Cert.KernelIdeal Cert.KernelIdeal.Gen Cert.Draws Idealize.ShloMosaic Idealize.ShloMosaic.TcCoe Idealize.ShloMosaic.StableHlo

variable (V : Valuation τ sig (Elt Ideal)) (b : Fin 4) (i j : Fin 2048)

/-- Numbers and words read at an index, at their plain types. -/
abbrev xAt (f : X1) (i : S16777216.Idx) : EReal := f i
abbrev wAt (f : W1) (i : S16777216.Idx) : BitVec 32 := f i

/-- The two starting words. -/
theorem first_at (i : S16777216.Idx) : wAt (R V main_v58) i = 0#32 := by
  rw [e75, e74, e73, e71, e70]; rfl
theorem second_at (n : Fin 16777216) : wAt (R V main_v60) (ix1 n) = BitVec.ofNat 32 n.val + 42#32 := by
  rw [e78, e77, e76, e72]; rfl
theorem start_at (n : Fin 16777216) : two (R V main_v58) (R V main_v60) (ix1 n) = (0#32, BitVec.ofNat 32 n.val + 42#32) :=
  congrArg₂ Prod.mk (first_at V _) (second_at V n)

/-- The number in [1, 2) at an index is made from the hash's words there. -/
theorem number_at (i : S16777216.Idx) :
    xAt (R V main_v236) i = Ideal.ofBits .f32 (pattern (two (R V main_v226) (R V main_v230) i)) := by
  rw [e311, e310, e309, e308, e307, e306, e305, e304]; rfl
theorem one_at (i : S16777216.Idx) : xAt (R V main_v237) i = Ideal.ofBits .f32 0x3F800000#32 := by
  rw [e313, e312]; rfl

/-- A vector of all draws read as a box. -/
theorem flat_at (x : X1) : shapeCast (s := S16777216) S4x2048x2048 x shapeCasts_S16777216_S4x2048x2048 (ix3 b i j) = x (ix1 ⟨pos b i j, pos_lt b i j⟩) := by
  pointwise
  refine congrArg (fun n => x (ix1 n)) (Fin.ext ?_)
  simp only [pos]

theorem sub_apply (a b : X1) (i : S16777216.Idx) : (subf (F := Ideal) (φ := .f32) a b) i = xAt a i - xAt b i := rfl

/-- The draw at an index. -/
theorem draw_at : (show EReal from (R V main_v239) (ix3 b i j)) = draw (BitVec.ofNat 32 (pos b i j)) := by
  have h : R V main_v239 (ix3 b i j) = xAt (R V main_v238) (ix1 ⟨pos b i j, pos_lt b i j⟩) := by
    rw [e315]; exact flat_at b i j (R V main_v238)
  refine Eq.trans h ?_
  have h2 : xAt (R V main_v238) (ix1 ⟨pos b i j, pos_lt b i j⟩) = xAt (R V main_v236) (ix1 ⟨pos b i j, pos_lt b i j⟩) - xAt (R V main_v237) (ix1 ⟨pos b i j, pos_lt b i j⟩) := by
    rw [e314]; exact sub_apply (R V main_v236) (R V main_v237) _
  rw [h2, number_at, one_at, rounds_at, start_at]
  rfl

end Cert.KernelIdeal.Eqs

end
-- ==== Proof.Reference.EqA.lean ====
/-
One equation for each operation of a stretch of the reference: what it leaves in its buffer is its
function of what its operands hold in the end.
-/
module

public import proofs.«01_k».proof.Proof.Reference.Line
public import Idealize.ShloMosaic.Lib.Pointwise

@[expose] public section

set_option maxRecDepth 16384

noncomputable section

namespace Cert.ReferenceIdeal.Eqs

open Cert.ReferenceIdeal Cert.ReferenceIdeal.Gen Cert.ReferenceIdeal.Line Idealize.ShloMosaic Idealize.ShloMosaic.TcCoe Idealize.ShloMosaic.StableHlo

/-- The line's operations write their own buffers in program order. -/
theorem od : HostLine.Ordered place 4 (line : List (HloOp τ sig (Elt Ideal))) := ordered
/-- What the reference's line leaves in a buffer, from launch contents `V`. -/
abbrev R (V : Valuation τ sig (Elt Ideal)) (b : Ref sig .tc) : b.ty.Contents (Elt Ideal) := after line V (Proc.devRef .tc b)
/-- The contents of a buffer of a shape and element type. -/
abbrev C (s : Shape) (e : EltTy) := (⟨s, e⟩ : BufTy).Contents (Elt Ideal)
/-- Words and numbers over the whole box, scalar words, and the operations between them. -/
abbrev W3 := C S4x2048x2048 .i32
abbrev X3 := C S4x2048x2048 .f32
abbrev W0 := C S_ .i32
abbrev W3o := W3 → W3 → W3
abbrev W03 := W0 → W3

variable (V : Valuation τ sig (Elt Ideal))

theorem e0 : R V main_v0 = (sitofp (F := Ideal) .f32 (iotaInDim S1000 32 0)) := HostLine.nullary_at od V 0 rfl (by decide)
theorem e1 : R V main_cst = (constant (F := Ideal) S_ .f32 0x3F800000#32) := HostLine.nullary_at od V 1 rfl (by decide)
theorem e2 : R V main_v1 = (broadcastInDim S1000 ![] bcast_S_S1000 : C S_ .f32 → C S1000 .f32) (R V main_cst) := HostLine.unary_at od V 2 rfl (by decide) (by decide)
theorem e3 : R V main_v2 = (addf (F := Ideal) (φ := .f32) : C S1000 .f32 → C S1000 .f32 → C S1000 .f32) (R V main_v1) (R V main_v0) := HostLine.binary_at od V 3 rfl (by decide) (by decide) (by decide)
theorem e4 : R V main_cst_0 = (constant (F := Ideal) S_ .f32 0x3F666666#32) := HostLine.nullary_at od V 4 rfl (by decide)
theorem e5 : R V main_v3 = (broadcastInDim S1000 ![] bcast_S_S1000 : C S_ .f32 → C S1000 .f32) (R V main_cst_0) := HostLine.unary_at od V 5 rfl (by decide) (by decide)
theorem e6 : R V main_v4 = (Host.powf (F := Ideal) (φ := .f32) : C S1000 .f32 → C S1000 .f32 → C S1000 .f32) (R V main_v3) (R V main_v2) := HostLine.binary_at od V 6 rfl (by decide) (by decide) (by decide)
theorem e7 : R V main_cst_1 = (constant (F := Ideal) S_ .f32 0x3F800000#32) := HostLine.nullary_at od V 7 rfl (by decide)
theorem e8 : R V main_v5 = (broadcastInDim S1000 ![] bcast_S_S1000 : C S_ .f32 → C S1000 .f32) (R V main_cst_1) := HostLine.unary_at od V 8 rfl (by decide) (by decide)
theorem e9 : R V main_v6 = (subf (F := Ideal) (φ := .f32) : C S1000 .f32 → C S1000 .f32 → C S1000 .f32) (R V main_v5) (R V main_v4) := HostLine.binary_at od V 9 rfl (by decide) (by decide) (by decide)
theorem e10 : R V main_cst_2 = (constant (F := Ideal) S_ .f32 0x3F000000#32) := HostLine.nullary_at od V 10 rfl (by decide)
theorem e11 : R V main_v7 = (broadcastInDim S1000 ![] bcast_S_S1000 : C S_ .f32 → C S1000 .f32) (R V main_cst_2) := HostLine.unary_at od V 11 rfl (by decide) (by decide)
theorem e12 : R V main_v8 = (mulf (F := Ideal) (φ := .f32) : C S1000 .f32 → C S1000 .f32 → C S1000 .f32) (R V main_v7) (R V main_v6) := HostLine.binary_at od V 12 rfl (by decide) (by decide) (by decide)
theorem e13 : R V main_cst_3 = (constant (F := Ideal) S_ .f32 0x3F800000#32) := HostLine.nullary_at od V 13 rfl (by decide)
theorem e14 : R V main_v9 = (broadcastInDim S1000 ![] bcast_S_S1000 : C S_ .f32 → C S1000 .f32) (R V main_cst_3) := HostLine.unary_at od V 14 rfl (by decide) (by decide)
theorem e15 : R V main_v10 = (subf (F := Ideal) (φ := .f32) : C S1000 .f32 → C S1000 .f32 → C S1000 .f32) (R V main_v9) (R V main_v8) := HostLine.binary_at od V 15 rfl (by decide) (by decide) (by decide)
theorem e16 : R V main_v11 = (broadcastInDim S1000x1 ![0] bcast_S1000_S1000x1_0 : C S1000 .f32 → C S1000x1 .f32) (R V main_v10) := HostLine.unary_at od V 16 rfl (by decide) (by decide)
theorem e17 : R V main_v12 = (broadcastInDim S1000x1 ![0] bcast_S1000_S1000x1_0 : C S1000 .f32 → C S1000x1 .f32) (R V main_v8) := HostLine.unary_at od V 17 rfl (by decide) (by decide)
theorem e18 : R V main_v13 = (cat_main_v13 (F := Ideal)) (R V main_v11) (R V main_v12) := HostLine.binary_at od V 18 rfl (by decide) (by decide) (by decide)
theorem e19 : R V main_v14 = (broadcastInDim S1000x1 ![0] bcast_S1000_S1000x1_0 : C S1000 .f32 → C S1000x1 .f32) (R V main_v8) := HostLine.unary_at od V 19 rfl (by decide) (by decide)
theorem e20 : R V main_v15 = (broadcastInDim S1000x1 ![0] bcast_S1000_S1000x1_0 : C S1000 .f32 → C S1000x1 .f32) (R V main_v10) := HostLine.unary_at od V 20 rfl (by decide) (by decide)
theorem e21 : R V main_v16 = (cat_main_v16 (F := Ideal)) (R V main_v14) (R V main_v15) := HostLine.binary_at od V 21 rfl (by decide) (by decide) (by decide)
theorem e22 : R V main_v17 = (broadcastInDim S1000x1x2 ![0, 2] bcast_S1000x2_S1000x1x2_0_2 : C S1000x2 .f32 → C S1000x1x2 .f32) (R V main_v13) := HostLine.unary_at od V 22 rfl (by decide) (by decide)
theorem e23 : R V main_v18 = (broadcastInDim S1000x1x2 ![0, 2] bcast_S1000x2_S1000x1x2_0_2 : C S1000x2 .f32 → C S1000x1x2 .f32) (R V main_v16) := HostLine.unary_at od V 23 rfl (by decide) (by decide)
theorem e24 : R V main_v19 = (cat_main_v19 (F := Ideal)) (R V main_v17) (R V main_v18) := HostLine.binary_at od V 24 rfl (by decide) (by decide) (by decide)
theorem e25 : R V main_c = (constantI S_ 32 1#32) := HostLine.nullary_at od V 25 rfl (by decide)
theorem e26 : R V main_v20 = (broadcastInDim S4 ![] bcast_S_S4 : W0 → C S4 .i32) (R V main_c) := HostLine.unary_at od V 26 rfl (by decide) (by decide)
theorem e27 : R V main_v21 = (addi : C S4 .i32 → C S4 .i32 → C S4 .i32) (R V main_arg3) (R V main_v20) := HostLine.binary_at od V 27 rfl (by decide) (by decide) (by decide)
theorem e28 : R V main_v22 = (iotaInDim S4 32 0) := HostLine.nullary_at od V 28 rfl (by decide)
theorem e29 : R V main_v23 = (broadcastInDim S4x1x1 ![0] bcast_S4_S4x1x1_0 : C S4 .i32 → C S4x1x1 .i32) (R V main_v22) := HostLine.unary_at od V 29 rfl (by decide) (by decide)
theorem e30 : R V main_c_4 = (constantI S_ 32 0#32) := HostLine.nullary_at od V 30 rfl (by decide)
theorem e31 : R V main_v24 = (broadcastInDim S4 ![] bcast_S_S4 : W0 → C S4 .i32) (R V main_c_4) := HostLine.unary_at od V 31 rfl (by decide) (by decide)
theorem e32 : R V main_v25 = (cmpi .slt : C S4 .i32 → C S4 .i32 → C S4 .i1) (R V main_v21) (R V main_v24) := HostLine.binary_at od V 32 rfl (by decide) (by decide) (by decide)
theorem e33 : R V main_c_5 = (constantI S_ 32 1000#32) := HostLine.nullary_at od V 33 rfl (by decide)
theorem e34 : R V main_v26 = (broadcastInDim S4 ![] bcast_S_S4 : W0 → C S4 .i32) (R V main_c_5) := HostLine.unary_at od V 34 rfl (by decide) (by decide)
theorem e35 : R V main_v27 = (addi : C S4 .i32 → C S4 .i32 → C S4 .i32) (R V main_v21) (R V main_v26) := HostLine.binary_at od V 35 rfl (by decide) (by decide) (by decide)
theorem e36 : R V main_v28 = (select : C S4 .i1 → C S4 .i32 → C S4 .i32 → C S4 .i32) (R V main_v25) (R V main_v27) (R V main_v21) := HostLine.ternary_at od V 36 rfl (by decide) (by decide) (by decide) (by decide)
theorem e37 : R V main_v29 = (broadcastInDim S4x1 ![0] bcast_S4_S4x1_0 : C S4 .i32 → C S4x1 .i32) (R V main_v28) := HostLine.unary_at od V 37 rfl (by decide) (by decide)
theorem e38 : R V main_v30 = ((fun x i => Host.gather gather_S1000x2x2_S4x1_S4x2x2_12_0_n_n_0_1_122 x i) : C S1000x2x2 .f32 → C S4x1 .i32 → C S4x2x2 .f32) (R V main_v19) (R V main_v29) := HostLine.binary_at od V 38 rfl (by decide) (by decide) (by decide)
theorem e39 : R V main_c_6 = (constantI S_ 32 0#32) := HostLine.nullary_at od V 39 rfl (by decide)
theorem e40 : R V main_v31 = (broadcastInDim S4x1x1 ![] bcast_S_S4x1x1 : W0 → C S4x1x1 .i32) (R V main_c_6) := HostLine.unary_at od V 40 rfl (by decide) (by decide)
theorem e41 : R V main_v32 = (cmpi .slt : C S4x1x1 .i32 → C S4x1x1 .i32 → C S4x1x1 .i1) (R V main_v23) (R V main_v31) := HostLine.binary_at od V 41 rfl (by decide) (by decide) (by decide)
theorem e42 : R V main_c_7 = (constantI S_ 32 4#32) := HostLine.nullary_at od V 42 rfl (by decide)
theorem e43 : R V main_v33 = (broadcastInDim S4x1x1 ![] bcast_S_S4x1x1 : W0 → C S4x1x1 .i32) (R V main_c_7) := HostLine.unary_at od V 43 rfl (by decide) (by decide)
theorem e44 : R V main_v34 = (addi : C S4x1x1 .i32 → C S4x1x1 .i32 → C S4x1x1 .i32) (R V main_v23) (R V main_v33) := HostLine.binary_at od V 44 rfl (by decide) (by decide) (by decide)
theorem e45 : R V main_v35 = (select : C S4x1x1 .i1 → C S4x1x1 .i32 → C S4x1x1 .i32 → C S4x1x1 .i32) (R V main_v32) (R V main_v34) (R V main_v23) := HostLine.ternary_at od V 45 rfl (by decide) (by decide) (by decide) (by decide)
theorem e46 : R V main_c_8 = (constantI S_ 32 0#32) := HostLine.nullary_at od V 46 rfl (by decide)
theorem e47 : R V main_v36 = (broadcastInDim S4x2048x2048 ![] bcast_S_S4x2048x2048 : W03) (R V main_c_8) := HostLine.unary_at od V 47 rfl (by decide) (by decide)
theorem e48 : R V main_v37 = (cmpi .slt : W3 → W3 → C S4x2048x2048 .i1) (R V main_arg2) (R V main_v36) := HostLine.binary_at od V 48 rfl (by decide) (by decide) (by decide)
theorem e49 : R V main_c_9 = (constantI S_ 32 2#32) := HostLine.nullary_at od V 49 rfl (by decide)
theorem e50 : R V main_v38 = (broadcastInDim S4x2048x2048 ![] bcast_S_S4x2048x2048 : W03) (R V main_c_9) := HostLine.unary_at od V 50 rfl (by decide) (by decide)
theorem e51 : R V main_v39 = (addi : W3o) (R V main_arg2) (R V main_v38) := HostLine.binary_at od V 51 rfl (by decide) (by decide) (by decide)
theorem e52 : R V main_v40 = (select : C S4x2048x2048 .i1 → W3o) (R V main_v37) (R V main_v39) (R V main_arg2) := HostLine.ternary_at od V 52 rfl (by decide) (by decide) (by decide) (by decide)
theorem e53 : R V main_v41 = (broadcastInDim S4x2048x2048 ![0, 1, 2] bcast_S4x1x1_S4x2048x2048_0_1_2 : C S4x1x1 .i32 → W3) (R V main_v35) := HostLine.unary_at od V 53 rfl (by decide) (by decide)
theorem e54 : R V main_v42 = (broadcastInDim S4x2048x2048x1 ![0, 1, 2] bcast_S4x2048x2048_S4x2048x2048x1_0_1_2 : W3 → C S4x2048x2048x1 .i32) (R V main_v41) := HostLine.unary_at od V 54 rfl (by decide) (by decide)
theorem e55 : R V main_v43 = (broadcastInDim S4x2048x2048x1 ![0, 1, 2] bcast_S4x2048x2048_S4x2048x2048x1_0_1_2 : W3 → C S4x2048x2048x1 .i32) (R V main_v40) := HostLine.unary_at od V 55 rfl (by decide) (by decide)
theorem e56 : R V main_v44 = (cat_main_v44 (F := Ideal)) (R V main_v42) (R V main_v43) := HostLine.binary_at od V 56 rfl (by decide) (by decide) (by decide)
theorem e57 : R V main_v45 = ((fun x i => Host.gather gather_S4x2x2_S4x2048x2048x2_S4x2048x2048x2_3_01_n_n_01_3_112 x i) : C S4x2x2 .f32 → C S4x2048x2048x2 .i32 → C S4x2048x2048x2 .f32) (R V main_v30) (R V main_v44) := HostLine.binary_at od V 57 rfl (by decide) (by decide) (by decide)
theorem e58 : R V main_c_10 = (constantI S_ 32 42#32) := HostLine.nullary_at od V 58 rfl (by decide)
theorem e59 : R V main_c_11 = (constantI S_ 32 32#32) := HostLine.nullary_at od V 59 rfl (by decide)
theorem e60 : R V main_v46 = (Host.shrui : W0 → W0 → W0) (R V main_c_10) (R V main_c_11) := HostLine.binary_at od V 60 rfl (by decide) (by decide) (by decide)
theorem e61 : R V main_v47 = (id : W0 → W0) (R V main_v46) := HostLine.unary_at od V 61 rfl (by decide) (by decide)
theorem e62 : R V main_v48 = (broadcastInDim S1 ![] bcast_S_S1 : W0 → C S1 .i32) (R V main_v47) := HostLine.unary_at od V 62 rfl (by decide) (by decide)
theorem e63 : R V main_c_12 = (constantI S_ 32 4294967295#32) := HostLine.nullary_at od V 63 rfl (by decide)
theorem e64 : R V main_v49 = (andi : W0 → W0 → W0) (R V main_c_10) (R V main_c_12) := HostLine.binary_at od V 64 rfl (by decide) (by decide) (by decide)
theorem e65 : R V main_v50 = (id : W0 → W0) (R V main_v49) := HostLine.unary_at od V 65 rfl (by decide) (by decide)
theorem e66 : R V main_v51 = (broadcastInDim S1 ![] bcast_S_S1 : W0 → C S1 .i32) (R V main_v50) := HostLine.unary_at od V 66 rfl (by decide) (by decide)
theorem e67 : R V main_v52 = (cat_main_v52 (F := Ideal)) (R V main_v48) (R V main_v51) := HostLine.binary_at od V 67 rfl (by decide) (by decide) (by decide)
theorem e68 : R V main_cst_13 = (constant (F := Ideal) S_ .f32 0x00000000#32) := HostLine.nullary_at od V 68 rfl (by decide)
theorem e69 : R V main_cst_14 = (constant (F := Ideal) S_ .f32 0x3F800000#32) := HostLine.nullary_at od V 69 rfl (by decide)
theorem e70 : R V main_call0_v0 = (id : C S_ .f32 → C S_ .f32) (R V main_cst_13) := HostLine.unary_at od V 70 rfl (by decide) (by decide)
theorem e71 : R V main_call0_v1 = (id : C S_ .f32 → C S_ .f32) (R V main_cst_14) := HostLine.unary_at od V 71 rfl (by decide) (by decide)
theorem e72 : R V main_call0_v2 = ((broadcastInDim S1x1x1 ![] bcast_S_S1x1x1) : C S_ .f32 → C S1x1x1 .f32) (R V main_call0_v0) := HostLine.unary_at od V 72 rfl (by decide) (by decide)
theorem e73 : R V main_call0_v3 = ((broadcastInDim S1x1x1 ![] bcast_S_S1x1x1) : C S_ .f32 → C S1x1x1 .f32) (R V main_call0_v1) := HostLine.unary_at od V 73 rfl (by decide) (by decide)
theorem e74 : R V main_call0_v4 = ((extractStridedSlice S1 ![0] · slices_S2_S1_0) : C S2 .i32 → C S1 .i32) (R V main_v52) := HostLine.unary_at od V 74 rfl (by decide) (by decide)
theorem e75 : R V main_call0_v5 = (shapeCast (main_call0_v5 : Ref sig .tc).ty.shape (R V main_call0_v4) shapeCasts_S1_S_) := HostLine.reshape_at od V 75 rfl (by decide) (by decide)
theorem e76 : R V main_call0_v6 = ((extractStridedSlice S1 ![1] · slices_S2_S1_1) : C S2 .i32 → C S1 .i32) (R V main_v52) := HostLine.unary_at od V 76 rfl (by decide) (by decide)
theorem e77 : R V main_call0_v7 = (shapeCast (main_call0_v7 : Ref sig .tc).ty.shape (R V main_call0_v6) shapeCasts_S1_S_) := HostLine.reshape_at od V 77 rfl (by decide) (by decide)
theorem e78 : R V main_call0_v8 = ((iotaInDim S4x2048x2048 64 0) : C S4x2048x2048 .i64) := HostLine.nullary_at od V 78 rfl (by decide)
theorem e79 : R V main_call0_v9 = ((iotaInDim S4x2048x2048 64 1) : C S4x2048x2048 .i64) := HostLine.nullary_at od V 79 rfl (by decide)
theorem e80 : R V main_call0_v10 = ((iotaInDim S4x2048x2048 64 2) : C S4x2048x2048 .i64) := HostLine.nullary_at od V 80 rfl (by decide)
theorem e81 : R V main_call0_c = ((constantI S_ 64 4194304#64) : C S_ .i64) := HostLine.nullary_at od V 81 rfl (by decide)
theorem e82 : R V main_call0_v11 = ((broadcastInDim S4x2048x2048 ![] bcast_S_S4x2048x2048) : C S_ .i64 → C S4x2048x2048 .i64) (R V main_call0_c) := HostLine.unary_at od V 82 rfl (by decide) (by decide)
theorem e83 : R V main_call0_v12 = (muli : C S4x2048x2048 .i64 → C S4x2048x2048 .i64 → C S4x2048x2048 .i64) (R V main_call0_v11) (R V main_call0_v8) := HostLine.binary_at od V 83 rfl (by decide) (by decide) (by decide)
theorem e84 : R V main_call0_c_0 = ((constantI S_ 64 2048#64) : C S_ .i64) := HostLine.nullary_at od V 84 rfl (by decide)
theorem e85 : R V main_call0_v13 = ((broadcastInDim S4x2048x2048 ![] bcast_S_S4x2048x2048) : C S_ .i64 → C S4x2048x2048 .i64) (R V main_call0_c_0) := HostLine.unary_at od V 85 rfl (by decide) (by decide)
theorem e86 : R V main_call0_v14 = (muli : C S4x2048x2048 .i64 → C S4x2048x2048 .i64 → C S4x2048x2048 .i64) (R V main_call0_v13) (R V main_call0_v9) := HostLine.binary_at od V 86 rfl (by decide) (by decide) (by decide)
theorem e87 : R V main_call0_c_1 = ((constantI S_ 64 1#64) : C S_ .i64) := HostLine.nullary_at od V 87 rfl (by decide)
theorem e88 : R V main_call0_v15 = ((broadcastInDim S4x2048x2048 ![] bcast_S_S4x2048x2048) : C S_ .i64 → C S4x2048x2048 .i64) (R V main_call0_c_1) := HostLine.unary_at od V 88 rfl (by decide) (by decide)
theorem e89 : R V main_call0_v16 = (muli : C S4x2048x2048 .i64 → C S4x2048x2048 .i64 → C S4x2048x2048 .i64) (R V main_call0_v15) (R V main_call0_v10) := HostLine.binary_at od V 89 rfl (by decide) (by decide) (by decide)
theorem e90 : R V main_call0_v17 = (addi : C S4x2048x2048 .i64 → C S4x2048x2048 .i64 → C S4x2048x2048 .i64) (R V main_call0_v12) (R V main_call0_v14) := HostLine.binary_at od V 90 rfl (by decide) (by decide) (by decide)
theorem e91 : R V main_call0_v18 = (addi : C S4x2048x2048 .i64 → C S4x2048x2048 .i64 → C S4x2048x2048 .i64) (R V main_call0_v17) (R V main_call0_v16) := HostLine.binary_at od V 91 rfl (by decide) (by decide) (by decide)
theorem e92 : R V main_call0_c_2 = ((constantI S_ 64 32#64) : C S_ .i64) := HostLine.nullary_at od V 92 rfl (by decide)
theorem e93 : R V main_call0_v19 = ((broadcastInDim S4x2048x2048 ![] bcast_S_S4x2048x2048) : C S_ .i64 → C S4x2048x2048 .i64) (R V main_call0_c_2) := HostLine.unary_at od V 93 rfl (by decide) (by decide)
theorem e94 : R V main_call0_v20 = (Host.shrui : C S4x2048x2048 .i64 → C S4x2048x2048 .i64 → C S4x2048x2048 .i64) (R V main_call0_v18) (R V main_call0_v19) := HostLine.binary_at od V 94 rfl (by decide) (by decide) (by decide)
theorem e95 : R V main_call0_v21 = ((trunci 32 · natLt_32_64) : C S4x2048x2048 .i64 → W3) (R V main_call0_v18) := HostLine.unary_at od V 95 rfl (by decide) (by decide)
theorem e96 : R V main_call0_v22 = ((trunci 32 · natLt_32_64) : C S4x2048x2048 .i64 → W3) (R V main_call0_v20) := HostLine.unary_at od V 96 rfl (by decide) (by decide)
theorem e97 : R V main_call0_call0_v0 = (xori : W0 → W0 → W0) (R V main_call0_v5) (R V main_call0_v7) := HostLine.binary_at od V 97 rfl (by decide) (by decide) (by decide)
theorem e98 : R V main_call0_call0_c = ((constantI S_ 32 466688986#32) : W0) := HostLine.nullary_at od V 98 rfl (by decide)
theorem e99 : R V main_call0_call0_v1 = (xori : W0 → W0 → W0) (R V main_call0_call0_v0) (R V main_call0_call0_c) := HostLine.binary_at od V 99 rfl (by decide) (by decide) (by decide)

end Cert.ReferenceIdeal.Eqs

end
-- ==== Proof.Reference.EqB.lean ====
/-
One equation for each operation of a stretch of the reference: what it leaves in its buffer is its
function of what its operands hold in the end.
-/
module

public import proofs.«01_k».proof.Proof.Reference.EqA
public import Idealize.ShloMosaic.Lib.Pointwise

@[expose] public section

set_option maxRecDepth 16384

noncomputable section

namespace Cert.ReferenceIdeal.Eqs

open Cert.ReferenceIdeal Cert.ReferenceIdeal.Gen Cert.ReferenceIdeal.Line Idealize.ShloMosaic Idealize.ShloMosaic.TcCoe Idealize.ShloMosaic.StableHlo

variable (V : Valuation τ sig (Elt Ideal))

theorem e100 : R V main_call0_call0_v2 = ((broadcastInDim S4x2048x2048 ![] bcast_S_S4x2048x2048) : W03) (R V main_call0_v5) := HostLine.unary_at od V 100 rfl (by decide) (by decide)
theorem e101 : R V main_call0_call0_v3 = (addi : W3o) (R V main_call0_v22) (R V main_call0_call0_v2) := HostLine.binary_at od V 101 rfl (by decide) (by decide) (by decide)
theorem e102 : R V main_call0_call0_v4 = ((broadcastInDim S4x2048x2048 ![] bcast_S_S4x2048x2048) : W03) (R V main_call0_v7) := HostLine.unary_at od V 102 rfl (by decide) (by decide)
theorem e103 : R V main_call0_call0_v5 = (addi : W3o) (R V main_call0_v21) (R V main_call0_call0_v4) := HostLine.binary_at od V 103 rfl (by decide) (by decide) (by decide)
theorem e104 : R V main_call0_call0_v6 = (addi : W3o) (R V main_call0_call0_v3) (R V main_call0_call0_v5) := HostLine.binary_at od V 104 rfl (by decide) (by decide) (by decide)
theorem e105 : R V main_call0_call0_c_0 = ((constantI S_ 32 13#32) : W0) := HostLine.nullary_at od V 105 rfl (by decide)
theorem e106 : R V main_call0_call0_v7 = ((broadcastInDim S4x2048x2048 ![] bcast_S_S4x2048x2048) : W03) (R V main_call0_call0_c_0) := HostLine.unary_at od V 106 rfl (by decide) (by decide)
theorem e107 : R V main_call0_call0_v8 = (Host.shli : W3o) (R V main_call0_call0_v5) (R V main_call0_call0_v7) := HostLine.binary_at od V 107 rfl (by decide) (by decide) (by decide)
theorem e108 : R V main_call0_call0_c_1 = ((constantI S_ 32 19#32) : W0) := HostLine.nullary_at od V 108 rfl (by decide)
theorem e109 : R V main_call0_call0_v9 = ((broadcastInDim S4x2048x2048 ![] bcast_S_S4x2048x2048) : W03) (R V main_call0_call0_c_1) := HostLine.unary_at od V 109 rfl (by decide) (by decide)
theorem e110 : R V main_call0_call0_v10 = (Host.shrui : W3o) (R V main_call0_call0_v5) (R V main_call0_call0_v9) := HostLine.binary_at od V 110 rfl (by decide) (by decide) (by decide)
theorem e111 : R V main_call0_call0_v11 = (ori : W3o) (R V main_call0_call0_v8) (R V main_call0_call0_v10) := HostLine.binary_at od V 111 rfl (by decide) (by decide) (by decide)
theorem e112 : R V main_call0_call0_v12 = (xori : W3o) (R V main_call0_call0_v6) (R V main_call0_call0_v11) := HostLine.binary_at od V 112 rfl (by decide) (by decide) (by decide)
theorem e113 : R V main_call0_call0_v13 = (addi : W3o) (R V main_call0_call0_v6) (R V main_call0_call0_v12) := HostLine.binary_at od V 113 rfl (by decide) (by decide) (by decide)
theorem e114 : R V main_call0_call0_c_2 = ((constantI S_ 32 15#32) : W0) := HostLine.nullary_at od V 114 rfl (by decide)
theorem e115 : R V main_call0_call0_v14 = ((broadcastInDim S4x2048x2048 ![] bcast_S_S4x2048x2048) : W03) (R V main_call0_call0_c_2) := HostLine.unary_at od V 115 rfl (by decide) (by decide)
theorem e116 : R V main_call0_call0_v15 = (Host.shli : W3o) (R V main_call0_call0_v12) (R V main_call0_call0_v14) := HostLine.binary_at od V 116 rfl (by decide) (by decide) (by decide)
theorem e117 : R V main_call0_call0_c_3 = ((constantI S_ 32 17#32) : W0) := HostLine.nullary_at od V 117 rfl (by decide)
theorem e118 : R V main_call0_call0_v16 = ((broadcastInDim S4x2048x2048 ![] bcast_S_S4x2048x2048) : W03) (R V main_call0_call0_c_3) := HostLine.unary_at od V 118 rfl (by decide) (by decide)
theorem e119 : R V main_call0_call0_v17 = (Host.shrui : W3o) (R V main_call0_call0_v12) (R V main_call0_call0_v16) := HostLine.binary_at od V 119 rfl (by decide) (by decide) (by decide)
theorem e120 : R V main_call0_call0_v18 = (ori : W3o) (R V main_call0_call0_v15) (R V main_call0_call0_v17) := HostLine.binary_at od V 120 rfl (by decide) (by decide) (by decide)
theorem e121 : R V main_call0_call0_v19 = (xori : W3o) (R V main_call0_call0_v13) (R V main_call0_call0_v18) := HostLine.binary_at od V 121 rfl (by decide) (by decide) (by decide)
theorem e122 : R V main_call0_call0_v20 = (addi : W3o) (R V main_call0_call0_v13) (R V main_call0_call0_v19) := HostLine.binary_at od V 122 rfl (by decide) (by decide) (by decide)
theorem e123 : R V main_call0_call0_c_4 = ((constantI S_ 32 26#32) : W0) := HostLine.nullary_at od V 123 rfl (by decide)
theorem e124 : R V main_call0_call0_v21 = ((broadcastInDim S4x2048x2048 ![] bcast_S_S4x2048x2048) : W03) (R V main_call0_call0_c_4) := HostLine.unary_at od V 124 rfl (by decide) (by decide)
theorem e125 : R V main_call0_call0_v22 = (Host.shli : W3o) (R V main_call0_call0_v19) (R V main_call0_call0_v21) := HostLine.binary_at od V 125 rfl (by decide) (by decide) (by decide)
theorem e126 : R V main_call0_call0_c_5 = ((constantI S_ 32 6#32) : W0) := HostLine.nullary_at od V 126 rfl (by decide)
theorem e127 : R V main_call0_call0_v23 = ((broadcastInDim S4x2048x2048 ![] bcast_S_S4x2048x2048) : W03) (R V main_call0_call0_c_5) := HostLine.unary_at od V 127 rfl (by decide) (by decide)
theorem e128 : R V main_call0_call0_v24 = (Host.shrui : W3o) (R V main_call0_call0_v19) (R V main_call0_call0_v23) := HostLine.binary_at od V 128 rfl (by decide) (by decide) (by decide)
theorem e129 : R V main_call0_call0_v25 = (ori : W3o) (R V main_call0_call0_v22) (R V main_call0_call0_v24) := HostLine.binary_at od V 129 rfl (by decide) (by decide) (by decide)
theorem e130 : R V main_call0_call0_v26 = (xori : W3o) (R V main_call0_call0_v20) (R V main_call0_call0_v25) := HostLine.binary_at od V 130 rfl (by decide) (by decide) (by decide)
theorem e131 : R V main_call0_call0_v27 = (addi : W3o) (R V main_call0_call0_v20) (R V main_call0_call0_v26) := HostLine.binary_at od V 131 rfl (by decide) (by decide) (by decide)
theorem e132 : R V main_call0_call0_c_6 = ((constantI S_ 32 6#32) : W0) := HostLine.nullary_at od V 132 rfl (by decide)
theorem e133 : R V main_call0_call0_v28 = ((broadcastInDim S4x2048x2048 ![] bcast_S_S4x2048x2048) : W03) (R V main_call0_call0_c_6) := HostLine.unary_at od V 133 rfl (by decide) (by decide)
theorem e134 : R V main_call0_call0_v29 = (Host.shli : W3o) (R V main_call0_call0_v26) (R V main_call0_call0_v28) := HostLine.binary_at od V 134 rfl (by decide) (by decide) (by decide)
theorem e135 : R V main_call0_call0_c_7 = ((constantI S_ 32 26#32) : W0) := HostLine.nullary_at od V 135 rfl (by decide)
theorem e136 : R V main_call0_call0_v30 = ((broadcastInDim S4x2048x2048 ![] bcast_S_S4x2048x2048) : W03) (R V main_call0_call0_c_7) := HostLine.unary_at od V 136 rfl (by decide) (by decide)
theorem e137 : R V main_call0_call0_v31 = (Host.shrui : W3o) (R V main_call0_call0_v26) (R V main_call0_call0_v30) := HostLine.binary_at od V 137 rfl (by decide) (by decide) (by decide)
theorem e138 : R V main_call0_call0_v32 = (ori : W3o) (R V main_call0_call0_v29) (R V main_call0_call0_v31) := HostLine.binary_at od V 138 rfl (by decide) (by decide) (by decide)
theorem e139 : R V main_call0_call0_v33 = (xori : W3o) (R V main_call0_call0_v27) (R V main_call0_call0_v32) := HostLine.binary_at od V 139 rfl (by decide) (by decide) (by decide)
theorem e140 : R V main_call0_call0_v34 = ((broadcastInDim S4x2048x2048 ![] bcast_S_S4x2048x2048) : W03) (R V main_call0_v7) := HostLine.unary_at od V 140 rfl (by decide) (by decide)
theorem e141 : R V main_call0_call0_v35 = (addi : W3o) (R V main_call0_call0_v27) (R V main_call0_call0_v34) := HostLine.binary_at od V 141 rfl (by decide) (by decide) (by decide)
theorem e142 : R V main_call0_call0_v36 = ((broadcastInDim S4x2048x2048 ![] bcast_S_S4x2048x2048) : W03) (R V main_call0_call0_v1) := HostLine.unary_at od V 142 rfl (by decide) (by decide)
theorem e143 : R V main_call0_call0_v37 = (addi : W3o) (R V main_call0_call0_v33) (R V main_call0_call0_v36) := HostLine.binary_at od V 143 rfl (by decide) (by decide) (by decide)
theorem e144 : R V main_call0_call0_c_8 = ((constantI S_ 32 1#32) : W0) := HostLine.nullary_at od V 144 rfl (by decide)
theorem e145 : R V main_call0_call0_v38 = ((broadcastInDim S4x2048x2048 ![] bcast_S_S4x2048x2048) : W03) (R V main_call0_call0_c_8) := HostLine.unary_at od V 145 rfl (by decide) (by decide)
theorem e146 : R V main_call0_call0_v39 = (addi : W3o) (R V main_call0_call0_v37) (R V main_call0_call0_v38) := HostLine.binary_at od V 146 rfl (by decide) (by decide) (by decide)
theorem e147 : R V main_call0_call0_v40 = (addi : W3o) (R V main_call0_call0_v35) (R V main_call0_call0_v39) := HostLine.binary_at od V 147 rfl (by decide) (by decide) (by decide)
theorem e148 : R V main_call0_call0_c_9 = ((constantI S_ 32 17#32) : W0) := HostLine.nullary_at od V 148 rfl (by decide)
theorem e149 : R V main_call0_call0_v41 = ((broadcastInDim S4x2048x2048 ![] bcast_S_S4x2048x2048) : W03) (R V main_call0_call0_c_9) := HostLine.unary_at od V 149 rfl (by decide) (by decide)
theorem e150 : R V main_call0_call0_v42 = (Host.shli : W3o) (R V main_call0_call0_v39) (R V main_call0_call0_v41) := HostLine.binary_at od V 150 rfl (by decide) (by decide) (by decide)
theorem e151 : R V main_call0_call0_c_10 = ((constantI S_ 32 15#32) : W0) := HostLine.nullary_at od V 151 rfl (by decide)
theorem e152 : R V main_call0_call0_v43 = ((broadcastInDim S4x2048x2048 ![] bcast_S_S4x2048x2048) : W03) (R V main_call0_call0_c_10) := HostLine.unary_at od V 152 rfl (by decide) (by decide)
theorem e153 : R V main_call0_call0_v44 = (Host.shrui : W3o) (R V main_call0_call0_v39) (R V main_call0_call0_v43) := HostLine.binary_at od V 153 rfl (by decide) (by decide) (by decide)
theorem e154 : R V main_call0_call0_v45 = (ori : W3o) (R V main_call0_call0_v42) (R V main_call0_call0_v44) := HostLine.binary_at od V 154 rfl (by decide) (by decide) (by decide)
theorem e155 : R V main_call0_call0_v46 = (xori : W3o) (R V main_call0_call0_v40) (R V main_call0_call0_v45) := HostLine.binary_at od V 155 rfl (by decide) (by decide) (by decide)
theorem e156 : R V main_call0_call0_v47 = (addi : W3o) (R V main_call0_call0_v40) (R V main_call0_call0_v46) := HostLine.binary_at od V 156 rfl (by decide) (by decide) (by decide)
theorem e157 : R V main_call0_call0_c_11 = ((constantI S_ 32 29#32) : W0) := HostLine.nullary_at od V 157 rfl (by decide)
theorem e158 : R V main_call0_call0_v48 = ((broadcastInDim S4x2048x2048 ![] bcast_S_S4x2048x2048) : W03) (R V main_call0_call0_c_11) := HostLine.unary_at od V 158 rfl (by decide) (by decide)
theorem e159 : R V main_call0_call0_v49 = (Host.shli : W3o) (R V main_call0_call0_v46) (R V main_call0_call0_v48) := HostLine.binary_at od V 159 rfl (by decide) (by decide) (by decide)
theorem e160 : R V main_call0_call0_c_12 = ((constantI S_ 32 3#32) : W0) := HostLine.nullary_at od V 160 rfl (by decide)
theorem e161 : R V main_call0_call0_v50 = ((broadcastInDim S4x2048x2048 ![] bcast_S_S4x2048x2048) : W03) (R V main_call0_call0_c_12) := HostLine.unary_at od V 161 rfl (by decide) (by decide)
theorem e162 : R V main_call0_call0_v51 = (Host.shrui : W3o) (R V main_call0_call0_v46) (R V main_call0_call0_v50) := HostLine.binary_at od V 162 rfl (by decide) (by decide) (by decide)
theorem e163 : R V main_call0_call0_v52 = (ori : W3o) (R V main_call0_call0_v49) (R V main_call0_call0_v51) := HostLine.binary_at od V 163 rfl (by decide) (by decide) (by decide)
theorem e164 : R V main_call0_call0_v53 = (xori : W3o) (R V main_call0_call0_v47) (R V main_call0_call0_v52) := HostLine.binary_at od V 164 rfl (by decide) (by decide) (by decide)
theorem e165 : R V main_call0_call0_v54 = (addi : W3o) (R V main_call0_call0_v47) (R V main_call0_call0_v53) := HostLine.binary_at od V 165 rfl (by decide) (by decide) (by decide)
theorem e166 : R V main_call0_call0_c_13 = ((constantI S_ 32 16#32) : W0) := HostLine.nullary_at od V 166 rfl (by decide)
theorem e167 : R V main_call0_call0_v55 = ((broadcastInDim S4x2048x2048 ![] bcast_S_S4x2048x2048) : W03) (R V main_call0_call0_c_13) := HostLine.unary_at od V 167 rfl (by decide) (by decide)
theorem e168 : R V main_call0_call0_v56 = (Host.shli : W3o) (R V main_call0_call0_v53) (R V main_call0_call0_v55) := HostLine.binary_at od V 168 rfl (by decide) (by decide) (by decide)
theorem e169 : R V main_call0_call0_c_14 = ((constantI S_ 32 16#32) : W0) := HostLine.nullary_at od V 169 rfl (by decide)
theorem e170 : R V main_call0_call0_v57 = ((broadcastInDim S4x2048x2048 ![] bcast_S_S4x2048x2048) : W03) (R V main_call0_call0_c_14) := HostLine.unary_at od V 170 rfl (by decide) (by decide)
theorem e171 : R V main_call0_call0_v58 = (Host.shrui : W3o) (R V main_call0_call0_v53) (R V main_call0_call0_v57) := HostLine.binary_at od V 171 rfl (by decide) (by decide) (by decide)
theorem e172 : R V main_call0_call0_v59 = (ori : W3o) (R V main_call0_call0_v56) (R V main_call0_call0_v58) := HostLine.binary_at od V 172 rfl (by decide) (by decide) (by decide)
theorem e173 : R V main_call0_call0_v60 = (xori : W3o) (R V main_call0_call0_v54) (R V main_call0_call0_v59) := HostLine.binary_at od V 173 rfl (by decide) (by decide) (by decide)
theorem e174 : R V main_call0_call0_v61 = (addi : W3o) (R V main_call0_call0_v54) (R V main_call0_call0_v60) := HostLine.binary_at od V 174 rfl (by decide) (by decide) (by decide)
theorem e175 : R V main_call0_call0_c_15 = ((constantI S_ 32 24#32) : W0) := HostLine.nullary_at od V 175 rfl (by decide)
theorem e176 : R V main_call0_call0_v62 = ((broadcastInDim S4x2048x2048 ![] bcast_S_S4x2048x2048) : W03) (R V main_call0_call0_c_15) := HostLine.unary_at od V 176 rfl (by decide) (by decide)
theorem e177 : R V main_call0_call0_v63 = (Host.shli : W3o) (R V main_call0_call0_v60) (R V main_call0_call0_v62) := HostLine.binary_at od V 177 rfl (by decide) (by decide) (by decide)
theorem e178 : R V main_call0_call0_c_16 = ((constantI S_ 32 8#32) : W0) := HostLine.nullary_at od V 178 rfl (by decide)
theorem e179 : R V main_call0_call0_v64 = ((broadcastInDim S4x2048x2048 ![] bcast_S_S4x2048x2048) : W03) (R V main_call0_call0_c_16) := HostLine.unary_at od V 179 rfl (by decide) (by decide)
theorem e180 : R V main_call0_call0_v65 = (Host.shrui : W3o) (R V main_call0_call0_v60) (R V main_call0_call0_v64) := HostLine.binary_at od V 180 rfl (by decide) (by decide) (by decide)
theorem e181 : R V main_call0_call0_v66 = (ori : W3o) (R V main_call0_call0_v63) (R V main_call0_call0_v65) := HostLine.binary_at od V 181 rfl (by decide) (by decide) (by decide)
theorem e182 : R V main_call0_call0_v67 = (xori : W3o) (R V main_call0_call0_v61) (R V main_call0_call0_v66) := HostLine.binary_at od V 182 rfl (by decide) (by decide) (by decide)
theorem e183 : R V main_call0_call0_v68 = ((broadcastInDim S4x2048x2048 ![] bcast_S_S4x2048x2048) : W03) (R V main_call0_call0_v1) := HostLine.unary_at od V 183 rfl (by decide) (by decide)
theorem e184 : R V main_call0_call0_v69 = (addi : W3o) (R V main_call0_call0_v61) (R V main_call0_call0_v68) := HostLine.binary_at od V 184 rfl (by decide) (by decide) (by decide)
theorem e185 : R V main_call0_call0_v70 = ((broadcastInDim S4x2048x2048 ![] bcast_S_S4x2048x2048) : W03) (R V main_call0_v5) := HostLine.unary_at od V 185 rfl (by decide) (by decide)
theorem e186 : R V main_call0_call0_v71 = (addi : W3o) (R V main_call0_call0_v67) (R V main_call0_call0_v70) := HostLine.binary_at od V 186 rfl (by decide) (by decide) (by decide)
theorem e187 : R V main_call0_call0_c_17 = ((constantI S_ 32 2#32) : W0) := HostLine.nullary_at od V 187 rfl (by decide)
theorem e188 : R V main_call0_call0_v72 = ((broadcastInDim S4x2048x2048 ![] bcast_S_S4x2048x2048) : W03) (R V main_call0_call0_c_17) := HostLine.unary_at od V 188 rfl (by decide) (by decide)
theorem e189 : R V main_call0_call0_v73 = (addi : W3o) (R V main_call0_call0_v71) (R V main_call0_call0_v72) := HostLine.binary_at od V 189 rfl (by decide) (by decide) (by decide)
theorem e190 : R V main_call0_call0_v74 = (addi : W3o) (R V main_call0_call0_v69) (R V main_call0_call0_v73) := HostLine.binary_at od V 190 rfl (by decide) (by decide) (by decide)
theorem e191 : R V main_call0_call0_c_18 = ((constantI S_ 32 13#32) : W0) := HostLine.nullary_at od V 191 rfl (by decide)
theorem e192 : R V main_call0_call0_v75 = ((broadcastInDim S4x2048x2048 ![] bcast_S_S4x2048x2048) : W03) (R V main_call0_call0_c_18) := HostLine.unary_at od V 192 rfl (by decide) (by decide)
theorem e193 : R V main_call0_call0_v76 = (Host.shli : W3o) (R V main_call0_call0_v73) (R V main_call0_call0_v75) := HostLine.binary_at od V 193 rfl (by decide) (by decide) (by decide)
theorem e194 : R V main_call0_call0_c_19 = ((constantI S_ 32 19#32) : W0) := HostLine.nullary_at od V 194 rfl (by decide)
theorem e195 : R V main_call0_call0_v77 = ((broadcastInDim S4x2048x2048 ![] bcast_S_S4x2048x2048) : W03) (R V main_call0_call0_c_19) := HostLine.unary_at od V 195 rfl (by decide) (by decide)
theorem e196 : R V main_call0_call0_v78 = (Host.shrui : W3o) (R V main_call0_call0_v73) (R V main_call0_call0_v77) := HostLine.binary_at od V 196 rfl (by decide) (by decide) (by decide)
theorem e197 : R V main_call0_call0_v79 = (ori : W3o) (R V main_call0_call0_v76) (R V main_call0_call0_v78) := HostLine.binary_at od V 197 rfl (by decide) (by decide) (by decide)
theorem e198 : R V main_call0_call0_v80 = (xori : W3o) (R V main_call0_call0_v74) (R V main_call0_call0_v79) := HostLine.binary_at od V 198 rfl (by decide) (by decide) (by decide)
theorem e199 : R V main_call0_call0_v81 = (addi : W3o) (R V main_call0_call0_v74) (R V main_call0_call0_v80) := HostLine.binary_at od V 199 rfl (by decide) (by decide) (by decide)
theorem e200 : R V main_call0_call0_c_20 = ((constantI S_ 32 15#32) : W0) := HostLine.nullary_at od V 200 rfl (by decide)
theorem e201 : R V main_call0_call0_v82 = ((broadcastInDim S4x2048x2048 ![] bcast_S_S4x2048x2048) : W03) (R V main_call0_call0_c_20) := HostLine.unary_at od V 201 rfl (by decide) (by decide)
theorem e202 : R V main_call0_call0_v83 = (Host.shli : W3o) (R V main_call0_call0_v80) (R V main_call0_call0_v82) := HostLine.binary_at od V 202 rfl (by decide) (by decide) (by decide)
theorem e203 : R V main_call0_call0_c_21 = ((constantI S_ 32 17#32) : W0) := HostLine.nullary_at od V 203 rfl (by decide)
theorem e204 : R V main_call0_call0_v84 = ((broadcastInDim S4x2048x2048 ![] bcast_S_S4x2048x2048) : W03) (R V main_call0_call0_c_21) := HostLine.unary_at od V 204 rfl (by decide) (by decide)
theorem e205 : R V main_call0_call0_v85 = (Host.shrui : W3o) (R V main_call0_call0_v80) (R V main_call0_call0_v84) := HostLine.binary_at od V 205 rfl (by decide) (by decide) (by decide)
theorem e206 : R V main_call0_call0_v86 = (ori : W3o) (R V main_call0_call0_v83) (R V main_call0_call0_v85) := HostLine.binary_at od V 206 rfl (by decide) (by decide) (by decide)
theorem e207 : R V main_call0_call0_v87 = (xori : W3o) (R V main_call0_call0_v81) (R V main_call0_call0_v86) := HostLine.binary_at od V 207 rfl (by decide) (by decide) (by decide)
theorem e208 : R V main_call0_call0_v88 = (addi : W3o) (R V main_call0_call0_v81) (R V main_call0_call0_v87) := HostLine.binary_at od V 208 rfl (by decide) (by decide) (by decide)
theorem e209 : R V main_call0_call0_c_22 = ((constantI S_ 32 26#32) : W0) := HostLine.nullary_at od V 209 rfl (by decide)

end Cert.ReferenceIdeal.Eqs

end
-- ==== Proof.Reference.EqC.lean ====
/-
One equation for each operation of a stretch of the reference: what it leaves in its buffer is its
function of what its operands hold in the end.
-/
module

public import proofs.«01_k».proof.Proof.Reference.EqA
public import Idealize.ShloMosaic.Lib.Pointwise

@[expose] public section

set_option maxRecDepth 16384

noncomputable section

namespace Cert.ReferenceIdeal.Eqs

open Cert.ReferenceIdeal Cert.ReferenceIdeal.Gen Cert.ReferenceIdeal.Line Idealize.ShloMosaic Idealize.ShloMosaic.TcCoe Idealize.ShloMosaic.StableHlo

variable (V : Valuation τ sig (Elt Ideal))

theorem e210 : R V main_call0_call0_v89 = ((broadcastInDim S4x2048x2048 ![] bcast_S_S4x2048x2048) : W03) (R V main_call0_call0_c_22) := HostLine.unary_at od V 210 rfl (by decide) (by decide)
theorem e211 : R V main_call0_call0_v90 = (Host.shli : W3o) (R V main_call0_call0_v87) (R V main_call0_call0_v89) := HostLine.binary_at od V 211 rfl (by decide) (by decide) (by decide)
theorem e212 : R V main_call0_call0_c_23 = ((constantI S_ 32 6#32) : W0) := HostLine.nullary_at od V 212 rfl (by decide)
theorem e213 : R V main_call0_call0_v91 = ((broadcastInDim S4x2048x2048 ![] bcast_S_S4x2048x2048) : W03) (R V main_call0_call0_c_23) := HostLine.unary_at od V 213 rfl (by decide) (by decide)
theorem e214 : R V main_call0_call0_v92 = (Host.shrui : W3o) (R V main_call0_call0_v87) (R V main_call0_call0_v91) := HostLine.binary_at od V 214 rfl (by decide) (by decide) (by decide)
theorem e215 : R V main_call0_call0_v93 = (ori : W3o) (R V main_call0_call0_v90) (R V main_call0_call0_v92) := HostLine.binary_at od V 215 rfl (by decide) (by decide) (by decide)
theorem e216 : R V main_call0_call0_v94 = (xori : W3o) (R V main_call0_call0_v88) (R V main_call0_call0_v93) := HostLine.binary_at od V 216 rfl (by decide) (by decide) (by decide)
theorem e217 : R V main_call0_call0_v95 = (addi : W3o) (R V main_call0_call0_v88) (R V main_call0_call0_v94) := HostLine.binary_at od V 217 rfl (by decide) (by decide) (by decide)
theorem e218 : R V main_call0_call0_c_24 = ((constantI S_ 32 6#32) : W0) := HostLine.nullary_at od V 218 rfl (by decide)
theorem e219 : R V main_call0_call0_v96 = ((broadcastInDim S4x2048x2048 ![] bcast_S_S4x2048x2048) : W03) (R V main_call0_call0_c_24) := HostLine.unary_at od V 219 rfl (by decide) (by decide)
theorem e220 : R V main_call0_call0_v97 = (Host.shli : W3o) (R V main_call0_call0_v94) (R V main_call0_call0_v96) := HostLine.binary_at od V 220 rfl (by decide) (by decide) (by decide)
theorem e221 : R V main_call0_call0_c_25 = ((constantI S_ 32 26#32) : W0) := HostLine.nullary_at od V 221 rfl (by decide)
theorem e222 : R V main_call0_call0_v98 = ((broadcastInDim S4x2048x2048 ![] bcast_S_S4x2048x2048) : W03) (R V main_call0_call0_c_25) := HostLine.unary_at od V 222 rfl (by decide) (by decide)
theorem e223 : R V main_call0_call0_v99 = (Host.shrui : W3o) (R V main_call0_call0_v94) (R V main_call0_call0_v98) := HostLine.binary_at od V 223 rfl (by decide) (by decide) (by decide)
theorem e224 : R V main_call0_call0_v100 = (ori : W3o) (R V main_call0_call0_v97) (R V main_call0_call0_v99) := HostLine.binary_at od V 224 rfl (by decide) (by decide) (by decide)
theorem e225 : R V main_call0_call0_v101 = (xori : W3o) (R V main_call0_call0_v95) (R V main_call0_call0_v100) := HostLine.binary_at od V 225 rfl (by decide) (by decide) (by decide)
theorem e226 : R V main_call0_call0_v102 = ((broadcastInDim S4x2048x2048 ![] bcast_S_S4x2048x2048) : W03) (R V main_call0_v5) := HostLine.unary_at od V 226 rfl (by decide) (by decide)
theorem e227 : R V main_call0_call0_v103 = (addi : W3o) (R V main_call0_call0_v95) (R V main_call0_call0_v102) := HostLine.binary_at od V 227 rfl (by decide) (by decide) (by decide)
theorem e228 : R V main_call0_call0_v104 = ((broadcastInDim S4x2048x2048 ![] bcast_S_S4x2048x2048) : W03) (R V main_call0_v7) := HostLine.unary_at od V 228 rfl (by decide) (by decide)
theorem e229 : R V main_call0_call0_v105 = (addi : W3o) (R V main_call0_call0_v101) (R V main_call0_call0_v104) := HostLine.binary_at od V 229 rfl (by decide) (by decide) (by decide)
theorem e230 : R V main_call0_call0_c_26 = ((constantI S_ 32 3#32) : W0) := HostLine.nullary_at od V 230 rfl (by decide)
theorem e231 : R V main_call0_call0_v106 = ((broadcastInDim S4x2048x2048 ![] bcast_S_S4x2048x2048) : W03) (R V main_call0_call0_c_26) := HostLine.unary_at od V 231 rfl (by decide) (by decide)
theorem e232 : R V main_call0_call0_v107 = (addi : W3o) (R V main_call0_call0_v105) (R V main_call0_call0_v106) := HostLine.binary_at od V 232 rfl (by decide) (by decide) (by decide)
theorem e233 : R V main_call0_call0_v108 = (addi : W3o) (R V main_call0_call0_v103) (R V main_call0_call0_v107) := HostLine.binary_at od V 233 rfl (by decide) (by decide) (by decide)
theorem e234 : R V main_call0_call0_c_27 = ((constantI S_ 32 17#32) : W0) := HostLine.nullary_at od V 234 rfl (by decide)
theorem e235 : R V main_call0_call0_v109 = ((broadcastInDim S4x2048x2048 ![] bcast_S_S4x2048x2048) : W03) (R V main_call0_call0_c_27) := HostLine.unary_at od V 235 rfl (by decide) (by decide)
theorem e236 : R V main_call0_call0_v110 = (Host.shli : W3o) (R V main_call0_call0_v107) (R V main_call0_call0_v109) := HostLine.binary_at od V 236 rfl (by decide) (by decide) (by decide)
theorem e237 : R V main_call0_call0_c_28 = ((constantI S_ 32 15#32) : W0) := HostLine.nullary_at od V 237 rfl (by decide)
theorem e238 : R V main_call0_call0_v111 = ((broadcastInDim S4x2048x2048 ![] bcast_S_S4x2048x2048) : W03) (R V main_call0_call0_c_28) := HostLine.unary_at od V 238 rfl (by decide) (by decide)
theorem e239 : R V main_call0_call0_v112 = (Host.shrui : W3o) (R V main_call0_call0_v107) (R V main_call0_call0_v111) := HostLine.binary_at od V 239 rfl (by decide) (by decide) (by decide)
theorem e240 : R V main_call0_call0_v113 = (ori : W3o) (R V main_call0_call0_v110) (R V main_call0_call0_v112) := HostLine.binary_at od V 240 rfl (by decide) (by decide) (by decide)
theorem e241 : R V main_call0_call0_v114 = (xori : W3o) (R V main_call0_call0_v108) (R V main_call0_call0_v113) := HostLine.binary_at od V 241 rfl (by decide) (by decide) (by decide)
theorem e242 : R V main_call0_call0_v115 = (addi : W3o) (R V main_call0_call0_v108) (R V main_call0_call0_v114) := HostLine.binary_at od V 242 rfl (by decide) (by decide) (by decide)
theorem e243 : R V main_call0_call0_c_29 = ((constantI S_ 32 29#32) : W0) := HostLine.nullary_at od V 243 rfl (by decide)
theorem e244 : R V main_call0_call0_v116 = ((broadcastInDim S4x2048x2048 ![] bcast_S_S4x2048x2048) : W03) (R V main_call0_call0_c_29) := HostLine.unary_at od V 244 rfl (by decide) (by decide)
theorem e245 : R V main_call0_call0_v117 = (Host.shli : W3o) (R V main_call0_call0_v114) (R V main_call0_call0_v116) := HostLine.binary_at od V 245 rfl (by decide) (by decide) (by decide)
theorem e246 : R V main_call0_call0_c_30 = ((constantI S_ 32 3#32) : W0) := HostLine.nullary_at od V 246 rfl (by decide)
theorem e247 : R V main_call0_call0_v118 = ((broadcastInDim S4x2048x2048 ![] bcast_S_S4x2048x2048) : W03) (R V main_call0_call0_c_30) := HostLine.unary_at od V 247 rfl (by decide) (by decide)
theorem e248 : R V main_call0_call0_v119 = (Host.shrui : W3o) (R V main_call0_call0_v114) (R V main_call0_call0_v118) := HostLine.binary_at od V 248 rfl (by decide) (by decide) (by decide)
theorem e249 : R V main_call0_call0_v120 = (ori : W3o) (R V main_call0_call0_v117) (R V main_call0_call0_v119) := HostLine.binary_at od V 249 rfl (by decide) (by decide) (by decide)
theorem e250 : R V main_call0_call0_v121 = (xori : W3o) (R V main_call0_call0_v115) (R V main_call0_call0_v120) := HostLine.binary_at od V 250 rfl (by decide) (by decide) (by decide)
theorem e251 : R V main_call0_call0_v122 = (addi : W3o) (R V main_call0_call0_v115) (R V main_call0_call0_v121) := HostLine.binary_at od V 251 rfl (by decide) (by decide) (by decide)
theorem e252 : R V main_call0_call0_c_31 = ((constantI S_ 32 16#32) : W0) := HostLine.nullary_at od V 252 rfl (by decide)
theorem e253 : R V main_call0_call0_v123 = ((broadcastInDim S4x2048x2048 ![] bcast_S_S4x2048x2048) : W03) (R V main_call0_call0_c_31) := HostLine.unary_at od V 253 rfl (by decide) (by decide)
theorem e254 : R V main_call0_call0_v124 = (Host.shli : W3o) (R V main_call0_call0_v121) (R V main_call0_call0_v123) := HostLine.binary_at od V 254 rfl (by decide) (by decide) (by decide)
theorem e255 : R V main_call0_call0_c_32 = ((constantI S_ 32 16#32) : W0) := HostLine.nullary_at od V 255 rfl (by decide)
theorem e256 : R V main_call0_call0_v125 = ((broadcastInDim S4x2048x2048 ![] bcast_S_S4x2048x2048) : W03) (R V main_call0_call0_c_32) := HostLine.unary_at od V 256 rfl (by decide) (by decide)
theorem e257 : R V main_call0_call0_v126 = (Host.shrui : W3o) (R V main_call0_call0_v121) (R V main_call0_call0_v125) := HostLine.binary_at od V 257 rfl (by decide) (by decide) (by decide)
theorem e258 : R V main_call0_call0_v127 = (ori : W3o) (R V main_call0_call0_v124) (R V main_call0_call0_v126) := HostLine.binary_at od V 258 rfl (by decide) (by decide) (by decide)
theorem e259 : R V main_call0_call0_v128 = (xori : W3o) (R V main_call0_call0_v122) (R V main_call0_call0_v127) := HostLine.binary_at od V 259 rfl (by decide) (by decide) (by decide)
theorem e260 : R V main_call0_call0_v129 = (addi : W3o) (R V main_call0_call0_v122) (R V main_call0_call0_v128) := HostLine.binary_at od V 260 rfl (by decide) (by decide) (by decide)
theorem e261 : R V main_call0_call0_c_33 = ((constantI S_ 32 24#32) : W0) := HostLine.nullary_at od V 261 rfl (by decide)
theorem e262 : R V main_call0_call0_v130 = ((broadcastInDim S4x2048x2048 ![] bcast_S_S4x2048x2048) : W03) (R V main_call0_call0_c_33) := HostLine.unary_at od V 262 rfl (by decide) (by decide)
theorem e263 : R V main_call0_call0_v131 = (Host.shli : W3o) (R V main_call0_call0_v128) (R V main_call0_call0_v130) := HostLine.binary_at od V 263 rfl (by decide) (by decide) (by decide)
theorem e264 : R V main_call0_call0_c_34 = ((constantI S_ 32 8#32) : W0) := HostLine.nullary_at od V 264 rfl (by decide)
theorem e265 : R V main_call0_call0_v132 = ((broadcastInDim S4x2048x2048 ![] bcast_S_S4x2048x2048) : W03) (R V main_call0_call0_c_34) := HostLine.unary_at od V 265 rfl (by decide) (by decide)
theorem e266 : R V main_call0_call0_v133 = (Host.shrui : W3o) (R V main_call0_call0_v128) (R V main_call0_call0_v132) := HostLine.binary_at od V 266 rfl (by decide) (by decide) (by decide)
theorem e267 : R V main_call0_call0_v134 = (ori : W3o) (R V main_call0_call0_v131) (R V main_call0_call0_v133) := HostLine.binary_at od V 267 rfl (by decide) (by decide) (by decide)
theorem e268 : R V main_call0_call0_v135 = (xori : W3o) (R V main_call0_call0_v129) (R V main_call0_call0_v134) := HostLine.binary_at od V 268 rfl (by decide) (by decide) (by decide)
theorem e269 : R V main_call0_call0_v136 = ((broadcastInDim S4x2048x2048 ![] bcast_S_S4x2048x2048) : W03) (R V main_call0_v7) := HostLine.unary_at od V 269 rfl (by decide) (by decide)
theorem e270 : R V main_call0_call0_v137 = (addi : W3o) (R V main_call0_call0_v129) (R V main_call0_call0_v136) := HostLine.binary_at od V 270 rfl (by decide) (by decide) (by decide)
theorem e271 : R V main_call0_call0_v138 = ((broadcastInDim S4x2048x2048 ![] bcast_S_S4x2048x2048) : W03) (R V main_call0_call0_v1) := HostLine.unary_at od V 271 rfl (by decide) (by decide)
theorem e272 : R V main_call0_call0_v139 = (addi : W3o) (R V main_call0_call0_v135) (R V main_call0_call0_v138) := HostLine.binary_at od V 272 rfl (by decide) (by decide) (by decide)
theorem e273 : R V main_call0_call0_c_35 = ((constantI S_ 32 4#32) : W0) := HostLine.nullary_at od V 273 rfl (by decide)
theorem e274 : R V main_call0_call0_v140 = ((broadcastInDim S4x2048x2048 ![] bcast_S_S4x2048x2048) : W03) (R V main_call0_call0_c_35) := HostLine.unary_at od V 274 rfl (by decide) (by decide)
theorem e275 : R V main_call0_call0_v141 = (addi : W3o) (R V main_call0_call0_v139) (R V main_call0_call0_v140) := HostLine.binary_at od V 275 rfl (by decide) (by decide) (by decide)
theorem e276 : R V main_call0_call0_v142 = (addi : W3o) (R V main_call0_call0_v137) (R V main_call0_call0_v141) := HostLine.binary_at od V 276 rfl (by decide) (by decide) (by decide)
theorem e277 : R V main_call0_call0_c_36 = ((constantI S_ 32 13#32) : W0) := HostLine.nullary_at od V 277 rfl (by decide)
theorem e278 : R V main_call0_call0_v143 = ((broadcastInDim S4x2048x2048 ![] bcast_S_S4x2048x2048) : W03) (R V main_call0_call0_c_36) := HostLine.unary_at od V 278 rfl (by decide) (by decide)
theorem e279 : R V main_call0_call0_v144 = (Host.shli : W3o) (R V main_call0_call0_v141) (R V main_call0_call0_v143) := HostLine.binary_at od V 279 rfl (by decide) (by decide) (by decide)
theorem e280 : R V main_call0_call0_c_37 = ((constantI S_ 32 19#32) : W0) := HostLine.nullary_at od V 280 rfl (by decide)
theorem e281 : R V main_call0_call0_v145 = ((broadcastInDim S4x2048x2048 ![] bcast_S_S4x2048x2048) : W03) (R V main_call0_call0_c_37) := HostLine.unary_at od V 281 rfl (by decide) (by decide)
theorem e282 : R V main_call0_call0_v146 = (Host.shrui : W3o) (R V main_call0_call0_v141) (R V main_call0_call0_v145) := HostLine.binary_at od V 282 rfl (by decide) (by decide) (by decide)
theorem e283 : R V main_call0_call0_v147 = (ori : W3o) (R V main_call0_call0_v144) (R V main_call0_call0_v146) := HostLine.binary_at od V 283 rfl (by decide) (by decide) (by decide)
theorem e284 : R V main_call0_call0_v148 = (xori : W3o) (R V main_call0_call0_v142) (R V main_call0_call0_v147) := HostLine.binary_at od V 284 rfl (by decide) (by decide) (by decide)
theorem e285 : R V main_call0_call0_v149 = (addi : W3o) (R V main_call0_call0_v142) (R V main_call0_call0_v148) := HostLine.binary_at od V 285 rfl (by decide) (by decide) (by decide)
theorem e286 : R V main_call0_call0_c_38 = ((constantI S_ 32 15#32) : W0) := HostLine.nullary_at od V 286 rfl (by decide)
theorem e287 : R V main_call0_call0_v150 = ((broadcastInDim S4x2048x2048 ![] bcast_S_S4x2048x2048) : W03) (R V main_call0_call0_c_38) := HostLine.unary_at od V 287 rfl (by decide) (by decide)
theorem e288 : R V main_call0_call0_v151 = (Host.shli : W3o) (R V main_call0_call0_v148) (R V main_call0_call0_v150) := HostLine.binary_at od V 288 rfl (by decide) (by decide) (by decide)
theorem e289 : R V main_call0_call0_c_39 = ((constantI S_ 32 17#32) : W0) := HostLine.nullary_at od V 289 rfl (by decide)
theorem e290 : R V main_call0_call0_v152 = ((broadcastInDim S4x2048x2048 ![] bcast_S_S4x2048x2048) : W03) (R V main_call0_call0_c_39) := HostLine.unary_at od V 290 rfl (by decide) (by decide)
theorem e291 : R V main_call0_call0_v153 = (Host.shrui : W3o) (R V main_call0_call0_v148) (R V main_call0_call0_v152) := HostLine.binary_at od V 291 rfl (by decide) (by decide) (by decide)
theorem e292 : R V main_call0_call0_v154 = (ori : W3o) (R V main_call0_call0_v151) (R V main_call0_call0_v153) := HostLine.binary_at od V 292 rfl (by decide) (by decide) (by decide)
theorem e293 : R V main_call0_call0_v155 = (xori : W3o) (R V main_call0_call0_v149) (R V main_call0_call0_v154) := HostLine.binary_at od V 293 rfl (by decide) (by decide) (by decide)
theorem e294 : R V main_call0_call0_v156 = (addi : W3o) (R V main_call0_call0_v149) (R V main_call0_call0_v155) := HostLine.binary_at od V 294 rfl (by decide) (by decide) (by decide)
theorem e295 : R V main_call0_call0_c_40 = ((constantI S_ 32 26#32) : W0) := HostLine.nullary_at od V 295 rfl (by decide)
theorem e296 : R V main_call0_call0_v157 = ((broadcastInDim S4x2048x2048 ![] bcast_S_S4x2048x2048) : W03) (R V main_call0_call0_c_40) := HostLine.unary_at od V 296 rfl (by decide) (by decide)
theorem e297 : R V main_call0_call0_v158 = (Host.shli : W3o) (R V main_call0_call0_v155) (R V main_call0_call0_v157) := HostLine.binary_at od V 297 rfl (by decide) (by decide) (by decide)
theorem e298 : R V main_call0_call0_c_41 = ((constantI S_ 32 6#32) : W0) := HostLine.nullary_at od V 298 rfl (by decide)
theorem e299 : R V main_call0_call0_v159 = ((broadcastInDim S4x2048x2048 ![] bcast_S_S4x2048x2048) : W03) (R V main_call0_call0_c_41) := HostLine.unary_at od V 299 rfl (by decide) (by decide)
theorem e300 : R V main_call0_call0_v160 = (Host.shrui : W3o) (R V main_call0_call0_v155) (R V main_call0_call0_v159) := HostLine.binary_at od V 300 rfl (by decide) (by decide) (by decide)
theorem e301 : R V main_call0_call0_v161 = (ori : W3o) (R V main_call0_call0_v158) (R V main_call0_call0_v160) := HostLine.binary_at od V 301 rfl (by decide) (by decide) (by decide)
theorem e302 : R V main_call0_call0_v162 = (xori : W3o) (R V main_call0_call0_v156) (R V main_call0_call0_v161) := HostLine.binary_at od V 302 rfl (by decide) (by decide) (by decide)
theorem e303 : R V main_call0_call0_v163 = (addi : W3o) (R V main_call0_call0_v156) (R V main_call0_call0_v162) := HostLine.binary_at od V 303 rfl (by decide) (by decide) (by decide)
theorem e304 : R V main_call0_call0_c_42 = ((constantI S_ 32 6#32) : W0) := HostLine.nullary_at od V 304 rfl (by decide)
theorem e305 : R V main_call0_call0_v164 = ((broadcastInDim S4x2048x2048 ![] bcast_S_S4x2048x2048) : W03) (R V main_call0_call0_c_42) := HostLine.unary_at od V 305 rfl (by decide) (by decide)
theorem e306 : R V main_call0_call0_v165 = (Host.shli : W3o) (R V main_call0_call0_v162) (R V main_call0_call0_v164) := HostLine.binary_at od V 306 rfl (by decide) (by decide) (by decide)
theorem e307 : R V main_call0_call0_c_43 = ((constantI S_ 32 26#32) : W0) := HostLine.nullary_at od V 307 rfl (by decide)
theorem e308 : R V main_call0_call0_v166 = ((broadcastInDim S4x2048x2048 ![] bcast_S_S4x2048x2048) : W03) (R V main_call0_call0_c_43) := HostLine.unary_at od V 308 rfl (by decide) (by decide)
theorem e309 : R V main_call0_call0_v167 = (Host.shrui : W3o) (R V main_call0_call0_v162) (R V main_call0_call0_v166) := HostLine.binary_at od V 309 rfl (by decide) (by decide) (by decide)
theorem e310 : R V main_call0_call0_v168 = (ori : W3o) (R V main_call0_call0_v165) (R V main_call0_call0_v167) := HostLine.binary_at od V 310 rfl (by decide) (by decide) (by decide)
theorem e311 : R V main_call0_call0_v169 = (xori : W3o) (R V main_call0_call0_v163) (R V main_call0_call0_v168) := HostLine.binary_at od V 311 rfl (by decide) (by decide) (by decide)
theorem e312 : R V main_call0_call0_v170 = ((broadcastInDim S4x2048x2048 ![] bcast_S_S4x2048x2048) : W03) (R V main_call0_call0_v1) := HostLine.unary_at od V 312 rfl (by decide) (by decide)
theorem e313 : R V main_call0_v23_0 = (addi : W3o) (R V main_call0_call0_v163) (R V main_call0_call0_v170) := HostLine.binary_at od V 313 rfl (by decide) (by decide) (by decide)
theorem e314 : R V main_call0_call0_v172 = ((broadcastInDim S4x2048x2048 ![] bcast_S_S4x2048x2048) : W03) (R V main_call0_v5) := HostLine.unary_at od V 314 rfl (by decide) (by decide)
theorem e315 : R V main_call0_call0_v173 = (addi : W3o) (R V main_call0_call0_v169) (R V main_call0_call0_v172) := HostLine.binary_at od V 315 rfl (by decide) (by decide) (by decide)
theorem e316 : R V main_call0_call0_c_44 = ((constantI S_ 32 5#32) : W0) := HostLine.nullary_at od V 316 rfl (by decide)
theorem e317 : R V main_call0_call0_v174 = ((broadcastInDim S4x2048x2048 ![] bcast_S_S4x2048x2048) : W03) (R V main_call0_call0_c_44) := HostLine.unary_at od V 317 rfl (by decide) (by decide)
theorem e318 : R V main_call0_v23_1 = (addi : W3o) (R V main_call0_call0_v173) (R V main_call0_call0_v174) := HostLine.binary_at od V 318 rfl (by decide) (by decide) (by decide)
theorem e319 : R V main_call0_v24 = (xori : W3o) (R V main_call0_v23_0) (R V main_call0_v23_1) := HostLine.binary_at od V 319 rfl (by decide) (by decide) (by decide)
theorem e320 : R V main_call0_c_3 = ((constantI S_ 32 9#32) : W0) := HostLine.nullary_at od V 320 rfl (by decide)
theorem e321 : R V main_call0_v25 = ((broadcastInDim S4x2048x2048 ![] bcast_S_S4x2048x2048) : W03) (R V main_call0_c_3) := HostLine.unary_at od V 321 rfl (by decide) (by decide)
theorem e322 : R V main_call0_v26 = (Host.shrui : W3o) (R V main_call0_v24) (R V main_call0_v25) := HostLine.binary_at od V 322 rfl (by decide) (by decide) (by decide)
theorem e323 : R V main_call0_c_4 = ((constantI S_ 32 1065353216#32) : W0) := HostLine.nullary_at od V 323 rfl (by decide)
theorem e324 : R V main_call0_v27 = ((broadcastInDim S4x2048x2048 ![] bcast_S_S4x2048x2048) : W03) (R V main_call0_c_4) := HostLine.unary_at od V 324 rfl (by decide) (by decide)
theorem e325 : R V main_call0_v28 = (ori : W3o) (R V main_call0_v26) (R V main_call0_v27) := HostLine.binary_at od V 325 rfl (by decide) (by decide) (by decide)
theorem e326 : R V main_call0_v29 = ((bitcastToFloat (F := Ideal) .f32) : W3 → X3) (R V main_call0_v28) := HostLine.unary_at od V 326 rfl (by decide) (by decide)
theorem e327 : R V main_call0_cst = ((constant (F := Ideal) S_ .f32 0x3F800000#32) : C S_ .f32) := HostLine.nullary_at od V 327 rfl (by decide)
theorem e328 : R V main_call0_v30 = ((broadcastInDim S4x2048x2048 ![] bcast_S_S4x2048x2048) : C S_ .f32 → X3) (R V main_call0_cst) := HostLine.unary_at od V 328 rfl (by decide) (by decide)
theorem e329 : R V main_call0_v31 = (subf (F := Ideal) (φ := .f32) : X3 → X3 → X3) (R V main_call0_v29) (R V main_call0_v30) := HostLine.binary_at od V 329 rfl (by decide) (by decide) (by decide)
theorem e330 : R V main_call0_v32 = (subf (F := Ideal) (φ := .f32) : C S1x1x1 .f32 → C S1x1x1 .f32 → C S1x1x1 .f32) (R V main_call0_v3) (R V main_call0_v2) := HostLine.binary_at od V 330 rfl (by decide) (by decide) (by decide)
theorem e331 : R V main_call0_v33 = ((broadcastInDim S4x2048x2048 ![0, 1, 2] bcast_S1x1x1_S4x2048x2048_0_1_2) : C S1x1x1 .f32 → X3) (R V main_call0_v32) := HostLine.unary_at od V 331 rfl (by decide) (by decide)
theorem e332 : R V main_call0_v34 = (mulf (F := Ideal) (φ := .f32) : X3 → X3 → X3) (R V main_call0_v31) (R V main_call0_v33) := HostLine.binary_at od V 332 rfl (by decide) (by decide) (by decide)
theorem e333 : R V main_call0_v35 = ((broadcastInDim S4x2048x2048 ![0, 1, 2] bcast_S1x1x1_S4x2048x2048_0_1_2) : C S1x1x1 .f32 → X3) (R V main_call0_v2) := HostLine.unary_at od V 333 rfl (by decide) (by decide)
theorem e334 : R V main_call0_v36 = (addf (F := Ideal) (φ := .f32) : X3 → X3 → X3) (R V main_call0_v34) (R V main_call0_v35) := HostLine.binary_at od V 334 rfl (by decide) (by decide) (by decide)
theorem e335 : R V main_call0_v37 = ((broadcastInDim S4x2048x2048 ![0, 1, 2] bcast_S1x1x1_S4x2048x2048_0_1_2) : C S1x1x1 .f32 → X3) (R V main_call0_v2) := HostLine.unary_at od V 335 rfl (by decide) (by decide)
theorem e336 : R V main_v53 = (maximumf (F := Ideal) (φ := .f32) : X3 → X3 → X3) (R V main_call0_v37) (R V main_call0_v36) := HostLine.binary_at od V 336 rfl (by decide) (by decide) (by decide)

end Cert.ReferenceIdeal.Eqs

end
-- ==== Proof.Reference.EqD.lean ====
/-
One equation for each operation of a stretch of the reference: what it leaves in its buffer is its
function of what its operands hold in the end.
-/
module

public import proofs.«01_k».proof.Proof.Reference.EqA
public import Idealize.ShloMosaic.Lib.Pointwise

@[expose] public section

set_option maxRecDepth 16384

noncomputable section

namespace Cert.ReferenceIdeal.Eqs

open Cert.ReferenceIdeal Cert.ReferenceIdeal.Gen Cert.ReferenceIdeal.Line Idealize.ShloMosaic Idealize.ShloMosaic.TcCoe Idealize.ShloMosaic.StableHlo

variable (V : Valuation τ sig (Elt Ideal))

theorem e337 : R V main_v54 = ((extractStridedSlice S4x2048x2048x1 ![0, 0, 0, 1] · slices_S4x2048x2048x2_S4x2048x2048x1_0_0_0_1) : C S4x2048x2048x2 .f32 → C S4x2048x2048x1 .f32) (R V main_v45) := HostLine.unary_at od V 337 rfl (by decide) (by decide)
theorem e338 : R V main_v55 = shapeCast (s := S4x2048x2048x1) S4x2048x2048 (R V main_v54) shapeCasts_S4x2048x2048x1_S4x2048x2048 := by
  have h := HostLine.reshape_at od V 338 (x := main_v54) (y := main_v55) (he := rfl) (hn := shapeCasts_S4x2048x2048x1_S4x2048x2048) rfl (by decide) (by decide)
  exact h
theorem e339 : R V main_v56 = (cmpf (F := Ideal) (φ := .f32) .olt : X3 → X3 → C S4x2048x2048 .i1) (R V main_v53) (R V main_v55) := HostLine.binary_at od V 339 rfl (by decide) (by decide) (by decide)
theorem e340 : R V main_v57 = ((extui 32 · natLt_1_32) : C S4x2048x2048 .i1 → W3) (R V main_v56) := HostLine.unary_at od V 340 rfl (by decide) (by decide)
theorem e341 : R V main_v58 = ((extractStridedSlice S1x2x2 ![0, 0, 0] · slices_S1000x2x2_S1x2x2_0_0_0) : C S1000x2x2 .f32 → C S1x2x2 .f32) (R V main_v19) := HostLine.unary_at od V 341 rfl (by decide) (by decide)
theorem e342 : R V main_v59 = (shapeCast (main_v59 : Ref sig .tc).ty.shape (R V main_v58) shapeCasts_S1x2x2_S2x2) := HostLine.reshape_at od V 342 rfl (by decide) (by decide)
theorem e343 : R V main_c_15 = (constantI S_ 32 1#32) := HostLine.nullary_at od V 343 rfl (by decide)
theorem e344 : R V main_v60 = (broadcastInDim S4 ![] bcast_S_S4 : W0 → C S4 .i32) (R V main_c_15) := HostLine.unary_at od V 344 rfl (by decide) (by decide)
theorem e345 : R V main_v61 = (subi : C S4 .i32 → C S4 .i32 → C S4 .i32) (R V main_v21) (R V main_v60) := HostLine.binary_at od V 345 rfl (by decide) (by decide) (by decide)
theorem e346 : R V main_c_16 = (constantI S_ 32 0#32) := HostLine.nullary_at od V 346 rfl (by decide)
theorem e347 : R V main_v62 = (broadcastInDim S4 ![] bcast_S_S4 : W0 → C S4 .i32) (R V main_c_16) := HostLine.unary_at od V 347 rfl (by decide) (by decide)
theorem e348 : R V main_v63 = (cmpi .slt : C S4 .i32 → C S4 .i32 → C S4 .i1) (R V main_v61) (R V main_v62) := HostLine.binary_at od V 348 rfl (by decide) (by decide) (by decide)
theorem e349 : R V main_c_17 = (constantI S_ 32 1000#32) := HostLine.nullary_at od V 349 rfl (by decide)
theorem e350 : R V main_v64 = (broadcastInDim S4 ![] bcast_S_S4 : W0 → C S4 .i32) (R V main_c_17) := HostLine.unary_at od V 350 rfl (by decide) (by decide)
theorem e351 : R V main_v65 = (addi : C S4 .i32 → C S4 .i32 → C S4 .i32) (R V main_v61) (R V main_v64) := HostLine.binary_at od V 351 rfl (by decide) (by decide) (by decide)
theorem e352 : R V main_v66 = (select : C S4 .i1 → C S4 .i32 → C S4 .i32 → C S4 .i32) (R V main_v63) (R V main_v65) (R V main_v61) := HostLine.ternary_at od V 352 rfl (by decide) (by decide) (by decide) (by decide)
theorem e353 : R V main_v67 = (broadcastInDim S4x1 ![0] bcast_S4_S4x1_0 : C S4 .i32 → C S4x1 .i32) (R V main_v66) := HostLine.unary_at od V 353 rfl (by decide) (by decide)
theorem e354 : R V main_v68 = ((fun x i => Host.gather gather_S1000x2x2_S4x1_S4x2x2_12_0_n_n_0_1_122 x i) : C S1000x2x2 .f32 → C S4x1 .i32 → C S4x2x2 .f32) (R V main_v19) (R V main_v67) := HostLine.binary_at od V 354 rfl (by decide) (by decide) (by decide)
theorem e355 : R V main_c_18 = (constantI S_ 32 0#32) := HostLine.nullary_at od V 355 rfl (by decide)
theorem e356 : R V main_v69 = (broadcastInDim S4 ![] bcast_S_S4 : W0 → C S4 .i32) (R V main_c_18) := HostLine.unary_at od V 356 rfl (by decide) (by decide)
theorem e357 : R V main_v70 = (cmpi .slt : C S4 .i32 → C S4 .i32 → C S4 .i1) (R V main_v21) (R V main_v69) := HostLine.binary_at od V 357 rfl (by decide) (by decide) (by decide)
theorem e358 : R V main_c_19 = (constantI S_ 32 1000#32) := HostLine.nullary_at od V 358 rfl (by decide)
theorem e359 : R V main_v71 = (broadcastInDim S4 ![] bcast_S_S4 : W0 → C S4 .i32) (R V main_c_19) := HostLine.unary_at od V 359 rfl (by decide) (by decide)
theorem e360 : R V main_v72 = (addi : C S4 .i32 → C S4 .i32 → C S4 .i32) (R V main_v21) (R V main_v71) := HostLine.binary_at od V 360 rfl (by decide) (by decide) (by decide)
theorem e361 : R V main_v73 = (select : C S4 .i1 → C S4 .i32 → C S4 .i32 → C S4 .i32) (R V main_v70) (R V main_v72) (R V main_v21) := HostLine.ternary_at od V 361 rfl (by decide) (by decide) (by decide) (by decide)
theorem e362 : R V main_v74 = (broadcastInDim S4x1 ![0] bcast_S4_S4x1_0 : C S4 .i32 → C S4x1 .i32) (R V main_v73) := HostLine.unary_at od V 362 rfl (by decide) (by decide)
theorem e363 : R V main_v75 = ((fun x i => Host.gather gather_S1000x2x2_S4x1_S4x2x2_12_0_n_n_0_1_122 x i) : C S1000x2x2 .f32 → C S4x1 .i32 → C S4x2x2 .f32) (R V main_v19) (R V main_v74) := HostLine.binary_at od V 363 rfl (by decide) (by decide) (by decide)
theorem e364 : R V main_c_20 = (constantI S_ 32 0#32) := HostLine.nullary_at od V 364 rfl (by decide)
theorem e365 : R V main_v76 = (broadcastInDim S4x2048x2048 ![] bcast_S_S4x2048x2048 : W03) (R V main_c_20) := HostLine.unary_at od V 365 rfl (by decide) (by decide)
theorem e366 : R V main_v77 = (cmpi .slt : W3 → W3 → C S4x2048x2048 .i1) (R V main_v57) (R V main_v76) := HostLine.binary_at od V 366 rfl (by decide) (by decide) (by decide)
theorem e367 : R V main_c_21 = (constantI S_ 32 2#32) := HostLine.nullary_at od V 367 rfl (by decide)
theorem e368 : R V main_v78 = (broadcastInDim S4x2048x2048 ![] bcast_S_S4x2048x2048 : W03) (R V main_c_21) := HostLine.unary_at od V 368 rfl (by decide) (by decide)
theorem e369 : R V main_v79 = (addi : W3o) (R V main_v57) (R V main_v78) := HostLine.binary_at od V 369 rfl (by decide) (by decide) (by decide)
theorem e370 : R V main_v80 = (select : C S4x2048x2048 .i1 → W3o) (R V main_v77) (R V main_v79) (R V main_v57) := HostLine.ternary_at od V 370 rfl (by decide) (by decide) (by decide) (by decide)
theorem e371 : R V main_v81 = (broadcastInDim S4x2048x2048x1 ![0, 1, 2] bcast_S4x2048x2048_S4x2048x2048x1_0_1_2 : W3 → C S4x2048x2048x1 .i32) (R V main_v80) := HostLine.unary_at od V 371 rfl (by decide) (by decide)
theorem e372 : R V main_v82 = ((fun x i => Host.gather gather_S2x2_S4x2048x2048x1_S4x2048x2048x2_3_0_n_n_0_3_12 x i) : C S2x2 .f32 → C S4x2048x2048x1 .i32 → C S4x2048x2048x2 .f32) (R V main_v59) (R V main_v81) := HostLine.binary_at od V 372 rfl (by decide) (by decide) (by decide)
theorem e373 : R V main_c_22 = (constantI S_ 32 0#32) := HostLine.nullary_at od V 373 rfl (by decide)
theorem e374 : R V main_v83 = (broadcastInDim S4x1x1 ![] bcast_S_S4x1x1 : W0 → C S4x1x1 .i32) (R V main_c_22) := HostLine.unary_at od V 374 rfl (by decide) (by decide)
theorem e375 : R V main_v84 = (cmpi .slt : C S4x1x1 .i32 → C S4x1x1 .i32 → C S4x1x1 .i1) (R V main_v23) (R V main_v83) := HostLine.binary_at od V 375 rfl (by decide) (by decide) (by decide)
theorem e376 : R V main_c_23 = (constantI S_ 32 4#32) := HostLine.nullary_at od V 376 rfl (by decide)
theorem e377 : R V main_v85 = (broadcastInDim S4x1x1 ![] bcast_S_S4x1x1 : W0 → C S4x1x1 .i32) (R V main_c_23) := HostLine.unary_at od V 377 rfl (by decide) (by decide)
theorem e378 : R V main_v86 = (addi : C S4x1x1 .i32 → C S4x1x1 .i32 → C S4x1x1 .i32) (R V main_v23) (R V main_v85) := HostLine.binary_at od V 378 rfl (by decide) (by decide) (by decide)
theorem e379 : R V main_v87 = (select : C S4x1x1 .i1 → C S4x1x1 .i32 → C S4x1x1 .i32 → C S4x1x1 .i32) (R V main_v84) (R V main_v86) (R V main_v23) := HostLine.ternary_at od V 379 rfl (by decide) (by decide) (by decide) (by decide)
theorem e380 : R V main_c_24 = (constantI S_ 32 0#32) := HostLine.nullary_at od V 380 rfl (by decide)
theorem e381 : R V main_v88 = (broadcastInDim S4x2048x2048 ![] bcast_S_S4x2048x2048 : W03) (R V main_c_24) := HostLine.unary_at od V 381 rfl (by decide) (by decide)
theorem e382 : R V main_v89 = (cmpi .slt : W3 → W3 → C S4x2048x2048 .i1) (R V main_arg2) (R V main_v88) := HostLine.binary_at od V 382 rfl (by decide) (by decide) (by decide)
theorem e383 : R V main_c_25 = (constantI S_ 32 2#32) := HostLine.nullary_at od V 383 rfl (by decide)
theorem e384 : R V main_v90 = (broadcastInDim S4x2048x2048 ![] bcast_S_S4x2048x2048 : W03) (R V main_c_25) := HostLine.unary_at od V 384 rfl (by decide) (by decide)
theorem e385 : R V main_v91 = (addi : W3o) (R V main_arg2) (R V main_v90) := HostLine.binary_at od V 385 rfl (by decide) (by decide) (by decide)
theorem e386 : R V main_v92 = (select : C S4x2048x2048 .i1 → W3o) (R V main_v89) (R V main_v91) (R V main_arg2) := HostLine.ternary_at od V 386 rfl (by decide) (by decide) (by decide) (by decide)
theorem e387 : R V main_v93 = (broadcastInDim S4x2048x2048 ![0, 1, 2] bcast_S4x1x1_S4x2048x2048_0_1_2 : C S4x1x1 .i32 → W3) (R V main_v87) := HostLine.unary_at od V 387 rfl (by decide) (by decide)
theorem e388 : R V main_v94 = (broadcastInDim S4x2048x2048x1 ![0, 1, 2] bcast_S4x2048x2048_S4x2048x2048x1_0_1_2 : W3 → C S4x2048x2048x1 .i32) (R V main_v93) := HostLine.unary_at od V 388 rfl (by decide) (by decide)
theorem e389 : R V main_v95 = (broadcastInDim S4x2048x2048x1 ![0, 1, 2] bcast_S4x2048x2048_S4x2048x2048x1_0_1_2 : W3 → C S4x2048x2048x1 .i32) (R V main_v92) := HostLine.unary_at od V 389 rfl (by decide) (by decide)
theorem e390 : R V main_v96 = (cat_main_v96 (F := Ideal)) (R V main_v94) (R V main_v95) := HostLine.binary_at od V 390 rfl (by decide) (by decide) (by decide)
theorem e391 : R V main_v97 = ((fun x i => Host.gather gather_S4x2x2_S4x2048x2048x2_S4x2048x2048x2_3_01_n_n_01_3_112 x i) : C S4x2x2 .f32 → C S4x2048x2048x2 .i32 → C S4x2048x2048x2 .f32) (R V main_v68) (R V main_v96) := HostLine.binary_at od V 391 rfl (by decide) (by decide) (by decide)
theorem e392 : R V main_c_26 = (constantI S_ 32 0#32) := HostLine.nullary_at od V 392 rfl (by decide)
theorem e393 : R V main_v98 = (broadcastInDim S4x1x1 ![] bcast_S_S4x1x1 : W0 → C S4x1x1 .i32) (R V main_c_26) := HostLine.unary_at od V 393 rfl (by decide) (by decide)
theorem e394 : R V main_v99 = (cmpi .slt : C S4x1x1 .i32 → C S4x1x1 .i32 → C S4x1x1 .i1) (R V main_v23) (R V main_v98) := HostLine.binary_at od V 394 rfl (by decide) (by decide) (by decide)
theorem e395 : R V main_c_27 = (constantI S_ 32 4#32) := HostLine.nullary_at od V 395 rfl (by decide)
theorem e396 : R V main_v100 = (broadcastInDim S4x1x1 ![] bcast_S_S4x1x1 : W0 → C S4x1x1 .i32) (R V main_c_27) := HostLine.unary_at od V 396 rfl (by decide) (by decide)
theorem e397 : R V main_v101 = (addi : C S4x1x1 .i32 → C S4x1x1 .i32 → C S4x1x1 .i32) (R V main_v23) (R V main_v100) := HostLine.binary_at od V 397 rfl (by decide) (by decide) (by decide)
theorem e398 : R V main_v102 = (select : C S4x1x1 .i1 → C S4x1x1 .i32 → C S4x1x1 .i32 → C S4x1x1 .i32) (R V main_v99) (R V main_v101) (R V main_v23) := HostLine.ternary_at od V 398 rfl (by decide) (by decide) (by decide) (by decide)
theorem e399 : R V main_c_28 = (constantI S_ 32 0#32) := HostLine.nullary_at od V 399 rfl (by decide)
theorem e400 : R V main_v103 = (broadcastInDim S4x2048x2048 ![] bcast_S_S4x2048x2048 : W03) (R V main_c_28) := HostLine.unary_at od V 400 rfl (by decide) (by decide)
theorem e401 : R V main_v104 = (cmpi .slt : W3 → W3 → C S4x2048x2048 .i1) (R V main_arg2) (R V main_v103) := HostLine.binary_at od V 401 rfl (by decide) (by decide) (by decide)
theorem e402 : R V main_c_29 = (constantI S_ 32 2#32) := HostLine.nullary_at od V 402 rfl (by decide)
theorem e403 : R V main_v105 = (broadcastInDim S4x2048x2048 ![] bcast_S_S4x2048x2048 : W03) (R V main_c_29) := HostLine.unary_at od V 403 rfl (by decide) (by decide)
theorem e404 : R V main_v106 = (addi : W3o) (R V main_arg2) (R V main_v105) := HostLine.binary_at od V 404 rfl (by decide) (by decide) (by decide)
theorem e405 : R V main_v107 = (select : C S4x2048x2048 .i1 → W3o) (R V main_v104) (R V main_v106) (R V main_arg2) := HostLine.ternary_at od V 405 rfl (by decide) (by decide) (by decide) (by decide)
theorem e406 : R V main_c_30 = (constantI S_ 32 0#32) := HostLine.nullary_at od V 406 rfl (by decide)
theorem e407 : R V main_v108 = (broadcastInDim S4x2048x2048 ![] bcast_S_S4x2048x2048 : W03) (R V main_c_30) := HostLine.unary_at od V 407 rfl (by decide) (by decide)
theorem e408 : R V main_v109 = (cmpi .slt : W3 → W3 → C S4x2048x2048 .i1) (R V main_v57) (R V main_v108) := HostLine.binary_at od V 408 rfl (by decide) (by decide) (by decide)
theorem e409 : R V main_c_31 = (constantI S_ 32 2#32) := HostLine.nullary_at od V 409 rfl (by decide)
theorem e410 : R V main_v110 = (broadcastInDim S4x2048x2048 ![] bcast_S_S4x2048x2048 : W03) (R V main_c_31) := HostLine.unary_at od V 410 rfl (by decide) (by decide)
theorem e411 : R V main_v111 = (addi : W3o) (R V main_v57) (R V main_v110) := HostLine.binary_at od V 411 rfl (by decide) (by decide) (by decide)
theorem e412 : R V main_v112 = (select : C S4x2048x2048 .i1 → W3o) (R V main_v109) (R V main_v111) (R V main_v57) := HostLine.ternary_at od V 412 rfl (by decide) (by decide) (by decide) (by decide)
theorem e413 : R V main_v113 = (broadcastInDim S4x2048x2048 ![0, 1, 2] bcast_S4x1x1_S4x2048x2048_0_1_2 : C S4x1x1 .i32 → W3) (R V main_v102) := HostLine.unary_at od V 413 rfl (by decide) (by decide)
theorem e414 : R V main_v114 = (broadcastInDim S4x2048x2048x1 ![0, 1, 2] bcast_S4x2048x2048_S4x2048x2048x1_0_1_2 : W3 → C S4x2048x2048x1 .i32) (R V main_v113) := HostLine.unary_at od V 414 rfl (by decide) (by decide)
theorem e415 : R V main_v115 = (broadcastInDim S4x2048x2048x1 ![0, 1, 2] bcast_S4x2048x2048_S4x2048x2048x1_0_1_2 : W3 → C S4x2048x2048x1 .i32) (R V main_v107) := HostLine.unary_at od V 415 rfl (by decide) (by decide)
theorem e416 : R V main_v116 = (broadcastInDim S4x2048x2048x1 ![0, 1, 2] bcast_S4x2048x2048_S4x2048x2048x1_0_1_2 : W3 → C S4x2048x2048x1 .i32) (R V main_v112) := HostLine.unary_at od V 416 rfl (by decide) (by decide)
theorem e417 : R V main_v117 = cat_main_v117 (F := Ideal) (R V main_v114) (R V main_v115) (R V main_v116) := HostLine.nary_at od V 417 rfl (by decide) (by decide)
theorem e418 : R V main_v118 = ((fun x i => Host.gather gather_S4x2x2_S4x2048x2048x3_S4x2048x2048_n_012_n_n_012_3_111 x i) : C S4x2x2 .f32 → C S4x2048x2048x3 .i32 → X3) (R V main_v75) (R V main_v117) := HostLine.binary_at od V 418 rfl (by decide) (by decide) (by decide)
theorem e419 : R V main_v119 = (mulf (F := Ideal) (φ := .f32) : C S4x2048x2048x2 .f32 → C S4x2048x2048x2 .f32 → C S4x2048x2048x2 .f32) (R V main_v82) (R V main_v97) := HostLine.binary_at od V 419 rfl (by decide) (by decide) (by decide)
theorem e420 : R V main_v120 = (broadcastInDim S4x2048x2048x1 ![0, 1, 2] bcast_S4x2048x2048_S4x2048x2048x1_0_1_2 : X3 → C S4x2048x2048x1 .f32) (R V main_v118) := HostLine.unary_at od V 420 rfl (by decide) (by decide)
theorem e421 : R V main_v121 = (broadcastInDim S4x2048x2048x2 ![0, 1, 2, 3] bcast_S4x2048x2048x1_S4x2048x2048x2_0_1_2_3 : C S4x2048x2048x1 .f32 → C S4x2048x2048x2 .f32) (R V main_v120) := HostLine.unary_at od V 421 rfl (by decide) (by decide)
theorem e422 : R V main_v122 = (Host.divf (F := Ideal) (φ := .f32) : C S4x2048x2048x2 .f32 → C S4x2048x2048x2 .f32 → C S4x2048x2048x2 .f32) (R V main_v119) (R V main_v121) := HostLine.binary_at od V 422 rfl (by decide) (by decide) (by decide)
theorem e423 : R V main_v123 = ((extractStridedSlice S4x2048x2048x1 ![0, 0, 0, 1] · slices_S4x2048x2048x2_S4x2048x2048x1_0_0_0_1) : C S4x2048x2048x2 .f32 → C S4x2048x2048x1 .f32) (R V main_v122) := HostLine.unary_at od V 423 rfl (by decide) (by decide)
theorem e424 : R V main_v124 = shapeCast (s := S4x2048x2048x1) S4x2048x2048 (R V main_v123) shapeCasts_S4x2048x2048x1_S4x2048x2048 := by
  have h := HostLine.reshape_at od V 424 (x := main_v123) (y := main_v124) (he := rfl) (hn := shapeCasts_S4x2048x2048x1_S4x2048x2048) rfl (by decide) (by decide)
  exact h
theorem e425 : R V main_v125 = Host.dotGeneral (F := Ideal) (φ₁ := .f32) (φ₂ := .f32) dot_S4x2048x64_S64x64_S4x2048x64_2_0_01_1_n_n none (R V main_arg0) (R V main_arg1) := HostLine.binary_at od V 425 rfl (by decide) (by decide) (by decide)
theorem e426 : R V main_v126 = Host.dotGeneral (F := Ideal) (φ₁ := .f32) (φ₂ := .f32) dot_S4x2048x64_S4x2048x64_S4x2048x2048_2_2_1_1_0_0 none (R V main_v125) (R V main_arg0) := HostLine.binary_at od V 426 rfl (by decide) (by decide) (by decide)
theorem e427 : R V main_cst_32 = (constant (F := Ideal) S_ .f32 0x00000000#32) := HostLine.nullary_at od V 427 rfl (by decide)
theorem e428 : R V main_v127 = (broadcastInDim S4x2048x2048 ![] bcast_S_S4x2048x2048 : C S_ .f32 → X3) (R V main_cst_32) := HostLine.unary_at od V 428 rfl (by decide) (by decide)
theorem e429 : R V main_v128 = (maximumf (F := Ideal) (φ := .f32) : X3 → X3 → X3) (R V main_v126) (R V main_v127) := HostLine.binary_at od V 429 rfl (by decide) (by decide) (by decide)
theorem e430 : R V main_v129 = (mulf (F := Ideal) (φ := .f32) : X3 → X3 → X3) (R V main_v126) (R V main_v124) := HostLine.binary_at od V 430 rfl (by decide) (by decide) (by decide)
theorem e431 : R V main_v130 = (subf (F := Ideal) (φ := .f32) : X3 → X3 → X3) (R V main_v128) (R V main_v129) := HostLine.binary_at od V 431 rfl (by decide) (by decide) (by decide)
theorem e432 : R V main_v131 = (Host.absf (F := Ideal) (φ := .f32) : X3 → X3) (R V main_v126) := HostLine.unary_at od V 432 rfl (by decide) (by decide)
theorem e433 : R V main_v132 = (Host.negf (F := Ideal) (φ := .f32) : X3 → X3) (R V main_v131) := HostLine.unary_at od V 433 rfl (by decide) (by decide)
theorem e434 : R V main_v133 = (Host.exp (F := Ideal) (φ := .f32) : X3 → X3) (R V main_v132) := HostLine.unary_at od V 434 rfl (by decide) (by decide)
theorem e435 : R V main_v134 = (Host.log1p (F := Ideal) (φ := .f32) : X3 → X3) (R V main_v133) := HostLine.unary_at od V 435 rfl (by decide) (by decide)
theorem e436 : R V main_v135 = (addf (F := Ideal) (φ := .f32) : X3 → X3 → X3) (R V main_v130) (R V main_v134) := HostLine.binary_at od V 436 rfl (by decide) (by decide) (by decide)
theorem e437 : R V main_v136 = (iotaInDim S4x2048x2048 32 1) := HostLine.nullary_at od V 437 rfl (by decide)
theorem e438 : R V main_v137 = (iotaInDim S4x2048x2048 32 2) := HostLine.nullary_at od V 438 rfl (by decide)
theorem e439 : R V main_v138 = (cmpi .sgt : W3 → W3 → C S4x2048x2048 .i1) (R V main_v136) (R V main_v137) := HostLine.binary_at od V 439 rfl (by decide) (by decide) (by decide)
theorem e440 : R V main_cst_33 = (constant (F := Ideal) S_ .f32 0x00000000#32) := HostLine.nullary_at od V 440 rfl (by decide)
theorem e441 : R V main_call1_v0 = (id : C S_ .f32 → C S_ .f32) (R V main_cst_33) := HostLine.unary_at od V 441 rfl (by decide) (by decide)
theorem e442 : R V main_call1_v1 = ((broadcastInDim S4x2048x2048 ![] bcast_S_S4x2048x2048) : C S_ .f32 → X3) (R V main_call1_v0) := HostLine.unary_at od V 442 rfl (by decide) (by decide)
theorem e443 : R V main_v139 = (select : C S4x2048x2048 .i1 → X3 → X3 → X3) (R V main_v138) (R V main_v135) (R V main_call1_v1) := HostLine.ternary_at od V 443 rfl (by decide) (by decide) (by decide) (by decide)
theorem e444 : R V main_cst_34 = (constant (F := Ideal) S_ .f32 0x00000000#32) := HostLine.nullary_at od V 444 rfl (by decide)
theorem e445 : R V main_v140 = ((fun x v => Host.reduceAdd (F := Ideal) (φ := .f32) x v reducesTo_S4x2048x2048_S_d0_1_2 h_S_) : X3 → C S_ .f32 → C S_ .f32) (R V main_v139) (R V main_cst_34) := HostLine.binary_at od V 445 rfl (by decide) (by decide) (by decide)
theorem e446 : R V main_cst_35 = (constant (F := Ideal) S_ .f32 0x4AFFE000#32) := HostLine.nullary_at od V 446 rfl (by decide)
theorem e447 : R V main_v141 = (Host.divf (F := Ideal) (φ := .f32) : C S_ .f32 → C S_ .f32 → C S_ .f32) (R V main_v140) (R V main_cst_35) := HostLine.binary_at od V 447 rfl (by decide) (by decide) (by decide)

end Cert.ReferenceIdeal.Eqs

end
-- ==== Proof.Reference.Rounds.lean ====
/-
The reference's threefry rounds, one theorem for each: the two words a round leaves at an index are the round
function's of the two words before it.
-/
module

public import proofs.«01_k».proof.Proof.Reference.EqB
public import proofs.«01_k».proof.Proof.Reference.EqC
public import proofs.«01_k».proof.Proof.Reference.EqD
public import proofs.«01_k».proof.Proof.Value.Draws

@[expose] public section

set_option maxRecDepth 16384

noncomputable section

namespace Cert.ReferenceIdeal.Eqs

open Cert.ReferenceIdeal Cert.ReferenceIdeal.Gen Cert.Draws Idealize.ShloMosaic Idealize.ShloMosaic.TcCoe Idealize.ShloMosaic.StableHlo

variable (V : Valuation τ sig (Elt Ideal)) (i : S4x2048x2048.Idx)

/-- Two buffers of words, read at one index. -/
abbrev two (a b : C S4x2048x2048 .i32) (i : S4x2048x2048.Idx) : Pair := (a i, b i)

/-- The key words: 0, 42 and their combination with the hash's constant. -/
theorem key0 : R V main_call0_v5 = fun _ => 0#32 := by
  rw [e75, e74, e67, e66, e65, e64, e63, e62, e61, e60, e58, e59]; funext i; pointwise [Line.cat_main_v52]; rfl
theorem key1 : R V main_call0_v7 = fun _ => 42#32 := by
  rw [e77, e76, e67, e66, e65, e64, e63, e62, e61, e60, e58, e59]; funext i; pointwise [Line.cat_main_v52]; rfl
theorem key2 : R V main_call0_call0_v1 = fun _ => 466689008#32 := by
  rw [e99, e98, e97, key0, key1]; funext i; show IntOp.xori (IntOp.xori 0#32 42#32) 466688986#32 = 466689008#32; decide

theorem s1 : two (R V main_call0_call0_v6) (R V main_call0_call0_v12) i = mix 13#32 19#32 (two (R V main_call0_call0_v3) (R V main_call0_call0_v5) i) := by
  rw [e112, e111, e110, e109, e108, e107, e106, e105, e104]; rfl
theorem s2 : two (R V main_call0_call0_v13) (R V main_call0_call0_v19) i = mix 15#32 17#32 (two (R V main_call0_call0_v6) (R V main_call0_call0_v12) i) := by
  rw [e121, e120, e119, e118, e117, e116, e115, e114, e113]; rfl
theorem s3 : two (R V main_call0_call0_v20) (R V main_call0_call0_v26) i = mix 26#32 6#32 (two (R V main_call0_call0_v13) (R V main_call0_call0_v19) i) := by
  rw [e130, e129, e128, e127, e126, e125, e124, e123, e122]; rfl
theorem s4 : two (R V main_call0_call0_v27) (R V main_call0_call0_v33) i = mix 6#32 26#32 (two (R V main_call0_call0_v20) (R V main_call0_call0_v26) i) := by
  rw [e139, e138, e137, e136, e135, e134, e133, e132, e131]; rfl
theorem s5 : two (R V main_call0_call0_v35) (R V main_call0_call0_v39) i = inj 42#32 466689008#32 1#32 (two (R V main_call0_call0_v27) (R V main_call0_call0_v33) i) := by
  rw [e146, e145, e144, e143, e142, e141, e140, key1, key2]; rfl
theorem s6 : two (R V main_call0_call0_v40) (R V main_call0_call0_v46) i = mix 17#32 15#32 (two (R V main_call0_call0_v35) (R V main_call0_call0_v39) i) := by
  rw [e155, e154, e153, e152, e151, e150, e149, e148, e147]; rfl
theorem s7 : two (R V main_call0_call0_v47) (R V main_call0_call0_v53) i = mix 29#32 3#32 (two (R V main_call0_call0_v40) (R V main_call0_call0_v46) i) := by
  rw [e164, e163, e162, e161, e160, e159, e158, e157, e156]; rfl
theorem s8 : two (R V main_call0_call0_v54) (R V main_call0_call0_v60) i = mix 16#32 16#32 (two (R V main_call0_call0_v47) (R V main_call0_call0_v53) i) := by
  rw [e173, e172, e171, e170, e169, e168, e167, e166, e165]; rfl
theorem s9 : two (R V main_call0_call0_v61) (R V main_call0_call0_v67) i = mix 24#32 8#32 (two (R V main_call0_call0_v54) (R V main_call0_call0_v60) i) := by
  rw [e182, e181, e180, e179, e178, e177, e176, e175, e174]; rfl
theorem s10 : two (R V main_call0_call0_v69) (R V main_call0_call0_v73) i = inj 466689008#32 0#32 2#32 (two (R V main_call0_call0_v61) (R V main_call0_call0_v67) i) := by
  rw [e189, e188, e187, e186, e185, e184, e183, key2, key0]; rfl
theorem s11 : two (R V main_call0_call0_v74) (R V main_call0_call0_v80) i = mix 13#32 19#32 (two (R V main_call0_call0_v69) (R V main_call0_call0_v73) i) := by
  rw [e198, e197, e196, e195, e194, e193, e192, e191, e190]; rfl
theorem s12 : two (R V main_call0_call0_v81) (R V main_call0_call0_v87) i = mix 15#32 17#32 (two (R V main_call0_call0_v74) (R V main_call0_call0_v80) i) := by
  rw [e207, e206, e205, e204, e203, e202, e201, e200, e199]; rfl
theorem s13 : two (R V main_call0_call0_v88) (R V main_call0_call0_v94) i = mix 26#32 6#32 (two (R V main_call0_call0_v81) (R V main_call0_call0_v87) i) := by
  rw [e216, e215, e214, e213, e212, e211, e210, e209, e208]; rfl
theorem s14 : two (R V main_call0_call0_v95) (R V main_call0_call0_v101) i = mix 6#32 26#32 (two (R V main_call0_call0_v88) (R V main_call0_call0_v94) i) := by
  rw [e225, e224, e223, e222, e221, e220, e219, e218, e217]; rfl
theorem s15 : two (R V main_call0_call0_v103) (R V main_call0_call0_v107) i = inj 0#32 42#32 3#32 (two (R V main_call0_call0_v95) (R V main_call0_call0_v101) i) := by
  rw [e232, e231, e230, e229, e228, e227, e226, key0, key1]; rfl
theorem s16 : two (R V main_call0_call0_v108) (R V main_call0_call0_v114) i = mix 17#32 15#32 (two (R V main_call0_call0_v103) (R V main_call0_call0_v107) i) := by
  rw [e241, e240, e239, e238, e237, e236, e235, e234, e233]; rfl
theorem s17 : two (R V main_call0_call0_v115) (R V main_call0_call0_v121) i = mix 29#32 3#32 (two (R V main_call0_call0_v108) (R V main_call0_call0_v114) i) := by
  rw [e250, e249, e248, e247, e246, e245, e244, e243, e242]; rfl
theorem s18 : two (R V main_call0_call0_v122) (R V main_call0_call0_v128) i = mix 16#32 16#32 (two (R V main_call0_call0_v115) (R V main_call0_call0_v121) i) := by
  rw [e259, e258, e257, e256, e255, e254, e253, e252, e251]; rfl
theorem s19 : two (R V main_call0_call0_v129) (R V main_call0_call0_v135) i = mix 24#32 8#32 (two (R V main_call0_call0_v122) (R V main_call0_call0_v128) i) := by
  rw [e268, e267, e266, e265, e264, e263, e262, e261, e260]; rfl
theorem s20 : two (R V main_call0_call0_v137) (R V main_call0_call0_v141) i = inj 42#32 466689008#32 4#32 (two (R V main_call0_call0_v129) (R V main_call0_call0_v135) i) := by
  rw [e275, e274, e273, e272, e271, e270, e269, key1, key2]; rfl
theorem s21 : two (R V main_call0_call0_v142) (R V main_call0_call0_v148) i = mix 13#32 19#32 (two (R V main_call0_call0_v137) (R V main_call0_call0_v141) i) := by
  rw [e284, e283, e282, e281, e280, e279, e278, e277, e276]; rfl
theorem s22 : two (R V main_call0_call0_v149) (R V main_call0_call0_v155) i = mix 15#32 17#32 (two (R V main_call0_call0_v142) (R V main_call0_call0_v148) i) := by
  rw [e293, e292, e291, e290, e289, e288, e287, e286, e285]; rfl
theorem s23 : two (R V main_call0_call0_v156) (R V main_call0_call0_v162) i = mix 26#32 6#32 (two (R V main_call0_call0_v149) (R V main_call0_call0_v155) i) := by
  rw [e302, e301, e300, e299, e298, e297, e296, e295, e294]; rfl
theorem s24 : two (R V main_call0_call0_v163) (R V main_call0_call0_v169) i = mix 6#32 26#32 (two (R V main_call0_call0_v156) (R V main_call0_call0_v162) i) := by
  rw [e311, e310, e309, e308, e307, e306, e305, e304, e303]; rfl
theorem s25 : two (R V main_call0_v23_0) (R V main_call0_v23_1) i = inj 466689008#32 0#32 5#32 (two (R V main_call0_call0_v163) (R V main_call0_call0_v169) i) := by
  rw [e318, e317, e316, e315, e314, e313, e312, key2, key0]; rfl

/-- All rounds together. -/
theorem rounds_at : two (R V main_call0_v23_0) (R V main_call0_v23_1) i = rounds (two (R V main_call0_call0_v3) (R V main_call0_call0_v5) i) := by
  rw [s25, s24, s23, s22, s21, s20, s19, s18, s17, s16, s15, s14, s13, s12, s11, s10, s9, s8, s7, s6, s5, s4, s3, s2, s1]
  simp only [rounds, four, four']

end Cert.ReferenceIdeal.Eqs

end
-- ==== Proof.Reference.Draws.lean ====
/-
The reference's uniform draw at an index: the draw at the index's position in row-major order.
-/
module

public import proofs.«01_k».proof.Proof.Reference.Rounds
public import proofs.«01_k».proof.Proof.Value.Draws2

@[expose] public section

set_option maxRecDepth 16384

noncomputable section

namespace Cert.ReferenceIdeal.Eqs

open Cert.ReferenceIdeal Cert.ReferenceIdeal.Gen Cert.Draws Idealize.ShloMosaic Idealize.ShloMosaic.TcCoe Idealize.ShloMosaic.StableHlo

variable (V : Valuation τ sig (Elt Ideal)) (b : Fin 4) (i j : Fin 2048)

/-- The 64-bit counter at an index is its position. -/
theorem count_at : (R V main_call0_v18 : C S4x2048x2048 .i64) (ix3 b i j) = BitVec.ofNat 64 (pos b i j) := by
  have h : (R V main_call0_v18 : C S4x2048x2048 .i64) (ix3 b i j)
      = 4194304#64 * BitVec.ofNat 64 b.val + 2048#64 * BitVec.ofNat 64 i.val + 1#64 * BitVec.ofNat 64 j.val := by
    rw [e91, e90, e89, e88, e87, e86, e85, e84, e83, e82, e81, e80, e79, e78]; rfl
  rw [h, pos]
  apply BitVec.eq_of_toNat_eq
  simp only [BitVec.toNat_add, BitVec.toNat_mul, BitVec.toNat_ofNat]
  omega

/-- Numbers and words read at an index, at their plain types. -/
abbrev xAt (f : X3) (i : S4x2048x2048.Idx) : EReal := f i
abbrev wAt (f : W3) (i : S4x2048x2048.Idx) : BitVec 32 := f i
abbrev lAt (f : C S4x2048x2048 .i64) (i : S4x2048x2048.Idx) : BitVec 64 := f i

/-- The two starting words in terms of the counter. -/
theorem first_at (i : S4x2048x2048.Idx) : wAt (R V main_call0_call0_v3) i = (lAt (R V main_call0_v18) i >>> 32).setWidth 32 + 0#32 := by
  rw [e101, e100, e96, e94, e93, e92, key0]; rfl
theorem second_at (i : S4x2048x2048.Idx) : wAt (R V main_call0_call0_v5) i = (lAt (R V main_call0_v18) i).setWidth 32 + 42#32 := by
  rw [e103, e102, e95, key1]; rfl

theorem hi_word (n : ℕ) (h : n < 16777216) : (BitVec.ofNat 64 n >>> 32).setWidth 32 + 0#32 = 0#32 := by
  apply BitVec.eq_of_toNat_eq
  simp only [BitVec.toNat_add, BitVec.toNat_setWidth, BitVec.toNat_ushiftRight, BitVec.toNat_ofNat, Nat.shiftRight_eq_div_pow]
  omega
theorem lo_word (n : ℕ) (h : n < 16777216) : (BitVec.ofNat 64 n).setWidth 32 = BitVec.ofNat 32 n := by
  apply BitVec.eq_of_toNat_eq
  simp only [BitVec.toNat_setWidth, BitVec.toNat_ofNat]
  omega

/-- The hash's two starting words. -/
theorem start_at : two (R V main_call0_call0_v3) (R V main_call0_call0_v5) (ix3 b i j) = (0#32, BitVec.ofNat 32 (pos b i j) + 42#32) := by
  have h : lAt (R V main_call0_v18) (ix3 b i j) = BitVec.ofNat 64 (pos b i j) := count_at V b i j
  have h3 := first_at V (ix3 b i j)
  have h5 := second_at V (ix3 b i j)
  rw [h, hi_word _ (pos_lt b i j)] at h3
  rw [h, lo_word _ (pos_lt b i j)] at h5
  exact congrArg₂ Prod.mk h3 h5

/-- The number in [1, 2) at an index is made from the hash's words there. -/
theorem number_at (i : S4x2048x2048.Idx) :
    xAt (R V main_call0_v29) i = Ideal.ofBits .f32 (pattern (two (R V main_call0_v23_0) (R V main_call0_v23_1) i)) := by
  rw [e326, e325, e324, e323, e322, e321, e320, e319]; rfl

/-- The constants 0 and 1 of the scaling. -/
theorem lo_at (i : S4x2048x2048.Idx) : xAt (R V main_call0_v35) i = Ideal.ofBits .f32 0x00000000#32 := by
  rw [e333, e72, e70, e68]; rfl
theorem lo_at' (i : S4x2048x2048.Idx) : xAt (R V main_call0_v37) i = Ideal.ofBits .f32 0x00000000#32 := by
  rw [e335, e72, e70, e68]; rfl
theorem span_at (i : S4x2048x2048.Idx) : xAt (R V main_call0_v33) i = Ideal.ofBits .f32 0x3F800000#32 - Ideal.ofBits .f32 0x00000000#32 := by
  rw [e331, e330, e73, e72, e71, e70, e69, e68]; rfl
theorem one_at (i : S4x2048x2048.Idx) : xAt (R V main_call0_v30) i = Ideal.ofBits .f32 0x3F800000#32 := by
  rw [e328, e327]; rfl

/-- The scaling at an index, over any operands. -/
theorem scale_apply (a b c d e : X3) (i : S4x2048x2048.Idx) :
    (maximumf (F := Ideal) (φ := .f32) e (addf (F := Ideal) (φ := .f32) (mulf (F := Ideal) (φ := .f32) (subf (F := Ideal) (φ := .f32) a b) c) d)) i
      = max (xAt e i) ((xAt a i - xAt b i) * xAt c i + xAt d i) := rfl

/-- And the draw is made from that number. -/
theorem scaled_at (i : S4x2048x2048.Idx) : xAt (R V main_v53) i
    = max (xAt (R V main_call0_v37) i) ((xAt (R V main_call0_v29) i - xAt (R V main_call0_v30) i) * xAt (R V main_call0_v33) i + xAt (R V main_call0_v35) i) := by
  rw [e336, e334, e332, e329]
  exact scale_apply (R V main_call0_v29) (R V main_call0_v30) (R V main_call0_v33) (R V main_call0_v35) (R V main_call0_v37) i

/-- The draw at an index. -/
theorem draw_at : xAt (R V main_v53) (ix3 b i j) = draw (BitVec.ofNat 32 (pos b i j)) := by
  rw [scaled_at, number_at, lo_at, lo_at', span_at, one_at, rounds_at, start_at]
  have h := draw_nonneg (BitVec.ofNat 32 (pos b i j))
  rw [draw] at h ⊢
  rw [Ideal.ofBits_zero_f32]
  rw [Ideal.ofBits_one_f32] at h ⊢
  exact scale_draw _ h

end Cert.ReferenceIdeal.Eqs

end
-- ==== Proof.Value.Gathers.lean ====
/-
The reference's three gathers over the box read at an index, at start words that are in range.
-/
module

public import proofs.«01_k».proof.Proof.Reference.EqA

@[expose] public section

set_option maxRecDepth 16384

noncomputable section

namespace Cert.Gathers

open Cert.ReferenceIdeal Cert.ReferenceIdeal.Gen Idealize.ShloMosaic Idealize.ShloMosaic.TcCoe Idealize.ShloMosaic.StableHlo

variable (b : Fin 4) (i j : Fin 2048)

/-- A start word in range is not moved by the clamp. -/
theorem clamp4 : ∀ n : Fin 4, min (BitVec.ofNat 32 n.val).toInt.toNat (4 - 1) = n.val := by decide
theorem clamp2 : ∀ n : Fin 2, min (BitVec.ofNat 32 n.val).toInt.toNat (2 - 1) = n.val := by decide

abbrev dA := gather_S4x2x2_S4x2048x2048x2_S4x2048x2048x2_3_01_n_n_01_3_112
abbrev dB := gather_S2x2_S4x2048x2048x1_S4x2048x2048x2_3_0_n_n_0_3_12
abbrev dC := gather_S4x2x2_S4x2048x2048x3_S4x2048x2048_n_012_n_n_012_3_111

theorem siA (k : Fin 2) (c : Fin 2) : dA.siIdx (ix4 b i j k) c = ix4 b i j c := by
  funext a; match a with
  | ⟨0, _⟩ => rfl
  | ⟨1, _⟩ => rfl
  | ⟨2, _⟩ => rfl
  | ⟨3, _⟩ => rfl
theorem siB (k : Fin 2) (c : Fin 1) : dB.siIdx (ix4 b i j k) c = ix4 b i j c := by
  funext a; match a with
  | ⟨0, _⟩ => rfl
  | ⟨1, _⟩ => rfl
  | ⟨2, _⟩ => rfl
  | ⟨3, _⟩ => rfl
theorem siC (c : Fin 3) : dC.siIdx (ix3 b i j) c = ix4 b i j c := by
  funext a; match a with
  | ⟨0, _⟩ => rfl
  | ⟨1, _⟩ => rfl
  | ⟨2, _⟩ => rfl
  | ⟨3, _⟩ => rfl

/-- The gather of a row of a batch's two by two table: at batch `n` and row `r` it reads row `r` of table `n`. -/
theorem rowA {α : Type} (x : S4x2x2.Idx → α) (w : IVec S4x2048x2048x2 32) (n : Fin 4) (r k : Fin 2)
    (h0 : w (ix4 b i j (0 : Fin 2)) = BitVec.ofNat 32 n.val) (h1 : w (ix4 b i j (1 : Fin 2)) = BitVec.ofNat 32 r.val) :
    Host.gather dA x w (ix4 b i j k) = x (ix3 n r k) := by
  unfold Host.gather
  congr 1
  funext a
  apply Fin.ext
  match a with
  | ⟨0, _⟩ =>
    refine Eq.trans (b := min (w (dA.siIdx (ix4 b i j k) (0 : Fin 2))).toInt.toNat (4 - 1)) rfl ?_
    rw [siA, h0, clamp4]; rfl
  | ⟨1, _⟩ =>
    refine Eq.trans (b := min (w (dA.siIdx (ix4 b i j k) (1 : Fin 2))).toInt.toNat (2 - 1)) rfl ?_
    rw [siA, h1, clamp2]; rfl
  | ⟨2, _⟩ => exact Nat.zero_add _

/-- The gather of a row of one two by two table. -/
theorem rowB {α : Type} (x : S2x2.Idx → α) (w : IVec S4x2048x2048x1 32) (r k : Fin 2)
    (h0 : w (ix4 b i j (0 : Fin 1)) = BitVec.ofNat 32 r.val) :
    Host.gather dB x w (ix4 b i j k) = x (ix2 r k) := by
  unfold Host.gather
  congr 1
  funext a
  apply Fin.ext
  match a with
  | ⟨0, _⟩ =>
    refine Eq.trans (b := min (w (dB.siIdx (ix4 b i j k) (0 : Fin 1))).toInt.toNat (2 - 1)) rfl ?_
    rw [siB, h0, clamp2]; rfl
  | ⟨1, _⟩ => exact Nat.zero_add _

/-- The gather of one entry of a batch's two by two table. -/
theorem entryC {α : Type} (x : S4x2x2.Idx → α) (w : IVec S4x2048x2048x3 32) (n : Fin 4) (r s : Fin 2)
    (h0 : w (ix4 b i j (0 : Fin 3)) = BitVec.ofNat 32 n.val) (h1 : w (ix4 b i j (1 : Fin 3)) = BitVec.ofNat 32 r.val)
    (h2 : w (ix4 b i j (2 : Fin 3)) = BitVec.ofNat 32 s.val) :
    Host.gather dC x w (ix3 b i j) = x (ix3 n r s) := by
  unfold Host.gather
  congr 1
  funext a
  apply Fin.ext
  match a with
  | ⟨0, _⟩ =>
    refine Eq.trans (b := min (w (dC.siIdx (ix3 b i j) (0 : Fin 3))).toInt.toNat (4 - 1)) rfl ?_
    rw [siC, h0, clamp4]; rfl
  | ⟨1, _⟩ =>
    refine Eq.trans (b := min (w (dC.siIdx (ix3 b i j) (1 : Fin 3))).toInt.toNat (2 - 1)) rfl ?_
    rw [siC, h1, clamp2]; rfl
  | ⟨2, _⟩ =>
    refine Eq.trans (b := min (w (dC.siIdx (ix3 b i j) (2 : Fin 3))).toInt.toNat (2 - 1)) rfl ?_
    rw [siC, h2, clamp2]; rfl

end Cert.Gathers

end
-- ==== Proof.Reference.Post.lean ====
/-
The reference's probability of an edge at an index, read off the tables.
-/
module

public import proofs.«01_k».proof.Proof.Reference.Draws
public import proofs.«01_k».proof.Proof.Reference.EqD
public import proofs.«01_k».proof.Proof.Value.Gathers

@[expose] public section

set_option maxRecDepth 16384

noncomputable section

namespace Cert.ReferenceIdeal.Eqs

open Cert.ReferenceIdeal Cert.ReferenceIdeal.Gen Cert.ReferenceIdeal.Line Cert.Draws Cert.Gathers Idealize.ShloMosaic Idealize.ShloMosaic.TcCoe Idealize.ShloMosaic.StableHlo

variable (V : Valuation τ sig (Elt Ideal)) (b : Fin 4) (i j : Fin 2048) (a : Fin 2)

/-- A word wrapped from the end when it is negative. -/
def wrap (n w : BitVec 32) : BitVec 32 := if IntOp.cmpi .slt w 0#32 = 1 then IntOp.addi w n else w

theorem wrap2 : ∀ a : Fin 2, wrap 2#32 (BitVec.ofNat 32 a.val) = BitVec.ofNat 32 a.val := by decide
theorem wrap4 : ∀ a : Fin 4, wrap 4#32 (BitVec.ofNat 32 a.val) = BitVec.ofNat 32 a.val := by decide

/-- The batch words, laid over the box, in the three index vectors. -/
theorem batch1 : wAt (R V main_v41) (ix3 b i j) = BitVec.ofNat 32 b.val := by
  refine Eq.trans ?_ (wrap4 b)
  rw [e53, e45, e44, e43, e42, e41, e40, e39, e29, e28]; rfl
theorem batch2 : wAt (R V main_v93) (ix3 b i j) = BitVec.ofNat 32 b.val := by
  refine Eq.trans ?_ (wrap4 b)
  rw [e387, e379, e378, e377, e376, e375, e374, e373, e29, e28]; rfl
theorem batch3 : wAt (R V main_v113) (ix3 b i j) = BitVec.ofNat 32 b.val := by
  refine Eq.trans ?_ (wrap4 b)
  rw [e413, e398, e397, e396, e395, e394, e393, e392, e29, e28]; rfl

/-- The label words in the three index vectors. -/
theorem label1 : wAt (R V main_v40) (ix3 b i j) = wrap 2#32 (wAt (R V main_arg2) (ix3 b i j)) := by
  rw [e52, e51, e50, e49, e48, e47, e46]; rfl
theorem label2 : wAt (R V main_v92) (ix3 b i j) = wrap 2#32 (wAt (R V main_arg2) (ix3 b i j)) := by
  rw [e386, e385, e384, e383, e382, e381, e380]; rfl
theorem label3 : wAt (R V main_v107) (ix3 b i j) = wrap 2#32 (wAt (R V main_arg2) (ix3 b i j)) := by
  rw [e405, e404, e403, e402, e401, e400, e399]; rfl

/-- The noisy label words in the two index vectors. -/
theorem noise1 : wAt (R V main_v80) (ix3 b i j) = wrap 2#32 (wAt (R V main_v57) (ix3 b i j)) := by
  rw [e370, e369, e368, e367, e366, e365, e364]; rfl
theorem noise2 : wAt (R V main_v112) (ix3 b i j) = wrap 2#32 (wAt (R V main_v57) (ix3 b i j)) := by
  rw [e412, e411, e410, e409, e408, e407, e406]; rfl

/-- Words over the box with one entry at each place, and with two and three. -/
abbrev W31 := C S4x2048x2048x1 .i32

theorem lay_at (x : W3) : (broadcastInDim S4x2048x2048x1 ![0, 1, 2] bcast_S4x2048x2048_S4x2048x2048x1_0_1_2 x : W31) (ix4 b i j (0 : Fin 1)) = x (ix3 b i j) := by pointwise
theorem cat44_0 (x y : W31) : cat_main_v44 (F := Ideal) x y (ix4 b i j (0 : Fin 2)) = x (ix4 b i j (0 : Fin 1)) := by pointwise [cat_main_v44]
theorem cat44_1 (x y : W31) : cat_main_v44 (F := Ideal) x y (ix4 b i j (1 : Fin 2)) = y (ix4 b i j (0 : Fin 1)) := by pointwise [cat_main_v44]
theorem cat96_0 (x y : W31) : cat_main_v96 (F := Ideal) x y (ix4 b i j (0 : Fin 2)) = x (ix4 b i j (0 : Fin 1)) := by pointwise [cat_main_v96]
theorem cat96_1 (x y : W31) : cat_main_v96 (F := Ideal) x y (ix4 b i j (1 : Fin 2)) = y (ix4 b i j (0 : Fin 1)) := by pointwise [cat_main_v96]
theorem cat117_0 (x y z : W31) : cat_main_v117 (F := Ideal) x y z (ix4 b i j (0 : Fin 3)) = x (ix4 b i j (0 : Fin 1)) := by pointwise [cat_main_v117]
theorem cat117_1 (x y z : W31) : cat_main_v117 (F := Ideal) x y z (ix4 b i j (1 : Fin 3)) = y (ix4 b i j (0 : Fin 1)) := by pointwise [cat_main_v117]
theorem cat117_2 (x y z : W31) : cat_main_v117 (F := Ideal) x y z (ix4 b i j (2 : Fin 3)) = z (ix4 b i j (0 : Fin 1)) := by pointwise [cat_main_v117]

/-- The tables of the batches and the first step's, read at an index at their plain types. -/
abbrev qAt (f : C S4x2x2 .f32) (i : S4x2x2.Idx) : EReal := f i
abbrev oAt (f : C S2x2 .f32) (i : S2x2.Idx) : EReal := f i

/-- The gathers at the buffers' types. -/
theorem rowA' (x : C S4x2x2 .f32) (w : C S4x2048x2048x2 .i32) (n : Fin 4) (r k : Fin 2)
    (h0 : (show BitVec 32 from w (ix4 b i j (0 : Fin 2))) = BitVec.ofNat 32 n.val) (h1 : (show BitVec 32 from w (ix4 b i j (1 : Fin 2))) = BitVec.ofNat 32 r.val) :
    (show EReal from (Host.gather dA x w : C S4x2048x2048x2 .f32) (ix4 b i j k)) = qAt x (ix3 n r k) := rowA b i j x w n r k h0 h1
theorem rowB' (x : C S2x2 .f32) (w : C S4x2048x2048x1 .i32) (r k : Fin 2)
    (h0 : (show BitVec 32 from w (ix4 b i j (0 : Fin 1))) = BitVec.ofNat 32 r.val) :
    (show EReal from (Host.gather dB x w : C S4x2048x2048x2 .f32) (ix4 b i j k)) = oAt x (ix2 r k) := rowB b i j x w r k h0
theorem entryC' (x : C S4x2x2 .f32) (w : C S4x2048x2048x3 .i32) (n : Fin 4) (r s : Fin 2)
    (h0 : (show BitVec 32 from w (ix4 b i j (0 : Fin 3))) = BitVec.ofNat 32 n.val) (h1 : (show BitVec 32 from w (ix4 b i j (1 : Fin 3))) = BitVec.ofNat 32 r.val)
    (h2 : (show BitVec 32 from w (ix4 b i j (2 : Fin 3))) = BitVec.ofNat 32 s.val) :
    xAt (Host.gather dC x w : X3) (ix3 b i j) = qAt x (ix3 n r s) := entryC b i j x w n r s h0 h1 h2

variable (h : wAt (R V main_arg2) (ix3 b i j) = BitVec.ofNat 32 a.val)

include h in
/-- The probability a label stays or becomes one. -/
theorem prob_at : xAt (R V main_v55) (ix3 b i j) = qAt (R V main_v30) (ix3 b a (1 : Fin 2)) := by
  have cut (x : C S4x2048x2048x2 .f32) : shapeCast (s := S4x2048x2048x1) S4x2048x2048 (extractStridedSlice S4x2048x2048x1 ![0, 0, 0, 1] x slices_S4x2048x2048x2_S4x2048x2048x1_0_0_0_1) shapeCasts_S4x2048x2048x1_S4x2048x2048 (ix3 b i j) = x (ix4 b i j (1 : Fin 2)) := by pointwise
  rw [e338, e337]
  refine Eq.trans (cut (R V main_v45)) ?_
  rw [e57]
  refine rowA' b i j (R V main_v30) (R V main_v44) b a 1 ?_ ?_
  · rw [e56]; refine Eq.trans (cat44_0 b i j _ _) ?_
    rw [e54]; exact Eq.trans (lay_at b i j (R V main_v41)) (batch1 V b i j)
  · rw [e56]; refine Eq.trans (cat44_1 b i j _ _) ?_
    rw [e55]; refine Eq.trans (lay_at b i j (R V main_v40)) ((label1 V b i j).trans ?_)
    rw [h, wrap2]

/-- The noisy label: one when the draw is less than the probability. -/
def bit (u p : EReal) : Fin 2 := if u < p then 1 else 0

theorem bit_apply (u p : X3) (k : S4x2048x2048.Idx) :
    (extui 32 (cmpf (F := Ideal) (φ := .f32) .olt u p : C S4x2048x2048 .i1) natLt_1_32 : W3) k = BitVec.ofNat 32 (bit (xAt u k) (xAt p k)).val := by
  pointwise
  unfold bit
  by_cases hlt : u k < p k
  · simp [hlt]
  · simp [hlt]

include h in
/-- The noisy label at an index. -/
theorem noisy_at : wAt (R V main_v57) (ix3 b i j) = BitVec.ofNat 32 (bit (draw (BitVec.ofNat 32 (pos b i j))) (qAt (R V main_v30) (ix3 b a (1 : Fin 2)))).val := by
  rw [e340, e339]
  refine Eq.trans (bit_apply (R V main_v53) (R V main_v55) (ix3 b i j)) ?_
  rw [draw_at, prob_at V b i j a h]

include h in
/-- The posterior probability at an index. -/
theorem post_at (s : Fin 2) (hs : wAt (R V main_v57) (ix3 b i j) = BitVec.ofNat 32 s.val) :
    xAt (R V main_v124) (ix3 b i j)
      = Ideal.div (oAt (R V main_v59) (ix2 s (1 : Fin 2)) * qAt (R V main_v68) (ix3 b a (1 : Fin 2))) (qAt (R V main_v75) (ix3 b a s)) := by
  have cut (x : C S4x2048x2048x2 .f32) : shapeCast (s := S4x2048x2048x1) S4x2048x2048 (extractStridedSlice S4x2048x2048x1 ![0, 0, 0, 1] x slices_S4x2048x2048x2_S4x2048x2048x1_0_0_0_1) shapeCasts_S4x2048x2048x1_S4x2048x2048 (ix3 b i j) = x (ix4 b i j (1 : Fin 2)) := by pointwise
  have quot (x y : C S4x2048x2048x2 .f32) (z : X3) : (Host.divf (F := Ideal) (φ := .f32) (mulf (F := Ideal) (φ := .f32) x y) (broadcastInDim S4x2048x2048x2 ![0, 1, 2, 3] bcast_S4x2048x2048x1_S4x2048x2048x2_0_1_2_3 (broadcastInDim S4x2048x2048x1 ![0, 1, 2] bcast_S4x2048x2048_S4x2048x2048x1_0_1_2 z : C S4x2048x2048x1 .f32)) : C S4x2048x2048x2 .f32) (ix4 b i j (1 : Fin 2))
      = Ideal.div ((show EReal from x (ix4 b i j (1 : Fin 2))) * (show EReal from y (ix4 b i j (1 : Fin 2)))) (xAt z (ix3 b i j)) := by pointwise
  rw [e424, e423]
  refine Eq.trans (cut (R V main_v122)) ?_
  rw [e422, e421, e420, e419]
  refine Eq.trans (quot (R V main_v82) (R V main_v97) (R V main_v118)) ?_
  have h1 : (R V main_v82 : C S4x2048x2048x2 .f32) (ix4 b i j (1 : Fin 2)) = oAt (R V main_v59) (ix2 s (1 : Fin 2)) := by
    rw [e372]
    refine rowB' b i j (R V main_v59) (R V main_v81) s 1 ?_
    rw [e371]; refine Eq.trans (lay_at b i j (R V main_v80)) ((noise1 V b i j).trans ?_)
    rw [hs, wrap2]
  have h2 : (R V main_v97 : C S4x2048x2048x2 .f32) (ix4 b i j (1 : Fin 2)) = qAt (R V main_v68) (ix3 b a (1 : Fin 2)) := by
    rw [e391]
    refine rowA' b i j (R V main_v68) (R V main_v96) b a 1 ?_ ?_
    · rw [e390]; refine Eq.trans (cat96_0 b i j _ _) ?_
      rw [e388]; exact Eq.trans (lay_at b i j (R V main_v93)) (batch2 V b i j)
    · rw [e390]; refine Eq.trans (cat96_1 b i j _ _) ?_
      rw [e389]; refine Eq.trans (lay_at b i j (R V main_v92)) ((label2 V b i j).trans ?_)
      rw [h, wrap2]
  have h3 : xAt (R V main_v118) (ix3 b i j) = qAt (R V main_v75) (ix3 b a s) := by
    rw [e418]
    refine entryC' b i j (R V main_v75) (R V main_v117) b a s ?_ ?_ ?_
    · rw [e417]; refine Eq.trans (cat117_0 b i j _ _ _) ?_
      rw [e414]; exact Eq.trans (lay_at b i j (R V main_v113)) (batch3 V b i j)
    · rw [e417]; refine Eq.trans (cat117_1 b i j _ _ _) ?_
      rw [e415]; refine Eq.trans (lay_at b i j (R V main_v107)) ((label3 V b i j).trans ?_)
      rw [h, wrap2]
    · rw [e417]; refine Eq.trans (cat117_2 b i j _ _ _) ?_
      rw [e416]; refine Eq.trans (lay_at b i j (R V main_v112)) ((noise2 V b i j).trans ?_)
      rw [hs, wrap2]
  exact congrArg₂ Ideal.div (congrArg₂ (fun p q : EReal => p * q) h1 h2) h3

end Cert.ReferenceIdeal.Eqs

end
-- ==== Proof.Reference.Loss.lean ====
/-
The reference's loss at an index, and its mean over the places under the diagonal.
-/
module

public import proofs.«01_k».proof.Proof.Reference.Draws
public import proofs.«01_k».proof.Proof.Reference.EqD
public import proofs.«01_k».proof.Proof.Value.Gathers
public import proofs.«01_k».proof.Proof.Value.Loss

@[expose] public section

set_option maxRecDepth 16384

noncomputable section

namespace Cert.ReferenceIdeal.Eqs

open Cert.ReferenceIdeal Cert.ReferenceIdeal.Gen Cert.ReferenceIdeal.Line Cert.Draws Cert.Loss Cert.Gathers Idealize.ShloMosaic Idealize.ShloMosaic.TcCoe Idealize.ShloMosaic.StableHlo

/-- The features' and the weights' types. -/
abbrev Feats := C S4x2048x64 .f32
abbrev Weights := C S64x64 .f32

/-- The logits, as the reference multiplies them. -/
def logits (x : Feats) (w : Weights) : X3 :=
  Host.dotGeneral (F := Ideal) (φ₁ := .f32) (φ₂ := .f32) dot_S4x2048x64_S4x2048x64_S4x2048x2048_2_2_1_1_0_0 none
    (Host.dotGeneral (F := Ideal) (φ₁ := .f32) (φ₂ := .f32) dot_S4x2048x64_S64x64_S4x2048x64_2_0_01_1_n_n none x w : Feats) x

/-- A logit is the bilinear form of its two places' features. -/
theorem logits_at (x : Feats) (w : Weights) (b : Fin 4) (i j : Fin 2048) :
    xAt (logits x w) (ix3 b i j) = form (fun e => x (ix3 b i e)) (fun e d => w (ix2 e d)) (fun d => x (ix3 b j d)) := by
  unfold xAt form
  pointwise [logits]

/-- The loss box, from the logits and the targets. -/
def losses (l q : X3) : X3 :=
  addf (F := Ideal) (φ := .f32) (subf (F := Ideal) (φ := .f32) (maximumf (F := Ideal) (φ := .f32) l (broadcastInDim S4x2048x2048 ![] bcast_S_S4x2048x2048 (constant (F := Ideal) S_ .f32 0x00000000#32))) (mulf (F := Ideal) (φ := .f32) l q))
    (Host.log1p (F := Ideal) (φ := .f32) (Host.exp (F := Ideal) (φ := .f32) (Host.negf (F := Ideal) (φ := .f32) (Host.absf (F := Ideal) (φ := .f32) l))))

theorem losses_at (l q : X3) (b : Fin 4) (i j : Fin 2048) : xAt (losses l q) (ix3 b i j) = bce (xAt l (ix3 b i j)) (xAt q (ix3 b i j)) := by
  unfold bce
  rw [zero_sub]
  have hz : xAt (broadcastInDim S4x2048x2048 ![] bcast_S_S4x2048x2048 (constant (F := Ideal) S_ .f32 0x00000000#32)) (ix3 b i j) = 0 := Ideal.ofBits_zero_f32
  rw [← hz]
  rfl

/-- The loss box under the diagonal, and zero elsewhere. -/
def under (f : X3) : X3 :=
  select (cmpi .sgt (iotaInDim S4x2048x2048 32 1) (iotaInDim S4x2048x2048 32 2)) f (broadcastInDim S4x2048x2048 ![] bcast_S_S4x2048x2048 (constant (F := Ideal) S_ .f32 0x00000000#32))

theorem under_at (f : X3) (b : Fin 4) (i j : Fin 2048) : xAt (under f) (ix3 b i j) = if j.val < i.val then xAt f (ix3 b i j) else 0 := by
  have hz : xAt (broadcastInDim S4x2048x2048 ![] bcast_S_S4x2048x2048 (constant (F := Ideal) S_ .f32 0x00000000#32)) (ix3 b i j) = 0 := Ideal.ofBits_zero_f32
  rw [← hz]
  exact if_congr (gt_iff i.val j.val (by omega) (by omega)) rfl rfl

/-- The box's sum. -/
def total (f : X3) : C S_ .f32 := Host.reduceAdd (F := Ideal) (φ := .f32) f (constant (F := Ideal) S_ .f32 0x00000000#32) reducesTo_S4x2048x2048_S_d0_1_2 h_S_

theorem total_at (f : X3) (k : S_.Idx) : (show EReal from total f k) = ∑ b : Fin 4, ∑ i : Fin 2048, ∑ j : Fin 2048, xAt f (ix3 b i j) := by
  unfold xAt
  pointwise [total]

variable (V : Valuation τ sig (Elt Ideal))

/-- The reference's result: the sum of the losses under the diagonal, by their number. -/
theorem mean_eq (k : S_.Idx) : (show EReal from (R V main_v141 : C S_ .f32) k)
    = Ideal.div (∑ b : Fin 4, ∑ i : Fin 2048, ∑ j : Fin 2048, if j.val < i.val then bce (form (fun e => (R V main_arg0 : Feats) (ix3 b i e)) (fun e d => (R V main_arg1 : Weights) (ix2 e d)) (fun d => (R V main_arg0 : Feats) (ix3 b j d))) (xAt (R V main_v124) (ix3 b i j)) else 0)
      (Ideal.ofBits .f32 0x4AFFE000#32) := by
  have h : (R V main_v141 : C S_ .f32) = Host.divf (F := Ideal) (φ := .f32) (total (under (losses (logits (R V main_arg0) (R V main_arg1)) (R V main_v124)))) (constant (F := Ideal) S_ .f32 0x4AFFE000#32) := by
    rw [e447, e446, e445, e444, e443, e442, e441, e440, e439, e438, e437, e436, e435, e434, e433, e432, e431, e430, e429, e428, e427, e426, e425]; rfl
  rw [h]
  refine Eq.trans (?_ : _ = Ideal.div (show EReal from total (under (losses (logits (R V main_arg0) (R V main_arg1)) (R V main_v124))) k) (Ideal.ofBits .f32 0x4AFFE000#32)) ?_
  · rfl
  rw [total_at]
  simp only [under_at, losses_at, logits_at]

end Cert.ReferenceIdeal.Eqs

end
-- ==== Proof.Value.Tables.lean ====
/-
The two programs build the same transition tables.
-/
module

public import proofs.«01_k».proof.Proof.Reference.EqA
public import proofs.«01_k».proof.Proof.Reference.EqD
public import proofs.«01_k».proof.Proof.KernelIdeal.EqA

@[expose] public section

set_option maxRecDepth 16384

noncomputable section

namespace Cert.Tables

open Idealize.ShloMosaic Idealize.ShloMosaic.TcCoe Idealize.ShloMosaic.StableHlo
open Cert.KernelIdeal.Gen Cert.ReferenceIdeal.Gen

variable (V : Valuation Cert.KernelIdeal.τ Cert.KernelIdeal.sig (Elt Ideal))
  (V' : Valuation Cert.ReferenceIdeal.τ Cert.ReferenceIdeal.sig (Elt Ideal))

/-- The types of the tables and of the step numbers. -/
abbrev Steps := (⟨Cert.KernelIdeal.S1000x2x2, .f32⟩ : BufTy).Contents (Elt Ideal)
abbrev Batches := (⟨Cert.KernelIdeal.S4x2x2, .f32⟩ : BufTy).Contents (Elt Ideal)
abbrev One := (⟨Cert.KernelIdeal.S2x2, .f32⟩ : BufTy).Contents (Elt Ideal)
abbrev Words := (⟨Cert.KernelIdeal.S4, .i32⟩ : BufTy).Contents (Elt Ideal)

/-- A step's table for each batch, from all steps' tables and the batches' step numbers. -/
def pickStep (T : Steps) (t : Words) : Batches :=
  Host.gather Cert.KernelIdeal.gather_S1000x2x2_S4x1_S4x2x2_12_0_n_n_0_1_122 T
    (broadcastInDim Cert.KernelIdeal.S4x1 ![0] Cert.KernelIdeal.Gen.bcast_S4_S4x1_0
      (select (cmpi .slt t (broadcastInDim Cert.KernelIdeal.S4 ![] Cert.KernelIdeal.Gen.bcast_S_S4 (constantI Cert.KernelIdeal.S_ 32 0#32)))
        (addi t (broadcastInDim Cert.KernelIdeal.S4 ![] Cert.KernelIdeal.Gen.bcast_S_S4 (constantI Cert.KernelIdeal.S_ 32 1000#32))) t))

/-- A constant laid over the four batches. -/
def word4 (w : BitVec 32) : Words := broadcastInDim Cert.KernelIdeal.S4 ![] Cert.KernelIdeal.Gen.bcast_S_S4 (constantI Cert.KernelIdeal.S_ 32 w)

section K
open Cert.KernelIdeal Cert.KernelIdeal.Eqs

/-- The kernel's evidence and prior tables. -/
theorem k_next : (R V main_v21 : Words) = addi (R V main_arg3 : Words) (word4 1#32) := by rw [e29, e28, e27]; rfl
theorem k_evidence : (R V main_v28 : Batches) = pickStep (R V main_v19) (R V main_v21) := by
  rw [e38, e37, e36, e35, e34, e33, e32, e31, e30]; rfl
theorem k_prior : (R V main_v37 : Batches) = pickStep (R V main_v19) (subi (R V main_v21 : Words) (word4 1#32)) := by
  rw [e50, e49, e48, e47, e46, e45, e44, e43, e42, e41, e40, e39]; rfl
end K

section Rf
open Cert.ReferenceIdeal Cert.ReferenceIdeal.Eqs

/-- The reference's evidence and prior tables. -/
theorem r_next : (R V' main_v21 : Words) = addi (R V' main_arg3 : Words) (word4 1#32) := by rw [e27, e26, e25]; rfl
theorem r_keep : (R V' main_v30 : Batches) = pickStep (R V' main_v19) (R V' main_v21) := by
  rw [e38, e37, e36, e35, e34, e33, e32, e31, e30]; rfl
theorem r_evidence : (R V' main_v75 : Batches) = pickStep (R V' main_v19) (R V' main_v21) := by
  rw [e363, e362, e361, e360, e359, e358, e357, e356, e355]; rfl
theorem r_prior : (R V' main_v68 : Batches) = pickStep (R V' main_v19) (subi (R V' main_v21 : Words) (word4 1#32)) := by
  rw [e354, e353, e352, e351, e350, e349, e348, e347, e346, e345, e344, e343]; rfl
end Rf

/-- All steps' tables are the same. -/
theorem steps_eq : (Cert.KernelIdeal.Eqs.R V Cert.KernelIdeal.main_v19 : Steps) = Cert.ReferenceIdeal.Eqs.R V' Cert.ReferenceIdeal.main_v19 := by
  rw [Cert.KernelIdeal.Eqs.e26, Cert.KernelIdeal.Eqs.e25, Cert.KernelIdeal.Eqs.e24, Cert.KernelIdeal.Eqs.e23, Cert.KernelIdeal.Eqs.e22, Cert.KernelIdeal.Eqs.e21, Cert.KernelIdeal.Eqs.e20, Cert.KernelIdeal.Eqs.e19, Cert.KernelIdeal.Eqs.e18, Cert.KernelIdeal.Eqs.e17, Cert.KernelIdeal.Eqs.e16, Cert.KernelIdeal.Eqs.e15, Cert.KernelIdeal.Eqs.e14, Cert.KernelIdeal.Eqs.e13, Cert.KernelIdeal.Eqs.e12, Cert.KernelIdeal.Eqs.e11, Cert.KernelIdeal.Eqs.e10, Cert.KernelIdeal.Eqs.e9, Cert.KernelIdeal.Eqs.e8, Cert.KernelIdeal.Eqs.e7, Cert.KernelIdeal.Eqs.e6, Cert.KernelIdeal.Eqs.e5, Cert.KernelIdeal.Eqs.e4, Cert.KernelIdeal.Eqs.e3, Cert.KernelIdeal.Eqs.e2]
  rw [Cert.ReferenceIdeal.Eqs.e24, Cert.ReferenceIdeal.Eqs.e23, Cert.ReferenceIdeal.Eqs.e22, Cert.ReferenceIdeal.Eqs.e21, Cert.ReferenceIdeal.Eqs.e20, Cert.ReferenceIdeal.Eqs.e19, Cert.ReferenceIdeal.Eqs.e18, Cert.ReferenceIdeal.Eqs.e17, Cert.ReferenceIdeal.Eqs.e16, Cert.ReferenceIdeal.Eqs.e15, Cert.ReferenceIdeal.Eqs.e14, Cert.ReferenceIdeal.Eqs.e13, Cert.ReferenceIdeal.Eqs.e12, Cert.ReferenceIdeal.Eqs.e11, Cert.ReferenceIdeal.Eqs.e10, Cert.ReferenceIdeal.Eqs.e9, Cert.ReferenceIdeal.Eqs.e8, Cert.ReferenceIdeal.Eqs.e7, Cert.ReferenceIdeal.Eqs.e6, Cert.ReferenceIdeal.Eqs.e5, Cert.ReferenceIdeal.Eqs.e4, Cert.ReferenceIdeal.Eqs.e3, Cert.ReferenceIdeal.Eqs.e2, Cert.ReferenceIdeal.Eqs.e1, Cert.ReferenceIdeal.Eqs.e0]
  rfl

variable (h3 : (Cert.KernelIdeal.Eqs.R V Cert.KernelIdeal.main_arg3 : Words) = Cert.ReferenceIdeal.Eqs.R V' Cert.ReferenceIdeal.main_arg3)

include h3 in
theorem next_eq : (Cert.KernelIdeal.Eqs.R V Cert.KernelIdeal.main_v21 : Words) = Cert.ReferenceIdeal.Eqs.R V' Cert.ReferenceIdeal.main_v21 := by
  rw [k_next, r_next, h3]
include h3 in
/-- The kernel's evidence table is the one the reference draws with. -/
theorem keep_eq : (Cert.KernelIdeal.Eqs.R V Cert.KernelIdeal.main_v28 : Batches) = Cert.ReferenceIdeal.Eqs.R V' Cert.ReferenceIdeal.main_v30 := by
  rw [k_evidence, r_keep, steps_eq V V', next_eq V V' h3]
include h3 in
/-- The kernel's evidence table is the reference's. -/
theorem evidence_eq : (Cert.KernelIdeal.Eqs.R V Cert.KernelIdeal.main_v28 : Batches) = Cert.ReferenceIdeal.Eqs.R V' Cert.ReferenceIdeal.main_v75 := by
  rw [k_evidence, r_evidence, steps_eq V V', next_eq V V' h3]
include h3 in
/-- The kernel's prior table is the reference's. -/
theorem prior_eq : (Cert.KernelIdeal.Eqs.R V Cert.KernelIdeal.main_v37 : Batches) = Cert.ReferenceIdeal.Eqs.R V' Cert.ReferenceIdeal.main_v68 := by
  rw [k_prior, r_prior, steps_eq V V', next_eq V V' h3]

/-- The first step's table is the same. -/
theorem first_eq : (Cert.KernelIdeal.Eqs.R V Cert.KernelIdeal.main_v39 : One) = Cert.ReferenceIdeal.Eqs.R V' Cert.ReferenceIdeal.main_v59 := by
  have k : (Cert.KernelIdeal.Eqs.R V Cert.KernelIdeal.main_v39 : One) = shapeCast Cert.KernelIdeal.S2x2 (extractStridedSlice Cert.KernelIdeal.S1x2x2 ![0, 0, 0] (Cert.KernelIdeal.Eqs.R V Cert.KernelIdeal.main_v19 : Steps) Cert.KernelIdeal.Gen.slices_S1000x2x2_S1x2x2_0_0_0) Cert.KernelIdeal.Gen.shapeCasts_S1x2x2_S2x2 := by
    rw [Cert.KernelIdeal.Eqs.e52, Cert.KernelIdeal.Eqs.e51]
  have r : (Cert.ReferenceIdeal.Eqs.R V' Cert.ReferenceIdeal.main_v59 : One) = shapeCast Cert.KernelIdeal.S2x2 (extractStridedSlice Cert.KernelIdeal.S1x2x2 ![0, 0, 0] (Cert.ReferenceIdeal.Eqs.R V' Cert.ReferenceIdeal.main_v19 : Steps) Cert.KernelIdeal.Gen.slices_S1000x2x2_S1x2x2_0_0_0) Cert.KernelIdeal.Gen.shapeCasts_S1x2x2_S2x2 := by
    rw [Cert.ReferenceIdeal.Eqs.e342, Cert.ReferenceIdeal.Eqs.e341]; rfl
  rw [k, r, steps_eq V V']

end Cert.Tables

end
-- ==== Proof.Value.Sums.lean ====
/-
Summing a square box under its diagonal tile by tile.
-/
module

public import Idealize.ShloMosaic.Lib.Pointwise

@[expose] public section

noncomputable section

namespace Cert.Sums

open Idealize.ShloMosaic

/-- Place `r` of block `p`. -/
def place (p : Fin 8) (r : Fin 256) : Fin 2048 := ⟨p.val * 256 + r.val, by omega⟩

/-- A sum over the places, block by block. -/
theorem sum_blocks (g : Fin 2048 → EReal) : ∑ i : Fin 2048, g i = ∑ p : Fin 8, ∑ r : Fin 256, g (place p r) := by
  rw [← Fintype.sum_prod_type' (f := fun p r => g (place p r))]
  symm
  refine Fintype.sum_equiv (finProdFinEquiv : Fin 8 × Fin 256 ≃ Fin 2048) _ _ fun x => congrArg g (Fin.ext ?_)
  show x.1.val * 256 + x.2.val = x.2.val + 256 * x.1.val
  omega

/-- A sum over the tiles on and under the diagonal, in the order of two tables that list each tile once. -/
theorem sum_tiles (row col : Fin 36 → Fin 8) (hle : ∀ k, col k ≤ row k) (hinj : ∀ k k', row k = row k' → col k = col k' → k = k')
    (hsurj : ∀ p p' : Fin 8, p' ≤ p → ∃ k, row k = p ∧ col k = p') (T : Fin 8 → Fin 8 → EReal) :
    ∑ k : Fin 36, T (row k) (col k) = ∑ p : Fin 8, ∑ p' : Fin 8, if p' ≤ p then T p p' else 0 := by
  rw [← Fintype.sum_prod_type' (f := fun p p' : Fin 8 => if p' ≤ p then T p p' else 0), ← Finset.sum_filter (fun x : Fin 8 × Fin 8 => x.2 ≤ x.1) (fun x => T x.1 x.2)]
  refine Finset.sum_bij (fun k _ => (row k, col k)) (fun k _ => ?_) (fun k _ k' _ h => ?_) (fun x hx => ?_) (fun k _ => rfl)
  · exact Finset.mem_filter.mpr ⟨Finset.mem_univ _, hle k⟩
  · exact hinj k k' (congrArg Prod.fst h) (congrArg Prod.snd h)
  · obtain ⟨k, h1, h2⟩ := hsurj x.1 x.2 (Finset.mem_filter.mp hx).2
    exact ⟨k, Finset.mem_univ _, Prod.ext h1 h2⟩

/-- One tile's part of a box under its diagonal. -/
theorem tile_part (f : Fin 2048 → Fin 2048 → EReal) (p p' : Fin 8) :
    (∑ r : Fin 256, ∑ q : Fin 256, if (place p' q).val < (place p r).val then f (place p r) (place p' q) else 0)
      = if p' ≤ p then ∑ q : Fin 256, ∑ r : Fin 256, (if p = p' → q.val < r.val then f (place p r) (place p' q) else 0) else 0 := by
  by_cases h : p' ≤ p
  · rw [if_pos h, Finset.sum_comm]
    refine Finset.sum_congr rfl fun q _ => Finset.sum_congr rfl fun r _ => if_congr ?_ rfl rfl
    have hq := q.isLt; have hr := r.isLt
    have h' : p'.val ≤ p.val := h
    show p'.val * 256 + q.val < p.val * 256 + r.val ↔ _
    constructor
    · intro hlt e; subst e; omega
    · intro hi
      rcases Nat.lt_or_eq_of_le h' with hl | he
      · omega
      · have := hi (Fin.ext he.symm); omega
  · rw [if_neg h]
    refine Finset.sum_eq_zero fun r _ => Finset.sum_eq_zero fun q _ => if_neg ?_
    have hq := q.isLt; have hr := r.isLt
    have h' : p.val < p'.val := Nat.lt_of_not_le h
    show ¬ p'.val * 256 + q.val < p.val * 256 + r.val
    omega

/-- The tiles' column sums add up to the sum under the diagonal. -/
theorem sum_under (row col : Fin 36 → Fin 8) (hle : ∀ k, col k ≤ row k) (hinj : ∀ k k', row k = row k' → col k = col k' → k = k')
    (hsurj : ∀ p p' : Fin 8, p' ≤ p → ∃ k, row k = p ∧ col k = p') (f : Fin 2048 → Fin 2048 → EReal) :
    (∑ k : Fin 36, ∑ q : Fin 256, ∑ r : Fin 256, if row k = col k → q.val < r.val then f (place (row k) r) (place (col k) q) else 0)
      = ∑ i : Fin 2048, ∑ j : Fin 2048, if j.val < i.val then f i j else 0 := by
  rw [sum_tiles row col hle hinj hsurj (fun p p' => ∑ q : Fin 256, ∑ r : Fin 256, if p = p' → q.val < r.val then f (place p r) (place p' q) else 0), sum_blocks]
  refine Finset.sum_congr rfl fun p _ => ?_
  have h : ∀ r : Fin 256, (∑ j : Fin 2048, if j.val < (place p r).val then f (place p r) j else 0)
      = ∑ p' : Fin 8, ∑ q : Fin 256, if (place p' q).val < (place p r).val then f (place p r) (place p' q) else 0 := fun r => sum_blocks _
  simp only [h]
  rw [Finset.sum_comm]
  exact Finset.sum_congr rfl fun p' _ => (tile_part f p p').symm

/-- The same with the batches summed inside each place on one side and outside on the other. -/
theorem sum_batches (g : Fin 4 → Fin 2048 → Fin 2048 → EReal) :
    (∑ i : Fin 2048, ∑ j : Fin 2048, if j.val < i.val then ∑ b : Fin 4, g b i j else 0)
      = ∑ b : Fin 4, ∑ i : Fin 2048, ∑ j : Fin 2048, if j.val < i.val then g b i j else 0 := by
  rw [Finset.sum_comm (s := (Finset.univ : Finset (Fin 4)))]
  refine Finset.sum_congr rfl fun i _ => ?_
  rw [Finset.sum_comm (s := (Finset.univ : Finset (Fin 4)))]
  refine Finset.sum_congr rfl fun j _ => ?_
  by_cases h : j.val < i.val
  · simp only [if_pos h]
  · simp only [if_neg h, Finset.sum_const_zero]

end Cert.Sums

end
-- ==== Proof.Value.Edge.lean ====
/-
The loss of one place is the same number in both programs.
-/
module

public import proofs.«01_k».proof.Proof.KernelIdeal.Points
public import proofs.«01_k».proof.Proof.KernelIdeal.Params
public import proofs.«01_k».proof.Proof.KernelIdeal.Draws
public import proofs.«01_k».proof.Proof.Reference.Post
public import proofs.«01_k».proof.Proof.Reference.Loss
public import proofs.«01_k».proof.Proof.Value.Tables
public import proofs.«01_k».proof.Proof.Value.Sums

@[expose] public section

set_option maxRecDepth 16384

noncomputable section

namespace Cert.Edge

open Cert.Loss Cert.Draws Cert.Tables
open Cert.KernelIdeal.Eqs (paramsOf param0 param1 param2 param3 param4 param5 params_eq)
open Cert.KernelIdeal.Points (loss Params Labels Box Feats Weights)
open Cert.ReferenceIdeal.Eqs (bit xAt wAt qAt oAt)
open Idealize.ShloMosaic Idealize.ShloMosaic.TcCoe Idealize.ShloMosaic.StableHlo

/-- Picking one of four quotients by a label and a draw. -/
theorem pick (a : Fin 2) (u : EReal) (k o p : Fin 2 → EReal) (e : Fin 2 → Fin 2 → EReal) :
    posterior (BitVec.ofNat 32 a.val) u (k 0) (k 1) (Ideal.div (o 0 * p 0) (e 0 0)) (Ideal.div (o 1 * p 0) (e 0 1)) (Ideal.div (o 0 * p 1) (e 1 0)) (Ideal.div (o 1 * p 1) (e 1 1))
      = Ideal.div (o (bit u (k a)) * p a) (e a (bit u (k a))) := by
  have h0 : BitVec.ofNat 32 (0 : Fin 2).val ≠ 1#32 := by decide
  have h1 : BitVec.ofNat 32 (1 : Fin 2).val = 1#32 := by decide
  unfold posterior bit
  obtain rfl | rfl : a = 0 ∨ a = 1 := by revert a; decide
  · rw [if_neg h0]
    by_cases h : u < k 0
    · rw [if_pos h, if_pos h]
    · rw [if_neg h, if_neg h]
  · rw [if_pos h1]
    by_cases h : u < k 1
    · rw [if_pos h, if_pos h]
    · rw [if_neg h, if_neg h]

/-- The probability a label and a draw pick out of the parameters is the reference's quotient of table entries. -/
theorem posterior_eq (x28 x37 : Batches) (x39 : One) (z : Cert.KernelIdeal.Eqs.C Cert.KernelIdeal.S_ .f32) (b : Fin 4) (a : Fin 2) (u : EReal) :
    posterior (BitVec.ofNat 32 a.val) u (paramsOf x28 x37 x39 z (ix2 b (0 : Fin 8))) (paramsOf x28 x37 x39 z (ix2 b (1 : Fin 8))) (paramsOf x28 x37 x39 z (ix2 b (2 : Fin 8)))
      (paramsOf x28 x37 x39 z (ix2 b (3 : Fin 8))) (paramsOf x28 x37 x39 z (ix2 b (4 : Fin 8))) (paramsOf x28 x37 x39 z (ix2 b (5 : Fin 8)))
    = Ideal.div (oAt x39 (ix2 (bit u (qAt x28 (ix3 b a (1 : Fin 2)))) (1 : Fin 2)) * qAt x37 (ix3 b a (1 : Fin 2))) (qAt x28 (ix3 b a (bit u (qAt x28 (ix3 b a (1 : Fin 2)))))) := by
  rw [param0, param1]
  refine Eq.trans (congr (congr (congr (congrArg (posterior _ u _ _) (param2 x28 x37 x39 z b)) (param3 x28 x37 x39 z b)) (param4 x28 x37 x39 z b)) (param5 x28 x37 x39 z b)) ?_
  exact pick a u (fun r => qAt x28 (ix3 b r (1 : Fin 2))) (fun r => oAt x39 (ix2 r (1 : Fin 2))) (fun r => qAt x37 (ix3 b r (1 : Fin 2))) (fun r r' => qAt x28 (ix3 b r r'))

variable (V : Valuation Cert.KernelIdeal.τ Cert.KernelIdeal.sig (Elt Ideal)) (V' : Valuation Cert.ReferenceIdeal.τ Cert.ReferenceIdeal.sig (Elt Ideal))
variable (h3 : (Cert.KernelIdeal.Eqs.R V Cert.KernelIdeal.main_arg3 : Words) = Cert.ReferenceIdeal.Eqs.R V' Cert.ReferenceIdeal.main_arg3)

include h3 in
/-- The target probability at a place whose label is `a`. -/
theorem target_eq (b : Fin 4) (i j : Fin 2048) (a : Fin 2) (h : wAt (Cert.ReferenceIdeal.Eqs.R V' Cert.ReferenceIdeal.main_arg2) (ix3 b i j) = BitVec.ofNat 32 a.val) (P : Params)
    (hP : P = paramsOf (Cert.KernelIdeal.Eqs.R V Cert.KernelIdeal.main_v28) (Cert.KernelIdeal.Eqs.R V Cert.KernelIdeal.main_v37) (Cert.KernelIdeal.Eqs.R V Cert.KernelIdeal.main_v39) (Cert.KernelIdeal.Eqs.R V Cert.KernelIdeal.main_call0_v0)) :
    posterior (BitVec.ofNat 32 a.val) (draw (BitVec.ofNat 32 (pos b i j))) (P (ix2 b (0 : Fin 8))) (P (ix2 b (1 : Fin 8))) (P (ix2 b (2 : Fin 8))) (P (ix2 b (3 : Fin 8))) (P (ix2 b (4 : Fin 8))) (P (ix2 b (5 : Fin 8)))
      = xAt (Cert.ReferenceIdeal.Eqs.R V' Cert.ReferenceIdeal.main_v124) (ix3 b i j) := by
  subst hP
  refine (posterior_eq _ _ _ _ b a _).trans ?_
  refine Eq.trans ?_ (Cert.ReferenceIdeal.Eqs.post_at V' b i j a h _ (Cert.ReferenceIdeal.Eqs.noisy_at V' b i j a h)).symm
  have k1 := keep_eq V V' h3
  have k2 := evidence_eq V V' h3
  have k3 := prior_eq V V' h3
  have k4 := first_eq V V'
  rw [← k1, ← k2, ← k3, ← k4]

/-- The loss at a place, from arrays that agree. -/
theorem loss_eq (P : Params) (A : Labels) (U : Box) (X : Feats) (W : Weights) (b : Fin 4) (i j : Fin 2048) (a : Fin 2) (u p : EReal)
    (hA : A (ix3 b i j) = BitVec.ofNat 32 a.val) (hU : (show EReal from U (ix3 b i j)) = u)
    (hp : posterior (BitVec.ofNat 32 a.val) u (P (ix2 b (0 : Fin 8))) (P (ix2 b (1 : Fin 8))) (P (ix2 b (2 : Fin 8))) (P (ix2 b (3 : Fin 8))) (P (ix2 b (4 : Fin 8))) (P (ix2 b (5 : Fin 8))) = p) :
    loss P A U X W b i j = bce (form (fun e => X (ix3 b i e)) (fun e d => W (ix2 e d)) (fun d => X (ix3 b j d))) p := by
  subst hU hp
  unfold loss
  rw [hA]

end Cert.Edge

end
-- ==== Proof.Value.Algebraic.lean ====
/-
Where every label is 0 or 1, the kernel and the reference end with the same mean loss.
-/
module

public import proofs.«01_k».proof.Defs
public import proofs.«01_k».proof.Proof.KernelIdeal.Final
public import proofs.«01_k».proof.Proof.Reference.Frame
public import proofs.«01_k».proof.Proof.Value.Edge

@[expose] public section

set_option maxRecDepth 16384

noncomputable section

namespace Cert.Algebraic

open Cert.Loss Cert.Draws Cert.Tables Cert.Edge
open Cert.KernelIdeal.Points (loss colsum result value mean_at Params Box Feats Weights Single row col)
open Cert.ReferenceIdeal.Eqs (xAt wAt)
open Idealize.ShloMosaic Idealize.ShloMosaic.TcCoe Idealize.ShloMosaic.StableHlo Idealize.SL.Sem

/-- The precondition's facts. -/
theorem preFacts : Cert.Pre_adj_is_binary.Facts := ⟨by decide⟩

/-- A word that passes both tests of the precondition is 0 or 1. -/
theorem binary_word (w : BitVec 32) (h : IntOp.andi (IntOp.cmpi .sge w 0#32) (IntOp.cmpi .sle w 1#32) = 1#1) : ∃ a : Fin 2, w = BitVec.ofNat 32 a.val := by
  have e : IntOp.andi (IntOp.cmpi .sge w 0#32) (IntOp.cmpi .sle w 1#32) = BitVec.ofBool (decide ((0#32).toInt ≤ w.toInt)) &&& BitVec.ofBool (decide (w.toInt ≤ (1#32).toInt)) := rfl
  rw [e] at h
  have h0 : (0#32).toInt = 0 := by decide
  have h1 : (1#32).toInt = 1 := by decide
  rw [h0, h1] at h
  by_cases g0 : 0 ≤ w.toInt
  · by_cases g1 : w.toInt ≤ 1
    · obtain g | g : w.toInt = 0 ∨ w.toInt = 1 := by omega
      · exact ⟨0, BitVec.eq_of_toInt_eq (g.trans h0.symm)⟩
      · exact ⟨1, BitVec.eq_of_toInt_eq (g.trans h1.symm)⟩
    · rw [decide_eq_false g1] at h; simp at h
  · rw [decide_eq_false g0] at h; simp at h

/-- The precondition, place by place. -/
theorem binary_at [Cert.Pre_adj_is_binary.Facts] (x0 : FVec Ideal Cert.Pre_adj_is_binary.S4x2048x64 .f32) (x1 : FVec Ideal Cert.Pre_adj_is_binary.S64x64 .f32)
    (x2 : IVec Cert.Pre_adj_is_binary.S4x2048x2048 32) (x3 : IVec Cert.Pre_adj_is_binary.S4 32)
    (h : Cert.Pre_adj_is_binary.fn (F := Ideal) x0 x1 x2 x3 = fun _ => 1#1) (i : Cert.Pre_adj_is_binary.S4x2048x2048.Idx) : ∃ a : Fin 2, x2 i = BitVec.ofNat 32 a.val :=
  binary_word _ (congrFun h i)

/-- The tables list each tile on and under the diagonal once. -/
theorem tiles_le : ∀ k : Fin 36, col k ≤ row k := by decide
theorem tiles_inj : ∀ k k' : Fin 36, row k = row k' → col k = col k' → k = k' := by decide
theorem tiles_all : ∀ p p' : Fin 8, p' ≤ p → ∃ k : Fin 36, row k = p ∧ col k = p' := by decide

/-- The tiles' column sums add up to the losses under the diagonal. -/
theorem colsums (P : Params) (A : Cert.KernelIdeal.Points.Labels) (U : Box) (X : Feats) (W : Weights) :
    (∑ k : Fin 36, ∑ q : Fin 256, colsum P A U X W k q) = ∑ b : Fin 4, ∑ i : Fin 2048, ∑ j : Fin 2048, if j.val < i.val then loss P A U X W b i j else 0 :=
  (Cert.Sums.sum_under row col tiles_le tiles_inj tiles_all (fun i j => ∑ b : Fin 4, loss P A U X W b i j)).trans (Cert.Sums.sum_batches (loss P A U X W))

attribute [local irreducible] StableHlo.after

variable (V : Valuation Cert.KernelIdeal.τ Cert.KernelIdeal.sig (Elt Ideal)) (V' : Valuation Cert.ReferenceIdeal.τ Cert.ReferenceIdeal.sig (Elt Ideal))

/-- The means agree when the arguments do and the labels are 0 or 1. -/
theorem means_eq
    (h0 : (Cert.KernelIdeal.Eqs.R V Cert.KernelIdeal.main_arg0 : Feats) = Cert.ReferenceIdeal.Eqs.R V' Cert.ReferenceIdeal.main_arg0)
    (h1 : (Cert.KernelIdeal.Eqs.R V Cert.KernelIdeal.main_arg1 : Weights) = Cert.ReferenceIdeal.Eqs.R V' Cert.ReferenceIdeal.main_arg1)
    (h2 : (Cert.KernelIdeal.Eqs.R V Cert.KernelIdeal.main_arg2 : Cert.KernelIdeal.Points.Labels) = Cert.ReferenceIdeal.Eqs.R V' Cert.ReferenceIdeal.main_arg2)
    (h3 : (Cert.KernelIdeal.Eqs.R V Cert.KernelIdeal.main_arg3 : Words) = Cert.ReferenceIdeal.Eqs.R V' Cert.ReferenceIdeal.main_arg3)
    (hb : ∀ i, ∃ a : Fin 2, wAt (Cert.ReferenceIdeal.Eqs.R V' Cert.ReferenceIdeal.main_arg2) i = BitVec.ofNat 32 a.val) :
    (Cert.KernelIdeal.Points.mean (result (Cert.KernelIdeal.Eqs.R V Cert.KernelIdeal.main_v54) (Cert.KernelIdeal.Eqs.R V Cert.KernelIdeal.main_arg2) (Cert.KernelIdeal.Eqs.R V Cert.KernelIdeal.main_v239)
      (Cert.KernelIdeal.Eqs.R V Cert.KernelIdeal.main_arg0) (Cert.KernelIdeal.Eqs.R V Cert.KernelIdeal.main_arg1)) : Single)
      = Cert.ReferenceIdeal.Eqs.R V' Cert.ReferenceIdeal.main_v141 := by
  funext k
  refine (mean_at _ k).trans (Eq.trans ?_ (Cert.ReferenceIdeal.Eqs.mean_eq V' k).symm)
  refine congrArg (fun y => Ideal.div y (Ideal.ofBits .f32 0x4AFFE000#32)) ?_
  refine (colsums _ _ _ _ _).trans ?_
  refine Finset.sum_congr rfl fun b _ => Finset.sum_congr rfl fun i _ => Finset.sum_congr rfl fun j _ => if_congr Iff.rfl ?_ rfl
  obtain ⟨a, ha⟩ := hb (ix3 b i j)
  refine (loss_eq _ _ _ _ _ b i j a _ _ ((congrFun h2 (ix3 b i j)).trans ha) (Cert.KernelIdeal.Eqs.draw_at V b i j) (target_eq V V' h3 b i j a ha _ (Cert.KernelIdeal.Eqs.params_eq V))).trans ?_
  rw [h0, h1]

end Cert.Algebraic

namespace Cert.Proof

open Cert.Algebraic Idealize.ShloMosaic Idealize.ShloMosaic.TcCoe Idealize.ShloMosaic.StableHlo Idealize.SL.Sem

/-- The value claim: both programs run, end with the same result and leave their arguments. -/
theorem algebraic : Cert.algebraic_KernelIdeal_ReferenceIdeal_pre_adj_is_binary (hKernelIdeal := Cert.KernelIdeal.Gen.facts) (hReferenceIdeal := Cert.ReferenceIdeal.Gen.facts) (hPre_adj_is_binary := preFacts) := by
  intro m g m' g' hpre hargs
  refine ⟨fun c => Cert.KernelIdeal.Points.value m c, Cert.KernelIdeal.Points.run_value m g, ?_⟩
  refine (θ_run _ _ _).mono (fun r h c => ?_) (Cert.ReferenceIdeal.Line.run (F := Ideal) m' g')
  have a0 := Cert.ReferenceIdeal.Line.arg_at m' c Cert.ReferenceIdeal.main_arg0 (by decide)
  have a1 := Cert.ReferenceIdeal.Line.arg_at m' c Cert.ReferenceIdeal.main_arg1 (by decide)
  have a2 := Cert.ReferenceIdeal.Line.arg_at m' c Cert.ReferenceIdeal.main_arg2 (by decide)
  have a3 := Cert.ReferenceIdeal.Line.arg_at m' c Cert.ReferenceIdeal.main_arg3 (by decide)
  refine ⟨(h c _).trans ?_, (h c _).trans a0, (h c _).trans a1, (h c _).trans a2, (h c _).trans a3⟩
  obtain ⟨e0, e1, e2, e3⟩ := hargs c
  refine (means_eq (fun b => m (c, b)) (launchContents m' c)
    ((Cert.KernelIdeal.Frame.V_main_arg0 m c).trans (e0.symm.trans a0.symm)) ((Cert.KernelIdeal.Frame.V_main_arg1 m c).trans (e1.symm.trans a1.symm))
    ((Cert.KernelIdeal.Frame.V_main_arg2 m c).trans (e2.symm.trans a2.symm)) ((Cert.KernelIdeal.Frame.V_main_arg3 m c).trans (e3.symm.trans a3.symm)) (fun i => ?_)).symm
  haveI := preFacts
  obtain ⟨a, ha⟩ := binary_at _ _ _ _ (hpre c) i
  exact ⟨a, (congrFun (a2.trans e2) i).trans ha⟩

end Cert.Proof

end
-- ==== Proof.lean ====
/-
The claims: both kernel programs and the reference run to completion, leave their arguments as they
were and every semaphore counter at zero; the idealized kernel is the kernel's own text; and where every
label is 0 or 1 the kernel and the reference end with the same result.
-/
module

public import proofs.«01_k».proof.Defs
public import proofs.«01_k».proof.Proof.Kernel.Tables
public import proofs.«01_k».proof.Proof.Kernel.Frame
public import proofs.«01_k».proof.Proof.KernelIdeal.Tables
public import proofs.«01_k».proof.Proof.KernelIdeal.Frame
public import proofs.«01_k».proof.Proof.Reference.Frame
public import proofs.«01_k».proof.Proof.Value.Algebraic

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts, Cert.Algebraic.preFacts,
  fun m ρ _ => Cert.Kernel.Frame.frame m ρ (Cert.Kernel.Frame.ok m),
  fun m ρ _ => Cert.KernelIdeal.Frame.frame m ρ (Cert.KernelIdeal.Frame.ok m),
  fun m ρ _ => Cert.KernelIdeal.Frame.frame m ρ (Cert.KernelIdeal.Frame.ok m),
  fun m ρ _ => Cert.ReferenceIdeal.Line.frame m ρ,
  fun m ρ _ => Cert.ReferenceIdeal.Line.frame m ρ,
  trivial,
  algebraic⟩

end Cert.Proof

end
